-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite22 [hPre_finite22 : Cert.Pre_finite22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite22 [hPre_finite22 : Cert.Pre_finite22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Kernel22Ideal_pre_finite22 [hKernel22Ideal : Cert.Kernel22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_finite22 [hReference22Ideal : Cert.Reference22Ideal.Facts] [hPre_finite22 : Cert.Pre_finite22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  IdealRules.named_const.Statement Cert.Kernel22Ideal.κ "mask" .f32 0xF149F2CA#32 ⊥
  ∧ IdealRules.named_const.Statement Cert.Kernel22Ideal.κ "ln2" .f32 0x3F317218#32 ((Real.log 2 : ℝ) : EReal)

def algebraic_Kernel22Ideal_Reference22Ideal_pre_finite22 [hKernel22Ideal : Cert.Kernel22Ideal.Facts] [hReference22Ideal : Cert.Reference22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v9_0)) (v1 : (c : Dev Cert.Kernel22Ideal.nD) → Buf (Elt Ideal) ((c.tc : Thread Cert.Kernel22Ideal.nD Cert.Kernel22Ideal.τ).loc Cert.Kernel22Ideal.main_v9_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v9_0) = v0 c
          ∧ r.2.mem ((c.tc : Thread Cert.Kernel22Ideal.nD Cert.Kernel22Ideal.τ).loc Cert.Kernel22Ideal.main_v9_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v41) = v0 c
          ∧ r.2.mem ((c.tc : Thread Cert.Reference22Ideal.nD Cert.Reference22Ideal.τ).loc Cert.Reference22Ideal.main_v40) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v3) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v3) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite22 : Cert.Pre_finite22.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite22 (hKernel22Ideal := hKernel22Ideal) (hPre_finite22 := hPre_finite22)
    ∧ quiescent_Reference22Ideal (hReference22Ideal := hReference22Ideal)
    ∧ quiescent_Reference22Ideal_pre_finite22 (hReference22Ideal := hReference22Ideal) (hPre_finite22 := hPre_finite22)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite22 (hKernel22Ideal := hKernel22Ideal) (hReference22Ideal := hReference22Ideal) (hPre_finite22 := hPre_finite22)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S8192x1024 : Shape := ⟨2, ![8192, 1024]⟩
abbrev S_ : Shape := ⟨0, ![]⟩
abbrev S1 : Shape := ⟨1, ![1]⟩
abbrev S4 : Shape := ⟨1, ![4]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v3 : IVec S_ 1) (main_v7 : IVec S_ 1) (main_v11 : IVec S_ 1) (main_v15 : IVec S_ 1) : IVec S4 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  main_v20

def fn {F : FTy → Type} [FloatOps F] (main_arg0 : FVec F S8192x1024 .f32) (main_arg1 : FVec F S8192x1024 .f32) (main_arg2 : FVec F S8192x1024 .f32) (main_arg3 : FVec F S8192x1024 .f32) : IVec S4 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_v3 main_v7 main_v11 main_v15
-- ==== Pre_finite22.lean ====
abbrev S8192x1024 : Shape := ⟨2, ![8192, 1024]⟩
abbrev S8192x512 : Shape := ⟨2, ![8192, 512]⟩
abbrev S_ : Shape := ⟨0, ![]⟩
abbrev S1 : Shape := ⟨1, ![1]⟩
abbrev S2 : Shape := ⟨1, ![2]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S8192x1024 .f32) (main_arg1 : FVec F S8192x1024 .f32) (main_arg2 : FVec F S8192x512 .f32) : IVec S2 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S1 1 := broadcastInDim S1 ![] bcast_S_S1 main_v3
  let main_v9 : IVec S1 1 := broadcastInDim S1 ![] bcast_S_S1 main_v7
  let main_v10 : IVec S2 1 := (fun a b => concatenate S2 0 [⟨S1, a⟩, ⟨S1, b⟩] concatenates_S1_S1_S2_d0) main_v8 main_v9
  main_v10
-- ==== Kernel.lean ====
abbrev S8192x1024 : Shape := ⟨2, ![8192, 1024]⟩
abbrev S_ : Shape := ⟨0, ![]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x8192x128 : Shape := ⟨3, ![8, 8192, 128]⟩
abbrev S8192x8 : Shape := ⟨2, ![8192, 8]⟩
abbrev S8192x8x1 : Shape := ⟨3, ![8192, 8, 1]⟩
abbrev S8192x128 : Shape := ⟨2, ![8192, 128]⟩
abbrev S512x128 : Shape := ⟨2, ![512, 128]⟩
abbrev S512x512 : Shape := ⟨2, ![512, 512]⟩
abbrev S512x1 : Shape := ⟨2, ![512, 1]⟩
abbrev S1024x128 : Shape := ⟨2, ![1024, 128]⟩
abbrev S1024x512 : Shape := ⟨2, ![1024, 512]⟩
abbrev S1024x1 : Shape := ⟨2, ![1024, 1]⟩

abbrev nBuf : Space → Nat
  | .hbm => 57
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S8192x8x128, .f32⟩
  | .hbm, ⟨7, _⟩ => ⟨S8192x8x128, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8192x8x128, .f32⟩
  | .hbm, ⟨32, _⟩ => ⟨S8x8192x128, .f32⟩
  | .hbm, ⟨33, _⟩ => ⟨S8x8192x1, .f32⟩
  | .hbm, ⟨34, _⟩ => ⟨S8x8192x1, .f32⟩
  | .hbm, ⟨35, _⟩ => ⟨S8x8192x1, .f32⟩
  | .hbm, ⟨36, _⟩ => ⟨S8x8192x1, .f32⟩
  | .hbm, ⟨37, _⟩ => ⟨S8192x8x128, .f32⟩
  | .hbm, ⟨38, _⟩ => ⟨S8x8192, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | .hbm, ⟨45, _⟩ => ⟨S8x8192, .f32⟩
  | .hbm, ⟨46, _⟩ => ⟨S8192x8, .f32⟩
  | .hbm, ⟨47, _⟩ => ⟨S8192x8x1, .f32⟩
  | .hbm, ⟨48, _⟩ => ⟨S8192x8x128, .f32⟩
  | .hbm, ⟨49, _⟩ => ⟨S8192x1024, .f32⟩
  | .hbm, ⟨50, _⟩ => ⟨S8192x8, .f32⟩
  | .hbm, ⟨51, _⟩ => ⟨S8192x8x1, .f32⟩
  | .hbm, ⟨52, _⟩ => ⟨S8192x8x128, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .local _ .vmem, ⟨0, _⟩ => ⟨S8192x128, .bf16⟩
  | .local _ .vmem, ⟨1, _⟩ => ⟨S8192x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S512x128, .f32⟩
  | .local _ .vmem, ⟨15, _⟩ => ⟨S512x128, .f32⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43_0 : Ref sig .tc := ⟨.hbm, 54, rfl⟩
abbrev main_v43_1 : Ref sig .tc := ⟨.hbm, 55, rfl⟩
abbrev main_v43_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_9 : Index := 0#32
  ![v17.toNat, 0]
def k0_cond2 (i : grid0.Coords) : BitVec 1 :=
  let c15_i32 : BitVec 32 := 15#32
  let arg1 : BitVec 32 := BitVec.ofNat 32 (i 1).val
  let v65 : BitVec 32 := Scalar.subi c15_i32 arg1
  let c2_i32 : BitVec 32 := 2#32
  let c0_i32_29 : BitVec 32 := 0#32
  let v66 : BitVec 1 := Scalar.cmpi .eq c2_i32 c0_i32_29
  let c1_i32 : BitVec 32 := 1#32
  let v67 : BitVec 32 := Scalar.select v66 c1_i32 c2_i32
  let v68 : BitVec 32 := Scalar.remsi v65 v67
  let c0_i32_31 : BitVec 32 := 0#32
  let v70 : BitVec 1 := Scalar.cmpi .slt v68 c0_i32_31
  let c0_i32_32 : BitVec 32 := 0#32
  let v71 : BitVec 1 := Scalar.cmpi .slt v67 c0_i32_32
  let v72 : BitVec 1 := Scalar.xori v70 v71
  let c0_i32_30 : BitVec 32 := 0#32
  let v69 : BitVec 1 := Scalar.cmpi .ne v68 c0_i32_30
  let v73 : BitVec 1 := Scalar.andi v72 v69
  let v74 : BitVec 32 := Scalar.addi v68 v67
  let v75 : BitVec 32 := Scalar.select v73 v74 v68
  let c1_i32_33 : BitVec 32 := 1#32
  let v76 : BitVec 1 := Scalar.cmpi .eq v75 c1_i32_33
  let v77 : BitVec 32 := Scalar.extui v76
  let c0_i32_34 : BitVec 32 := 0#32
  let v78 : BitVec 1 := Scalar.cmpi .ne v77 c0_i32_34
  v78

def k0_mult2 (i : grid0.Coords) : BitVec 32 :=
  let arg1 : BitVec 32 := BitVec.ofNat 32 (i 1).val
  let c1_i32_57 : BitVec 32 := 1#32
  let v109 : BitVec 32 := Scalar.addi arg1 c1_i32_57
  let c512_i32_58 : BitVec 32 := 512#32
  let v110 : BitVec 32 := Scalar.muli v109 c512_i32_58
  v110
def k0_off2 (i : grid0.Coords) : Fin 2 → Nat :=
  let arg1 : BitVec 32 := BitVec.ofNat 32 (i 1).val
  let c1_i32_57 : BitVec 32 := 1#32
  let v109 : BitVec 32 := Scalar.addi arg1 c1_i32_57
  let c512_i32_58 : BitVec 32 := 512#32
  let v110 : BitVec 32 := Scalar.muli v109 c512_i32_58
  let v111 : BitVec 32 := v110
  let v112 : Index := Scalar.indexCast v111
  let c0_59 : Index := 0#32
  ![v112.toNat, 0]
@[reducible] def k0_t1_loop (i : grid0.Coords) : Scf.Loop 32 :=
  let c0_i32_44 : BitVec 32 := 0#32
  let c15_i32_35 : BitVec 32 := 15#32
  let arg1 : BitVec 32 := BitVec.ofNat 32 (i 1).val
  let v79 : BitVec 32 := Scalar.subi c15_i32_35 arg1
  let c0_i32_37 : BitVec 32 := 0#32
  let v81 : BitVec 1 := Scalar.cmpi .sgt v79 c0_i32_37
  let v82 : BitVec 32 := Scalar.extui v81
  let c0_i32_38 : BitVec 32 := 0#32
  let v83 : BitVec 1 := Scalar.cmpi .slt v79 c0_i32_38
  let v84 : BitVec 32 := Scalar.extui v83
  let v85 : BitVec 32 := Scalar.subi v82 v84
  let c2_i32_36 : BitVec 32 := 2#32
  let c0_i32_39 : BitVec 32 := 0#32
  let v86 : BitVec 1 := Scalar.cmpi .sgt c2_i32_36 c0_i32_39
  let v87 : BitVec 32 := Scalar.extui v86
  let c0_i32_40 : BitVec 32 := 0#32
  let v88 : BitVec 1 := Scalar.cmpi .slt c2_i32_36 c0_i32_40
  let v89 : BitVec 32 := Scalar.extui v88
  let v90 : BitVec 32 := Scalar.subi v87 v89
  let v91 : BitVec 1 := Scalar.cmpi .ne v85 v90
  let v92 : BitVec 32 := Scalar.remsi v79 c2_i32_36
  let c0_i32_41 : BitVec 32 := 0#32
  let v93 : BitVec 1 := Scalar.cmpi .ne v92 c0_i32_41
  let v94 : BitVec 1 := Scalar.andi v91 v93
  let v80 : BitVec 32 := Scalar.divsi v79 c2_i32_36
  let c1_i32_42 : BitVec 32 := 1#32
  let v95 : BitVec 32 := Scalar.subi v80 c1_i32_42
  let v96 : BitVec 32 := Scalar.select v94 v95 v80
  let v97 : BitVec 32 := Scalar.subi v96 c0_i32_44
  let c1_i32_45 : BitVec 32 := 1#32
  let v99 : BitVec 32 := Scalar.divsi v97 c1_i32_45
  let v100 : BitVec 32 := Scalar.muli v99 c1_i32_45
  let v101 : BitVec 32 := Scalar.addi c0_i32_44 v100
  let c1_i32_46 : BitVec 32 := 1#32
  ⟨c0_i32_44, v101, c1_i32_46⟩
def k0_mult3 (i : grid0.Coords) (k0_t1 : Fin (k0_t1_loop i).trips) : BitVec 32 :=
  let arg1 : BitVec 32 := BitVec.ofNat 32 (i 1).val
  let c1_i32_57 : BitVec 32 := 1#32
  let v109 : BitVec 32 := Scalar.addi arg1 c1_i32_57
  let c15_i32 : BitVec 32 := 15#32
  let v65 : BitVec 32 := Scalar.subi c15_i32 arg1
  let c2_i32 : BitVec 32 := 2#32
  let c0_i32_29 : BitVec 32 := 0#32
  let v66 : BitVec 1 := Scalar.cmpi .eq c2_i32 c0_i32_29
  let c1_i32 : BitVec 32 := 1#32
  let v67 : BitVec 32 := Scalar.select v66 c1_i32 c2_i32
  let v68 : BitVec 32 := Scalar.remsi v65 v67
  let c0_i32_31 : BitVec 32 := 0#32
  let v70 : BitVec 1 := Scalar.cmpi .slt v68 c0_i32_31
  let c0_i32_32 : BitVec 32 := 0#32
  let v71 : BitVec 1 := Scalar.cmpi .slt v67 c0_i32_32
  let v72 : BitVec 1 := Scalar.xori v70 v71
  let c0_i32_30 : BitVec 32 := 0#32
  let v69 : BitVec 1 := Scalar.cmpi .ne v68 c0_i32_30
  let v73 : BitVec 1 := Scalar.andi v72 v69
  let v74 : BitVec 32 := Scalar.addi v68 v67
  let v75 : BitVec 32 := Scalar.select v73 v74 v68
  let v110 : BitVec 32 := Scalar.addi v109 v75
  let c2_i32_58 : BitVec 32 := 2#32
  let c0_i32_44 : BitVec 32 := 0#32
  let c1_i32_46 : BitVec 32 := 1#32
  let arg13 : BitVec 32 := Scf.iv c0_i32_44 c1_i32_46 k0_t1
  let v111 : BitVec 32 := Scalar.muli c2_i32_58 arg13
  let v112 : BitVec 32 := Scalar.addi v110 v111
  let c512_i32_59 : BitVec 32 := 512#32
  let v113 : BitVec 32 := Scalar.muli v112 c512_i32_59
  v113
def k0_off3 (i : grid0.Coords) (k0_t1 : Fin (k0_t1_loop i).trips) : Fin 2 → Nat :=
  let arg1 : BitVec 32 := BitVec.ofNat 32 (i 1).val
  let c1_i32_57 : BitVec 32 := 1#32
  let v109 : BitVec 32 := Scalar.addi arg1 c1_i32_57
  let c15_i32 : BitVec 32 := 15#32
  let v65 : BitVec 32 := Scalar.subi c15_i32 arg1
  let c2_i32 : BitVec 32 := 2#32
  let c0_i32_29 : BitVec 32 := 0#32
  let v66 : BitVec 1 := Scalar.cmpi .eq c2_i32 c0_i32_29
  let c1_i32 : BitVec 32 := 1#32
  let v67 : BitVec 32 := Scalar.select v66 c1_i32 c2_i32
  let v68 : BitVec 32 := Scalar.remsi v65 v67
  let c0_i32_31 : BitVec 32 := 0#32
  let v70 : BitVec 1 := Scalar.cmpi .slt v68 c0_i32_31
  let c0_i32_32 : BitVec 32 := 0#32
  let v71 : BitVec 1 := Scalar.cmpi .slt v67 c0_i32_32
  let v72 : BitVec 1 := Scalar.xori v70 v71
  let c0_i32_30 : BitVec 32 := 0#32
  let v69 : BitVec 1 := Scalar.cmpi .ne v68 c0_i32_30
  let v73 : BitVec 1 := Scalar.andi v72 v69
  let v74 : BitVec 32 := Scalar.addi v68 v67
  let v75 : BitVec 32 := Scalar.select v73 v74 v68
  let v110 : BitVec 32 := Scalar.addi v109 v75
  let c2_i32_58 : BitVec 32 := 2#32
  let c0_i32_44 : BitVec 32 := 0#32
  let c1_i32_46 : BitVec 32 := 1#32
  let arg13 : BitVec 32 := Scf.iv c0_i32_44 c1_i32_46 k0_t1
  let v111 : BitVec 32 := Scalar.muli c2_i32_58 arg13
  let v112 : BitVec 32 := Scalar.addi v110 v111
  let c512_i32_59 : BitVec 32 := 512#32
  let v113 : BitVec 32 := Scalar.muli v112 c512_i32_59
  let v114 : BitVec 32 := v113
  let v115 : Index := Scalar.indexCast v114
  let c0_60 : Index := 0#32
  ![v115.toNat, 0]
@[reducible] def k0_t2_loop (i : grid0.Coords) : Scf.Loop 32 :=
  let c0_i32_44 : BitVec 32 := 0#32
  let c15_i32_35 : BitVec 32 := 15#32
  let arg1 : BitVec 32 := BitVec.ofNat 32 (i 1).val
  let v79 : BitVec 32 := Scalar.subi c15_i32_35 arg1
  let c0_i32_37 : BitVec 32 := 0#32
  let v81 : BitVec 1 := Scalar.cmpi .sgt v79 c0_i32_37
  let v82 : BitVec 32 := Scalar.extui v81
  let c0_i32_38 : BitVec 32 := 0#32
  let v83 : BitVec 1 := Scalar.cmpi .slt v79 c0_i32_38
  let v84 : BitVec 32 := Scalar.extui v83
  let v85 : BitVec 32 := Scalar.subi v82 v84
  let c2_i32_36 : BitVec 32 := 2#32
  let c0_i32_39 : BitVec 32 := 0#32
  let v86 : BitVec 1 := Scalar.cmpi .sgt c2_i32_36 c0_i32_39
  let v87 : BitVec 32 := Scalar.extui v86
  let c0_i32_40 : BitVec 32 := 0#32
  let v88 : BitVec 1 := Scalar.cmpi .slt c2_i32_36 c0_i32_40
  let v89 : BitVec 32 := Scalar.extui v88
  let v90 : BitVec 32 := Scalar.subi v87 v89
  let v91 : BitVec 1 := Scalar.cmpi .ne v85 v90
  let v92 : BitVec 32 := Scalar.remsi v79 c2_i32_36
  let c0_i32_41 : BitVec 32 := 0#32
  let v93 : BitVec 1 := Scalar.cmpi .ne v92 c0_i32_41
  let v94 : BitVec 1 := Scalar.andi v91 v93
  let v80 : BitVec 32 := Scalar.divsi v79 c2_i32_36
  let c1_i32_42 : BitVec 32 := 1#32
  let v95 : BitVec 32 := Scalar.subi v80 c1_i32_42
  let v96 : BitVec 32 := Scalar.select v94 v95 v80
  let v97 : BitVec 32 := Scalar.subi v96 c0_i32_44
  let c1_i32_45 : BitVec 32 := 1#32
  let v99 : BitVec 32 := Scalar.divsi v97 c1_i32_45
  let v100 : BitVec 32 := Scalar.muli v99 c1_i32_45
  let v101 : BitVec 32 := Scalar.addi c0_i32_44 v100
  let v98 : BitVec 32 := Scalar.addi c0_i32_44 v97
  let c1_i32_47 : BitVec 32 := 1#32
  ⟨v101, v98, c1_i32_47⟩
def k0_mult4 (i : grid0.Coords) (k0_t2 : Fin (k0_t2_loop i).trips) : BitVec 32 :=
  let arg1 : BitVec 32 := BitVec.ofNat 32 (i 1).val
  let c1_i32_57 : BitVec 32 := 1#32
  let v109 : BitVec 32 := Scalar.addi arg1 c1_i32_57
  let c15_i32 : BitVec 32 := 15#32
  let v65 : BitVec 32 := Scalar.subi c15_i32 arg1
  let c2_i32 : BitVec 32 := 2#32
  let c0_i32_29 : BitVec 32 := 0#32
  let v66 : BitVec 1 := Scalar.cmpi .eq c2_i32 c0_i32_29
  let c1_i32 : BitVec 32 := 1#32
  let v67 : BitVec 32 := Scalar.select v66 c1_i32 c2_i32
  let v68 : BitVec 32 := Scalar.remsi v65 v67
  let c0_i32_31 : BitVec 32 := 0#32
  let v70 : BitVec 1 := Scalar.cmpi .slt v68 c0_i32_31
  let c0_i32_32 : BitVec 32 := 0#32
  let v71 : BitVec 1 := Scalar.cmpi .slt v67 c0_i32_32
  let v72 : BitVec 1 := Scalar.xori v70 v71
  let c0_i32_30 : BitVec 32 := 0#32
  let v69 : BitVec 1 := Scalar.cmpi .ne v68 c0_i32_30
  let v73 : BitVec 1 := Scalar.andi v72 v69
  let v74 : BitVec 32 := Scalar.addi v68 v67
  let v75 : BitVec 32 := Scalar.select v73 v74 v68
  let v110 : BitVec 32 := Scalar.addi v109 v75
  let c2_i32_58 : BitVec 32 := 2#32
  let c0_i32_44 : BitVec 32 := 0#32
  let c15_i32_35 : BitVec 32 := 15#32
  let v79 : BitVec 32 := Scalar.subi c15_i32_35 arg1
  let c0_i32_37 : BitVec 32 := 0#32
  let v81 : BitVec 1 := Scalar.cmpi .sgt v79 c0_i32_37
  let v82 : BitVec 32 := Scalar.extui v81
  let c0_i32_38 : BitVec 32 := 0#32
  let v83 : BitVec 1 := Scalar.cmpi .slt v79 c0_i32_38
  let v84 : BitVec 32 := Scalar.extui v83
  let v85 : BitVec 32 := Scalar.subi v82 v84
  let c2_i32_36 : BitVec 32 := 2#32
  let c0_i32_39 : BitVec 32 := 0#32
  let v86 : BitVec 1 := Scalar.cmpi .sgt c2_i32_36 c0_i32_39
  let v87 : BitVec 32 := Scalar.extui v86
  let c0_i32_40 : BitVec 32 := 0#32
  let v88 : BitVec 1 := Scalar.cmpi .slt c2_i32_36 c0_i32_40
  let v89 : BitVec 32 := Scalar.extui v88
  let v90 : BitVec 32 := Scalar.subi v87 v89
  let v91 : BitVec 1 := Scalar.cmpi .ne v85 v90
  let v92 : BitVec 32 := Scalar.remsi v79 c2_i32_36
  let c0_i32_41 : BitVec 32 := 0#32
  let v93 : BitVec 1 := Scalar.cmpi .ne v92 c0_i32_41
  let v94 : BitVec 1 := Scalar.andi v91 v93
  let v80 : BitVec 32 := Scalar.divsi v79 c2_i32_36
  let c1_i32_42 : BitVec 32 := 1#32
  let v95 : BitVec 32 := Scalar.subi v80 c1_i32_42
  let v96 : BitVec 32 := Scalar.select v94 v95 v80
  let v97 : BitVec 32 := Scalar.subi v96 c0_i32_44
  let c1_i32_45 : BitVec 32 := 1#32
  let v99 : BitVec 32 := Scalar.divsi v97 c1_i32_45
  let v100 : BitVec 32 := Scalar.muli v99 c1_i32_45
  let v101 : BitVec 32 := Scalar.addi c0_i32_44 v100
  let c1_i32_47 : BitVec 32 := 1#32
  let arg13 : BitVec 32 := Scf.iv v101 c1_i32_47 k0_t2
  let v111 : BitVec 32 := Scalar.muli c2_i32_58 arg13
  let v112 : BitVec 32 := Scalar.addi v110 v111
  let c512_i32_59 : BitVec 32 := 512#32
  let v113 : BitVec 32 := Scalar.muli v112 c512_i32_59
  v113
def k0_off4 (i : grid0.Coords) (k0_t2 : Fin (k0_t2_loop i).trips) : Fin 2 → Nat :=
  let arg1 : BitVec 32 := BitVec.ofNat 32 (i 1).val
  let c1_i32_57 : BitVec 32 := 1#32
  let v109 : BitVec 32 := Scalar.addi arg1 c1_i32_57
  let c15_i32 : BitVec 32 := 15#32
  let v65 : BitVec 32 := Scalar.subi c15_i32 arg1
  let c2_i32 : BitVec 32 := 2#32
  let c0_i32_29 : BitVec 32 := 0#32
  let v66 : BitVec 1 := Scalar.cmpi .eq c2_i32 c0_i32_29
  let c1_i32 : BitVec 32 := 1#32
  let v67 : BitVec 32 := Scalar.select v66 c1_i32 c2_i32
  let v68 : BitVec 32 := Scalar.remsi v65 v67
  let c0_i32_31 : BitVec 32 := 0#32
  let v70 : BitVec 1 := Scalar.cmpi .slt v68 c0_i32_31
  let c0_i32_32 : BitVec 32 := 0#32
  let v71 : BitVec 1 := Scalar.cmpi .slt v67 c0_i32_32
  let v72 : BitVec 1 := Scalar.xori v70 v71
  let c0_i32_30 : BitVec 32 := 0#32
  let v69 : BitVec 1 := Scalar.cmpi .ne v68 c0_i32_30
  let v73 : BitVec 1 := Scalar.andi v72 v69
  let v74 : BitVec 32 := Scalar.addi v68 v67
  let v75 : BitVec 32 := Scalar.select v73 v74 v68
  let v110 : BitVec 32 := Scalar.addi v109 v75
  let c2_i32_58 : BitVec 32 := 2#32
  let c0_i32_44 : BitVec 32 := 0#32
  let c15_i32_35 : BitVec 32 := 15#32
  let v79 : BitVec 32 := Scalar.subi c15_i32_35 arg1
  let c0_i32_37 : BitVec 32 := 0#32
  let v81 : BitVec 1 := Scalar.cmpi .sgt v79 c0_i32_37
  let v82 : BitVec 32 := Scalar.extui v81
  let c0_i32_38 : BitVec 32 := 0#32
  let v83 : BitVec 1 := Scalar.cmpi .slt v79 c0_i32_38
  let v84 : BitVec 32 := Scalar.extui v83
  let v85 : BitVec 32 := Scalar.subi v82 v84
  let c2_i32_36 : BitVec 32 := 2#32
  let c0_i32_39 : BitVec 32 := 0#32
  let v86 : BitVec 1 := Scalar.cmpi .sgt c2_i32_36 c0_i32_39
  let v87 : BitVec 32 := Scalar.extui v86
  let c0_i32_40 : BitVec 32 := 0#32
  let v88 : BitVec 1 := Scalar.cmpi .slt c2_i32_36 c0_i32_40
  let v89 : BitVec 32 := Scalar.extui v88
  let v90 : BitVec 32 := Scalar.subi v87 v89
  let v91 : BitVec 1 := Scalar.cmpi .ne v85 v90
  let v92 : BitVec 32 := Scalar.remsi v79 c2_i32_36
  let c0_i32_41 : BitVec 32 := 0#32
  let v93 : BitVec 1 := Scalar.cmpi .ne v92 c0_i32_41
  let v94 : BitVec 1 := Scalar.andi v91 v93
  let v80 : BitVec 32 := Scalar.divsi v79 c2_i32_36
  let c1_i32_42 : BitVec 32 := 1#32
  let v95 : BitVec 32 := Scalar.subi v80 c1_i32_42
  let v96 : BitVec 32 := Scalar.select v94 v95 v80
  let v97 : BitVec 32 := Scalar.subi v96 c0_i32_44
  let c1_i32_45 : BitVec 32 := 1#32
  let v99 : BitVec 32 := Scalar.divsi v97 c1_i32_45
  let v100 : BitVec 32 := Scalar.muli v99 c1_i32_45
  let v101 : BitVec 32 := Scalar.addi c0_i32_44 v100
  let c1_i32_47 : BitVec 32 := 1#32
  let arg13 : BitVec 32 := Scf.iv v101 c1_i32_47 k0_t2
  let v111 : BitVec 32 := Scalar.muli c2_i32_58 arg13
  let v112 : BitVec 32 := Scalar.addi v110 v111
  let c512_i32_59 : BitVec 32 := 512#32
  let v113 : BitVec 32 := Scalar.muli v112 c512_i32_59
  let v114 : BitVec 32 := v113
  let v115 : Index := Scalar.indexCast v114
  let c0_60 : Index := 0#32
  ![v115.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8192x1024 : Shape := ⟨2, ![8192, 1024]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x128 : Shape := ⟨3, ![8, 8192, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x8x128, .f32⟩
  | .hbm, ⟨5, _⟩ => ⟨S8192x8x128, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S8x8192x8192, .i1⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .i1⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .i1⟩
  | .hbm, ⟨34, _⟩ => ⟨S_, .f32⟩
  | .hbm, ⟨35, _⟩ => ⟨S8x8192, .f32⟩
  | .hbm, ⟨36, _⟩ => ⟨S8x8192, .i1⟩
  | .hbm, ⟨37, _⟩ => ⟨S_, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S8x8192, .f32⟩
  | .hbm, ⟨44, _⟩ => ⟨S8x8192, .f32⟩
  | .hbm, ⟨45, _⟩ => ⟨S8x8192x1, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S_, .f32⟩
  | .hbm, ⟨50, _⟩ => ⟨S8x8192, .f32⟩
  | .hbm, ⟨51, _⟩ => ⟨S8x8192x1, .f32⟩
  | .hbm, ⟨52, _⟩ => ⟨S8x8192x8192, .f32⟩
  | .hbm, ⟨53, _⟩ => ⟨S8x8192x8192, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S8192x8x128, .f32⟩
  | .hbm, ⟨59, _⟩ => ⟨S8x128x8192, .f32⟩
  | .hbm, ⟨60, _⟩ => ⟨S8192x8x128, .f32⟩
  | .hbm, ⟨61, _⟩ => ⟨S8192x1024, .f32⟩
  | .hbm, ⟨62, _⟩ => ⟨S8192x8x128, .f32⟩
  | .hbm, ⟨63, _⟩ => ⟨S8x128x8192, .f32⟩
  | .hbm, ⟨64, _⟩ => ⟨S8x8192x8192, .f32⟩
  | .hbm, ⟨65, _⟩ => ⟨S8x128x8192, .f32⟩
  | .hbm, ⟨66, _⟩ => ⟨S8192x8x128, .f32⟩
  | .hbm, ⟨67, _⟩ => ⟨S8192x1024, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192x1, .f32⟩
  | .hbm, ⟨74, _⟩ => ⟨S8x8192x1, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192x8192, .f32⟩
  | .hbm, ⟨84, _⟩ => ⟨S8x8192x8192, .f32⟩
  | .hbm, ⟨85, _⟩ => ⟨S8x8192x128, .f32⟩
  | .hbm, ⟨86, _⟩ => ⟨S8192x8x128, .f32⟩
  | .hbm, ⟨87, _⟩ => ⟨S8x8192x128, .f32⟩
  | .hbm, ⟨88, _⟩ => ⟨S8192x8x128, .f32⟩
  | .hbm, ⟨89, _⟩ => ⟨S8192x1024, .f32⟩
  | .hbm, ⟨90, _⟩ => ⟨S8192x1024, .f32⟩
  | .hbm, ⟨91, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_v9_1 : Ref sig .tc := ⟨.hbm, 15, rfl⟩
abbrev main_call0_v2 : Ref sig .tc := ⟨.hbm, 16, rfl⟩
abbrev main_v9_0 : Ref sig .tc := ⟨.hbm, 17, rfl⟩
abbrev main_call0_cst : Ref sig .tc := ⟨.hbm, 18, rfl⟩
abbrev main_v9_2 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call1_cst : Ref sig .tc := ⟨.hbm, 82, rfl⟩
abbrev main_call1_v0 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Kernel2.lean ====
abbrev S1024x8960 : Shape := ⟨2, ![1024, 8960]⟩
abbrev S8192x8960 : Shape := ⟨2, ![8192, 8960]⟩
abbrev S8960x1024 : Shape := ⟨2, ![8960, 1024]⟩
abbrev S8192x1024 : Shape := ⟨2, ![8192, 1024]⟩
abbrev S1024x640 : Shape := ⟨2, ![1024, 640]⟩
abbrev S640x1024 : Shape := ⟨2, ![640, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x8960, .f32⟩
  | .hbm, ⟨1, _⟩ => ⟨S8192x8960, .f32⟩
  | .hbm, ⟨2, _⟩ => ⟨S8192x8960, .bf16⟩
  | .hbm, ⟨3, _⟩ => ⟨S1024x8960, .bf16⟩
  | .hbm, ⟨4, _⟩ => ⟨S8960x1024, .bf16⟩
  | .hbm, ⟨5, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 14], ![false, false, false]⟩

def k0_cond2 (i : grid0.Coords) : BitVec 1 :=
  let arg2 : BitVec 32 := BitVec.ofNat 32 (i 2).val
  let c13_i32 : BitVec 32 := 13#32
  let v13 : BitVec 1 := Scalar.cmpi .eq arg2 c13_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S1024x8960 : Shape := ⟨2, ![1024, 8960]⟩
abbrev S8192x8960 : Shape := ⟨2, ![8192, 8960]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x8960, .f32⟩
  | .hbm, ⟨1, _⟩ => ⟨S8192x8960, .f32⟩
  | .hbm, ⟨2, _⟩ => ⟨S_, .f32⟩
  | .hbm, ⟨3, _⟩ => ⟨S8192x1024, .f32⟩
  | .hbm, ⟨4, _⟩ => ⟨S8192x8960, .f32⟩
  | .hbm, ⟨5, _⟩ => ⟨S8192x1024, .f32⟩
  | _, _ => ⟨S1024x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S8192x1024 : Shape := ⟨2, ![8192, 1024]⟩
abbrev S8192x8960 : Shape := ⟨2, ![8192, 8960]⟩
abbrev S1024x8960 : Shape := ⟨2, ![1024, 8960]⟩
abbrev S512x1024 : Shape := ⟨2, ![512, 1024]⟩
abbrev S512x1280 : Shape := ⟨2, ![512, 1280]⟩
abbrev S1024x1280 : Shape := ⟨2, ![1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x8960, .f32⟩
  | .hbm, ⟨2, _⟩ => ⟨S8192x1024, .bf16⟩
  | .hbm, ⟨3, _⟩ => ⟨S8192x8960, .bf16⟩
  | .hbm, ⟨4, _⟩ => ⟨S1024x8960, .f32⟩
  | .local _ .vmem, ⟨0, _⟩ => ⟨S512x1024, .bf16⟩
  | .local _ .vmem, ⟨1, _⟩ => ⟨S512x1024, .bf16⟩
  | .local _ .vmem, ⟨2, _⟩ => ⟨S512x1280, .bf16⟩
  | .local _ .vmem, ⟨3, _⟩ => ⟨S512x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x8960 : Shape := ⟨2, ![8192, 8960]⟩
abbrev S_ : Shape := ⟨0, ![]⟩
abbrev S1024x8960 : Shape := ⟨2, ![1024, 8960]⟩
abbrev S8960x1024 : Shape := ⟨2, ![8960, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8960, .f32⟩
  | .hbm, ⟨2, _⟩ => ⟨S_, .f32⟩
  | .hbm, ⟨3, _⟩ => ⟨S1024x8960, .f32⟩
  | .hbm, ⟨4, _⟩ => ⟨S8192x8960, .f32⟩
  | .hbm, ⟨5, _⟩ => ⟨S8960x1024, .f32⟩
  | .hbm, ⟨6, _⟩ => ⟨S1024x8960, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2816x1024 : Shape := ⟨2, ![2816, 1024]⟩
abbrev S8192x1024 : Shape := ⟨2, ![8192, 1024]⟩
abbrev S1024x2816 : Shape := ⟨2, ![1024, 2816]⟩
abbrev S8192x2816 : Shape := ⟨2, ![8192, 2816]⟩
abbrev S1024x512 : Shape := ⟨2, ![1024, 512]⟩
abbrev S512x1408 : Shape := ⟨2, ![512, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S8192x1024, .bf16⟩
  | .hbm, ⟨3, _⟩ => ⟨S2816x1024, .bf16⟩
  | .hbm, ⟨4, _⟩ => ⟨S1024x2816, .bf16⟩
  | .hbm, ⟨5, _⟩ => ⟨S8192x2816, .f32⟩
  | .local _ .vmem, ⟨0, _⟩ => ⟨S1024x512, .bf16⟩
  | .local _ .vmem, ⟨1, _⟩ => ⟨S1024x512, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S512x256 : Shape := ⟨2, ![512, 256]⟩
abbrev S512x1024 : Shape := ⟨2, ![512, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S1024x5632 : Shape := ⟨2, ![1024, 5632]⟩
abbrev S8192x2816 : Shape := ⟨2, ![8192, 2816]⟩
abbrev S5632x1024 : Shape := ⟨2, ![5632, 1024]⟩
abbrev S2816x1024 : Shape := ⟨2, ![2816, 1024]⟩
abbrev S8192x1024 : Shape := ⟨2, ![8192, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x2816, .bf16⟩
  | .hbm, ⟨3, _⟩ => ⟨S1024x5632, .bf16⟩
  | .hbm, ⟨4, _⟩ => ⟨S5632x1024, .bf16⟩
  | .hbm, ⟨5, _⟩ => ⟨S2816x1024, .bf16⟩
  | .hbm, ⟨6, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S1024x5632 : Shape := ⟨2, ![1024, 5632]⟩
abbrev S8192x2816 : Shape := ⟨2, ![8192, 2816]⟩
abbrev S_ : Shape := ⟨0, ![]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S_, .f32⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S1024x5632 : Shape := ⟨2, ![1024, 5632]⟩
abbrev S8192x2816 : Shape := ⟨2, ![8192, 2816]⟩
abbrev S8192x1024 : Shape := ⟨2, ![8192, 1024]⟩
abbrev S5632x1024 : Shape := ⟨2, ![5632, 1024]⟩
abbrev S2816x1024 : Shape := ⟨2, ![2816, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x1024, .f32⟩
  | .hbm, ⟨3, _⟩ => ⟨S8192x2816, .bf16⟩
  | .hbm, ⟨4, _⟩ => ⟨S1024x5632, .bf16⟩
  | .hbm, ⟨5, _⟩ => ⟨S5632x1024, .bf16⟩
  | .hbm, ⟨6, _⟩ => ⟨S2816x1024, .bf16⟩
  | .hbm, ⟨7, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S1024x5632 : Shape := ⟨2, ![1024, 5632]⟩
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1024x5632 : Shape := ⟨2, ![1024, 5632]⟩
abbrev S8192x5632 : Shape := ⟨2, ![8192, 5632]⟩
abbrev S1024x512 : Shape := ⟨2, ![1024, 512]⟩
abbrev S512x1408 : Shape := ⟨2, ![512, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S1024x512, .bf16⟩
  | .local _ .vmem, ⟨1, _⟩ => ⟨S1024x512, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8192x2816 : Shape := ⟨2, ![8192, 2816]⟩
abbrev S2816x1024 : Shape := ⟨2, ![2816, 1024]⟩
abbrev S8192x1024 : Shape := ⟨2, ![8192, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8192x1024 : Shape := ⟨2, ![8192, 1024]⟩
abbrev S1024x768 : Shape := ⟨2, ![1024, 768]⟩
abbrev S8192x768 : Shape := ⟨2, ![8192, 768]⟩
abbrev S1024x512 : Shape := ⟨2, ![1024, 512]⟩
abbrev S512x768 : Shape := ⟨2, ![512, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x1024, .bf16⟩
  | .hbm, ⟨3, _⟩ => ⟨S1024x768, .bf16⟩
  | .hbm, ⟨4, _⟩ => ⟨S8192x768, .f32⟩
  | .local _ .vmem, ⟨0, _⟩ => ⟨S1024x512, .bf16⟩
  | .local _ .vmem, ⟨1, _⟩ => ⟨S1024x512, .bf16⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x768 : Shape := ⟨2, ![1024, 768]⟩
abbrev S8192x768 : Shape := ⟨2, ![8192, 768]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x1024 : Shape := ⟨2, ![8192, 1024]⟩
abbrev S1024x8864 : Shape := ⟨2, ![1024, 8864]⟩
abbrev S1024x5120 : Shape := ⟨2, ![1024, 5120]⟩
abbrev S8192x5120 : Shape := ⟨2, ![8192, 5120]⟩
abbrev S1024x512 : Shape := ⟨2, ![1024, 512]⟩
abbrev S512x1280 : Shape := ⟨2, ![512, 1280]⟩
abbrev S1024x1280 : Shape := ⟨2, ![1024, 1280]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x8864, .f32⟩
  | .hbm, ⟨2, _⟩ => ⟨S8192x1024, .bf16⟩
  | .hbm, ⟨3, _⟩ => ⟨S1024x5120, .f32⟩
  | .hbm, ⟨4, _⟩ => ⟨S1024x5120, .bf16⟩
  | .hbm, ⟨5, _⟩ => ⟨S8192x5120, .bf16⟩
  | .local _ .vmem, ⟨0, _⟩ => ⟨S1024x512, .bf16⟩
  | .local _ .vmem, ⟨1, _⟩ => ⟨S1024x512, .bf16⟩
  | .local _ .vmem, ⟨2, _⟩ => ⟨S512x1280, .bf16⟩
  | .local _ .vmem, ⟨3, _⟩ => ⟨S512x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x8864 : Shape := ⟨2, ![1024, 8864]⟩
abbrev S8192x8864 : Shape := ⟨2, ![8192, 8864]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x8864, .f32⟩
  | .hbm, ⟨2, _⟩ => ⟨S8192x8864, .f32⟩
  | .hbm, ⟨3, _⟩ => ⟨S8192x5120, .f32⟩
  | .hbm, ⟨4, _⟩ => ⟨S8192x5120, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S1024x8864 : Shape := ⟨2, ![1024, 8864]⟩
abbrev S1024x3072 : Shape := ⟨2, ![1024, 3072]⟩
abbrev S8192x3072 : Shape := ⟨2, ![8192, 3072]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x8864, .f32⟩
  | .hbm, ⟨2, _⟩ => ⟨S8192x1024, .bf16⟩
  | .hbm, ⟨3, _⟩ => ⟨S1024x3072, .f32⟩
  | .hbm, ⟨4, _⟩ => ⟨S1024x3072, .bf16⟩
  | .hbm, ⟨5, _⟩ => ⟨S8192x3072, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x8864 : Shape := ⟨2, ![1024, 8864]⟩
abbrev S8192x8864 : Shape := ⟨2, ![8192, 8864]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x8864, .f32⟩
  | .hbm, ⟨2, _⟩ => ⟨S8192x8864, .f32⟩
  | .hbm, ⟨3, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S1024x1024 : Shape := ⟨2, ![1024, 1024]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S1024x1024, .bf16⟩
  | .hbm, ⟨5, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x512, .bf16⟩
  | .hbm, ⟨3, _⟩ => ⟨S512x1024, .bf16⟩
  | .hbm, ⟨4, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S512x1024 : Shape := ⟨2, ![512, 1024]⟩
abbrev S8192x1024 : Shape := ⟨2, ![8192, 1024]⟩
abbrev S1024x512 : Shape := ⟨2, ![1024, 512]⟩
abbrev S8192x512 : Shape := ⟨2, ![8192, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S8192x1024, .f32⟩
  | .hbm, ⟨2, _⟩ => ⟨S8192x1024, .bf16⟩
  | .hbm, ⟨3, _⟩ => ⟨S512x1024, .bf16⟩
  | .hbm, ⟨4, _⟩ => ⟨S1024x512, .bf16⟩
  | .hbm, ⟨5, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S512x1024 : Shape := ⟨2, ![512, 1024]⟩
abbrev S8192x1024 : Shape := ⟨2, ![8192, 1024]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8192x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S1024x1024 : Shape := ⟨2, ![1024, 1024]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S1024x1024, .bf16⟩
  | .hbm, ⟨5, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S512x1024 : Shape := ⟨2, ![512, 1024]⟩
abbrev S8192x1024 : Shape := ⟨2, ![8192, 1024]⟩
abbrev S1024x512 : Shape := ⟨2, ![1024, 512]⟩
abbrev S8192x512 : Shape := ⟨2, ![8192, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S8192x1024, .f32⟩
  | .hbm, ⟨2, _⟩ => ⟨S8192x1024, .bf16⟩
  | .hbm, ⟨3, _⟩ => ⟨S512x1024, .bf16⟩
  | .hbm, ⟨4, _⟩ => ⟨S1024x512, .bf16⟩
  | .hbm, ⟨5, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S512x1024 : Shape := ⟨2, ![512, 1024]⟩
abbrev S8192x1024 : Shape := ⟨2, ![8192, 1024]⟩
abbrev S_ : Shape := ⟨0, ![]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8192x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | .hbm, ⟨6, _⟩ => ⟨S8192x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S8192x1024 : Shape := ⟨2, ![8192, 1024]⟩
abbrev S8192x512 : Shape := ⟨2, ![8192, 512]⟩
abbrev S_ : Shape := ⟨0, ![]⟩
abbrev S8192x8x64 : Shape := ⟨3, ![8192, 8, 64]⟩
abbrev S8192x8x128 : Shape := ⟨3, ![8192, 8, 128]⟩
abbrev S1024x128 : Shape := ⟨2, ![1024, 128]⟩
abbrev S8192x128 : Shape := ⟨2, ![8192, 128]⟩
abbrev S2x512x128 : Shape := ⟨3, ![2, 512, 128]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S_, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S8192x8x64, .f32⟩
  | .hbm, ⟨10, _⟩ => ⟨S_, .i32⟩
  | .hbm, ⟨11, _⟩ => ⟨S_, .f32⟩
  | .hbm, ⟨12, _⟩ => ⟨S8192x8x128, .f32⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S8192x128, .bf16⟩
  | .local _ .vmem, ⟨11, _⟩ => ⟨S2x512x128, .f32⟩
  | .local _ .vmem, ⟨12, _⟩ => ⟨S2x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_11 : BitVec 32 := 0#32
  let c2_i32 : BitVec 32 := 2#32
  let arg1 : BitVec 32 := BitVec.ofNat 32 (i 1).val
  let v15 : BitVec 32 := Scalar.muli c2_i32 arg1
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_12 : BitVec 32 := 1#32
  ⟨c0_i32_11, v20, c1_i32_12⟩
def k0_mult1 (i : grid0.Coords) (k0_t1 : Fin (k0_t1_loop i).trips) : BitVec 32 :=
  let c0_i32_11 : BitVec 32 := 0#32
  let c1_i32_12 : BitVec 32 := 1#32
  let arg10 : BitVec 32 := Scf.iv c0_i32_11 c1_i32_12 k0_t1
  let c512_i32_104 : BitVec 32 := 512#32
  let v177 : BitVec 32 := Scalar.muli arg10 c512_i32_104
  v177
def k0_off1 (i : grid0.Coords) (k0_t1 : Fin (k0_t1_loop i).trips) : Fin 2 → Nat :=
  let c0_i32_11 : BitVec 32 := 0#32
  let c1_i32_12 : BitVec 32 := 1#32
  let arg10 : BitVec 32 := Scf.iv c0_i32_11 c1_i32_12 k0_t1
  let c512_i32_104 : BitVec 32 := 512#32
  let v177 : BitVec 32 := Scalar.muli arg10 c512_i32_104
  let v178 : BitVec 32 := v177
  let v179 : Index := Scalar.indexCast v178
  let c0_105 : Index := 0#32
  ![v179.toNat, 0]
def k0_mult2 (i : grid0.Coords) (k0_t1 : Fin (k0_t1_loop i).trips) : BitVec 32 :=
  let c0_i32_11 : BitVec 32 := 0#32
  let c1_i32_12 : BitVec 32 := 1#32
  let arg10 : BitVec 32 := Scf.iv c0_i32_11 c1_i32_12 k0_t1
  let c512_i32_107 : BitVec 32 := 512#32
  let v183 : BitVec 32 := Scalar.muli arg10 c512_i32_107
  v183
def k0_mult3 (i : grid0.Coords) (k0_t1 : Fin (k0_t1_loop i).trips) : BitVec 32 :=
  let c0_i32_11 : BitVec 32 := 0#32
  let c1_i32_12 : BitVec 32 := 1#32
  let arg10 : BitVec 32 := Scf.iv c0_i32_11 c1_i32_12 k0_t1
  let c512_i32_117 : BitVec 32 := 512#32
  let v205 : BitVec 32 := Scalar.muli arg10 c512_i32_117
  v205
def k0_mult4 (i : grid0.Coords) (k0_t1 : Fin (k0_t1_loop i).trips) : BitVec 32 :=
  let c0_i32_11 : BitVec 32 := 0#32
  let c1_i32_12 : BitVec 32 := 1#32
  let arg10 : BitVec 32 := Scf.iv c0_i32_11 c1_i32_12 k0_t1
  let c512_i32_133 : BitVec 32 := 512#32
  let v233 : BitVec 32 := Scalar.muli arg10 c512_i32_133
  v233
@[reducible] def k0_t2_loop (i : grid0.Coords) : Scf.Loop 32 :=
  let c0_i32_11 : BitVec 32 := 0#32
  let c2_i32 : BitVec 32 := 2#32
  let arg1 : BitVec 32 := BitVec.ofNat 32 (i 1).val
  let v15 : BitVec 32 := Scalar.muli c2_i32 arg1
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let v17 : BitVec 32 := Scalar.addi c0_i32_11 v16
  let c1_i32_13 : BitVec 32 := 1#32
  ⟨v20, v17, c1_i32_13⟩
def k0_mult5 (i : grid0.Coords) (k0_t2 : Fin (k0_t2_loop i).trips) : BitVec 32 :=
  let c0_i32_11 : BitVec 32 := 0#32
  let c2_i32 : BitVec 32 := 2#32
  let arg1 : BitVec 32 := BitVec.ofNat 32 (i 1).val
  let v15 : BitVec 32 := Scalar.muli c2_i32 arg1
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg10 : BitVec 32 := Scf.iv v20 c1_i32_13 k0_t2
  let c512_i32_104 : BitVec 32 := 512#32
  let v177 : BitVec 32 := Scalar.muli arg10 c512_i32_104
  v177
def k0_off2 (i : grid0.Coords) (k0_t2 : Fin (k0_t2_loop i).trips) : Fin 2 → Nat :=
  let c0_i32_11 : BitVec 32 := 0#32
  let c2_i32 : BitVec 32 := 2#32
  let arg1 : BitVec 32 := BitVec.ofNat 32 (i 1).val
  let v15 : BitVec 32 := Scalar.muli c2_i32 arg1
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg10 : BitVec 32 := Scf.iv v20 c1_i32_13 k0_t2
  let c512_i32_104 : BitVec 32 := 512#32
  let v177 : BitVec 32 := Scalar.muli arg10 c512_i32_104
  let v178 : BitVec 32 := v177
  let v179 : Index := Scalar.indexCast v178
  let c0_105 : Index := 0#32
  ![v179.toNat, 0]
def k0_mult6 (i : grid0.Coords) (k0_t2 : Fin (k0_t2_loop i).trips) : BitVec 32 :=
  let c0_i32_11 : BitVec 32 := 0#32
  let c2_i32 : BitVec 32 := 2#32
  let arg1 : BitVec 32 := BitVec.ofNat 32 (i 1).val
  let v15 : BitVec 32 := Scalar.muli c2_i32 arg1
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg10 : BitVec 32 := Scf.iv v20 c1_i32_13 k0_t2
  let c512_i32_107 : BitVec 32 := 512#32
  let v183 : BitVec 32 := Scalar.muli arg10 c512_i32_107
  v183
def k0_mult7 (i : grid0.Coords) (k0_t2 : Fin (k0_t2_loop i).trips) : BitVec 32 :=
  let c0_i32_11 : BitVec 32 := 0#32
  let c2_i32 : BitVec 32 := 2#32
  let arg1 : BitVec 32 := BitVec.ofNat 32 (i 1).val
  let v15 : BitVec 32 := Scalar.muli c2_i32 arg1
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg10 : BitVec 32 := Scf.iv v20 c1_i32_13 k0_t2
  let c512_i32_117 : BitVec 32 := 512#32
  let v205 : BitVec 32 := Scalar.muli arg10 c512_i32_117
  v205
def k0_mult8 (i : grid0.Coords) (k0_t2 : Fin (k0_t2_loop i).trips) : BitVec 32 :=
  let c0_i32_11 : BitVec 32 := 0#32
  let c2_i32 : BitVec 32 := 2#32
  let arg1 : BitVec 32 := BitVec.ofNat 32 (i 1).val
  let v15 : BitVec 32 := Scalar.muli c2_i32 arg1
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg10 : BitVec 32 := Scf.iv v20 c1_i32_13 k0_t2
  let c512_i32_133 : BitVec 32 := 512#32
  let v233 : BitVec 32 := Scalar.muli arg10 c512_i32_133
  v233
def k0_mult9 (i : grid0.Coords) : BitVec 32 :=
  let c2_i32_14 : BitVec 32 := 2#32
  let arg1 : BitVec 32 := BitVec.ofNat 32 (i 1).val
  let v21 : BitVec 32 := Scalar.muli c2_i32_14 arg1
  let c512_i32 : BitVec 32 := 512#32
  let v22 : BitVec 32 := Scalar.muli v21 c512_i32
  v22
def k0_off3 (i : grid0.Coords) : Fin 2 → Nat :=
  let c2_i32_14 : BitVec 32 := 2#32
  let arg1 : BitVec 32 := BitVec.ofNat 32 (i 1).val
  let v21 : BitVec 32 := Scalar.muli c2_i32_14 arg1
  let c512_i32 : BitVec 32 := 512#32
  let v22 : BitVec 32 := Scalar.muli v21 c512_i32
  let v23 : BitVec 32 := v22
  let v24 : Index := Scalar.indexCast v23
  let c0_15 : Index := 0#32
  ![v24.toNat, 0]
def k0_mult10 (i : grid0.Coords) : BitVec 32 :=
  let c2_i32_17 : BitVec 32 := 2#32
  let arg1 : BitVec 32 := BitVec.ofNat 32 (i 1).val
  let v28 : BitVec 32 := Scalar.muli c2_i32_17 arg1
  let c512_i32_18 : BitVec 32 := 512#32
  let v29 : BitVec 32 := Scalar.muli v28 c512_i32_18
  v29
def k0_mult11 (i : grid0.Coords) : BitVec 32 :=
  let c2_i32_22 : BitVec 32 := 2#32
  let arg1 : BitVec 32 := BitVec.ofNat 32 (i 1).val
  let v40 : BitVec 32 := Scalar.muli c2_i32_22 arg1
  let c512_i32_30 : BitVec 32 := 512#32
  let v57 : BitVec 32 := Scalar.muli v40 c512_i32_30
  v57
def k0_mult12 (i : grid0.Coords) : BitVec 32 :=
  let c2_i32_39 : BitVec 32 := 2#32
  let arg1 : BitVec 32 := BitVec.ofNat 32 (i 1).val
  let v69 : BitVec 32 := Scalar.muli c2_i32_39 arg1
  let c512_i32_46 : BitVec 32 := 512#32
  let v86 : BitVec 32 := Scalar.muli v69 c512_i32_46
  v86
def k0_mult13 (i : grid0.Coords) : BitVec 32 :=
  let c2_i32_55 : BitVec 32 := 2#32
  let arg1 : BitVec 32 := BitVec.ofNat 32 (i 1).val
  let v98 : BitVec 32 := Scalar.muli c2_i32_55 arg1
  let c1_i32_56 : BitVec 32 := 1#32
  let v99 : BitVec 32 := Scalar.addi v98 c1_i32_56
  let c512_i32_57 : BitVec 32 := 512#32
  let v100 : BitVec 32 := Scalar.muli v99 c512_i32_57
  v100
def k0_off4 (i : grid0.Coords) : Fin 2 → Nat :=
  let c2_i32_55 : BitVec 32 := 2#32
  let arg1 : BitVec 32 := BitVec.ofNat 32 (i 1).val
  let v98 : BitVec 32 := Scalar.muli c2_i32_55 arg1
  let c1_i32_56 : BitVec 32 := 1#32
  let v99 : BitVec 32 := Scalar.addi v98 c1_i32_56
  let c512_i32_57 : BitVec 32 := 512#32
  let v100 : BitVec 32 := Scalar.muli v99 c512_i32_57
  let v101 : BitVec 32 := v100
  let v102 : Index := Scalar.indexCast v101
  let c0_58 : Index := 0#32
  ![v102.toNat, 0]
def k0_mult14 (i : grid0.Coords) : BitVec 32 :=
  let c2_i32_61 : BitVec 32 := 2#32
  let arg1 : BitVec 32 := BitVec.ofNat 32 (i 1).val
  let v108 : BitVec 32 := Scalar.muli c2_i32_61 arg1
  let c1_i32_62 : BitVec 32 := 1#32
  let v109 : BitVec 32 := Scalar.addi v108 c1_i32_62
  let c512_i32_70 : BitVec 32 := 512#32
  let v126 : BitVec 32 := Scalar.muli v109 c512_i32_70
  v126
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel22Ideal.lean ====
variable {F : FTy → Type} [FloatOps F] [Named F]
def κ : String → Option EReal := fun
  | "ln2" => some ((Real.log 2 : ℝ) : EReal)
  | "mask" => some ⊥
  | _ => none
-- ==== Reference22Ideal.lean ====
abbrev S8192x1024 : Shape := ⟨2, ![8192, 1024]⟩
abbrev S8192x512 : Shape := ⟨2, ![8192, 512]⟩
abbrev S8192x8x128 : Shape := ⟨3, ![8192, 8, 128]⟩
abbrev S8192x8x64 : Shape := ⟨3, ![8192, 8, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8192x8x1 : Shape := ⟨3, ![8192, 8, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x8x128, .f32⟩
  | .hbm, ⟨4, _⟩ => ⟨S8192x8x128, .f32⟩
  | .hbm, ⟨5, _⟩ => ⟨S8192x8x64, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S8x8192x8192, .i1⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x64x8192, .f32⟩
  | .hbm, ⟨33, _⟩ => ⟨S8192x8x64, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x1, .f32⟩
  | .hbm, ⟨44, _⟩ => ⟨S8x8192x1, .f32⟩
  | .hbm, ⟨45, _⟩ => ⟨S_, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S_, .i32⟩
  | .hbm, ⟨50, _⟩ => ⟨S_, .f32⟩
  | .hbm, ⟨51, _⟩ => ⟨S8192x8x128, .f32⟩
  | .hbm, ⟨52, _⟩ => ⟨S8192x1024, .f32⟩
  | .hbm, ⟨53, _⟩ => ⟨S8192x8x1, .f32⟩
  | .hbm, ⟨54, _⟩ => ⟨S8192x8x128, .f32⟩
  | .hbm, ⟨55, _⟩ => ⟨S8192x1024, .f32⟩
  | .hbm, ⟨56, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_call1_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel23.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x384, .bf16⟩
  | .hbm, ⟨3, _⟩ => ⟨S384x1024, .bf16⟩
  | .hbm, ⟨4, _⟩ => ⟨S8192x1024, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x384 : Shape := ⟨2, ![8192, 384]⟩
abbrev S384x1024 : Shape := ⟨2, ![384, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x256, .bf16⟩
  | .hbm, ⟨3, _⟩ => ⟨S256x1024, .bf16⟩
  | .hbm, ⟨4, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel25.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x256, .bf16⟩
  | .hbm, ⟨3, _⟩ => ⟨S256x1024, .bf16⟩
  | .hbm, ⟨4, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel26.lean ====
abbrev S384x1024 : Shape := ⟨2, ![384, 1024]⟩
abbrev S8192x1024 : Shape := ⟨2, ![8192, 1024]⟩
abbrev S1024x384 : Shape := ⟨2, ![1024, 384]⟩
abbrev S8192x384 : Shape := ⟨2, ![8192, 384]⟩
abbrev S1024x512 : Shape := ⟨2, ![1024, 512]⟩
abbrev S512x384 : Shape := ⟨2, ![512, 384]⟩

abbrev nBuf : Space → Nat
  | .hbm => 6
  | .vmem => 7
  | .smem => 0
  | _ => 0

abbrev bufTy : (tb : Table) → Fin (tcTables nBuf tb) → BufTy
  | .hbm, ⟨0, _⟩ => ⟨S384x1024, .f32⟩
  | .hbm, ⟨1, _⟩ => ⟨S8192x1024, .f32⟩
  | .hbm, ⟨2, _⟩ => ⟨S8192x1024, .bf16⟩
  | .hbm, ⟨3, _⟩ => ⟨S384x1024, .bf16⟩
  | .hbm, ⟨4, _⟩ => ⟨S1024x384, .bf16⟩
  | .hbm, ⟨5, _⟩ => ⟨S8192x384, .f32⟩
  | .local _ .vmem, ⟨0, _⟩ => ⟨S1024x512, .bf16⟩
  | .local _ .vmem, ⟨1, _⟩ => ⟨S1024x512, .bf16⟩
  | .local _ .vmem, ⟨2, _⟩ => ⟨S512x384, .bf16⟩
  | .local _ .vmem, ⟨3, _⟩ => ⟨S512x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S384x1024 : Shape := ⟨2, ![384, 1024]⟩
abbrev S8192x1024 : Shape := ⟨2, ![8192, 1024]⟩
abbrev S_ : Shape := ⟨0, ![]⟩
abbrev S8192x384 : Shape := ⟨2, ![8192, 384]⟩

abbrev nBuf : Space → Nat
  | .hbm => 6
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S8192x1024, .f32⟩
  | .hbm, ⟨2, _⟩ => ⟨S_, .f32⟩
  | .hbm, ⟨3, _⟩ => ⟨S8192x384, .f32⟩
  | .hbm, ⟨4, _⟩ => ⟨S8192x1024, .f32⟩
  | .hbm, ⟨5, _⟩ => ⟨S8192x384, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel27.lean ====
abbrev S8192x384 : Shape := ⟨2, ![8192, 384]⟩
abbrev S8192x1024 : Shape := ⟨2, ![8192, 1024]⟩
abbrev S384x1024 : Shape := ⟨2, ![384, 1024]⟩
abbrev S512x384 : Shape := ⟨2, ![512, 384]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S8192x384, .bf16⟩
  | .hbm, ⟨3, _⟩ => ⟨S8192x1024, .bf16⟩
  | .hbm, ⟨4, _⟩ => ⟨S384x1024, .f32⟩
  | .local _ .vmem, ⟨0, _⟩ => ⟨S512x384, .bf16⟩
  | .local _ .vmem, ⟨1, _⟩ => ⟨S512x384, .bf16⟩
  | .local _ .vmem, ⟨2, _⟩ => ⟨S512x1024, .bf16⟩
  | .local _ .vmem, ⟨3, _⟩ => ⟨S512x1024, .bf16⟩
  | .local _ .vmem, ⟨4, _⟩ => ⟨S384x1024, .f32⟩
  | .local _ .vmem, ⟨5, _⟩ => ⟨S384x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S_, .f32⟩
  | .hbm, ⟨3, _⟩ => ⟨S384x1024, .f32⟩
  | .hbm, ⟨4, _⟩ => ⟨S8192x1024, .f32⟩
  | .hbm, ⟨5, _⟩ => ⟨S1024x384, .f32⟩
  | .hbm, ⟨6, _⟩ => ⟨S384x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel28.lean ====
abbrev S256x1024 : Shape := ⟨2, ![256, 1024]⟩
abbrev S8192x1024 : Shape := ⟨2, ![8192, 1024]⟩
abbrev S1024x256 : Shape := ⟨2, ![1024, 256]⟩
abbrev S8192x256 : Shape := ⟨2, ![8192, 256]⟩
abbrev S1024x512 : Shape := ⟨2, ![1024, 512]⟩
abbrev S512x256 : Shape := ⟨2, ![512, 256]⟩

abbrev nBuf : Space → Nat
  | .hbm => 6
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8192x1024, .bf16⟩
  | .hbm, ⟨3, _⟩ => ⟨S256x1024, .bf16⟩
  | .hbm, ⟨4, _⟩ => ⟨S1024x256, .bf16⟩
  | .hbm, ⟨5, _⟩ => ⟨S8192x256, .f32⟩
  | .local _ .vmem, ⟨0, _⟩ => ⟨S1024x512, .bf16⟩
  | .local _ .vmem, ⟨1, _⟩ => ⟨S1024x512, .bf16⟩
  | .local _ .vmem, ⟨2, _⟩ => ⟨S512x256, .bf16⟩
  | .local _ .vmem, ⟨3, _⟩ => ⟨S512x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S256x1024 : Shape := ⟨2, ![256, 1024]⟩
abbrev S8192x1024 : Shape := ⟨2, ![8192, 1024]⟩
abbrev S_ : Shape := ⟨0, ![]⟩
abbrev S8192x256 : Shape := ⟨2, ![8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S_, .f32⟩
  | .hbm, ⟨3, _⟩ => ⟨S8192x256, .f32⟩
  | .hbm, ⟨4, _⟩ => ⟨S8192x1024, .f32⟩
  | .hbm, ⟨5, _⟩ => ⟨S8192x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel29.lean ====
abbrev S8192x256 : Shape := ⟨2, ![8192, 256]⟩
abbrev S8192x1024 : Shape := ⟨2, ![8192, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference29Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel30.lean ====
abbrev S256x1024 : Shape := ⟨2, ![256, 1024]⟩
abbrev S8192x1024 : Shape := ⟨2, ![8192, 1024]⟩
abbrev S8192x256 : Shape := ⟨2, ![8192, 256]⟩
abbrev S1024x256 : Shape := ⟨2, ![1024, 256]⟩
abbrev S1024x512 : Shape := ⟨2, ![1024, 512]⟩
abbrev S512x256 : Shape := ⟨2, ![512, 256]⟩

abbrev nBuf : Space → Nat
  | .hbm => 7
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8192x256, .f32⟩
  | .hbm, ⟨3, _⟩ => ⟨S8192x1024, .bf16⟩
  | .hbm, ⟨4, _⟩ => ⟨S256x1024, .bf16⟩
  | .hbm, ⟨5, _⟩ => ⟨S1024x256, .bf16⟩
  | .hbm, ⟨6, _⟩ => ⟨S8192x256, .f32⟩
  | .local _ .vmem, ⟨0, _⟩ => ⟨S1024x512, .bf16⟩
  | .local _ .vmem, ⟨1, _⟩ => ⟨S1024x512, .bf16⟩
  | .local _ .vmem, ⟨2, _⟩ => ⟨S512x256, .bf16⟩
  | .local _ .vmem, ⟨3, _⟩ => ⟨S512x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference30Ideal.lean ====
abbrev S256x1024 : Shape := ⟨2, ![256, 1024]⟩
abbrev S8192x1024 : Shape := ⟨2, ![8192, 1024]⟩
abbrev S8192x256 : Shape := ⟨2, ![8192, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8192x256, .f32⟩
  | .hbm, ⟨3, _⟩ => ⟨S_, .f32⟩
  | .hbm, ⟨4, _⟩ => ⟨S8192x256, .f32⟩
  | .hbm, ⟨5, _⟩ => ⟨S8192x1024, .f32⟩
  | .hbm, ⟨6, _⟩ => ⟨S8192x256, .f32⟩
  | .hbm, ⟨7, _⟩ => ⟨S8192x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Ends.lean ====
/- The printed kernel's body ends from any contents of its blocks: nothing is said of what it leaves in them. -/
module

public import proofs.«01_k».proof.Proof.Gen.Kernel.Frame
public import proofs.«01_k».proof.Proof.Gen.Kernel.Skeleton
public import proofs.«01_k».proof.Proof.Gen.Kernel.Loops
public import Idealize.ShloMosaic.Lib.Exec
public import Idealize.ShloMosaic.Lib.Tactic
public import Idealize.ShloMosaic.Lib.Pipeline.Kit
public import Idealize.ShloMosaic.Lib.Claim

@[expose] public section

set_option maxRecDepth 16384
set_option maxHeartbeats 2000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A buffer held at some contents. -/
def any (c : Dev nD) {s : Shape} {e : EltTy} (r : Memref sig .tc .vmem s e) : sProp 𝕄 :=
  iprop(∃ d, owns (c : Thread nD τ) r fullShare d)

/-- The nine blocks and the two accumulators, each held at some contents. -/
def blocks (c : Dev nD) (arg2 : Memref sig .tc .vmem S8192x128 .bf16) (arg3 : Memref sig .tc .vmem S512x128 .bf16) (arg4 : Memref sig .tc .vmem S512x128 .bf16) (arg5 : Memref sig .tc .vmem S8192x128 .bf16) (arg6 : Memref sig .tc .vmem S8192x128 .f32) (arg7 : Memref sig .tc .vmem S8192x128 .f32) (arg8 : Memref sig .tc .vmem S8192x128 .f32) (arg9 : Memref sig .tc .vmem S512x128 .f32) (arg10 : Memref sig .tc .vmem S512x128 .bf16) (arg11 : Memref sig .tc .vmem S512x128 .f32) (arg12 : Memref sig .tc .vmem S512x128 .f32) : sProp 𝕄 :=
  iprop(any c arg2 ∗ any c arg3 ∗ any c arg4 ∗ any c arg5 ∗ any c arg6 ∗ any c arg7 ∗ any c arg8 ∗ any c arg9 ∗ any c arg10 ∗ any c arg11 ∗ any c arg12)

/-- The point is the first of its head. -/
abbrev startsHead (i : grid0.Coords) : Prop := (Scalar.cmpi .ne (Scalar.extui (Scalar.cmpi .eq (BitVec.ofNat 32 (i 1).val) 0#32)) 0#32) = 1#1

/-- The body ends, at a head's first point, whatever its blocks and accumulators hold. -/
theorem ends_first (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole)
    (h0 : startsHead i) (h1 : k0_cond2 i = 1#1) (E : Set ℕ) (K : PUnit → sProp 𝕄) :
    iprop(blocks c arg2 arg3 arg4 arg5 arg6 arg7 arg8 arg9 arg10 arg11 arg12 ∗ (blocks c arg2 arg3 arg4 arg5 arg6 arg7 arg8 arg9 arg10 arg11 arg12 -∗ K ⟨⟩))
    ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12) K := by
  simp only [cc0_mla_bwd_eq_skeleton]; unfold cc0_mla_bwd_skel
  simp only [k0_part4_eq_skeleton, k0_part5_eq_skeleton, k0_part6_eq_skeleton, k0_part1_eq_skeleton]
  unfold blocks any owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩, Hk⟩
  sl_exec (disch := first | sl_exact h0 | sl_exact h1)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-- The body ends, at a later point with an odd tile out, whatever its blocks and accumulators hold. -/
theorem ends_pair (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole)
    (h0 : ¬startsHead i) (h1 : k0_cond2 i = 1#1) (E : Set ℕ) (K : PUnit → sProp 𝕄) :
    iprop(blocks c arg2 arg3 arg4 arg5 arg6 arg7 arg8 arg9 arg10 arg11 arg12 ∗ (blocks c arg2 arg3 arg4 arg5 arg6 arg7 arg8 arg9 arg10 arg11 arg12 -∗ K ⟨⟩))
    ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12) K := by
  simp only [cc0_mla_bwd_eq_skeleton]; unfold cc0_mla_bwd_skel
  simp only [k0_part4_eq_skeleton, k0_part5_eq_skeleton, k0_part6_eq_skeleton, k0_part1_eq_skeleton]
  unfold blocks any owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩, Hk⟩
  sl_exec (disch := first | sl_exact h0 | sl_exact h1)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-- The body ends, at a later point without, whatever its blocks and accumulators hold. -/
theorem ends_plain (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole)
    (h0 : ¬startsHead i) (h1 : ¬k0_cond2 i = 1#1) (E : Set ℕ) (K : PUnit → sProp 𝕄) :
    iprop(blocks c arg2 arg3 arg4 arg5 arg6 arg7 arg8 arg9 arg10 arg11 arg12 ∗ (blocks c arg2 arg3 arg4 arg5 arg6 arg7 arg8 arg9 arg10 arg11 arg12 -∗ K ⟨⟩))
    ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12) K := by
  simp only [cc0_mla_bwd_eq_skeleton]; unfold cc0_mla_bwd_skel
  simp only [k0_part4_eq_skeleton, k0_part5_eq_skeleton, k0_part6_eq_skeleton, k0_part1_eq_skeleton]
  unfold blocks any owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩, Hk⟩
  sl_exec (disch := first | sl_exact h0 | sl_exact h1)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.Kernel.Gen

end
-- ==== Proof.Frame_print.lean ====
/- The printed kernel's run: every execution ends with the arguments as they were and the machine at rest. -/
module

public import proofs.«01_k».proof.Proof.Ends

@[expose] public section

set_option maxRecDepth 16384
set_option maxHeartbeats 2000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem starts_iff : ∀ t : Fin cfg0.N, startsHead (grid0.coords t) ↔ t.val % 16 = 0 :=
  (by decide +kernel : ∀ t : Fin grid0.N, startsHead (grid0.coords t) ↔ t.val % 16 = 0)

theorem odd_iff : ∀ t : Fin cfg0.N, k0_cond2 (grid0.coords t) = 1#1 ↔ t.val % 2 = 0 :=
  (by decide +kernel : ∀ t : Fin grid0.N, k0_cond2 (grid0.coords t) = 1#1 ↔ t.val % 2 = 0)

/-- The pipeline's data: the arrays as the region finds them, and nothing said of any block afterwards. -/
def dats (_ : Fin 1) (c : Dev nD) : Dat τ (Elt F) Unit ℕ (UR sig nD τ) ℕ cfg0 c where
  A w := V m c (Pipeline.arrRef spec0 w)
  after w t := Pipeline.Dat.unnamed w t
  Φ _ := Pipeline.ΦA spec0 c
  q _ := fullShare
  owed _ := 0

/-- Nothing is said of what any window's block holds. -/
def unsaid : Fin cfg0.W → Bool := fun _ => true

/-- The region's invariant: the two accumulators at some contents, and the generator's register. -/
theorem inv_eq (c : Dev nD) :
    (Pipeline.ΦA spec0 c : sProp 𝕄)
      = iprop(iprop(any c (Memref.whole cc0_scratch0) ∗ any c (Memref.whole cc0_scratch1)) ∗ (∃ r, prngReg c r)) := by
  unfold Pipeline.ΦA any; rw [scopedRest0_eq]; simp only [owns_whole]; try rfl

/-- What the body is given at a point and what it gives back: everything at some contents. -/
def held (c : Dev nD) (t : Fin cfg0.N) : sProp 𝕄 :=
  iprop(Pipeline.ΦA spec0 c ∗ (dats m 0 c).owesAt () t.castSucc
    ∗ any c (win0_0.stage (cfg0.slots t 0)) ∗ any c (win0_1.stage (cfg0.slots t 1)) ∗ any c (win0_2.stage (cfg0.slots t 2))
    ∗ any c (win0_3.stage (cfg0.slots t 3)) ∗ any c (win0_4.stage (cfg0.slots t 4)) ∗ any c (win0_5.stage (cfg0.slots t 5))
    ∗ any c (win0_6.stage (cfg0.slots t 6)) ∗ any c (win0_7.stage (cfg0.slots t 7)) ∗ any c (win0_8.stage (cfg0.slots t 8)))

/-- The blocks and accumulators of a point. -/
def blocksAt (c : Dev nD) (t : Fin cfg0.N) : sProp 𝕄 :=
  blocks c (win0_0.stage (cfg0.slots t 0)) (win0_1.stage (cfg0.slots t 1)) (win0_2.stage (cfg0.slots t 2))
    (win0_3.stage (cfg0.slots t 3)) (win0_4.stage (cfg0.slots t 4)) (win0_5.stage (cfg0.slots t 5))
    (win0_6.stage (cfg0.slots t 6)) (win0_7.stage (cfg0.slots t 7)) (win0_8.stage (cfg0.slots t 8))
    (Memref.whole cc0_scratch0) (Memref.whole cc0_scratch1)

theorem ends_at (c : Dev nD) (t : Fin cfg0.N) (K : PUnit → sProp 𝕄) :
    iprop(blocksAt c t ∗ (blocksAt c t -∗ K ⟨⟩)) ⊢ wp frame (wpE (defs₀ (F := F)) Variants.none c none) Set.univ (bodyAt0 t) K := by
  unfold bodyAt0 blocksAt
  by_cases h0 : t.val % 16 = 0
  · exact ends_first c _ _ _ _ _ _ _ _ _ _ _ _ _ _ _ _ _ _ _ _ _ _ _ ((starts_iff t).2 h0) ((odd_iff t).2 (by omega)) _ K
  · by_cases h1 : t.val % 2 = 0
    · exact ends_pair c _ _ _ _ _ _ _ _ _ _ _ _ _ _ _ _ _ _ _ _ _ _ _ (fun h => h0 ((starts_iff t).1 h)) ((odd_iff t).2 h1) _ K
    · exact ends_plain c _ _ _ _ _ _ _ _ _ _ _ _ _ _ _ _ _ _ _ _ _ _ _ (fun h => h0 ((starts_iff t).1 h)) (fun h => h1 ((odd_iff t).1 h)) _ K

theorem sound (c : Dev nD) (t : Fin cfg0.N) :
    held m c t ⊢ wp frame (wpE (defs₀ (F := F)) Variants.none c none) Set.univ (bodyAt0 t) (fun _ => held m c t) := by
  refine BIBase.Entails.trans ?_ (ends_at c t _)
  unfold held blocksAt blocks
  rw [inv_eq]
  iintro ⟨⟨⟨A, B⟩, G⟩, O, H0, H1, H2, H3, H4, H5, H6, H7, H8⟩
  isplitl [A B H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [A]; · iexact A
    iexact B
  iintro ⟨H0, H1, H2, H3, H4, H5, H6, H7, H8, A, B⟩
  isplitl [A B G]
  · isplitl [A B]
    · isplitl [A]; · iexact A
      iexact B
    iexact G
  isplitl [O]; · iexact O
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem obligation (c : Dev nD) : BodyObligation (dats m 0 c) (defs₀ (F := F)) Variants.none () Set.univ unsaid := fun t => by
  rw [bigSep_W0, bigSep_W0]
  rw [show defs₀ (F := F) .tc cfg0.body (cfg0.bodyArgs t (cfg0.slots t)) = bodyAt0 t by unfold defs₀; rw [Defs.onTc_tc]]
  exact triple_restated (sound m c t) rfl .rfl fun _ => .rfl

set_option backward.isDefEq.respectTransparency.types false in
/-- Every execution ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := fun _ _ => rfl) (hΦ := fun _ _ => rfl)
    (hQ' := fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c)⟩, h.2⟩)

end Cert.Kernel.Gen

end
-- ==== Proof.Tile.lean ====
/- One tile of the attention's backward at the ideal instance: what each stored value of the kernel's body is, as
   sums over the rows of queries a step works on, and the state three accumulators are in after the rows up to `n`. -/
module

public import proofs.«01_k».proof.Proof.Gen.KernelIdeal.Skeleton
public import Idealize.ShloMosaic.Lib.Pointwise

@[expose] public section

set_option maxRecDepth 16384

noncomputable section

namespace Cert.KernelIdeal.Gen

open Idealize.ShloMosaic
open scoped BigOperators

/-! ## The stored values, read at an index -/

theorem pay10_at (k : FVec Ideal S512x128 .bf16) (q : Vec Ideal S1024x128 .bf16) (ls : Vec Ideal S1024x128 .f32)
    (a : Fin 1024) (r : Fin 512) :
    k0_pay10 (F := Ideal) k q ls (ix2 a r) = Ideal.exp2 ((∑ l : Fin 128, q (ix2 a l) * k (ix2 r l)) - ls (ix2 a 0)) := by
  pointwise [k0_pay10, k0_pay8]
  rfl

theorem pay11_at (k v : FVec Ideal S512x128 .bf16) (q d : Vec Ideal S1024x128 .bf16) (ls dl : Vec Ideal S1024x128 .f32)
    (a : Fin 1024) (r : Fin 512) :
    k0_pay11 (F := Ideal) k v q d ls dl (ix2 a r)
      = k0_pay10 (F := Ideal) k q ls (ix2 a r) * ((∑ l : Fin 128, d (ix2 a l) * v (ix2 r l)) - dl (ix2 a 0)) := by
  pointwise [k0_pay11, k0_pay9]

theorem pay12_at (k : FVec Ideal S512x128 .bf16) (q d : Vec Ideal S1024x128 .bf16) (ls : Vec Ideal S1024x128 .f32)
    (o : Vec Ideal S512x128 .f32) (r : Fin 512) (l : Fin 128) :
    k0_pay12 (F := Ideal) k q d ls o (ix2 r l)
      = o (ix2 r l) + ∑ a : Fin 1024, k0_pay10 (F := Ideal) k q ls (ix2 a r) * d (ix2 a l) := by
  pointwise [k0_pay12, k0_pay9]

theorem pay13_at (k v : FVec Ideal S512x128 .bf16) (q d : Vec Ideal S1024x128 .bf16) (ls dl : Vec Ideal S1024x128 .f32)
    (o : Vec Ideal S512x128 .f32) (r : Fin 512) (l : Fin 128) :
    k0_pay13 (F := Ideal) k v q d ls dl o (ix2 r l)
      = o (ix2 r l) + ∑ a : Fin 1024, k0_pay11 (F := Ideal) k v q d ls dl (ix2 a r) * q (ix2 a l) := by
  pointwise [k0_pay13, k0_pay8]

theorem pay33_eq (o : FVec Ideal S512x128 .f32) : k0_pay33 (F := Ideal) o = o := by
  funext i; idx_vars i; pointwise [k0_pay33]

theorem pay34_at (k : FVec Ideal S512x128 .bf16) (s : FVec Ideal S1024x512 .bf16) (o : Vec Ideal S1024x128 .f32)
    (a : Fin 1024) (l : Fin 128) :
    k0_pay34 (F := Ideal) k s o (ix2 a l) = o (ix2 a l) + ∑ r : Fin 512, s (ix2 a r) * k (ix2 r l) := by
  pointwise [k0_pay34]

theorem pay4_at (k : FVec Ideal S512x128 .bf16) (q : Vec Ideal S512x128 .bf16) (ls : Vec Ideal S512x128 .f32)
    (a : Fin 512) (r : Fin 512) :
    k0_pay4 (F := Ideal) k q ls (ix2 a r) = Ideal.exp2 ((∑ l : Fin 128, q (ix2 a l) * k (ix2 r l)) - ls (ix2 a 0)) := by
  pointwise [k0_pay4, k0_pay2]
  rfl

theorem pay5_at (k v : FVec Ideal S512x128 .bf16) (q d : Vec Ideal S512x128 .bf16) (ls dl : Vec Ideal S512x128 .f32)
    (a : Fin 512) (r : Fin 512) :
    k0_pay5 (F := Ideal) k v q d ls dl (ix2 a r)
      = k0_pay4 (F := Ideal) k q ls (ix2 a r) * ((∑ l : Fin 128, d (ix2 a l) * v (ix2 r l)) - dl (ix2 a 0)) := by
  pointwise [k0_pay5, k0_pay3]

theorem pay6_at (k : FVec Ideal S512x128 .bf16) (q d : Vec Ideal S512x128 .bf16) (ls : Vec Ideal S512x128 .f32)
    (o : Vec Ideal S512x128 .f32) (r : Fin 512) (l : Fin 128) :
    k0_pay6 (F := Ideal) k q d ls o (ix2 r l)
      = o (ix2 r l) + ∑ a : Fin 512, k0_pay4 (F := Ideal) k q ls (ix2 a r) * d (ix2 a l) := by
  pointwise [k0_pay6, k0_pay3]

theorem pay7_at (k v : FVec Ideal S512x128 .bf16) (q d : Vec Ideal S512x128 .bf16) (ls dl : Vec Ideal S512x128 .f32)
    (o : Vec Ideal S512x128 .f32) (r : Fin 512) (l : Fin 128) :
    k0_pay7 (F := Ideal) k v q d ls dl o (ix2 r l)
      = o (ix2 r l) + ∑ a : Fin 512, k0_pay5 (F := Ideal) k v q d ls dl (ix2 a r) * q (ix2 a l) := by
  pointwise [k0_pay7, k0_pay2]

theorem pay32_at (k : FVec Ideal S512x128 .bf16) (s : FVec Ideal S512x512 .bf16) (o : Vec Ideal S512x128 .f32)
    (a : Fin 512) (l : Fin 128) :
    k0_pay32 (F := Ideal) k s o (ix2 a l) = o (ix2 a l) + ∑ r : Fin 512, s (ix2 a r) * k (ix2 r l) := by
  pointwise [k0_pay32]

theorem pay20_eq : k0_pay20 (F := Ideal) = fun _ => (0 : EReal) := by
  funext i; idx_vars i; pointwise [k0_pay20]

theorem pay21_eq : k0_pay21 (F := Ideal) = fun _ => (0 : EReal) := by
  funext i; idx_vars i; pointwise [k0_pay21]

theorem pay22_eq : k0_pay22 (F := Ideal) = fun _ => (0 : EReal) := by
  funext i; idx_vars i; pointwise [k0_pay22]

theorem pay23_eq (o : Vec Ideal S512x128 .bf16) : k0_pay23 (F := Ideal) o = o := by
  funext i; idx_vars i; pointwise [k0_pay23]

theorem pay24_eq (o : Vec Ideal S512x128 .bf16) : k0_pay24 (F := Ideal) o = o := by
  funext i; idx_vars i; pointwise [k0_pay24]

theorem pay25_eq (o : Vec Ideal S512x128 .bf16) : k0_pay25 (F := Ideal) o = o := by
  funext i; idx_vars i; pointwise [k0_pay25]

theorem pay26_eq (o : Vec Ideal S512x128 .bf16) : k0_pay26 (F := Ideal) o = o := by
  funext i; idx_vars i; pointwise [k0_pay26]

theorem mask_eq : (Named.named (F := Ideal) κ (φ := .f32) "mask" 4048155338#32 : EReal) = ⊥ :=
  IdealRules.named_const.ideal_named_scalar _ _ _ _ rfl

theorem ln2_eq : (Named.named (F := Ideal) κ (φ := .f32) "ln2" 0x3F317218#32 : EReal) = ((Real.log 2 : ℝ) : EReal) :=
  IdealRules.named_const.ideal_named_scalar _ _ _ _ rfl

/-- Two row numbers below 512 compare as words as they compare as numbers. -/
theorem sle_ofNat (a r : Fin 512) :
    IntOp.cmpi CmpIPredicate.sle (BitVec.ofNat 32 r.val) (BitVec.ofNat 32 a.val) = if r.val ≤ a.val then 1#1 else 0#1 := by
  have hr := r.isLt
  have ha := a.isLt
  have e1 : (BitVec.ofNat 32 r.val).toInt = (r.val : ℤ) := by
    rw [BitVec.toInt_eq_toNat_of_lt] <;> simp only [BitVec.toNat_ofNat] <;> omega
  have e2 : (BitVec.ofNat 32 a.val).toInt = (a.val : ℤ) := by
    rw [BitVec.toInt_eq_toNat_of_lt] <;> simp only [BitVec.toNat_ofNat] <;> omega
  simp only [IntOp.cmpi, BitVec.sle, e1, e2]
  by_cases h : r.val ≤ a.val <;> simp [h]

theorem pay27_at (k : Vec Ideal S512x128 .bf16) (q : Vec Ideal S512x128 .bf16) (ls : Vec Ideal S512x128 .f32)
    (a : Fin 512) (r : Fin 512) :
    k0_pay27 (F := Ideal) k q ls (ix2 a r)
      = Ideal.exp2 ((if r.val ≤ a.val then ∑ l : Fin 128, q (ix2 a l) * k (ix2 r l) else ⊥) - ls (ix2 a 0)) := by
  pointwise [k0_pay27, k0_pay25, k0_pay23]
  rw [sle_ofNat, mask_eq]
  by_cases h : r.val ≤ a.val
  · simp only [h, if_true]; rfl
  · simp only [h, if_false]; rfl

theorem pay28_at (v d : FVec Ideal S512x128 .bf16) (p : FVec Ideal S512x512 .f32) (dl : Vec Ideal S512x128 .f32)
    (a : Fin 512) (r : Fin 512) :
    k0_pay28 (F := Ideal) v d p (constant S512x512 .f32 0x00000000#32) dl (ix2 a r)
      = p (ix2 a r) * ((∑ l : Fin 128, d (ix2 a l) * v (ix2 r l)) - dl (ix2 a 0)) := by
  pointwise [k0_pay28]

theorem pay29_at (d : FVec Ideal S512x128 .bf16) (p : FVec Ideal S512x512 .f32) (o : Vec Ideal S512x128 .f32)
    (r : Fin 512) (l : Fin 128) :
    k0_pay29 (F := Ideal) d p o (ix2 r l) = o (ix2 r l) + ∑ a : Fin 512, p (ix2 a r) * d (ix2 a l) := by
  pointwise [k0_pay29]

theorem pay30_at (v q d : FVec Ideal S512x128 .bf16) (p : FVec Ideal S512x512 .f32) (c : FVec Ideal S512x512 .f32)
    (dl : Vec Ideal S512x128 .f32) (o : Vec Ideal S512x128 .f32) (r : Fin 512) (l : Fin 128) :
    k0_pay30 (F := Ideal) v q d p c dl o (ix2 r l)
      = o (ix2 r l) + ∑ a : Fin 512, k0_pay28 (F := Ideal) v d p c dl (ix2 a r) * q (ix2 a l) := by
  pointwise [k0_pay30]

theorem pay31_at (k v d : FVec Ideal S512x128 .bf16) (p : FVec Ideal S512x512 .f32) (c : FVec Ideal S512x512 .f32)
    (dl : Vec Ideal S512x128 .f32) (o : Vec Ideal S512x128 .f32) (a : Fin 512) (l : Fin 128) :
    k0_pay31 (F := Ideal) k v d p c dl o (ix2 a l)
      = o (ix2 a l) + ∑ r : Fin 512, k0_pay28 (F := Ideal) v d p c dl (ix2 a r) * k (ix2 r l) := by
  pointwise [k0_pay31]

theorem pay37_at (o : Vec Ideal S512x128 .f32) (r : Fin 512) (l : Fin 128) :
    k0_pay37 (F := Ideal) o (ix2 r l) = o (ix2 r l) * ((Real.log 2 : ℝ) : EReal) := by
  pointwise [k0_pay37]
  rw [ln2_eq]

theorem pay1_eq (o : Vec Ideal S512x128 .f32) : k0_pay1 (F := Ideal) o = o := by
  funext i; idx_vars i; pointwise [k0_pay1]

/-! ## The state after the rows up to `n` -/

/-- Row `n` of an array of 8192 rows; past the end, zero. -/
def rowN {φ : FTy} (x : FVec Ideal S8192x128 φ) (n : ℕ) (l : Fin 128) : EReal := if h : n < 8192 then x (ix2 ⟨n, h⟩ l) else 0

section
variable (q d : FVec Ideal S8192x128 .bf16) (ls dl : FVec Ideal S8192x128 .f32) (k v : FVec Ideal S512x128 .bf16) (j : ℕ)

/-- The weight of query row `x` on key row `r` of tile `j`. -/
def tP (x : ℕ) (r : Fin 512) : EReal :=
  Ideal.exp2 ((if 512 * j + r.val ≤ x then ∑ l : Fin 128, rowN q x l * k (ix2 r l) else ⊥) - rowN ls x 0)

/-- The gradient of its score. -/
def tS (x : ℕ) (r : Fin 512) : EReal := tP q ls k j x r * ((∑ l : Fin 128, rowN d x l * v (ix2 r l)) - rowN dl x 0)

/-- The values' gradient from rows `512 j ≤ x < n`. -/
def stV (n : ℕ) (r : Fin 512) (l : Fin 128) : EReal := ∑ x ∈ Finset.Ico (512 * j) n, tP q ls k j x r * rowN d x l

/-- The keys' gradient from rows `512 j ≤ x < n`, not yet multiplied by `ln 2`. -/
def stK (n : ℕ) (r : Fin 512) (l : Fin 128) : EReal := ∑ x ∈ Finset.Ico (512 * j) n, tS q d ls dl k v j x r * rowN q x l

/-- What tile `j` adds to row `x` of the queries' gradient. -/
def addQ (x : ℕ) (l : Fin 128) : EReal := ∑ r : Fin 512, tS q d ls dl k v j x r * k (ix2 r l)

/-- The queries' gradient once rows `512 j ≤ x < n` have had tile `j` added. -/
def stQ (o : FVec Ideal S8192x128 .f32) (n x : ℕ) (l : Fin 128) : EReal :=
  rowN o x l + if 512 * j ≤ x ∧ x < n then addQ q d ls dl k v j x l else 0

/-- A sum over the `m` rows from `n` on, told by the row's number in the block. -/
theorem sum_block (m n : ℕ) (f : ℕ → EReal) (g : Fin m → EReal) (h : ∀ a : Fin m, g a = f (n + a.val)) :
    ∑ a : Fin m, g a = ∑ x ∈ Finset.Ico n (n + m), f x := by
  rw [Finset.sum_Ico_eq_sum_range, Nat.add_sub_cancel_left, ← Fin.sum_univ_eq_sum_range]
  exact Finset.sum_congr rfl fun a _ => h a

/-- A block of `m` rows from `n` on carries the accumulated sum from `n` to `n + m`. -/
theorem acc_block (m n b : ℕ) (hb : b ≤ n) (f : ℕ → EReal) (g : Fin m → EReal) (h : ∀ a : Fin m, g a = f (n + a.val)) :
    (∑ x ∈ Finset.Ico b n, f x) + ∑ a : Fin m, g a = ∑ x ∈ Finset.Ico b (n + m), f x := by
  rw [sum_block m n f g h]
  exact Finset.sum_Ico_consecutive f hb (Nat.le_add_right n m)

section Rows
variable {m : ℕ} (n : ℕ) (p : Fin m → Fin 512 → EReal) (s : Fin m → Fin 512 → EReal) (qb db : Fin m → Fin 128 → EReal)
  (hp : ∀ a r, p a r = tP q ls k j (n + a.val) r) (hs : ∀ a r, s a r = tS q d ls dl k v j (n + a.val) r)
  (hq : ∀ a l, qb a l = rowN q (n + a.val) l) (hd : ∀ a l, db a l = rowN d (n + a.val) l) (hn : 512 * j ≤ n)
include hn

omit hn in
theorem block_s (e : Fin m → Fin 512 → EReal) (lb : Fin m → EReal) (hp : ∀ a r, p a r = tP q ls k j (n + a.val) r)
    (hd : ∀ a l, db a l = rowN d (n + a.val) l) (hl : ∀ a, lb a = rowN dl (n + a.val) 0)
    (he : ∀ a r, e a r = p a r * ((∑ l : Fin 128, db a l * v (ix2 r l)) - lb a)) (a : Fin m) (r : Fin 512) :
    e a r = tS q d ls dl k v j (n + a.val) r := by
  rw [he, hp, hl]; simp only [hd]; rfl

include hp hd in
theorem block_v (r : Fin 512) (l : Fin 128) :
    stV q d ls k j n r l + ∑ a : Fin m, p a r * db a l = stV q d ls k j (n + m) r l :=
  acc_block m n _ hn _ _ fun a => by rw [hp, hd]

include hs hq in
theorem block_k (r : Fin 512) (l : Fin 128) :
    stK q d ls dl k v j n r l + ∑ a : Fin m, s a r * qb a l = stK q d ls dl k v j (n + m) r l :=
  acc_block m n _ hn _ _ fun a => by rw [hs, hq]

include hs in
theorem block_q (o : FVec Ideal S8192x128 .f32) (a : Fin m) (l : Fin 128) :
    stQ q d ls dl k v j o n (n + a.val) l + ∑ r : Fin 512, s a r * k (ix2 r l)
      = stQ q d ls dl k v j o (n + m) (n + a.val) l := by
  have ha := a.isLt
  unfold stQ
  rw [if_neg (by omega), if_pos (by omega), add_zero]
  simp only [hs]; rfl

theorem block_q_off (o : FVec Ideal S8192x128 .f32) (m x : ℕ) (hx : x < n ∨ n + m ≤ x) (l : Fin 128) :
    stQ q d ls dl k v j o n x l = stQ q d ls dl k v j o (n + m) x l := by
  unfold stQ
  have : (512 * j ≤ x ∧ x < n) ↔ (512 * j ≤ x ∧ x < n + m) := by omega
  simp only [this]
end Rows

theorem stV_start (r : Fin 512) (l : Fin 128) : stV q d ls k j (512 * j) r l = 0 := by simp [stV]
theorem stK_start (r : Fin 512) (l : Fin 128) : stK q d ls dl k v j (512 * j) r l = 0 := by simp [stK]
theorem stQ_start (o : FVec Ideal S8192x128 .f32) (x : ℕ) (l : Fin 128) : stQ q d ls dl k v j o (512 * j) x l = rowN o x l := by
  unfold stQ; rw [if_neg (by omega), add_zero]
end

end Cert.KernelIdeal.Gen
-- ==== Proof.Step.lean ====
/- The kernel's body as steps over blocks of query rows: one step adds the block's terms to the three accumulated
   arrays, whatever the size of the block, and steps over neighbouring blocks compose. -/
module

public import proofs.«01_k».proof.Proof.Tile
public import Idealize.ShloMosaic.Lib.Writes
public import Idealize.ShloMosaic.Lib.Pipeline.Value
public import Idealize.ShloMosaic.Lib.Pipeline.FrameBody

@[expose] public section

set_option maxRecDepth 16384

noncomputable section

namespace Cert.KernelIdeal.Gen

open Idealize.ShloMosaic
open scoped BigOperators

/-- The three arrays a step changes: the queries' gradient of the head, the keys' accumulator, the values' accumulator. -/
abbrev St := Vec Ideal S8192x128 .f32 × Vec Ideal S512x128 .f32 × Vec Ideal S512x128 .f32

section
variable (q d : FVec Ideal S8192x128 .bf16) (ls dl : FVec Ideal S8192x128 .f32) (k v : FVec Ideal S512x128 .bf16) (j : ℕ)

/-- The arrays once the query rows `a ≤ x < b` have been worked on. -/
def adv (a b : ℕ) (s : St) : St :=
  (fun x => s.1 x + if a ≤ (x 0).val ∧ (x 0).val < b then addQ q d ls dl k v j (x 0).val (x 1) else 0,
   fun y => s.2.1 y + ∑ x ∈ Finset.Ico a b, tS q d ls dl k v j x (y 0) * rowN q x (y 1),
   fun y => s.2.2 y + ∑ x ∈ Finset.Ico a b, tP q ls k j x (y 0) * rowN d x (y 1))

theorem adv_self (a : ℕ) (s : St) : adv q d ls dl k v j a a s = s := by
  refine Prod.ext (funext fun x => ?_) (Prod.ext (funext fun y => ?_) (funext fun y => ?_))
  · simp only [adv]; rw [if_neg (by omega), add_zero]
  · simp only [adv, Finset.Ico_self, Finset.sum_empty, add_zero]
  · simp only [adv, Finset.Ico_self, Finset.sum_empty, add_zero]

theorem adv_adv (a b c : ℕ) (hab : a ≤ b) (hbc : b ≤ c) (s : St) :
    adv q d ls dl k v j b c (adv q d ls dl k v j a b s) = adv q d ls dl k v j a c s := by
  refine Prod.ext (funext fun x => ?_) (Prod.ext (funext fun y => ?_) (funext fun y => ?_))
  · simp only [adv]
    rw [add_assoc]; congr 1
    by_cases h1 : a ≤ (x 0).val ∧ (x 0).val < b
    · rw [if_pos h1, if_neg (by omega), if_pos (by omega), add_zero]
    · rw [if_neg h1, zero_add]
      by_cases h2 : b ≤ (x 0).val ∧ (x 0).val < c
      · rw [if_pos h2, if_pos (by omega)]
      · rw [if_neg h2, if_neg (by omega)]
  · simp only [adv]; rw [add_assoc, Finset.sum_Ico_consecutive _ hab hbc]
  · simp only [adv]; rw [add_assoc, Finset.sum_Ico_consecutive _ hab hbc]
end

theorem rowN_lt {φ : FTy} (x : FVec Ideal S8192x128 φ) (n : ℕ) (h : n < 8192) (l : Fin 128) : rowN x n l = x (ix2 ⟨n, h⟩ l) :=
  dif_pos h

/-! ## Blocks of 1024 rows -/

theorem below_1024 (off : Fin 2 → ℕ) (n : ℕ) (h0 : off 0 = n) (inb : ∀ a, off a + S1024x128.size a ≤ S8192x128.size a) (a : Fin 1024) :
    n + a.val < 8192 := by
  have := inb 0
  have e1 : S1024x128.size 0 = 1024 := rfl
  have e2 : S8192x128.size 0 = 8192 := rfl
  have := a.isLt; omega

/-- A load of 1024 rows from row `n` on. -/
theorem ld_rows1024 {e : EltTy} (x : Vec Ideal S8192x128 e) (off : Fin 2 → ℕ) (n : ℕ) (h0 : off 0 = n) (h1 : off 1 = 0)
    (inb : ∀ a, off a + S1024x128.size a ≤ S8192x128.size a) (a : Fin 1024) (l : Fin 128) :
    View.ld x (Rect.unit (s := S8192x128) off S1024x128.size inb) (ix2 a l)
      = x (ix2 ⟨n + a.val, below_1024 off n h0 inb a⟩ l) := by
  refine congrArg x (Rect.emb_eq_of_coords _ _ _ fun b => ?_)
  match b with
  | 0 => show n + a.val = off 0 + 1 * a.val; omega
  | 1 => show l.val = off 1 + 1 * l.val; omega

theorem ldB_1024 (x : Vec Ideal S8192x128 .bf16) (off : Fin 2 → ℕ) (n : ℕ) (h0 : off 0 = n) (h1 : off 1 = 0)
    (inb : ∀ a, off a + S1024x128.size a ≤ S8192x128.size a) (a : Fin 1024) (l : Fin 128) :
    View.ld x (Rect.unit (s := S8192x128) off S1024x128.size inb) (ix2 a l) = rowN (φ := .bf16) x (n + a.val) l := by
  rw [ld_rows1024 x off n h0 h1 inb, rowN_lt _ _ (below_1024 off n h0 inb a)]

theorem ldF_1024 (x : Vec Ideal S8192x128 .f32) (off : Fin 2 → ℕ) (n : ℕ) (h0 : off 0 = n) (h1 : off 1 = 0)
    (inb : ∀ a, off a + S1024x128.size a ≤ S8192x128.size a) (a : Fin 1024) (l : Fin 128) :
    View.ld x (Rect.unit (s := S8192x128) off S1024x128.size inb) (ix2 a l) = rowN (φ := .f32) x (n + a.val) l := by
  rw [ld_rows1024 x off n h0 h1 inb, rowN_lt _ _ (below_1024 off n h0 inb a)]

/-- A store of 1024 rows from row `n` on, read back: the payload in those rows, what was there before elsewhere. -/
theorem read_rows1024 {κ : Kind} {sp : Space} {e : EltTy} (vw : View sig κ sp S8192x128 e) (f : vw.ty.Contents (Elt Ideal))
    (off : Fin 2 → ℕ) (n : ℕ) (h0 : off 0 = n) (h1 : off 1 = 0)
    (inb : ∀ a, off a + S1024x128.size a ≤ S8192x128.size a) (w : S1024x128.Idx → Elt Ideal e) (G : S8192x128.Idx → Elt Ideal e)
    (hit : ∀ (a : Fin 1024) (l : Fin 128) (h : n + a.val < 8192), w (ix2 a l) = G (ix2 ⟨n + a.val, h⟩ l))
    (miss : ∀ x, ((x 0).val < n ∨ n + 1024 ≤ (x 0).val) → vw.read (Elt Ideal) f x = G x) :
    vw.read (Elt Ideal) (vw.writes (Elt Ideal) f [⟨Rect.unit (s := S8192x128) off S1024x128.size inb, w⟩]) = G := by
  funext x
  by_cases hx : (x 0).val < n ∨ n + 1024 ≤ (x 0).val
  · rw [View.read_writes_cons_miss_of_axis vw f _ [] x 0 n 1024 h0 rfl rfl hx]
    exact miss x hx
  · have hx0 : (x 0).val < 8192 := (x 0).isLt
    have hl : (x 1).val < 128 := (x 1).isLt
    have ha : (x 0).val - n < 1024 := by omega
    rw [View.read_writes_cons_hit_of_coords vw f (Rect.unit (s := S8192x128) off S1024x128.size inb) w []
      (ix2 ⟨(x 0).val - n, ha⟩ ⟨(x 1).val, hl⟩) x (fun b => by
        match b with
        | 0 => show (x 0).val = off 0 + 1 * ((x 0).val - n); omega
        | 1 => show (x 1).val = off 1 + 1 * (x 1).val; omega)]
    rw [hit _ _ (show n + ((x 0).val - n) < 8192 by omega)]
    refine congrArg G (funext fun b => ?_)
    match b with
    | 0 => exact Fin.ext (show n + ((x 0).val - n) = (x 0).val by omega)
    | 1 => rfl

section
variable (q d : FVec Ideal S8192x128 .bf16) (ls dl : FVec Ideal S8192x128 .f32) (k v : FVec Ideal S512x128 .bf16) (j n : ℕ)
  (s : St) (qb db : Vec Ideal S1024x128 .bf16) (lb eb : Vec Ideal S1024x128 .f32)
  (hq : ∀ a l, qb (ix2 a l) = rowN q (n + a.val) l) (hd : ∀ a l, db (ix2 a l) = rowN d (n + a.val) l)
  (hl : ∀ a l, lb (ix2 a l) = rowN ls (n + a.val) l) (he : ∀ a l, eb (ix2 a l) = rowN dl (n + a.val) l)
  (hn : 512 * j + 512 ≤ n)
include hq hl hn

theorem blockP_1024 (a : Fin 1024) (r : Fin 512) :
    k0_pay10 (F := Ideal) k qb lb (ix2 a r) = tP q ls k j (n + a.val) r := by
  rw [pay10_at, hl]; simp only [hq]
  unfold tP
  rw [if_pos (by have := r.isLt; omega)]

include hd he in
theorem blockS_1024 (a : Fin 1024) (r : Fin 512) :
    k0_pay11 (F := Ideal) k v qb db lb eb (ix2 a r) = tS q d ls dl k v j (n + a.val) r := by
  rw [pay11_at, blockP_1024 q ls k j n qb lb hq hl hn, he]
  simp only [hd]; rfl

include hd in
theorem stepV_1024 :
    k0_pay12 (F := Ideal) k qb db lb s.2.2 = (adv q d ls dl k v j n (n + 1024) s).2.2 := by
  funext y
  obtain ⟨r, l, rfl⟩ : ∃ (r : Fin 512) (l : Fin 128), y = ix2 r l := ⟨y 0, y 1, by funext b; match b with | 0 => rfl | 1 => rfl⟩
  rw [pay12_at]
  refine congrArg (s.2.2 (ix2 r l) + ·) (sum_block 1024 n (fun x => tP q ls k j x r * rowN d x l) _ fun a => ?_)
  beta_reduce
  rw [blockP_1024 q ls k j n qb lb hq hl hn, hd]

include hd he in
theorem stepK_1024 :
    k0_pay13 (F := Ideal) k v qb db lb eb s.2.1 = (adv q d ls dl k v j n (n + 1024) s).2.1 := by
  funext y
  obtain ⟨r, l, rfl⟩ : ∃ (r : Fin 512) (l : Fin 128), y = ix2 r l := ⟨y 0, y 1, by funext b; match b with | 0 => rfl | 1 => rfl⟩
  rw [pay13_at]
  refine congrArg (s.2.1 (ix2 r l) + ·) (sum_block 1024 n (fun x => tS q d ls dl k v j x r * rowN q x l) _ fun a => ?_)
  beta_reduce
  rw [blockS_1024 q d ls dl k v j n qb db lb eb hq hd hl he hn, hq]

include hd he in
theorem stepQ_1024 (o : Vec Ideal S1024x128 .f32) (ho : ∀ a l, o (ix2 a l) = rowN (φ := .f32) s.1 (n + a.val) l)
    (a : Fin 1024) (l : Fin 128) (h : n + a.val < 8192) :
    k0_pay34 (F := Ideal) k (k0_pay11 (F := Ideal) k v qb db lb eb) o (ix2 a l) = (adv q d ls dl k v j n (n + 1024) s).1 (ix2 ⟨n + a.val, h⟩ l) := by
  have ha := a.isLt
  rw [pay34_at, ho, rowN_lt _ _ h]
  show _ = s.1 (ix2 ⟨n + a.val, h⟩ l) + if n ≤ n + a.val ∧ n + a.val < n + 1024 then addQ q d ls dl k v j (n + a.val) l else 0
  rw [if_pos (by omega)]
  simp only [blockS_1024 q d ls dl k v j n qb db lb eb hq hd hl he hn]
  rfl

omit hq hl hn in
theorem stepQ_off_1024 (x : S8192x128.Idx) (hx : (x 0).val < n ∨ n + 1024 ≤ (x 0).val) :
    s.1 x = (adv q d ls dl k v j n (n + 1024) s).1 x := by
  show _ = s.1 x + if n ≤ (x 0).val ∧ (x 0).val < n + 1024 then addQ q d ls dl k v j (x 0).val (x 1) else 0
  rw [if_neg (by omega), add_zero]
end

/-! ## Blocks of 512 rows -/

theorem below_odd (off : Fin 2 → ℕ) (n : ℕ) (h0 : off 0 = n) (inb : ∀ a, off a + S512x128.size a ≤ S8192x128.size a) (a : Fin 512) :
    n + a.val < 8192 := by
  have := inb 0
  have e1 : S512x128.size 0 = 512 := rfl
  have e2 : S8192x128.size 0 = 8192 := rfl
  have := a.isLt; omega

/-- A load of 512 rows from row `n` on. -/
theorem ld_rows512 {e : EltTy} (x : Vec Ideal S8192x128 e) (off : Fin 2 → ℕ) (n : ℕ) (h0 : off 0 = n) (h1 : off 1 = 0)
    (inb : ∀ a, off a + S512x128.size a ≤ S8192x128.size a) (a : Fin 512) (l : Fin 128) :
    View.ld x (Rect.unit (s := S8192x128) off S512x128.size inb) (ix2 a l)
      = x (ix2 ⟨n + a.val, below_odd off n h0 inb a⟩ l) := by
  refine congrArg x (Rect.emb_eq_of_coords _ _ _ fun b => ?_)
  match b with
  | 0 => show n + a.val = off 0 + 1 * a.val; omega
  | 1 => show l.val = off 1 + 1 * l.val; omega

theorem ldB_odd (x : Vec Ideal S8192x128 .bf16) (off : Fin 2 → ℕ) (n : ℕ) (h0 : off 0 = n) (h1 : off 1 = 0)
    (inb : ∀ a, off a + S512x128.size a ≤ S8192x128.size a) (a : Fin 512) (l : Fin 128) :
    View.ld x (Rect.unit (s := S8192x128) off S512x128.size inb) (ix2 a l) = rowN (φ := .bf16) x (n + a.val) l := by
  rw [ld_rows512 x off n h0 h1 inb, rowN_lt _ _ (below_odd off n h0 inb a)]

theorem ldF_odd (x : Vec Ideal S8192x128 .f32) (off : Fin 2 → ℕ) (n : ℕ) (h0 : off 0 = n) (h1 : off 1 = 0)
    (inb : ∀ a, off a + S512x128.size a ≤ S8192x128.size a) (a : Fin 512) (l : Fin 128) :
    View.ld x (Rect.unit (s := S8192x128) off S512x128.size inb) (ix2 a l) = rowN (φ := .f32) x (n + a.val) l := by
  rw [ld_rows512 x off n h0 h1 inb, rowN_lt _ _ (below_odd off n h0 inb a)]

/-- A store of 512 rows from row `n` on, read back: the payload in those rows, what was there before elsewhere. -/
theorem read_rows512 {κ : Kind} {sp : Space} {e : EltTy} (vw : View sig κ sp S8192x128 e) (f : vw.ty.Contents (Elt Ideal))
    (off : Fin 2 → ℕ) (n : ℕ) (h0 : off 0 = n) (h1 : off 1 = 0)
    (inb : ∀ a, off a + S512x128.size a ≤ S8192x128.size a) (w : S512x128.Idx → Elt Ideal e) (G : S8192x128.Idx → Elt Ideal e)
    (hit : ∀ (a : Fin 512) (l : Fin 128) (h : n + a.val < 8192), w (ix2 a l) = G (ix2 ⟨n + a.val, h⟩ l))
    (miss : ∀ x, ((x 0).val < n ∨ n + 512 ≤ (x 0).val) → vw.read (Elt Ideal) f x = G x) :
    vw.read (Elt Ideal) (vw.writes (Elt Ideal) f [⟨Rect.unit (s := S8192x128) off S512x128.size inb, w⟩]) = G := by
  funext x
  by_cases hx : (x 0).val < n ∨ n + 512 ≤ (x 0).val
  · rw [View.read_writes_cons_miss_of_axis vw f _ [] x 0 n 512 h0 rfl rfl hx]
    exact miss x hx
  · have hx0 : (x 0).val < 8192 := (x 0).isLt
    have hl : (x 1).val < 128 := (x 1).isLt
    have ha : (x 0).val - n < 512 := by omega
    rw [View.read_writes_cons_hit_of_coords vw f (Rect.unit (s := S8192x128) off S512x128.size inb) w []
      (ix2 ⟨(x 0).val - n, ha⟩ ⟨(x 1).val, hl⟩) x (fun b => by
        match b with
        | 0 => show (x 0).val = off 0 + 1 * ((x 0).val - n); omega
        | 1 => show (x 1).val = off 1 + 1 * (x 1).val; omega)]
    rw [hit _ _ (show n + ((x 0).val - n) < 8192 by omega)]
    refine congrArg G (funext fun b => ?_)
    match b with
    | 0 => exact Fin.ext (show n + ((x 0).val - n) = (x 0).val by omega)
    | 1 => rfl

section
variable (q d : FVec Ideal S8192x128 .bf16) (ls dl : FVec Ideal S8192x128 .f32) (k v : FVec Ideal S512x128 .bf16) (j n : ℕ)
  (s : St) (qb db : Vec Ideal S512x128 .bf16) (lb eb : Vec Ideal S512x128 .f32)
  (hq : ∀ a l, qb (ix2 a l) = rowN q (n + a.val) l) (hd : ∀ a l, db (ix2 a l) = rowN d (n + a.val) l)
  (hl : ∀ a l, lb (ix2 a l) = rowN ls (n + a.val) l) (he : ∀ a l, eb (ix2 a l) = rowN dl (n + a.val) l)
  (hn : 512 * j + 512 ≤ n)
include hq hl hn

theorem blockP_odd (a : Fin 512) (r : Fin 512) :
    k0_pay4 (F := Ideal) k qb lb (ix2 a r) = tP q ls k j (n + a.val) r := by
  rw [pay4_at, hl]; simp only [hq]
  unfold tP
  rw [if_pos (by have := r.isLt; omega)]

include hd he in
theorem blockS_odd (a : Fin 512) (r : Fin 512) :
    k0_pay5 (F := Ideal) k v qb db lb eb (ix2 a r) = tS q d ls dl k v j (n + a.val) r := by
  rw [pay5_at, blockP_odd q ls k j n qb lb hq hl hn, he]
  simp only [hd]; rfl

include hd in
theorem stepV_odd :
    k0_pay6 (F := Ideal) k qb db lb s.2.2 = (adv q d ls dl k v j n (n + 512) s).2.2 := by
  funext y
  obtain ⟨r, l, rfl⟩ : ∃ (r : Fin 512) (l : Fin 128), y = ix2 r l := ⟨y 0, y 1, by funext b; match b with | 0 => rfl | 1 => rfl⟩
  rw [pay6_at]
  refine congrArg (s.2.2 (ix2 r l) + ·) (sum_block 512 n (fun x => tP q ls k j x r * rowN d x l) _ fun a => ?_)
  beta_reduce
  rw [blockP_odd q ls k j n qb lb hq hl hn, hd]

include hd he in
theorem stepK_odd :
    k0_pay7 (F := Ideal) k v qb db lb eb s.2.1 = (adv q d ls dl k v j n (n + 512) s).2.1 := by
  funext y
  obtain ⟨r, l, rfl⟩ : ∃ (r : Fin 512) (l : Fin 128), y = ix2 r l := ⟨y 0, y 1, by funext b; match b with | 0 => rfl | 1 => rfl⟩
  rw [pay7_at]
  refine congrArg (s.2.1 (ix2 r l) + ·) (sum_block 512 n (fun x => tS q d ls dl k v j x r * rowN q x l) _ fun a => ?_)
  beta_reduce
  rw [blockS_odd q d ls dl k v j n qb db lb eb hq hd hl he hn, hq]

include hd he in
theorem stepQ_odd (o : Vec Ideal S512x128 .f32) (ho : ∀ a l, o (ix2 a l) = rowN (φ := .f32) s.1 (n + a.val) l)
    (a : Fin 512) (l : Fin 128) (h : n + a.val < 8192) :
    k0_pay32 (F := Ideal) k (k0_pay5 (F := Ideal) k v qb db lb eb) o (ix2 a l) = (adv q d ls dl k v j n (n + 512) s).1 (ix2 ⟨n + a.val, h⟩ l) := by
  have ha := a.isLt
  rw [pay32_at, ho, rowN_lt _ _ h]
  show _ = s.1 (ix2 ⟨n + a.val, h⟩ l) + if n ≤ n + a.val ∧ n + a.val < n + 512 then addQ q d ls dl k v j (n + a.val) l else 0
  rw [if_pos (by omega)]
  simp only [blockS_odd q d ls dl k v j n qb db lb eb hq hd hl he hn]
  rfl

omit hq hl hn in
theorem stepQ_off_odd (x : S8192x128.Idx) (hx : (x 0).val < n ∨ n + 512 ≤ (x 0).val) :
    s.1 x = (adv q d ls dl k v j n (n + 512) s).1 x := by
  show _ = s.1 x + if n ≤ (x 0).val ∧ (x 0).val < n + 512 then addQ q d ls dl k v j (x 0).val (x 1) else 0
  rw [if_neg (by omega), add_zero]
end

/-! ## The block on the diagonal -/

section
variable (q d : FVec Ideal S8192x128 .bf16) (ls dl : FVec Ideal S8192x128 .f32) (k v : FVec Ideal S512x128 .bf16) (j n : ℕ)
  (s : St) (qb db : Vec Ideal S512x128 .bf16) (lb eb : Vec Ideal S512x128 .f32)
  (hq : ∀ a l, qb (ix2 a l) = rowN q (n + a.val) l) (hd : ∀ a l, db (ix2 a l) = rowN d (n + a.val) l)
  (hl : ∀ a l, lb (ix2 a l) = rowN ls (n + a.val) l) (he : ∀ a l, eb (ix2 a l) = rowN dl (n + a.val) l)
  (hn : 512 * j = n)
include hq hl hn

theorem blockP_diag (a : Fin 512) (r : Fin 512) :
    k0_pay27 (F := Ideal) k qb lb (ix2 a r) = tP q ls k j (n + a.val) r := by
  rw [pay27_at, hl]; simp only [hq]
  unfold tP
  simp only [← hn, Nat.add_le_add_iff_left]

include hd he in
theorem blockS_diag (a : Fin 512) (r : Fin 512) :
    k0_pay28 (F := Ideal) v db (k0_pay27 (F := Ideal) k qb lb) (constant S512x512 .f32 0x00000000#32) eb (ix2 a r) = tS q d ls dl k v j (n + a.val) r := by
  rw [pay28_at, blockP_diag q ls k j n qb lb hq hl hn, he]
  simp only [hd]; rfl

include hd in
theorem stepV_diag :
    k0_pay29 (F := Ideal) db (k0_pay27 (F := Ideal) k qb lb) s.2.2 = (adv q d ls dl k v j n (n + 512) s).2.2 := by
  funext y
  obtain ⟨r, l, rfl⟩ : ∃ (r : Fin 512) (l : Fin 128), y = ix2 r l := ⟨y 0, y 1, by funext b; match b with | 0 => rfl | 1 => rfl⟩
  rw [pay29_at]
  refine congrArg (s.2.2 (ix2 r l) + ·) (sum_block 512 n (fun x => tP q ls k j x r * rowN d x l) _ fun a => ?_)
  beta_reduce
  rw [blockP_diag q ls k j n qb lb hq hl hn, hd]

include hd he in
theorem stepK_diag :
    k0_pay30 (F := Ideal) v qb db (k0_pay27 (F := Ideal) k qb lb) (constant S512x512 .f32 0x00000000#32) eb s.2.1 = (adv q d ls dl k v j n (n + 512) s).2.1 := by
  funext y
  obtain ⟨r, l, rfl⟩ : ∃ (r : Fin 512) (l : Fin 128), y = ix2 r l := ⟨y 0, y 1, by funext b; match b with | 0 => rfl | 1 => rfl⟩
  rw [pay30_at]
  refine congrArg (s.2.1 (ix2 r l) + ·) (sum_block 512 n (fun x => tS q d ls dl k v j x r * rowN q x l) _ fun a => ?_)
  beta_reduce
  rw [blockS_diag q d ls dl k v j n qb db lb eb hq hd hl he hn, hq]

include hd he in
theorem stepQ_diag (o : Vec Ideal S512x128 .f32) (ho : ∀ a l, o (ix2 a l) = rowN (φ := .f32) s.1 (n + a.val) l)
    (a : Fin 512) (l : Fin 128) (h : n + a.val < 8192) :
    k0_pay31 (F := Ideal) k v db (k0_pay27 (F := Ideal) k qb lb) (constant S512x512 .f32 0x00000000#32) eb o (ix2 a l) = (adv q d ls dl k v j n (n + 512) s).1 (ix2 ⟨n + a.val, h⟩ l) := by
  have ha := a.isLt
  rw [pay31_at, ho, rowN_lt _ _ h]
  show _ = s.1 (ix2 ⟨n + a.val, h⟩ l) + if n ≤ n + a.val ∧ n + a.val < n + 512 then addQ q d ls dl k v j (n + a.val) l else 0
  rw [if_pos (by omega)]
  simp only [blockS_diag q d ls dl k v j n qb db lb eb hq hd hl he hn]
  rfl

omit hq hl hn in
theorem stepQ_off_diag (x : S8192x128.Idx) (hx : (x 0).val < n ∨ n + 512 ≤ (x 0).val) :
    s.1 x = (adv q d ls dl k v j n (n + 512) s).1 x := by
  show _ = s.1 x + if n ≤ (x 0).val ∧ (x 0).val < n + 512 then addQ q d ls dl k v j (x 0).val (x 1) else 0
  rw [if_neg (by omega), add_zero]
end

end Cert.KernelIdeal.Gen

end
-- ==== Proof.Math.lean ====
/- The attention's gradients over the reals, for one head: what the weights are, what the scores' gradient is, and the
   two ways in which the reference and the kernel come to them. -/
module

public import Idealize.ShloMosaic.PureOps.Ideal
public import Idealize.ShloMosaic.PureOps.Ideal.Laws
public import Idealize.ShloMosaic.PureOps.Reduce
public import Idealize.ShloMosaic.Lib.IdealHost

@[expose] public section

noncomputable section

namespace Cert.Attn

open Idealize.ShloMosaic
open scoped BigOperators

/-- A sum of reals, as extended reals. -/
theorem coe_sum {ι : Type} (s : Finset ι) (f : ι → ℝ) : ∑ i ∈ s, ((f i : ℝ) : EReal) = ((∑ i ∈ s, f i : ℝ) : EReal) := by
  classical
  refine Finset.induction_on s (by simp) fun a s ha h => ?_
  rw [Finset.sum_insert ha, Finset.sum_insert ha, h, EReal.coe_add]

/-- A product sum of reals, as extended reals. -/
theorem coe_dot {ι : Type} (s : Finset ι) (f g : ι → ℝ) :
    ∑ i ∈ s, (((f i : ℝ) : EReal) * ((g i : ℝ) : EReal)) = ((∑ i ∈ s, f i * g i : ℝ) : EReal) := by
  rw [← coe_sum]; exact Finset.sum_congr rfl fun i _ => (EReal.coe_mul _ _).symm

/-- A quotient of reals, as extended reals. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The bit pattern of minus infinity. -/
theorem bits_bot : Ideal.ofBits .f32 0xFF800000#32 = ⊥ := by
  simp [Ideal.ofBits, Ideal.ieee]

/-- A host maximum over values none of which is plus infinity, one of which is a real, is a real. -/
theorem max_real {s t u : Shape} {axes : List (Fin s.rank)} (x : s.Idx → EReal) (init : u.Idx → EReal) (h : s.ReducesTo axes t)
    (hu : 0 < u.numel) (i : s.Idx) (hi : init (Shape.Idx.first hu) = ⊥) (ht : ∀ i, x i ≠ ⊤) (hb : x i ≠ ⊥) :
    ∃ M : ℝ, Host.reduce (FloatOps.maximumf (F := Ideal) (φ := .f32)) x init h hu (h.drop i) = (M : EReal) := by
  have e : Host.reduce (FloatOps.maximumf (F := Ideal) (φ := .f32)) x init h hu (h.drop i)
      = (Finset.univ.filter fun i' => h.drop i' = h.drop i).fold (fun a b : EReal => max a b) ⊥ x := by
    rw [← hi]
    exact Host.reduce_eq_fold (FloatOps.maximumf (F := Ideal) (φ := .f32)) x init h hu (h.drop i)
  rw [e]
  have h1 : (Finset.univ.filter fun i' => h.drop i' = h.drop i).fold (fun a b : EReal => max a b) ⊥ x ≠ ⊤ :=
    ne_of_lt ((Finset.fold_max_lt _).2 ⟨bot_lt_top, fun i _ => lt_top_iff_ne_top.2 (ht i)⟩)
  have h2 : (Finset.univ.filter fun i' => h.drop i' = h.drop i).fold (fun a b : EReal => max a b) ⊥ x ≠ ⊥ :=
    ne_of_gt ((Finset.lt_fold_max _).2 (Or.inr ⟨i, Finset.mem_filter.2 ⟨Finset.mem_univ _, rfl⟩, bot_lt_iff_ne_bot.2 hb⟩))
  exact ⟨_, (EReal.coe_toReal h1 h2).symm⟩

section
variable (q k v d : Fin 8192 → Fin 128 → ℝ)

/-- A score. -/
def S (r c : Fin 8192) : ℝ := ∑ l, q r l * k c l
/-- Its exponential, zero on the keys that the row does not see. -/
def E (r c : Fin 8192) : ℝ := if c ≤ r then Real.exp (S q k r c) else 0
/-- The sum along a row. -/
def Z (r : Fin 8192) : ℝ := ∑ c, E q k r c
/-- The weight of a key on a row. -/
def W (r c : Fin 8192) : ℝ := E q k r c / Z q k r
/-- The weight's gradient. -/
def T (r c : Fin 8192) : ℝ := ∑ l, d r l * v c l
/-- What is taken off a row's gradients. -/
def B (r : Fin 8192) : ℝ := ∑ c, W q k r c * T v d r c
/-- The score's gradient. -/
def G (r c : Fin 8192) : ℝ := W q k r c * (T v d r c - B q k v d r)

theorem E_nonneg (r c : Fin 8192) : 0 ≤ E q k r c := by
  unfold E; split
  · exact (Real.exp_pos _).le
  · exact le_rfl

theorem Z_pos (r : Fin 8192) : 0 < Z q k r :=
  Finset.sum_pos' (fun c _ => E_nonneg q k r c) ⟨r, Finset.mem_univ _, by unfold E; rw [if_pos le_rfl]; exact Real.exp_pos _⟩

theorem W_of_not_le {r c : Fin 8192} (h : ¬ c ≤ r) : W q k r c = 0 := by
  unfold W E; rw [if_neg h, zero_div]

theorem G_of_not_le {r c : Fin 8192} (h : ¬ c ≤ r) : G q k v d r c = 0 := by
  unfold G; rw [W_of_not_le q k h, zero_mul]

/-- The exponentials with a real `M` taken off each score. -/
def F (M : ℝ) (r c : Fin 8192) : ℝ := if c ≤ r then Real.exp (S q k r c - M) else 0

theorem F_eq (M : ℝ) (r c : Fin 8192) : F q k M r c = E q k r c * Real.exp (-M) := by
  unfold F E; split
  · rw [sub_eq_add_neg, Real.exp_add]
  · rw [zero_mul]

theorem sum_F (M : ℝ) (r : Fin 8192) : ∑ c, F q k M r c = Z q k r * Real.exp (-M) := by
  unfold Z; rw [Finset.sum_mul]; exact Finset.sum_congr rfl fun c _ => F_eq q k M r c

theorem sum_F_pos (M : ℝ) (r : Fin 8192) : 0 < ∑ c, F q k M r c := by
  rw [sum_F]; exact mul_pos (Z_pos q k r) (Real.exp_pos _)

/-- The softmax does not see `M`. -/
theorem F_div (M : ℝ) (r c : Fin 8192) : F q k M r c / ∑ c, F q k M r c = W q k r c := by
  rw [sum_F, F_eq]; unfold W
  exact mul_div_mul_right _ _ (Real.exp_pos _).ne'

/-- The score's gradient as the reference comes to it. -/
theorem ref_G (M : ℝ) (r c : Fin 8192) :
    (T v d r c / ∑ c, F q k M r c + -∑ x, T v d r x * (1 / ((∑ c, F q k M r c) * ∑ c, F q k M r c)) * F q k M r x) * F q k M r c
      = G q k v d r c := by
  have hD := (sum_F_pos q k M r).ne'
  unfold G B
  simp only [← F_div q k M]
  generalize (∑ c, F q k M r c) = D at *
  have e : ∑ x, T v d r x * (1 / (D * D)) * F q k M r x = (∑ x, F q k M r x / D * T v d r x) / D := by
    rw [Finset.sum_div]
    refine Finset.sum_congr rfl fun x _ => ?_
    field_simp
  rw [e]
  field_simp
  ring

/-- The row's correction as the kernel's host lines come to it. -/
theorem B_eq (r : Fin 8192) : ∑ l, d r l * ∑ c, W q k r c * v c l = B q k v d r := by
  unfold B T
  simp only [Finset.mul_sum]
  rw [Finset.sum_comm]
  exact Finset.sum_congr rfl fun c _ => Finset.sum_congr rfl fun l _ => by ring

/-- The weight as the kernel comes to it: a power of two of the scaled score less the scaled logarithm of the row's sum. -/
theorem exp2_W (M : ℝ) (r c : Fin 8192) (h : c ≤ r) :
    Real.rpow 2 ((∑ l, q r l / Real.log 2 * k c l) - (M + Real.log (∑ c, F q k M r c)) / Real.log 2) = W q k r c := by
  have h2 : Real.log 2 ≠ 0 := (Real.log_pos (by norm_num)).ne'
  have hs : ∑ l, q r l / Real.log 2 * k c l = S q k r c / Real.log 2 := by
    unfold S; rw [Finset.sum_div]; exact Finset.sum_congr rfl fun l _ => by ring
  have hp := sum_F_pos q k M r
  rw [hs, ← sub_div]
  show (2 : ℝ) ^ ((S q k r c - (M + Real.log (∑ c, F q k M r c))) / Real.log 2) = _
  rw [Real.rpow_def_of_pos (by norm_num : (0 : ℝ) < 2), mul_div_cancel₀ _ h2, ← sub_sub, Real.exp_sub, Real.exp_log hp,
    ← F_div q k M]
  unfold F
  rw [if_pos h]

end

end Cert.Attn

end
-- ==== Proof.Grad.lean ====
/- One point of the kernel's grid over the reals: the tile's weights and gradients, and what the point adds to the three
   accumulated arrays. -/
module

public import proofs.«01_k».proof.Proof.Step
public import proofs.«01_k».proof.Proof.Math

@[expose] public section

set_option maxRecDepth 16384

noncomputable section

namespace Cert.KernelIdeal.Gen

open Idealize.ShloMosaic
open Cert.Attn
open scoped BigOperators

/-- The key row of tile `j` at `r`. -/
def key (j : ℕ) (hj : j < 16) (r : Fin 512) : Fin 8192 := ⟨512 * j + r.val, by omega⟩

/-- A point's six blocks hold a head's arrays. -/
structure Holds (Q K X D : Fin 8192 → Fin 128 → ℝ) (q d : FVec Ideal S8192x128 .bf16) (ls dl : FVec Ideal S8192x128 .f32)
    (k v : FVec Ideal S512x128 .bf16) (j : ℕ) (hj : j < 16) : Prop where
  hq : ∀ x l, q (ix2 x l) = ((Q x l / Real.log 2 : ℝ) : EReal)
  hd : ∀ x l, d (ix2 x l) = ((D x l : ℝ) : EReal)
  hls : ∀ x, ∃ M : ℝ, ∀ l, ls (ix2 x l) = (((M + Real.log (∑ c, F Q K M x c)) / Real.log 2 : ℝ) : EReal)
  hdl : ∀ x l, dl (ix2 x l) = ((B Q K X D x : ℝ) : EReal)
  hk : ∀ r l, k (ix2 r l) = ((K (key j hj r) l : ℝ) : EReal)
  hv : ∀ r l, v (ix2 r l) = ((X (key j hj r) l : ℝ) : EReal)

/-- A sum over the query rows from `a` on is the sum over all of them where the earlier ones add nothing. -/
theorem sum_from (a : ℕ) (f : ℕ → EReal) (g : Fin 8192 → ℝ) (hf : ∀ x : Fin 8192, f x.val = ((g x : ℝ) : EReal))
    (hz : ∀ x : Fin 8192, x.val < a → g x = 0) : ∑ x ∈ Finset.Ico a 8192, f x = ((∑ x, g x : ℝ) : EReal) := by
  rw [← coe_sum, ← Finset.sum_congr rfl (fun x _ => hf x), Fin.sum_univ_eq_sum_range f 8192]
  refine Finset.sum_subset (fun x hx => Finset.mem_range.2 (Finset.mem_Ico.1 hx).2) fun x hx hn => ?_
  have hx' := Finset.mem_range.1 hx
  rw [hf ⟨x, hx'⟩, hz ⟨x, hx'⟩ (by
    by_contra h
    exact hn (Finset.mem_Ico.2 ⟨not_lt.1 h, hx'⟩))]
  rfl

/-- The queries' gradient from the key rows below `n`. -/
def upTo (Q K X D : Fin 8192 → Fin 128 → ℝ) (n : ℕ) (x : Fin 8192) (l : Fin 128) : ℝ :=
  ∑ c ∈ Finset.range n, if h : c < 8192 then G Q K X D x ⟨c, h⟩ * K ⟨c, h⟩ l else 0

theorem upTo_all (Q K X D : Fin 8192 → Fin 128 → ℝ) (x : Fin 8192) (l : Fin 128) :
    upTo Q K X D 8192 x l = ∑ c, G Q K X D x c * K c l := by
  unfold upTo
  rw [← Fin.sum_univ_eq_sum_range (fun c => if h : c < 8192 then G Q K X D x ⟨c, h⟩ * K ⟨c, h⟩ l else 0) 8192]
  exact Finset.sum_congr rfl fun c _ => dif_pos c.isLt

theorem upTo_next (Q K X D : Fin 8192 → Fin 128 → ℝ) (j : ℕ) (hj : j < 16) (x : Fin 8192) (l : Fin 128) :
    upTo Q K X D (512 * (j + 1)) x l = upTo Q K X D (512 * j) x l + ∑ r : Fin 512, G Q K X D x (key j hj r) * K (key j hj r) l := by
  unfold upTo
  rw [show 512 * (j + 1) = 512 * j + 512 by ring, Finset.sum_range_add]
  congr 1
  rw [← Fin.sum_univ_eq_sum_range (fun c => if h : 512 * j + c < 8192 then G Q K X D x ⟨512 * j + c, h⟩ * K ⟨512 * j + c, h⟩ l else 0) 512]
  exact Finset.sum_congr rfl fun r _ => dif_pos (key j hj r).isLt

section
variable {Q K X D : Fin 8192 → Fin 128 → ℝ} {q d : FVec Ideal S8192x128 .bf16} {ls dl : FVec Ideal S8192x128 .f32}
  {k v : FVec Ideal S512x128 .bf16} {j : ℕ} {hj : j < 16} (H : Holds Q K X D q d ls dl k v j hj)
include H

theorem tP_real (x : Fin 8192) (r : Fin 512) : tP q ls k j x.val r = ((W Q K x (key j hj r) : ℝ) : EReal) := by
  obtain ⟨M, hM⟩ := H.hls x
  unfold tP
  rw [rowN_lt ls x.val x.isLt 0, hM]
  by_cases hx : 512 * j + r.val ≤ x.val
  · rw [if_pos hx]
    simp only [rowN_lt q x.val x.isLt, H.hq, H.hk]
    rw [coe_dot, ← EReal.coe_sub, Ideal.exp2_coe]
    exact congrArg _ (exp2_W Q K M x (key j hj r) hx)
  · rw [if_neg hx, show ∀ z : ℝ, (⊥ : EReal) - (z : EReal) = ⊥ from fun _ => rfl, Ideal.exp2_bot, W_of_not_le Q K (c := key j hj r) hx]
    rfl

theorem tS_real (x : Fin 8192) (r : Fin 512) : tS q d ls dl k v j x.val r = ((G Q K X D x (key j hj r) : ℝ) : EReal) := by
  unfold tS
  rw [tP_real H, rowN_lt dl x.val x.isLt 0, H.hdl]
  simp only [rowN_lt d x.val x.isLt, H.hd, H.hv]
  rw [coe_dot, ← EReal.coe_sub, ← EReal.coe_mul]
  rfl

theorem addQ_real (x : Fin 8192) (l : Fin 128) :
    addQ q d ls dl k v j x.val l = ((∑ r : Fin 512, G Q K X D x (key j hj r) * K (key j hj r) l : ℝ) : EReal) := by
  unfold addQ
  simp only [tS_real H, H.hk]
  exact coe_dot _ _ _

theorem not_le_key (x : Fin 8192) (r : Fin 512) (h : x.val < 512 * j) : ¬ key j hj r ≤ x := by
  show ¬ 512 * j + r.val ≤ x.val
  omega

/-- The values' gradient. -/
theorem left_v (s : Vec Ideal S8192x128 .f32) (r : Fin 512) (l : Fin 128) :
    (adv q d ls dl k v j (512 * j) 8192 (s, fun _ => (0 : EReal), fun _ => (0 : EReal))).2.2 (ix2 r l)
      = ((∑ x, W Q K x (key j hj r) * D x l : ℝ) : EReal) := by
  show (0 : EReal) + ∑ x ∈ Finset.Ico (512 * j) 8192, tP q ls k j x r * rowN d x l = _
  rw [zero_add]
  refine sum_from _ _ _ (fun x => ?_) fun x hx => ?_
  · beta_reduce
    rw [tP_real H, rowN_lt d x.val x.isLt, H.hd, ← EReal.coe_mul]
  · rw [W_of_not_le Q K (not_le_key H x r hx), zero_mul]

/-- The keys' gradient. -/
theorem left_k (s : Vec Ideal S8192x128 .f32) (r : Fin 512) (l : Fin 128) :
    (adv q d ls dl k v j (512 * j) 8192 (s, fun _ => (0 : EReal), fun _ => (0 : EReal))).2.1 (ix2 r l) * ((Real.log 2 : ℝ) : EReal)
      = ((∑ x, G Q K X D x (key j hj r) * Q x l : ℝ) : EReal) := by
  have e : (adv q d ls dl k v j (512 * j) 8192 (s, fun _ => (0 : EReal), fun _ => (0 : EReal))).2.1 (ix2 r l)
      = ((∑ x, G Q K X D x (key j hj r) * (Q x l / Real.log 2) : ℝ) : EReal) := by
    show (0 : EReal) + ∑ x ∈ Finset.Ico (512 * j) 8192, tS q d ls dl k v j x r * rowN q x l = _
    rw [zero_add]
    refine sum_from _ _ _ (fun x => ?_) fun x hx => ?_
    · beta_reduce
      rw [tS_real H, rowN_lt q x.val x.isLt, H.hq, ← EReal.coe_mul]
    · rw [G_of_not_le Q K X D (not_le_key H x r hx), zero_mul]
  have h2 : Real.log 2 ≠ 0 := (Real.log_pos (by norm_num)).ne'
  rw [e, ← EReal.coe_mul, Finset.sum_mul]
  refine congrArg _ (Finset.sum_congr rfl fun x _ => ?_)
  rw [mul_assoc, div_mul_cancel₀ _ h2]

/-- The queries' gradient, from the key rows below the tile to those below the next. -/
theorem left_q (s : Vec Ideal S8192x128 .f32) (x : Fin 8192) (l : Fin 128) (hs : s (ix2 x l) = ((upTo Q K X D (512 * j) x l : ℝ) : EReal)) :
    (adv q d ls dl k v j (512 * j) 8192 (s, fun _ => (0 : EReal), fun _ => (0 : EReal))).1 (ix2 x l)
      = ((upTo Q K X D (512 * (j + 1)) x l : ℝ) : EReal) := by
  show s (ix2 x l) + (if 512 * j ≤ x.val ∧ x.val < 8192 then addQ q d ls dl k v j x.val l else 0) = _
  rw [hs, upTo_next Q K X D j hj, EReal.coe_add]
  congr 1
  by_cases hx : 512 * j ≤ x.val
  · rw [if_pos ⟨hx, x.isLt⟩, addQ_real H]
  · rw [if_neg (fun h => hx h.1), Finset.sum_eq_zero fun r _ => by rw [G_of_not_le Q K X D (not_le_key H x r (not_le.1 hx)), zero_mul]]
    rfl

end

end Cert.KernelIdeal.Gen

end
-- ==== Proof.Ref.lean ====
/- The reference's three results, read at an index: its printed operations in stages, each stage a named array. -/
module

public import proofs.«01_k».proof.Proof.Gen.ReferenceIdeal.Run
public import proofs.«01_k».proof.Proof.Math
public import Idealize.ShloMosaic.Lib.Pointwise
public import Idealize.ShloMosaic.Lib.IdealHost
public import Idealize.ShloMosaic.Lib.WordCmp

@[expose] public section

set_option maxRecDepth 16384

noncomputable section

namespace Cert.ReferenceIdeal.Gen

open Cert.ReferenceIdeal Idealize.ShloMosaic Idealize.ShloMosaic.TcCoe
open scoped BigOperators

/-- An argument by heads. -/
def hds (x : Vec Ideal S8192x1024 .f32) : Vec Ideal S8192x8x128 .f32 := shapeCast _ x shapeCasts_S8192x1024_S8192x8x128

/-- Which keys a query row sees. -/
def seen : IVec S8x8192x8192 1 :=
  broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The masked scores. -/
def scr (q k : Vec Ideal S8192x8x128 .f32) : Vec Ideal S8x8192x8192 .f32 :=
  select seen (Host.dotGeneral (F := Ideal) (φ₁ := .f32) (φ₂ := .f32) dot_S8192x8x128_S8192x8x128_S8x8192x8192_2_2_0_0_1_1 none q k) (broadcastInDim S8x8192x8192 ![] bcast_S_S8x8192x8192 (id (constant (F := Ideal) S_ .f32 0xFF800000#32)))

/-- The rows' maxima. -/
def mxm (s : Vec Ideal S8x8192x8192 .f32) : Vec Ideal S8x8192 .f32 :=
  maximumf (F := Ideal) (φ := .f32) (broadcastInDim S8x8192 ![] bcast_S_S8x8192 (constant (F := Ideal) S_ .f32 0xFF800000#32)) (Host.reduce (FloatOps.maximumf (F := Ideal) (φ := .f32)) s (constant (F := Ideal) S_ .f32 0xFF800000#32) reducesTo_S8x8192x8192_S8x8192_d2 h_S_)

/-- The exponentials. -/
def exs (s : Vec Ideal S8x8192x8192 .f32) : Vec Ideal S8x8192x8192 .f32 :=
  Host.exp (F := Ideal) (φ := .f32) (subf (F := Ideal) (φ := .f32) s (broadcastInDim S8x8192x8192 ![0, 1, 2] bcast_S8x8192x1_S8x8192x8192_0_1_2 (broadcastInDim S8x8192x1 ![0, 1] bcast_S8x8192_S8x8192x1_0_1 (mxm s))))

/-- Their sums along the rows. -/
def den (e : Vec Ideal S8x8192x8192 .f32) : Vec Ideal S8x8192x1 .f32 :=
  broadcastInDim S8x8192x1 ![0, 1] bcast_S8x8192_S8x8192x1_0_1 (Host.reduceAdd (F := Ideal) (φ := .f32) e (constant (F := Ideal) S_ .f32 0x00000000#32) reducesTo_S8x8192x8192_S8x8192_d2 h_S_)

/-- The softmax. -/
def sfm (e : Vec Ideal S8x8192x8192 .f32) : Vec Ideal S8x8192x8192 .f32 :=
  Host.divf (F := Ideal) (φ := .f32) e (broadcastInDim S8x8192x8192 ![0, 1, 2] bcast_S8x8192x1_S8x8192x8192_0_1_2 (den e))

/-- The gradient of the softmax. -/
def dpr (d v : Vec Ideal S8192x8x128 .f32) : Vec Ideal S8x8192x8192 .f32 :=
  Host.dotGeneral (F := Ideal) (φ₁ := .f32) (φ₂ := .f32) dot_S8x128x8192_S8192x8x128_S8x8192x8192_1_2_2_0_0_1 none (transpose S8x128x8192 [1, 2, 0] d transposes_S8192x8x128_S8x128x8192_1_2_0) v

/-- The part of a score's gradient that goes through the row's sum. -/
def crr (dp e : Vec Ideal S8x8192x8192 .f32) : Vec Ideal S8x8192 .f32 :=
  Host.reduceAdd (F := Ideal) (φ := .f32) (Host.negf (F := Ideal) (φ := .f32) (shapeCast _ (Host.reduceAdd (F := Ideal) (φ := .f32) (mulf (F := Ideal) (φ := .f32) (mulf (F := Ideal) (φ := .f32) dp (broadcastInDim S8x8192x8192 ![0, 1, 2] bcast_S8x8192x1_S8x8192x8192_0_1_2 (Host.divf (F := Ideal) (φ := .f32) (broadcastInDim S8x8192x1 ![] bcast_S_S8x8192x1 (constant (F := Ideal) S_ .f32 0x3F800000#32)) (mulf (F := Ideal) (φ := .f32) (den e) (den e))))) e) (constant (F := Ideal) S_ .f32 0x00000000#32) reducesTo_S8x8192x8192_S8x8192_d2 h_S_) shapeCasts_S8x8192_S8x8192x1)) (constant (F := Ideal) S_ .f32 0x00000000#32) reducesTo_S8x8192x1_S8x8192_d2 h_S_

/-- The scores' gradient. -/
def dsc (dp e : Vec Ideal S8x8192x8192 .f32) : Vec Ideal S8x8192x8192 .f32 :=
  select seen (mulf (F := Ideal) (φ := .f32) (addf (F := Ideal) (φ := .f32) (Host.divf (F := Ideal) (φ := .f32) dp (broadcastInDim S8x8192x8192 ![0, 1, 2] bcast_S8x8192x1_S8x8192x8192_0_1_2 (den e))) (broadcastInDim S8x8192x8192 ![0, 1] bcast_S8x8192_S8x8192x8192_0_1 (crr dp e))) e) (broadcastInDim S8x8192x8192 ![] bcast_S_S8x8192x8192 (constant (F := Ideal) S_ .f32 0x00000000#32))

def rdq (s : Vec Ideal S8x8192x8192 .f32) (k : Vec Ideal S8192x8x128 .f32) : Vec Ideal S8192x1024 .f32 :=
  shapeCast _ (transpose S8192x8x128 [1, 0, 2] (Host.dotGeneral (F := Ideal) (φ₁ := .f32) (φ₂ := .f32) dot_S8x8192x8192_S8192x8x128_S8x8192x128_2_0_1_2_0_1 none s k) transposes_S8x8192x128_S8192x8x128_1_0_2) shapeCasts_S8192x8x128_S8192x1024

def rdk (s : Vec Ideal S8x8192x8192 .f32) (q : Vec Ideal S8192x8x128 .f32) : Vec Ideal S8192x1024 .f32 :=
  shapeCast _ (transpose S8192x8x128 [1, 0, 2] (Host.dotGeneral (F := Ideal) (φ₁ := .f32) (φ₂ := .f32) dot_S8x8192x8192_S8192x8x128_S8x8192x128_1_0_2_2_0_1 none s q) transposes_S8x8192x128_S8192x8x128_1_0_2) shapeCasts_S8192x8x128_S8192x1024

def rdv (p : Vec Ideal S8x8192x8192 .f32) (d : Vec Ideal S8192x8x128 .f32) : Vec Ideal S8192x1024 .bf16 :=
  truncf (F := Ideal) (φ := .f32) .bf16 (shapeCast _ (transpose S8192x8x128 [2, 0, 1] (Host.dotGeneral (F := Ideal) (φ₁ := .f32) (φ₂ := .f32) dot_S8x128x8192_S8x8192x8192_S8x128x8192_2_1_1_2_0_0 none (transpose S8x128x8192 [1, 2, 0] d transposes_S8192x8x128_S8x128x8192_1_2_0) p) transposes_S8x128x8192_S8192x8x128_2_0_1) shapeCasts_S8192x8x128_S8192x1024) bitsLt_bf16_f32

section
variable (m : (ℓ : Loc nD τ sig) → Buf (Elt Ideal) ℓ) (c : Dev nD)

theorem out0_eq : Value.res_out0 (F := Ideal) m c
    = rdq (dsc (dpr (hds (m ((c.tc : Thread nD τ).loc main_arg3))) (hds (m ((c.tc : Thread nD τ).loc main_arg2)))) (exs (scr (hds (m ((c.tc : Thread nD τ).loc main_arg0))) (hds (m ((c.tc : Thread nD τ).loc main_arg1)))))) (hds (m ((c.tc : Thread nD τ).loc main_arg1))) := by
  unfold Value.res_out0 Value.res_main_v66 rdq dsc dpr crr den exs mxm scr seen hds
  rfl

theorem out1_eq : Value.res_out1 (F := Ideal) m c
    = rdk (dsc (dpr (hds (m ((c.tc : Thread nD τ).loc main_arg3))) (hds (m ((c.tc : Thread nD τ).loc main_arg2)))) (exs (scr (hds (m ((c.tc : Thread nD τ).loc main_arg0))) (hds (m ((c.tc : Thread nD τ).loc main_arg1)))))) (hds (m ((c.tc : Thread nD τ).loc main_arg0))) := by
  unfold Value.res_out1 Value.res_main_v65 rdk dsc dpr crr den exs mxm scr seen hds
  rfl

theorem out2_eq : Value.res_out2 (F := Ideal) m c
    = rdv (sfm (exs (scr (hds (m ((c.tc : Thread nD τ).loc main_arg0))) (hds (m ((c.tc : Thread nD τ).loc main_arg1)))))) (hds (m ((c.tc : Thread nD τ).loc main_arg3))) := by
  unfold Value.res_out2 Value.res_main_v67 rdv sfm den exs mxm scr seen hds
  rfl

end

/-- Two positions compare as words as they compare as numbers. -/
theorem sle_pos (a b : Fin 8192) :
    IntOp.cmpi CmpIPredicate.sle (BitVec.ofNat 32 a.val) (BitVec.ofNat 32 b.val) = if a ≤ b then 1#1 else 0#1 := by
  have e1 : (BitVec.ofNat 32 a.val).toInt = (a.val : ℤ) := by
    rw [BitVec.toInt_eq_toNat_of_lt] <;> simp only [BitVec.toNat_ofNat] <;> omega
  have e2 : (BitVec.ofNat 32 b.val).toInt = (b.val : ℤ) := by
    rw [BitVec.toInt_eq_toNat_of_lt] <;> simp only [BitVec.toNat_ofNat] <;> omega
  simp only [IntOp.cmpi, BitVec.sle, e1, e2, Fin.le_def]
  by_cases h : a.val ≤ b.val <;> simp [h]

theorem hds_at (x : Vec Ideal S8192x1024 .f32) (r : Fin 8192) (h : Fin 8) (l : Fin 128) :
    hds x (ix3 r h l) = x (ix2 r ⟨h.val * 128 + l.val, by omega⟩) := by
  pointwise [hds]

theorem seen_at (h : Fin 8) (r x : Fin 8192) : seen (ix3 h r x) = if x ≤ r then 1#1 else 0#1 := by
  rw [← sle_pos]
  pointwise [seen]

theorem scr_at (q k : Vec Ideal S8192x8x128 .f32) (h : Fin 8) (r x : Fin 8192) :
    scr q k (ix3 h r x) = if x ≤ r then ∑ l : Fin 128, q (ix3 r h l) * k (ix3 x h l) else ⊥ := by
  have e : scr q k (ix3 h r x) = Scalar.select (seen (ix3 h r x)) (∑ l : Fin 128, q (ix3 r h l) * k (ix3 x h l)) ⊥ := by
    rw [← Cert.Attn.bits_bot]
    pointwise [scr]
    rfl
  rw [e, seen_at]
  split <;> rfl

theorem exs_at (s : Vec Ideal S8x8192x8192 .f32) (h : Fin 8) (r x : Fin 8192) :
    exs s (ix3 h r x) = Ideal.exp (s (ix3 h r x) - mxm s (ix2 h r)) := by
  pointwise [exs]

theorem den_at (s : Vec Ideal S8x8192x8192 .f32) (h : Fin 8) (r : Fin 8192) :
    den s (ix3 h r 0) = ∑ x : Fin 8192, s (ix3 h r x) := by
  pointwise [den]

theorem sfm_at (s : Vec Ideal S8x8192x8192 .f32) (h : Fin 8) (r x : Fin 8192) :
    sfm s (ix3 h r x) = Ideal.div (s (ix3 h r x)) (den s (ix3 h r 0)) := by
  pointwise [sfm]

theorem dpr_at (d v : Vec Ideal S8192x8x128 .f32) (h : Fin 8) (r x : Fin 8192) :
    dpr d v (ix3 h r x) = ∑ l : Fin 128, d (ix3 r h l) * v (ix3 x h l) := by
  pointwise [dpr]

theorem crr_at (dp e : Vec Ideal S8x8192x8192 .f32) (h : Fin 8) (r : Fin 8192) :
    crr dp e (ix2 h r) = -∑ x : Fin 8192, dp (ix3 h r x) * Ideal.div 1 (den e (ix3 h r 0) * den e (ix3 h r 0)) * e (ix3 h r x) := by
  pointwise [crr]
  exact Fin.sum_univ_one _

theorem dsc_at (dp e : Vec Ideal S8x8192x8192 .f32) (h : Fin 8) (r x : Fin 8192) :
    dsc dp e (ix3 h r x)
      = if x ≤ r then (Ideal.div (dp (ix3 h r x)) (den e (ix3 h r 0)) + crr dp e (ix2 h r)) * e (ix3 h r x) else 0 := by
  have e : dsc dp e (ix3 h r x)
      = Scalar.select (seen (ix3 h r x)) ((Ideal.div (dp (ix3 h r x)) (den e (ix3 h r 0)) + crr dp e (ix2 h r)) * e (ix3 h r x)) 0 := by
    pointwise [dsc]
  rw [e, seen_at]
  split <;> rfl

theorem rdq_at (s : Vec Ideal S8x8192x8192 .f32) (k : Vec Ideal S8192x8x128 .f32) (r : Fin 8192) (e : Fin 1024) :
    rdq s k (ix2 r e) = ∑ x : Fin 8192, s (ix3 ⟨e.val / 128, by omega⟩ r x) * k (ix3 x ⟨e.val / 128, by omega⟩ ⟨e.val % 128, by omega⟩) := by
  pointwise [rdq]

theorem rdk_at (s : Vec Ideal S8x8192x8192 .f32) (q : Vec Ideal S8192x8x128 .f32) (r : Fin 8192) (e : Fin 1024) :
    rdk s q (ix2 r e) = ∑ x : Fin 8192, s (ix3 ⟨e.val / 128, by omega⟩ x r) * q (ix3 x ⟨e.val / 128, by omega⟩ ⟨e.val % 128, by omega⟩) := by
  pointwise [rdk]

theorem rdv_at (p : Vec Ideal S8x8192x8192 .f32) (d : Vec Ideal S8192x8x128 .f32) (r : Fin 8192) (e : Fin 1024) :
    rdv p d (ix2 r e) = ∑ x : Fin 8192, d (ix3 x ⟨e.val / 128, by omega⟩ ⟨e.val % 128, by omega⟩) * p (ix3 ⟨e.val / 128, by omega⟩ x r) := by
  pointwise [rdv]

/-- The maximum with minus infinity is the maximum. -/
theorem mxm_eq (s : Vec Ideal S8x8192x8192 .f32) :
    mxm s = Host.reduce (FloatOps.maximumf (F := Ideal) (φ := .f32)) s (constant (F := Ideal) S_ .f32 0xFF800000#32) reducesTo_S8x8192x8192_S8x8192_d2 h_S_ := by
  funext j
  unfold mxm
  rw [maximumf_apply]
  show max (Ideal.ofBits .f32 0xFF800000#32) _ = _
  rw [Cert.Attn.bits_bot, max_eq_right bot_le]

theorem drop_at (h : Fin 8) (r x : Fin 8192) : reducesTo_S8x8192x8192_S8x8192_d2.drop (ix3 h r x) = ix2 h r := by
  funext a
  apply Fin.ext
  match a with
  | ⟨0, _⟩ => exact Shape.ReducesTo.drop_apply_val_of_eq reducesTo_S8x8192x8192_S8x8192_d2 (ix3 h r x) 0 0
  | ⟨1, _⟩ => exact Shape.ReducesTo.drop_apply_val_of_eq reducesTo_S8x8192x8192_S8x8192_d2 (ix3 h r x) 1 1

/-- The maximum of a row that holds no plus infinity and a real on its diagonal is a real. -/
theorem mxm_real (s : Vec Ideal S8x8192x8192 .f32) (h : Fin 8) (r : Fin 8192) (ht : ∀ i, s i ≠ ⊤)
    (hb : s (ix3 h r r) ≠ ⊥) : ∃ M : ℝ, mxm s (ix2 h r) = (M : EReal) := by
  obtain ⟨M, hM⟩ := Cert.Attn.max_real s (constant (F := Ideal) S_ .f32 0xFF800000#32) reducesTo_S8x8192x8192_S8x8192_d2 h_S_
    (ix3 h r r) Cert.Attn.bits_bot ht hb
  rw [drop_at] at hM
  exact ⟨M, by rw [mxm_eq, hM]⟩

end Cert.ReferenceIdeal.Gen

end
-- ==== Proof.Host.lean ====
/- The six arrays that the kernel's host lines prepare, read at an index. -/
module

public import proofs.«01_k».proof.Proof.Gen.KernelIdeal.Frame
public import proofs.«01_k».proof.Proof.Ref
public import Idealize.ShloMosaic.Lib.StableHlo.ReadAt

@[expose] public section

set_option maxRecDepth 16384

noncomputable section

namespace Cert.KernelIdeal.Gen

open Idealize.ShloMosaic Idealize.ShloMosaic.TcCoe
open Cert.ReferenceIdeal.Gen (hds scr mxm exs den sfm mxm_eq)
open scoped BigOperators

/-- The logarithm of two. -/
def lg2 : Vec Ideal S_ .f32 := Host.log (F := Ideal) (φ := .f32) (constant (F := Ideal) S_ .f32 0x40000000#32)

/-- The scaled queries. -/
def hq (x : Vec Ideal S8192x1024 .f32) : Vec Ideal S8192x1024 .bf16 :=
  truncf (F := Ideal) (φ := .f32) .bf16 (Host.divf (F := Ideal) (φ := .f32) x (broadcastInDim S8192x1024 ![] bcast_S_S8192x1024 lg2)) bitsLt_bf16_f32

/-- A number per head and row, on every lane of the head. -/
def lanes (x : Vec Ideal S8x8192 .f32) : Vec Ideal S8192x1024 .f32 :=
  shapeCast _ (broadcastInDim S8192x8x128 ![0, 1, 2] bcast_S8192x8x1_S8192x8x128_0_1_2 (broadcastInDim S8192x8x1 ![0, 1] bcast_S8192x8_S8192x8x1_0_1 (transpose S8192x8 [1, 0] x transposes_S8x8192_S8192x8_1_0))) shapeCasts_S8192x8x128_S8192x1024

/-- The scaled logarithms of the rows' sums. -/
def hls (mx : Vec Ideal S8x8192 .f32) (dn : Vec Ideal S8x8192x1 .f32) : Vec Ideal S8x8192 .f32 :=
  shapeCast _ (Host.divf (F := Ideal) (φ := .f32) (addf (F := Ideal) (φ := .f32) (broadcastInDim S8x8192x1 ![0, 1] bcast_S8x8192_S8x8192x1_0_1 mx) (Host.log (F := Ideal) (φ := .f32) dn)) (broadcastInDim S8x8192x1 ![] bcast_S_S8x8192x1 lg2)) shapeCasts_S8x8192x1_S8x8192

/-- The rows' corrections. -/
def hdl (p : Vec Ideal S8x8192x8192 .f32) (v d : Vec Ideal S8192x8x128 .f32) : Vec Ideal S8x8192 .f32 :=
  Host.dotGeneral (F := Ideal) (φ₁ := .f32) (φ₂ := .f32) dot_S8192x8x128_S8x8192x128_S8x8192_2_2_n_n_10_01 none d
    (Host.dotGeneral (F := Ideal) (φ₁ := .f32) (φ₂ := .f32) dot_S8x8192x8192_S8192x8x128_S8x8192x128_2_0_1_2_0_1 none p v)

section
variable (m : (ℓ : Loc nD τ sig) → Buf (Elt Ideal) ℓ) (c : Dev nD)

theorem V30 : V m c main_v30 = hq (m ((c.tc : Thread nD τ).loc main_arg0)) := by
  unfold hq lg2
  after_reads_simp

theorem V31 : V m c main_v31 = truncf (F := Ideal) (φ := .f32) .bf16 (m ((c.tc : Thread nD τ).loc main_arg1)) bitsLt_bf16_f32 := by
  after_reads_simp

theorem V32 : V m c main_v32 = truncf (F := Ideal) (φ := .f32) .bf16 (m ((c.tc : Thread nD τ).loc main_arg2)) bitsLt_bf16_f32 := by
  after_reads_simp

theorem V33 : V m c main_v33 = truncf (F := Ideal) (φ := .f32) .bf16 (m ((c.tc : Thread nD τ).loc main_arg3)) bitsLt_bf16_f32 := by
  after_reads_simp

theorem V38 : V m c main_v38 = lanes (hls (mxm (scr (hds (m ((c.tc : Thread nD τ).loc main_arg0))) (hds (m ((c.tc : Thread nD τ).loc main_arg1))))) (den (exs (scr (hds (m ((c.tc : Thread nD τ).loc main_arg0))) (hds (m ((c.tc : Thread nD τ).loc main_arg1))))))) := by
  unfold lanes hls lg2 den exs
  rw [mxm_eq]
  unfold scr Cert.ReferenceIdeal.Gen.seen hds
  after_reads_simp
  simp -implicitDefEqProofs only [StableHlo.TRef.toBuf, StableHlo.TRef.ofBuf, cast_cast, cast_eq]
  rfl

theorem V42 : V m c main_v42 = lanes (hdl (sfm (exs (scr (hds (m ((c.tc : Thread nD τ).loc main_arg0))) (hds (m ((c.tc : Thread nD τ).loc main_arg1)))))) (hds (m ((c.tc : Thread nD τ).loc main_arg2))) (hds (m ((c.tc : Thread nD τ).loc main_arg3)))) := by
  unfold lanes hdl sfm den exs
  rw [mxm_eq]
  unfold scr Cert.ReferenceIdeal.Gen.seen hds
  after_reads_simp
  simp -implicitDefEqProofs only [StableHlo.TRef.toBuf, StableHlo.TRef.ofBuf, cast_cast, cast_eq]
  rfl

end

theorem two_bits : Ideal.ofBits .f32 0x40000000#32 = ((2 : ℝ) : EReal) := by
  simp [Ideal.ofBits, Ideal.ieee, -EReal.coe_mul]; norm_num

theorem lg2_at : lg2 ix0 = ((Real.log 2 : ℝ) : EReal) := by
  pointwise [lg2]
  rw [two_bits]
  show (if (2 : ℝ) ≤ 0 then (⊥ : EReal) else ((Real.log 2 : ℝ) : EReal)) = _
  rw [if_neg (by norm_num)]

theorem hq_at (x : Vec Ideal S8192x1024 .f32) (r : Fin 8192) (e : Fin 1024) : hq x (ix2 r e) = Ideal.div (x (ix2 r e)) (lg2 ix0) := by
  pointwise [hq]

theorem lanes_at (x : Vec Ideal S8x8192 .f32) (r : Fin 8192) (e : Fin 1024) : lanes x (ix2 r e) = x (ix2 ⟨e.val / 128, by omega⟩ r) := by
  pointwise [lanes]

theorem hls_at (mx : Vec Ideal S8x8192 .f32) (dn : Vec Ideal S8x8192x1 .f32) (h : Fin 8) (r : Fin 8192) :
    hls mx dn (ix2 h r) = Ideal.div (mx (ix2 h r) + Ideal.log (dn (ix3 h r 0))) (lg2 ix0) := by
  pointwise [hls]

theorem hdl_at (p : Vec Ideal S8x8192x8192 .f32) (v d : Vec Ideal S8192x8x128 .f32) (h : Fin 8) (r : Fin 8192) :
    hdl p v d (ix2 h r) = ∑ l : Fin 128, d (ix3 r h l) * ∑ x : Fin 8192, p (ix3 h r x) * v (ix3 x h l) := by
  pointwise [hdl]

end Cert.KernelIdeal.Gen

end
-- ==== Proof.Real.lean ====
/- The reference's arrays when the arguments hold reals: each is the real array that Math.lean names. -/
module

public import proofs.«01_k».proof.Proof.Ref

@[expose] public section

set_option maxRecDepth 16384

noncomputable section

namespace Cert.ReferenceIdeal.Gen

open Idealize.ShloMosaic Idealize.ShloMosaic.TcCoe
open Cert.Attn
open scoped BigOperators

/-- A real array by heads. -/
def hd (X : Fin 8192 → Fin 1024 → ℝ) (h : Fin 8) (r : Fin 8192) (l : Fin 128) : ℝ := X r ⟨h.val * 128 + l.val, by omega⟩

/-- The head of a lane. -/
abbrev hof (e : Fin 1024) : Fin 8 := ⟨e.val / 128, by omega⟩
/-- The lane within the head. -/
abbrev lof (e : Fin 1024) : Fin 128 := ⟨e.val % 128, by omega⟩

/-- The array holds the reals `X`. -/
def IsR (x : Vec Ideal S8192x1024 .f32) (X : Fin 8192 → Fin 1024 → ℝ) : Prop := ∀ r e, x (ix2 r e) = ((X r e : ℝ) : EReal)

/-- The queries' gradient over the reals. -/
def dQ (Q K V D : Fin 8192 → Fin 1024 → ℝ) (r : Fin 8192) (e : Fin 1024) : ℝ :=
  ∑ x, G (hd Q (hof e)) (hd K (hof e)) (hd V (hof e)) (hd D (hof e)) r x * hd K (hof e) x (lof e)

/-- The keys' gradient over the reals. -/
def dK (Q K V D : Fin 8192 → Fin 1024 → ℝ) (r : Fin 8192) (e : Fin 1024) : ℝ :=
  ∑ x, G (hd Q (hof e)) (hd K (hof e)) (hd V (hof e)) (hd D (hof e)) x r * hd Q (hof e) x (lof e)

/-- The values' gradient over the reals. -/
def dV (Q K D : Fin 8192 → Fin 1024 → ℝ) (r : Fin 8192) (e : Fin 1024) : ℝ :=
  ∑ x, W (hd Q (hof e)) (hd K (hof e)) x r * hd D (hof e) x (lof e)

section
variable {q k v d : Vec Ideal S8192x1024 .f32} {Q K V D : Fin 8192 → Fin 1024 → ℝ}

theorem hds_real (hq : IsR q Q) (r : Fin 8192) (h : Fin 8) (l : Fin 128) : hds q (ix3 r h l) = ((hd Q h r l : ℝ) : EReal) := by
  rw [hds_at]; exact hq _ _

theorem scr_real (hq : IsR q Q) (hk : IsR k K) (h : Fin 8) (r x : Fin 8192) :
    scr (hds q) (hds k) (ix3 h r x) = if x ≤ r then ((S (hd Q h) (hd K h) r x : ℝ) : EReal) else ⊥ := by
  rw [scr_at]
  simp only [hds_real hq, hds_real hk]
  rw [coe_dot]
  rfl

/-- A row's maximum is a real, and the row's exponentials and their sum are reals over it. -/
theorem row_real (hq : IsR q Q) (hk : IsR k K) (h : Fin 8) (r : Fin 8192) :
    ∃ M : ℝ, mxm (scr (hds q) (hds k)) (ix2 h r) = (M : EReal)
      ∧ (∀ x, exs (scr (hds q) (hds k)) (ix3 h r x) = ((F (hd Q h) (hd K h) M r x : ℝ) : EReal))
      ∧ den (exs (scr (hds q) (hds k))) (ix3 h r 0) = ((∑ x, F (hd Q h) (hd K h) M r x : ℝ) : EReal) := by
  obtain ⟨M, hM⟩ := mxm_real (scr (hds q) (hds k)) h r (fun i => by
      rw [eq_ix3 i]
      have e := scr_real hq hk (i 0) (i 1) (i 2)
      refine ne_of_eq_of_ne e ?_
      split
      · exact EReal.coe_ne_top _
      · exact bot_ne_top)
    (by
      rw [scr_real hq hk, if_pos le_rfl]
      exact EReal.coe_ne_bot _)
  have he : ∀ x, exs (scr (hds q) (hds k)) (ix3 h r x) = ((F (hd Q h) (hd K h) M r x : ℝ) : EReal) := fun x => by
    rw [exs_at, hM, scr_real hq hk]
    unfold F
    split
    · rw [← EReal.coe_sub, Ideal.exp_coe]
    · rw [show (⊥ : EReal) - (M : EReal) = ⊥ from rfl, Ideal.exp_bot]; rfl
  refine ⟨M, hM, he, ?_⟩
  rw [den_at]
  simp only [he]
  exact coe_sum _ _

theorem sfm_real (hq : IsR q Q) (hk : IsR k K) (h : Fin 8) (r x : Fin 8192) :
    sfm (exs (scr (hds q) (hds k))) (ix3 h r x) = ((W (hd Q h) (hd K h) r x : ℝ) : EReal) := by
  obtain ⟨M, -, he, hD⟩ := row_real hq hk h r
  rw [sfm_at, he, hD, div_coe _ _ (sum_F_pos _ _ _ _).ne', F_div]

theorem dpr_real (hd' : IsR d D) (hv : IsR v V) (h : Fin 8) (r x : Fin 8192) :
    dpr (hds d) (hds v) (ix3 h r x) = ((T (hd V h) (hd D h) r x : ℝ) : EReal) := by
  rw [dpr_at]
  simp only [hds_real hd', hds_real hv]
  exact coe_dot _ _ _

theorem dsc_real (hq : IsR q Q) (hk : IsR k K) (hv : IsR v V) (hd' : IsR d D) (h : Fin 8) (r x : Fin 8192) :
    dsc (dpr (hds d) (hds v)) (exs (scr (hds q) (hds k))) (ix3 h r x)
      = ((G (hd Q h) (hd K h) (hd V h) (hd D h) r x : ℝ) : EReal) := by
  obtain ⟨M, -, he, hD⟩ := row_real hq hk h r
  have hp := (sum_F_pos (hd Q h) (hd K h) M r).ne'
  rw [dsc_at, crr_at, hD]
  by_cases hx : x ≤ r
  · rw [if_pos hx]
    simp only [he, dpr_real hd' hv]
    rw [← EReal.coe_mul, show (1 : EReal) = ((1 : ℝ) : EReal) from rfl, div_coe _ _ (mul_ne_zero hp hp), div_coe _ _ hp]
    simp only [← EReal.coe_mul]
    rw [coe_sum, ← EReal.coe_neg, ← EReal.coe_add, ← EReal.coe_mul, ref_G]
  · rw [if_neg hx, G_of_not_le _ _ _ _ hx]; rfl

theorem rdq_real (hq : IsR q Q) (hk : IsR k K) (hv : IsR v V) (hd' : IsR d D) (r : Fin 8192) (e : Fin 1024) :
    rdq (dsc (dpr (hds d) (hds v)) (exs (scr (hds q) (hds k)))) (hds k) (ix2 r e) = ((dQ Q K V D r e : ℝ) : EReal) := by
  rw [rdq_at]
  simp only [dsc_real hq hk hv hd', hds_real hk]
  exact coe_dot _ _ _

theorem rdk_real (hq : IsR q Q) (hk : IsR k K) (hv : IsR v V) (hd' : IsR d D) (r : Fin 8192) (e : Fin 1024) :
    rdk (dsc (dpr (hds d) (hds v)) (exs (scr (hds q) (hds k)))) (hds q) (ix2 r e) = ((dK Q K V D r e : ℝ) : EReal) := by
  rw [rdk_at]
  simp only [dsc_real hq hk hv hd', hds_real hq]
  exact coe_dot _ _ _

theorem rdv_real (hq : IsR q Q) (hk : IsR k K) (hd' : IsR d D) (r : Fin 8192) (e : Fin 1024) :
    rdv (sfm (exs (scr (hds q) (hds k)))) (hds d) (ix2 r e) = ((dV Q K D r e : ℝ) : EReal) := by
  rw [rdv_at]
  simp only [sfm_real hq hk, hds_real hd']
  rw [coe_dot]
  unfold dV
  simp only [mul_comm]

end

end Cert.ReferenceIdeal.Gen

end
-- ==== Proof.Blocks.lean ====
/- The blocks that a point of the kernel's grid reads, when the arguments hold reals. -/
module

public import proofs.«01_k».proof.Proof.Grad
public import proofs.«01_k».proof.Proof.Host
public import proofs.«01_k».proof.Proof.Real
public import Idealize.ShloMosaic.Lib.Pipeline.ValueKit

@[expose] public section

set_option maxRecDepth 16384

noncomputable section

namespace Cert.KernelIdeal.Gen

open Idealize.ShloMosaic Idealize.ShloMosaic.TcCoe
open Cert.Attn
open Cert.ReferenceIdeal.Gen (IsR hd hof lof hds hds_real scr mxm exs den sfm row_real sfm_real)
open scoped BigOperators

theorem coords_1 : ∀ t : Fin cfg0.N, (grid0.coords t 1).val = t.val % 16 :=
  (by decide +kernel : ∀ t : Fin grid0.N, (grid0.coords t 1).val = t.val % 16)
theorem idx_0 : ∀ t : Fin cfg0.N, win0_0.index t = ![0, t.val / 16] := (by decide +kernel : ∀ t : Fin grid0.N, _)
theorem idx_1 : ∀ t : Fin cfg0.N, win0_1.index t = ![t.val % 16, t.val / 16] := (by decide +kernel : ∀ t : Fin grid0.N, _)
theorem idx_2 : ∀ t : Fin cfg0.N, win0_2.index t = ![t.val % 16, t.val / 16] := (by decide +kernel : ∀ t : Fin grid0.N, _)
theorem idx_3 : ∀ t : Fin cfg0.N, win0_3.index t = ![0, t.val / 16] := (by decide +kernel : ∀ t : Fin grid0.N, _)
theorem idx_4 : ∀ t : Fin cfg0.N, win0_4.index t = ![0, t.val / 16] := (by decide +kernel : ∀ t : Fin grid0.N, _)
theorem idx_5 : ∀ t : Fin cfg0.N, win0_5.index t = ![0, t.val / 16] := (by decide +kernel : ∀ t : Fin grid0.N, _)

/-- The head of a point. -/
def hpt (t : Fin cfg0.N) : Fin 8 := ⟨t.val / 16, by have : t.val < 128 := t.isLt; omega⟩

/-- A lane of a head, in the whole array. -/
def lane (h : Fin 8) (l : Fin 128) : Fin 1024 := ⟨h.val * 128 + l.val, by omega⟩

theorem tile_lt (t : Fin cfg0.N) : (grid0.coords t 1).val < 16 := (grid0.coords t 1).isLt

section
variable (m : (ℓ : Loc nD τ sig) → Buf (Elt Ideal) ℓ) (c : Dev nD) (t : Fin cfg0.N)

theorem blk_0 (x : Fin 8192) (l : Fin 128) : iblk m c 0 t (ix2 x l) = V m c main_v30 (ix2 x (lane (hpt t) l)) := by
  blk_simp [iblk]
  refine congrArg (V m c main_v30) ?_
  unfold lane hpt
  blk_ext [idx_0]
theorem blk_1 (r : Fin 512) (l : Fin 128) : iblk m c 1 t (ix2 r l) = V m c main_v31 (ix2 (key (grid0.coords t 1).val (tile_lt t) r) (lane (hpt t) l)) := by
  blk_simp [iblk]
  refine congrArg (V m c main_v31) ?_
  unfold lane hpt key
  blk_ext [idx_1, coords_1]
theorem blk_2 (r : Fin 512) (l : Fin 128) : iblk m c 2 t (ix2 r l) = V m c main_v32 (ix2 (key (grid0.coords t 1).val (tile_lt t) r) (lane (hpt t) l)) := by
  blk_simp [iblk]
  refine congrArg (V m c main_v32) ?_
  unfold lane hpt key
  blk_ext [idx_2, coords_1]
theorem blk_3 (x : Fin 8192) (l : Fin 128) : iblk m c 3 t (ix2 x l) = V m c main_v33 (ix2 x (lane (hpt t) l)) := by
  blk_simp [iblk]
  refine congrArg (V m c main_v33) ?_
  unfold lane hpt
  blk_ext [idx_3]
theorem blk_4 (x : Fin 8192) (l : Fin 128) : iblk m c 4 t (ix2 x l) = V m c main_v38 (ix2 x (lane (hpt t) l)) := by
  blk_simp [iblk]
  refine congrArg (V m c main_v38) ?_
  unfold lane hpt
  blk_ext [idx_4]
theorem blk_5 (x : Fin 8192) (l : Fin 128) : iblk m c 5 t (ix2 x l) = V m c main_v42 (ix2 x (lane (hpt t) l)) := by
  blk_simp [iblk]
  refine congrArg (V m c main_v42) ?_
  unfold lane hpt
  blk_ext [idx_5]
end

theorem lane_head (h : Fin 8) (l : Fin 128) : (⟨(lane h l).val / 128, by have := (lane h l).isLt; omega⟩ : Fin 8) = h := by
  apply Fin.ext; show (h.val * 128 + l.val) / 128 = h.val; omega

theorem log_pos_coe (r : ℝ) (h : 0 < r) : Ideal.log (r : EReal) = ((Real.log r : ℝ) : EReal) := by
  show (if r ≤ 0 then (⊥ : EReal) else ((Real.log r : ℝ) : EReal)) = _
  rw [if_neg (not_le.2 h)]

section
variable {m : (ℓ : Loc nD τ sig) → Buf (Elt Ideal) ℓ} {c : Dev nD} {Q K X D : Fin 8192 → Fin 1024 → ℝ}
  (hq : IsR (m ((c.tc : Thread nD τ).loc main_arg0)) Q) (hk : IsR (m ((c.tc : Thread nD τ).loc main_arg1)) K)
  (hv : IsR (m ((c.tc : Thread nD τ).loc main_arg2)) X) (hd' : IsR (m ((c.tc : Thread nD τ).loc main_arg3)) D)
include hq hk hv hd'

/-- A point's blocks hold its head's arrays. -/
theorem holds (t : Fin cfg0.N) :
    Holds (hd Q (hpt t)) (hd K (hpt t)) (hd X (hpt t)) (hd D (hpt t)) (iblk m c 0 t) (iblk m c 3 t) (iblk m c 4 t) (iblk m c 5 t)
      (iblk m c 1 t) (iblk m c 2 t) (grid0.coords t 1).val (tile_lt t) where
  hq x l := by
    rw [blk_0, V30, hq_at, lg2_at]
    refine (congrArg (fun z => Ideal.div z _) (hq _ _)).trans ?_
    rw [div_coe _ _ (Real.log_pos (by norm_num)).ne']; rfl
  hd x l := by
    rw [blk_3, V33]; exact hd' _ _
  hls x := by
    obtain ⟨M, hM, -, hD⟩ := row_real hq hk (hpt t) x
    refine ⟨M, fun l => ?_⟩
    rw [blk_4, V38, lanes_at, lane_head, hls_at, hM, hD, lg2_at, log_pos_coe _ (sum_F_pos _ _ _ _), ← EReal.coe_add,
      div_coe _ _ (Real.log_pos (by norm_num)).ne']
  hdl x l := by
    rw [blk_5, V42, lanes_at, lane_head, hdl_at]
    simp only [hds_real hd', hds_real hv, sfm_real hq hk]
    simp only [coe_dot]
    rw [B_eq]
  hk r l := by
    rw [blk_1, V31]; exact hk _ _
  hv r l := by
    rw [blk_2, V32]; exact hv _ _

end

end Cert.KernelIdeal.Gen

end
-- ==== Proof.Body.lean ====
/- The kernel's body, run once: on the blocks a point of the grid stages it adds the terms of every query row from its
   tile's first row on to the three accumulated arrays, and hands out the keys' accumulator times `ln 2` and the
   values' accumulator. -/
module

public import proofs.«01_k».proof.Proof.Step
public import proofs.«01_k».proof.Proof.Gen.KernelIdeal.Frame
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ## Where the steps stand -/

theorem off1_at : ∀ i : grid0.Coords, k0_off1 i 0 = 512 * (i 1).val ∧ k0_off1 i 1 = 0 := by decide +kernel
theorem off2_at : ∀ i : grid0.Coords, k0_off2 i 0 = 512 * (i 1).val + 512 ∧ k0_off2 i 1 = 0 := by decide +kernel
theorem cond2_iff : ∀ i : grid0.Coords, k0_cond2 i = 1#1 ↔ (i 1).val % 2 = 0 := by decide +kernel
theorem trips1 : ∀ i : grid0.Coords, (k0_t1_loop i).trips = (15 - (i 1).val) / 2 := by decide +kernel
theorem trips2 : ∀ i : grid0.Coords, (k0_t2_loop i).trips = 0 := by
  intro i
  have := (k0_t2_abs i).2.1
  omega

/-- The first row the loop works on: the tiles up to it are an odd one out, if there is one, and the diagonal. -/
def row0 (j : ℕ) : ℕ := 512 * j + 512 + 512 * ((15 - j) % 2)

theorem off3_at : ∀ (i : grid0.Coords) (t : Fin (k0_t1_loop i).trips),
    k0_off3 i t 0 = row0 (i 1).val + 1024 * t.val ∧ k0_off3 i t 1 = 0 := by decide +kernel

/-! ## The loop -/

section
variable (q d : FVec Ideal S8192x128 .bf16) (ls dl : FVec Ideal S8192x128 .f32) (k v : FVec Ideal S512x128 .bf16) (j : ℕ)

/-- The arrays after `t` trips of the loop. -/
def iter (s : St) : ℕ → St
  | 0 => s
  | t + 1 => adv q d ls dl k v j (row0 j + 1024 * t) (row0 j + 1024 * t + 1024) (iter s t)

theorem iter_eq (s : St) (t : ℕ) : iter q d ls dl k v j s t = adv q d ls dl k v j (row0 j) (row0 j + 1024 * t) s := by
  induction t with
  | zero => exact (adv_self q d ls dl k v j _ s).symm
  | succ t ih =>
    rw [iter, ih, adv_adv q d ls dl k v j _ _ _ (by omega) (by omega)]
    rw [show row0 j + 1024 * (t + 1) = row0 j + 1024 * t + 1024 by omega]
end

/-! ## Whole-block loads and stores -/

theorem ld_whole512 {e : EltTy} (x : Vec Ideal S512x128 e) {inb : ∀ a, (![0, 0] : Fin 2 → ℕ) a + S512x128.size a ≤ S512x128.size a} :
    View.ld x (Rect.unit (s := S512x128) ![0, 0] S512x128.size inb) = x :=
  View.ld_unit_zero (S := S512x128) (by funext a; fin_cases a <;> rfl) inb x

theorem read_whole512 {κ : Kind} {sp : Space} {e : EltTy} (vw : View sig κ sp S512x128 e) (f : vw.ty.Contents (Elt Ideal))
    {inb : ∀ a, (![0, 0] : Fin 2 → ℕ) a + S512x128.size a ≤ S512x128.size a} (w : Vec Ideal S512x128 e) (L : List (View.Piece (Elt Ideal) S512x128 e)) :
    vw.read (Elt Ideal) (vw.writes (Elt Ideal) f (⟨Rect.unit (s := S512x128) ![0, 0] S512x128.size inb, w⟩ :: L)) = w := by
  funext x
  refine View.read_writes_cons_hit vw f (Rect.unit (s := S512x128) ![0, 0] S512x128.size inb) w L x x ?_
  exact Rect.emb_eq_of_coords (Rect.unit (s := S512x128) ![0, 0] S512x128.size inb) x x fun b => by
    have e : (![0, 0] : Fin 2 → ℕ) b = 0 := by fin_cases b <;> rfl
    show (x b).val = (![0, 0] : Fin 2 → ℕ) b + 1 * (x b).val
    omega

theorem read_whole8192 {κ : Kind} {sp : Space} {e : EltTy} (vw : View sig κ sp S8192x128 e) (f : vw.ty.Contents (Elt Ideal))
    {inb : ∀ a, (![0, 0] : Fin 2 → ℕ) a + S8192x128.size a ≤ S8192x128.size a} (w : Vec Ideal S8192x128 e) (L : List (View.Piece (Elt Ideal) S8192x128 e)) :
    vw.read (Elt Ideal) (vw.writes (Elt Ideal) f (⟨Rect.unit (s := S8192x128) ![0, 0] S8192x128.size inb, w⟩ :: L)) = w := by
  funext x
  refine View.read_writes_cons_hit vw f (Rect.unit (s := S8192x128) ![0, 0] S8192x128.size inb) w L x x ?_
  exact Rect.emb_eq_of_coords (Rect.unit (s := S8192x128) ![0, 0] S8192x128.size inb) x x fun b => by
    have e : (![0, 0] : Fin 2 → ℕ) b = 0 := by fin_cases b <;> rfl
    show (x b).val = (![0, 0] : Fin 2 → ℕ) b + 1 * (x b).val
    omega

/-- One trip: the 1024 rows it works on are added to the arrays it finds. -/
theorem trip (𝒱 : Variants) (c : Dev nD) (bd : Option 𝒱.V) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole)
    (arg1 : BitVec 32) (v12 v14 : FVec Ideal S512x128 .bf16) (v67 v68 : BitVec 32) (v69 v70 v71 : BitVec 1) (v75 : BitVec 32)
    (X2 : BufTy.Contents (Elt Ideal) arg2.view.ty) (X5 : BufTy.Contents (Elt Ideal) arg5.view.ty) (X6 : BufTy.Contents (Elt Ideal) arg6.view.ty) (X7 : BufTy.Contents (Elt Ideal) arg7.view.ty)
    (f8 : BufTy.Contents (Elt Ideal) arg8.view.ty) (f11 : BufTy.Contents (Elt Ideal) arg11.view.ty) (f12 : BufTy.Contents (Elt Ideal) arg12.view.ty) (t : Fin (k0_t1_loop i).trips) :
    (iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12)) : sProp 𝕄)
    ⊢ wp frame (wpE (defs₀ (F := Ideal)) 𝒱 (c : Thread nD τ) bd) E (k0_t1_body (F := Ideal) i arg2 harg2 arg3 harg3 arg4 harg4 arg5 harg5 arg6 harg6 arg7 harg7 arg8 harg8 arg9 harg9 arg10 harg10 arg11 harg11 arg12 harg12 arg1 v12 v14 v67 v68 v69 v70 v71 v75 t PUnit.unit)
        (fun _ => (iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f) ∗ ⌜arg8.view.read (Elt Ideal) f = (adv (arg2.view.read (Elt Ideal) X2) (arg5.view.read (Elt Ideal) X5) (arg6.view.read (Elt Ideal) X6) (arg7.view.read (Elt Ideal) X7) v12 v14 (i 1).val (row0 (i 1).val + 1024 * t.val) (row0 (i 1).val + 1024 * t.val + 1024) ((arg8.view.read (Elt Ideal) f8), (arg11.view.read (Elt Ideal) f11), (arg12.view.read (Elt Ideal) f12))).1⌝) ∗ (∃ f, (arg11.view.loc (c : Thread nD τ) ↦[arg11.view.set]{fullShare} f) ∗ ⌜arg11.view.read (Elt Ideal) f = (adv (arg2.view.read (Elt Ideal) X2) (arg5.view.read (Elt Ideal) X5) (arg6.view.read (Elt Ideal) X6) (arg7.view.read (Elt Ideal) X7) v12 v14 (i 1).val (row0 (i 1).val + 1024 * t.val) (row0 (i 1).val + 1024 * t.val + 1024) ((arg8.view.read (Elt Ideal) f8), (arg11.view.read (Elt Ideal) f11), (arg12.view.read (Elt Ideal) f12))).2.1⌝) ∗ (∃ f, (arg12.view.loc (c : Thread nD τ) ↦[arg12.view.set]{fullShare} f) ∗ ⌜arg12.view.read (Elt Ideal) f = (adv (arg2.view.read (Elt Ideal) X2) (arg5.view.read (Elt Ideal) X5) (arg6.view.read (Elt Ideal) X6) (arg7.view.read (Elt Ideal) X7) v12 v14 (i 1).val (row0 (i 1).val + 1024 * t.val) (row0 (i 1).val + 1024 * t.val + 1024) ((arg8.view.read (Elt Ideal) f8), (arg11.view.read (Elt Ideal) f11), (arg12.view.read (Elt Ideal) f12))).2.2⌝)) : sProp 𝕄)) := by
  obtain ⟨h0, h1⟩ := off3_at i t
  have hn : 512 * (i 1).val + 512 ≤ row0 (i 1).val + 1024 * t.val := by unfold row0; omega
  unfold k0_t1_body
  iintro ⟨H2, H5, H6, H7, H8, H11, H12⟩
  sl_exec
  sl_step
  isplitl [H2]; · iexact H2
  isplitl [H5]; · iexact H5
  isplitl [H6]; · iexact H6
  isplitl [H7]; · iexact H7
  isplitl [H8]
  · iexists _; isplitl [H8]; · iexact H8
    ipureintro
    refine read_rows1024 arg8.view f8 (k0_off3 i t) _ h0 h1 (k0_off3_inb i t) _ _ (fun a l hb => ?_) fun x hx => ?_
    · exact stepQ_1024 _ _ _ _ _ _ _ _ ((arg8.view.read (Elt Ideal) f8), (arg11.view.read (Elt Ideal) f11), (arg12.view.read (Elt Ideal) f12)) (View.ld (arg2.view.read (Elt Ideal) X2) (Rect.unit (s := S8192x128) (k0_off3 i t) S1024x128.size (k0_off3_inb i t))) (View.ld (arg5.view.read (Elt Ideal) X5) (Rect.unit (s := S8192x128) (k0_off3 i t) S1024x128.size (k0_off3_inb i t))) (View.ld (arg6.view.read (Elt Ideal) X6) (Rect.unit (s := S8192x128) (k0_off3 i t) S1024x128.size (k0_off3_inb i t))) (View.ld (arg7.view.read (Elt Ideal) X7) (Rect.unit (s := S8192x128) (k0_off3 i t) S1024x128.size (k0_off3_inb i t))) (ldB_1024 (arg2.view.read (Elt Ideal) X2) _ _ h0 h1 _) (ldB_1024 (arg5.view.read (Elt Ideal) X5) _ _ h0 h1 _)
        (ldF_1024 (arg6.view.read (Elt Ideal) X6) _ _ h0 h1 _) (ldF_1024 (arg7.view.read (Elt Ideal) X7) _ _ h0 h1 _) hn _ (ldF_1024 (arg8.view.read (Elt Ideal) f8) _ _ h0 h1 _) a l hb
    · exact stepQ_off_1024 _ _ _ _ _ _ _ _ ((arg8.view.read (Elt Ideal) f8), (arg11.view.read (Elt Ideal) f11), (arg12.view.read (Elt Ideal) f12)) x hx
  isplitl [H11]
  · iexists _; isplitl [H11]; · iexact H11
    ipureintro
    rw [read_whole512]
    refine (pay33_eq _).trans ?_
    refine Eq.trans ?_ (stepK_1024 _ _ _ _ _ _ _ _ ((arg8.view.read (Elt Ideal) f8), (arg11.view.read (Elt Ideal) f11), (arg12.view.read (Elt Ideal) f12)) (View.ld (arg2.view.read (Elt Ideal) X2) (Rect.unit (s := S8192x128) (k0_off3 i t) S1024x128.size (k0_off3_inb i t))) (View.ld (arg5.view.read (Elt Ideal) X5) (Rect.unit (s := S8192x128) (k0_off3 i t) S1024x128.size (k0_off3_inb i t))) (View.ld (arg6.view.read (Elt Ideal) X6) (Rect.unit (s := S8192x128) (k0_off3 i t) S1024x128.size (k0_off3_inb i t))) (View.ld (arg7.view.read (Elt Ideal) X7) (Rect.unit (s := S8192x128) (k0_off3 i t) S1024x128.size (k0_off3_inb i t))) (ldB_1024 (arg2.view.read (Elt Ideal) X2) _ _ h0 h1 _) (ldB_1024 (arg5.view.read (Elt Ideal) X5) _ _ h0 h1 _)
        (ldF_1024 (arg6.view.read (Elt Ideal) X6) _ _ h0 h1 _) (ldF_1024 (arg7.view.read (Elt Ideal) X7) _ _ h0 h1 _) hn)
    exact congrArg (k0_pay13 (F := Ideal) v12 v14 _ _ _ _) (ld_whole512 _)
  iexists _; isplitl [H12]; · iexact H12
  ipureintro
  rw [read_whole512]
  refine Eq.trans ?_ (stepV_1024 _ _ _ (arg7.view.read (Elt Ideal) X7) _ v14 _ _ ((arg8.view.read (Elt Ideal) f8), (arg11.view.read (Elt Ideal) f11), (arg12.view.read (Elt Ideal) f12)) (View.ld (arg2.view.read (Elt Ideal) X2) (Rect.unit (s := S8192x128) (k0_off3 i t) S1024x128.size (k0_off3_inb i t))) (View.ld (arg5.view.read (Elt Ideal) X5) (Rect.unit (s := S8192x128) (k0_off3 i t) S1024x128.size (k0_off3_inb i t))) (View.ld (arg6.view.read (Elt Ideal) X6) (Rect.unit (s := S8192x128) (k0_off3 i t) S1024x128.size (k0_off3_inb i t))) (ldB_1024 (arg2.view.read (Elt Ideal) X2) _ _ h0 h1 _) (ldB_1024 (arg5.view.read (Elt Ideal) X5) _ _ h0 h1 _)
      (ldF_1024 (arg6.view.read (Elt Ideal) X6) _ _ h0 h1 _) hn)
  exact congrArg (k0_pay12 (F := Ideal) v12 _ _ _) (ld_whole512 _)

/-- The contents of a buffer before each trip of a loop: `G` before the first, and such that they read `R t` before trip
    `t` after that. -/
def itc {s : Shape} {m : Memref sig .tc .vmem s .f32} (h : m.IsWhole) (G : BufTy.Contents (Elt Ideal) m.view.ty)
    (R : ℕ → Vec Ideal s .f32) : ℕ → BufTy.Contents (Elt Ideal) m.view.ty
  | 0 => G
  | t + 1 => h.unread (R (t + 1))

theorem read_itc {s : Shape} {m : Memref sig .tc .vmem s .f32} (h : m.IsWhole) (G : BufTy.Contents (Elt Ideal) m.view.ty)
    (R : ℕ → Vec Ideal s .f32) (h0 : m.view.read (Elt Ideal) G = R 0) (t : ℕ) : m.view.read (Elt Ideal) (itc h G R t) = R t := by
  cases t with
  | zero => exact h0
  | succ t => exact h.read_unread _

/-- The class of the loop's invariants. -/
abbrev TripsTy (c : Dev nD) (𝒱 : Variants) (bd : Option 𝒱.V) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole)
    (arg1 : BitVec 32) (v12 v14 : FVec Ideal S512x128 .bf16) (v67 v68 : BitVec 32) (v69 v70 v71 : BitVec 1) (v75 : BitVec 32) :=
  Idealize.ShloMosaic.LoopInv (M := 𝕄) Idealize.ShloMosaic.frame (wpE (defs₀ (F := Ideal)) 𝒱 (c : Thread nD τ) bd) E
    (k0_t1_loop i).lb (k0_t1_loop i).ub (k0_t1_loop i).st (k0_t1_ok i) () (k0_t1_body (F := Ideal) i arg2 harg2 arg3 harg3 arg4 harg4 arg5 harg5 arg6 harg6 arg7 harg7 arg8 harg8 arg9 harg9 arg10 harg10 arg11 harg11 arg12 harg12 arg1 v12 v14 v67 v68 v69 v70 v71 v75)

set_option warn.classDefReducibility false in
/-- The loop by what its arrays are before each trip. -/
@[sl_loop] def trips (𝒱 : Variants) (c : Dev nD) (bd : Option 𝒱.V) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole)
    (arg1 : BitVec 32) (v12 v14 : FVec Ideal S512x128 .bf16) (v67 v68 : BitVec 32) (v69 v70 v71 : BitVec 1) (v75 : BitVec 32)
    (X2 : BufTy.Contents (Elt Ideal) arg2.view.ty) (X5 : BufTy.Contents (Elt Ideal) arg5.view.ty) (X6 : BufTy.Contents (Elt Ideal) arg6.view.ty) (X7 : BufTy.Contents (Elt Ideal) arg7.view.ty)
    (G8 : BufTy.Contents (Elt Ideal) arg8.view.ty) (G11 : BufTy.Contents (Elt Ideal) arg11.view.ty) (G12 : BufTy.Contents (Elt Ideal) arg12.view.ty) :
    TripsTy c 𝒱 bd E i arg2 harg2 arg3 harg3 arg4 harg4 arg5 harg5 arg6 harg6 arg7 harg7 arg8 harg8 arg9 harg9 arg10 harg10 arg11 harg11 arg12 harg12 arg1 v12 v14 v67 v68 v69 v70 v71 v75 where
  inv t _ := (iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f) ∗ ⌜f = itc harg8 G8 (fun t => (iter (arg2.view.read (Elt Ideal) X2) (arg5.view.read (Elt Ideal) X5) (arg6.view.read (Elt Ideal) X6) (arg7.view.read (Elt Ideal) X7) v12 v14 (i 1).val ((arg8.view.read (Elt Ideal) G8), (arg11.view.read (Elt Ideal) G11), (arg12.view.read (Elt Ideal) G12)) t).1) t⌝) ∗ (∃ f, (arg11.view.loc (c : Thread nD τ) ↦[arg11.view.set]{fullShare} f) ∗ ⌜f = itc harg11 G11 (fun t => (iter (arg2.view.read (Elt Ideal) X2) (arg5.view.read (Elt Ideal) X5) (arg6.view.read (Elt Ideal) X6) (arg7.view.read (Elt Ideal) X7) v12 v14 (i 1).val ((arg8.view.read (Elt Ideal) G8), (arg11.view.read (Elt Ideal) G11), (arg12.view.read (Elt Ideal) G12)) t).2.1) t⌝) ∗ (∃ f, (arg12.view.loc (c : Thread nD τ) ↦[arg12.view.set]{fullShare} f) ∗ ⌜f = itc harg12 G12 (fun t => (iter (arg2.view.read (Elt Ideal) X2) (arg5.view.read (Elt Ideal) X5) (arg6.view.read (Elt Ideal) X6) (arg7.view.read (Elt Ideal) X7) v12 v14 (i 1).val ((arg8.view.read (Elt Ideal) G8), (arg11.view.read (Elt Ideal) G11), (arg12.view.read (Elt Ideal) G12)) t).2.2) t⌝)) : sProp 𝕄)
  step t acc := by
    iintro ⟨H2, H5, H6, H7, ⟨%f8, H8, %h8⟩, ⟨%f11, H11, %h11⟩, ⟨%f12, H12, %h12⟩⟩
    have e : ((arg8.view.read (Elt Ideal) f8), (arg11.view.read (Elt Ideal) f11), (arg12.view.read (Elt Ideal) f12)) = iter (arg2.view.read (Elt Ideal) X2) (arg5.view.read (Elt Ideal) X5) (arg6.view.read (Elt Ideal) X6) (arg7.view.read (Elt Ideal) X7) v12 v14 (i 1).val ((arg8.view.read (Elt Ideal) G8), (arg11.view.read (Elt Ideal) G11), (arg12.view.read (Elt Ideal) G12)) t.val :=
      Prod.ext (h8 ▸ read_itc harg8 _ _ rfl t.val) (Prod.ext (h11 ▸ read_itc harg11 _ _ rfl t.val) (h12 ▸ read_itc harg12 _ _ rfl t.val))
    iapply (wp_wand_r Idealize.ShloMosaic.frame (wpE (defs₀ (F := Ideal)) 𝒱 (c : Thread nD τ) bd) E)
    isplitl [H2 H5 H6 H7 H8 H11 H12]
    · iapply (trip 𝒱 c bd E i arg2 harg2 arg3 harg3 arg4 harg4 arg5 harg5 arg6 harg6 arg7 harg7 arg8 harg8 arg9 harg9 arg10 harg10 arg11 harg11 arg12 harg12 arg1 v12 v14 v67 v68 v69 v70 v71 v75 X2 X5 X6 X7 f8 f11 f12 t)
      isplitl [H2]; · iexact H2
      isplitl [H5]; · iexact H5
      isplitl [H6]; · iexact H6
      isplitl [H7]; · iexact H7
      isplitl [H8]; · iexact H8
      isplitl [H11]; · iexact H11
      iexact H12
    · iintro %_ ⟨H2, H5, H6, H7, ⟨%g8, H8, %k8⟩, ⟨%g11, H11, %k11⟩, ⟨%g12, H12, %k12⟩⟩
      rw [e] at k8 k11 k12
      isplitl [H2]; · iexact H2
      isplitl [H5]; · iexact H5
      isplitl [H6]; · iexact H6
      isplitl [H7]; · iexact H7
      isplitl [H8]
      · iexists _; isplitl [H8]; · iexact H8
        ipureintro; exact harg8.eq_unread k8
      isplitl [H11]
      · iexists _; isplitl [H11]; · iexact H11
        ipureintro; exact harg11.eq_unread k11
      iexists _; isplitl [H12]; · iexact H12
      ipureintro; exact harg12.eq_unread k12

/-- As `read_rows512`, over what earlier stores left. -/
theorem read_rows512_cons {κ : Kind} {sp : Space} {e : EltTy} (vw : View sig κ sp S8192x128 e) (f : vw.ty.Contents (Elt Ideal))
    (L : List (View.Piece (Elt Ideal) S8192x128 e)) (off : Fin 2 → ℕ) (n : ℕ) (h0 : off 0 = n) (h1 : off 1 = 0)
    (inb : ∀ a, off a + S512x128.size a ≤ S8192x128.size a) (w : S512x128.Idx → Elt Ideal e) (G : S8192x128.Idx → Elt Ideal e)
    (hit : ∀ (a : Fin 512) (l : Fin 128) (h : n + a.val < 8192), w (ix2 a l) = G (ix2 ⟨n + a.val, h⟩ l))
    (miss : ∀ x, ((x 0).val < n ∨ n + 512 ≤ (x 0).val) → vw.read (Elt Ideal) (vw.writes (Elt Ideal) f L) x = G x) :
    vw.read (Elt Ideal) (vw.writes (Elt Ideal) f (⟨Rect.unit (s := S8192x128) off S512x128.size inb, w⟩ :: L)) = G :=
  read_rows512 vw (vw.writes (Elt Ideal) f L) off n h0 h1 inb w G hit miss

/-! ## The whole walk -/

section
variable (q d : FVec Ideal S8192x128 .bf16) (ls dl : FVec Ideal S8192x128 .f32) (k v : FVec Ideal S512x128 .bf16) (j : ℕ)

/-- After the last trip every row from the tile's first on has been added, when the rows before the loop's first had
    been. -/
theorem iter_fin (s s0 : St) (n : ℕ) (hj : j < 16) (hn : n = (15 - j) / 2)
    (h : s = adv q d ls dl k v j (512 * j) (row0 j) s0) :
    iter q d ls dl k v j s n = adv q d ls dl k v j (512 * j) 8192 s0 := by
  have e : row0 j + 1024 * n = 8192 := by unfold row0; omega
  rw [iter_eq, h, adv_adv _ _ _ _ _ _ _ _ _ _ (by unfold row0; omega) (by omega), e]

theorem adv_congr1 (a b : ℕ) (s s' : St) (h : s.1 = s'.1) : (adv q d ls dl k v j a b s).1 = (adv q d ls dl k v j a b s').1 := by
  funext x
  show s.1 x + _ = s'.1 x + _
  rw [h]

theorem adv_congr2 (a b : ℕ) (s s' : St) (h : s.2.1 = s'.2.1) : (adv q d ls dl k v j a b s).2.1 = (adv q d ls dl k v j a b s').2.1 := by
  funext x
  show s.2.1 x + _ = s'.2.1 x + _
  rw [h]

theorem adv_congr3 (a b : ℕ) (s s' : St) (h : s.2.2 = s'.2.2) : (adv q d ls dl k v j a b s).2.2 = (adv q d ls dl k v j a b s').2.2 := by
  funext x
  show s.2.2 x + _ = s'.2.2 x + _
  rw [h]

theorem iter_fin1 (s1 s0 : St) (n : ℕ) (hj : j < 16) (hn : n = (15 - j) / 2)
    (h : s1 = adv q d ls dl k v j (512 * j) (row0 j) s0) (s : St) (hs : s.1 = s1.1) :
    (iter q d ls dl k v j s n).1 = (adv q d ls dl k v j (512 * j) 8192 s0).1 := by
  rw [← iter_fin q d ls dl k v j s1 s0 n hj hn h, iter_eq, iter_eq]
  exact adv_congr1 q d ls dl k v j _ _ _ _ hs

theorem iter_fin2 (s1 s0 : St) (n : ℕ) (hj : j < 16) (hn : n = (15 - j) / 2)
    (h : s1 = adv q d ls dl k v j (512 * j) (row0 j) s0) (s : St) (hs : s.2.1 = s1.2.1) :
    (iter q d ls dl k v j s n).2.1 = (adv q d ls dl k v j (512 * j) 8192 s0).2.1 := by
  rw [← iter_fin q d ls dl k v j s1 s0 n hj hn h, iter_eq, iter_eq]
  exact adv_congr2 q d ls dl k v j _ _ _ _ hs

theorem iter_fin3 (s1 s0 : St) (n : ℕ) (hj : j < 16) (hn : n = (15 - j) / 2)
    (h : s1 = adv q d ls dl k v j (512 * j) (row0 j) s0) (s : St) (hs : s.2.2 = s1.2.2) :
    (iter q d ls dl k v j s n).2.2 = (adv q d ls dl k v j (512 * j) 8192 s0).2.2 := by
  rw [← iter_fin q d ls dl k v j s1 s0 n hj hn h, iter_eq, iter_eq]
  exact adv_congr3 q d ls dl k v j _ _ _ _ hs
end

/-- Whether a point is a head's first. -/
abbrev isFirst (i : grid0.Coords) : Prop := (Scalar.cmpi .ne (Scalar.extui (Scalar.cmpi .eq (BitVec.ofNat 32 (i 1).val) 0#32)) 0#32) = 1#1

end Cert.KernelIdeal.Gen

end
-- ==== Proof.Run_first.lean ====
/- The kernel's body at a point of the grid: what it leaves in the three output blocks. -/
module

public import proofs.«01_k».proof.Proof.Body

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem run_first (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole)
    (hc0 : isFirst i) (hc1 : k0_cond2 i = 1#1)
    (x0 : Vec Ideal S8192x128 .bf16) (x1 x2 : Vec Ideal S512x128 .bf16) (x3 : Vec Ideal S8192x128 .bf16) (x4 x5 d6 : Vec Ideal S8192x128 .f32)
    (E : Set ℕ) (K : PUnit → sProp 𝕄) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (adv x0 x3 x4 x5 x1 x2 (i 1).val (512 * (i 1).val) 8192 ((fun _ => (0 : EReal)), fun _ => (0 : EReal), fun _ => (0 : EReal))).1 ∗ owns (c : Thread nD τ) arg9 fullShare (fun y => (adv x0 x3 x4 x5 x1 x2 (i 1).val (512 * (i 1).val) 8192 ((fun _ => (0 : EReal)), fun _ => (0 : EReal), fun _ => (0 : EReal))).2.1 y * ((Real.log 2 : ℝ) : EReal)) ∗ owns (c : Thread nD τ) arg10 fullShare (adv x0 x3 x4 x5 x1 x2 (i 1).val (512 * (i 1).val) 8192 ((fun _ => (0 : EReal)), fun _ => (0 : EReal), fun _ => (0 : EReal))).2.2 ∗ (∃ d, owns (c : Thread nD τ) arg11 fullShare d) ∗ (∃ d, owns (c : Thread nD τ) arg12 fullShare d)) -∗ K ⟨⟩)) : sProp 𝕄)
    ⊢ wp frame (wpE (defs₀ (F := Ideal)) Variants.none c none) E (cc0_mla_bwd (F := Ideal) i arg2 harg2 arg3 harg3 arg4 harg4 arg5 harg5 arg6 harg6 arg7 harg7 arg8 harg8 arg9 harg9 arg10 harg10 arg11 harg11 arg12 harg12) K := by
  have htr := trips2 i
  simp only [cc0_mla_bwd_eq_skeleton]; unfold cc0_mla_bwd_skel
  simp only [k0_part4_eq_skeleton, k0_part5_eq_skeleton, k0_part6_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  subst hf0 hf1 hf2 hf3 hf4 hf5 hf6
  have hj : (i 1).val < 16 := (i 1).isLt
  have inb1 : ∀ a, k0_off1 i a + S512x128.size a ≤ S8192x128.size a := k0_off1_inb i
  obtain ⟨h01, h11⟩ := off1_at i
  have inb2 : ∀ a, k0_off2 i a + S512x128.size a ≤ S8192x128.size a := k0_off2_inb i hc1
  obtain ⟨h02, h12⟩ := off2_at i
  have hS : (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (512 * (i 1).val + 512 + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((fun _ => (0 : EReal)), fun _ => (0 : EReal), fun _ => (0 : EReal)))) = adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (row0 (i 1).val) ((fun _ => (0 : EReal)), fun _ => (0 : EReal), fun _ => (0 : EReal)) := by
    have hm : (i 1).val % 2 = 0 := (cond2_iff i).1 hc1
    rw [adv_adv _ _ _ _ _ _ _ _ _ _ (by omega) (by omega), show row0 (i 1).val = 512 * (i 1).val + 512 + 512 by unfold row0; omega]
  have hk : k0_pay23 (F := Ideal) (View.ld (View.read (Elt Ideal) arg3.view f1) (Rect.unit (s := S512x128) ![0, 0] S512x128.size inb_S512x128_S512x128_0_0)) = (View.read (Elt Ideal) arg3.view f1) := (pay23_eq _).trans (ld_whole512 _)
  have hv : k0_pay24 (F := Ideal) (View.ld (View.read (Elt Ideal) arg4.view f2) (Rect.unit (s := S512x128) ![0, 0] S512x128.size inb_S512x128_S512x128_0_0)) = (View.read (Elt Ideal) arg4.view f2) := (pay24_eq _).trans (ld_whole512 _)
  sl_exec (disch := first | sl_exact hc0 | sl_exact hc1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    refine (read_itc harg8 _ _ rfl _).trans ?_
    show (iter (View.read (Elt Ideal) arg2.view f0) (View.read (Elt Ideal) arg5.view f3) (View.read (Elt Ideal) arg6.view f4) (View.read (Elt Ideal) arg7.view f5) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (i 1).val _ (k0_t1_loop i).trips).1 = _
    rw [hk, hv]
    refine iter_fin1 (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (512 * (i 1).val + 512 + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((fun _ => (0 : EReal)), fun _ => (0 : EReal), fun _ => (0 : EReal)))) ((fun _ => (0 : EReal)), fun _ => (0 : EReal), fun _ => (0 : EReal)) (k0_t1_loop i).trips hj (trips1 i) hS _ ?_
    refine read_rows512 arg8.view _ (k0_off2 i) _ h02 h12 inb2 _ _ (fun a l hb => ?_) fun x hx => ?_
    · show k0_pay32 (F := Ideal) (k0_pay23 (F := Ideal) (View.ld (View.read (Elt Ideal) arg3.view f1) (Rect.unit (s := S512x128) ![0, 0] S512x128.size inb_S512x128_S512x128_0_0))) (k0_pay5 (F := Ideal) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (View.ld (View.read (Elt Ideal) arg7.view f5) (Rect.unit (s := S8192x128) (k0_off2 i) S512x128.size inb2))) _ (ix2 a l) = _
      rw [pay23_eq, pay24_eq, ld_whole512 (View.read (Elt Ideal) arg3.view f1), ld_whole512 (View.read (Elt Ideal) arg4.view f2)]
      refine stepQ_odd (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((fun _ => (0 : EReal)), fun _ => (0 : EReal), fun _ => (0 : EReal))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (View.ld (View.read (Elt Ideal) arg7.view f5) (Rect.unit (s := S8192x128) (k0_off2 i) S512x128.size inb2)) (ldB_odd (View.read (Elt Ideal) arg2.view f0) _ _ h02 h12 _) (ldB_odd (View.read (Elt Ideal) arg5.view f3) _ _ h02 h12 _) (ldF_odd (View.read (Elt Ideal) arg6.view f4) _ _ h02 h12 _) (ldF_odd (View.read (Elt Ideal) arg7.view f5) _ _ h02 h12 _) (le_refl _) _ (fun a' l' => ?_) a l hb
      have hb' : 512 * (i 1).val + 512 + a'.val < 8192 := below_odd _ _ h02 inb2 a'
      refine (ldF_odd _ _ _ h02 h12 inb2 a' l').trans ?_
      rw [rowN_lt _ _ hb', rowN_lt _ _ hb']
      refine Eq.trans ?_ (stepQ_off_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((fun _ => (0 : EReal)), fun _ => (0 : EReal), fun _ => (0 : EReal)) _ (Or.inr (by show _ ≤ 512 * (i 1).val + 512 + a'.val; omega)))
      refine (View.read_writes_cons_miss_of_axis arg8.view _ _ _ _ 0 (512 * (i 1).val) 512 h01 rfl rfl (Or.inr (by show _ ≤ 512 * (i 1).val + 512 + a'.val; omega))).trans ?_
      exact congrFun ((read_whole8192 arg8.view _ _ _).trans pay20_eq) _
    · refine Eq.trans ?_ (stepQ_off_odd (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((fun _ => (0 : EReal)), fun _ => (0 : EReal), fun _ => (0 : EReal))) x hx)
      revert x;
      intro x _
      refine congrFun (?_ : View.read (Elt Ideal) arg8.view _ = _) x
      refine read_rows512_cons arg8.view _ _ (k0_off1 i) _ h01 h11 inb1 _ _ (fun a l hb => ?_) fun x hx => ?_
      · show k0_pay31 (F := Ideal) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (k0_pay26 (F := Ideal) (View.ld (View.read (Elt Ideal) arg5.view f3) (Rect.unit (s := S8192x128) (k0_off1 i) S512x128.size inb1))) (k0_pay27 (F := Ideal) (View.ld (View.read (Elt Ideal) arg3.view f1) (Rect.unit (s := S512x128) ![0, 0] S512x128.size inb_S512x128_S512x128_0_0)) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) (constant S512x512 .f32 0x00000000#32) (View.ld (View.read (Elt Ideal) arg7.view f5) (Rect.unit (s := S8192x128) (k0_off1 i) S512x128.size inb1)) _ (ix2 a l) = _
        rw [pay23_eq, pay24_eq, pay26_eq, ld_whole512 (View.read (Elt Ideal) arg3.view f1), ld_whole512 (View.read (Elt Ideal) arg4.view f2)]
        exact stepQ_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((fun _ => (0 : EReal)), fun _ => (0 : EReal), fun _ => (0 : EReal)) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (View.ld (View.read (Elt Ideal) arg6.view f4) (Rect.unit (s := S8192x128) (k0_off1 i) S512x128.size inb1)) (View.ld (View.read (Elt Ideal) arg7.view f5) (Rect.unit (s := S8192x128) (k0_off1 i) S512x128.size inb1)) (ldB_odd (View.read (Elt Ideal) arg2.view f0) _ _ h01 h11 _) (ldB_odd (View.read (Elt Ideal) arg5.view f3) _ _ h01 h11 _) (ldF_odd (View.read (Elt Ideal) arg6.view f4) _ _ h01 h11 _) (ldF_odd (View.read (Elt Ideal) arg7.view f5) _ _ h01 h11 _) rfl _ (fun a l => (ldF_odd _ _ _ h01 h11 inb1 a l).trans (congrArg (fun x => rowN (φ := .f32) x _ l) ((read_whole8192 arg8.view _ _ _).trans pay20_eq))) a l hb
      · refine (congrFun ((read_whole8192 arg8.view _ _ _).trans pay20_eq) x).trans ?_; exact stepQ_off_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((fun _ => (0 : EReal)), fun _ => (0 : EReal), fun _ => (0 : EReal)) x hx
  isplitl [H7]
  · iexists _; isplitr; swap; · iexact H7
    ipureintro
    refine (read_whole512 arg9.view _ _ _).trans ?_
    show k0_pay37 (F := Ideal) _ = _
    funext y
    obtain ⟨r, l, rfl⟩ : ∃ (r : Fin 512) (l : Fin 128), y = ix2 r l := ⟨y 0, y 1, by funext b; match b with | 0 => rfl | 1 => rfl⟩
    refine (pay37_at _ r l).trans ?_
    refine congrArg (· * ((Real.log 2 : ℝ) : EReal)) (congrFun (?_ : (_ : Vec Ideal S512x128 .f32) = _) (ix2 r l))
    refine (ld_whole512 _).trans ?_
    refine (read_itc harg11 _ _ rfl _).trans ?_
    show (iter (View.read (Elt Ideal) arg2.view f0) (View.read (Elt Ideal) arg5.view f3) (View.read (Elt Ideal) arg6.view f4) (View.read (Elt Ideal) arg7.view f5) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (i 1).val _ (k0_t1_loop i).trips).2.1 = _
    rw [hk, hv]
    refine iter_fin2 (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (512 * (i 1).val + 512 + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((fun _ => (0 : EReal)), fun _ => (0 : EReal), fun _ => (0 : EReal)))) ((fun _ => (0 : EReal)), fun _ => (0 : EReal), fun _ => (0 : EReal)) (k0_t1_loop i).trips hj (trips1 i) hS _ ?_
    refine (read_whole512 arg11.view _ _ _).trans ?_
    show k0_pay7 (F := Ideal) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (View.ld (View.read (Elt Ideal) arg7.view f5) (Rect.unit (s := S8192x128) (k0_off2 i) S512x128.size inb2)) _ = _
    rw [pay23_eq, pay24_eq, ld_whole512 (View.read (Elt Ideal) arg3.view f1), ld_whole512 (View.read (Elt Ideal) arg4.view f2)]
    refine Eq.trans (congrArg (k0_pay7 (F := Ideal) (View.read (Elt Ideal) arg3.view f1) (View.read (Elt Ideal) arg4.view f2) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (View.ld (View.read (Elt Ideal) arg7.view f5) (Rect.unit (s := S8192x128) (k0_off2 i) S512x128.size inb2))) ?_) (stepK_odd (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((fun _ => (0 : EReal)), fun _ => (0 : EReal), fun _ => (0 : EReal))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (View.ld (View.read (Elt Ideal) arg7.view f5) (Rect.unit (s := S8192x128) (k0_off2 i) S512x128.size inb2)) (ldB_odd (View.read (Elt Ideal) arg2.view f0) _ _ h02 h12 _) (ldB_odd (View.read (Elt Ideal) arg5.view f3) _ _ h02 h12 _) (ldF_odd (View.read (Elt Ideal) arg6.view f4) _ _ h02 h12 _) (ldF_odd (View.read (Elt Ideal) arg7.view f5) _ _ h02 h12 _) (le_refl _))
    refine (ld_whole512 _).trans ?_
    refine (read_whole512 arg11.view _ _ _).trans ?_
    show k0_pay30 (F := Ideal) (k0_pay24 (F := Ideal) (View.ld (View.read (Elt Ideal) arg4.view f2) (Rect.unit (s := S512x128) ![0, 0] S512x128.size inb_S512x128_S512x128_0_0))) (k0_pay25 (F := Ideal) (View.ld (View.read (Elt Ideal) arg2.view f0) (Rect.unit (s := S8192x128) (k0_off1 i) S512x128.size inb1))) (k0_pay26 (F := Ideal) (View.ld (View.read (Elt Ideal) arg5.view f3) (Rect.unit (s := S8192x128) (k0_off1 i) S512x128.size inb1))) (k0_pay27 (F := Ideal) (View.ld (View.read (Elt Ideal) arg3.view f1) (Rect.unit (s := S512x128) ![0, 0] S512x128.size inb_S512x128_S512x128_0_0)) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) (constant S512x512 .f32 0x00000000#32) (View.ld (View.read (Elt Ideal) arg7.view f5) (Rect.unit (s := S8192x128) (k0_off1 i) S512x128.size inb1)) _ = _
    rw [pay24_eq, pay25_eq, pay26_eq, ld_whole512 (View.read (Elt Ideal) arg3.view f1), ld_whole512 (View.read (Elt Ideal) arg4.view f2)]
    refine Eq.trans (congrArg (k0_pay30 (F := Ideal) (View.read (Elt Ideal) arg4.view f2) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (k0_pay27 (F := Ideal) (View.read (Elt Ideal) arg3.view f1) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) (constant S512x512 .f32 0x00000000#32) (View.ld (View.read (Elt Ideal) arg7.view f5) (Rect.unit (s := S8192x128) (k0_off1 i) S512x128.size inb1))) ?_) (stepK_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((fun _ => (0 : EReal)), fun _ => (0 : EReal), fun _ => (0 : EReal)) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (View.ld (View.read (Elt Ideal) arg6.view f4) (Rect.unit (s := S8192x128) (k0_off1 i) S512x128.size inb1)) (View.ld (View.read (Elt Ideal) arg7.view f5) (Rect.unit (s := S8192x128) (k0_off1 i) S512x128.size inb1)) (ldB_odd (View.read (Elt Ideal) arg2.view f0) _ _ h01 h11 _) (ldB_odd (View.read (Elt Ideal) arg5.view f3) _ _ h01 h11 _) (ldF_odd (View.read (Elt Ideal) arg6.view f4) _ _ h01 h11 _) (ldF_odd (View.read (Elt Ideal) arg7.view f5) _ _ h01 h11 _) rfl)
    exact (ld_whole512 _).trans ((read_whole512 arg11.view _ _ _).trans pay21_eq)
  isplitl [H8]
  · iexists _; isplitr; swap; · iexact H8
    ipureintro
    refine (read_whole512 arg10.view _ _ _).trans ?_
    refine (pay1_eq _).trans ?_
    refine (ld_whole512 _).trans ?_
    refine (read_itc harg12 _ _ rfl _).trans ?_
    show (iter (View.read (Elt Ideal) arg2.view f0) (View.read (Elt Ideal) arg5.view f3) (View.read (Elt Ideal) arg6.view f4) (View.read (Elt Ideal) arg7.view f5) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (i 1).val _ (k0_t1_loop i).trips).2.2 = _
    rw [hk, hv]
    refine iter_fin3 (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (512 * (i 1).val + 512 + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((fun _ => (0 : EReal)), fun _ => (0 : EReal), fun _ => (0 : EReal)))) ((fun _ => (0 : EReal)), fun _ => (0 : EReal), fun _ => (0 : EReal)) (k0_t1_loop i).trips hj (trips1 i) hS _ ?_
    refine (read_whole512 arg12.view _ _ _).trans ?_
    show k0_pay6 (F := Ideal) (k0_pay23 (F := Ideal) (View.ld (View.read (Elt Ideal) arg3.view f1) (Rect.unit (s := S512x128) ![0, 0] S512x128.size inb_S512x128_S512x128_0_0))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) _ = _
    rw [pay23_eq, ld_whole512 (View.read (Elt Ideal) arg3.view f1)]
    refine Eq.trans (congrArg (k0_pay6 (F := Ideal) (View.read (Elt Ideal) arg3.view f1) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2))) ?_) (stepV_odd (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((fun _ => (0 : EReal)), fun _ => (0 : EReal), fun _ => (0 : EReal))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (ldB_odd (View.read (Elt Ideal) arg2.view f0) _ _ h02 h12 _) (ldB_odd (View.read (Elt Ideal) arg5.view f3) _ _ h02 h12 _) (ldF_odd (View.read (Elt Ideal) arg6.view f4) _ _ h02 h12 _) (le_refl _))
    refine (ld_whole512 _).trans ?_
    refine (read_whole512 arg12.view _ _ _).trans ?_
    show k0_pay29 (F := Ideal) (k0_pay26 (F := Ideal) (View.ld (View.read (Elt Ideal) arg5.view f3) (Rect.unit (s := S8192x128) (k0_off1 i) S512x128.size inb1))) (k0_pay27 (F := Ideal) (View.ld (View.read (Elt Ideal) arg3.view f1) (Rect.unit (s := S512x128) ![0, 0] S512x128.size inb_S512x128_S512x128_0_0)) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) _ = _
    rw [pay26_eq, ld_whole512 (View.read (Elt Ideal) arg3.view f1)]
    refine Eq.trans (congrArg (k0_pay29 (F := Ideal) (View.ld (View.read (Elt Ideal) arg5.view f3) (Rect.unit (s := S8192x128) (k0_off1 i) S512x128.size inb1)) (k0_pay27 (F := Ideal) (View.read (Elt Ideal) arg3.view f1) (View.ld (View.read (Elt Ideal) arg2.view f0) (Rect.unit (s := S8192x128) (k0_off1 i) S512x128.size inb1)) (View.ld (View.read (Elt Ideal) arg6.view f4) (Rect.unit (s := S8192x128) (k0_off1 i) S512x128.size inb1)))) ?_) (stepV_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((fun _ => (0 : EReal)), fun _ => (0 : EReal), fun _ => (0 : EReal)) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (View.ld (View.read (Elt Ideal) arg6.view f4) (Rect.unit (s := S8192x128) (k0_off1 i) S512x128.size inb1)) (ldB_odd (View.read (Elt Ideal) arg2.view f0) _ _ h01 h11 _) (ldB_odd (View.read (Elt Ideal) arg5.view f3) _ _ h01 h11 _) (ldF_odd (View.read (Elt Ideal) arg6.view f4) _ _ h01 h11 _) rfl)
    exact (ld_whole512 _).trans ((read_whole512 arg12.view _ _ _).trans pay22_eq)
  isplitl [HS0]
  · iexists _; iexists _; isplitr; swap; · iexact HS0
    ipureintro; rfl
  iexists _; iexists _; isplitr; swap; · iexact HS1
  ipureintro; rfl

end Cert.KernelIdeal.Gen

end
-- ==== Proof.Run_even.lean ====
/- The kernel's body at a point of the grid: what it leaves in the three output blocks. -/
module

public import proofs.«01_k».proof.Proof.Body

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem run_even (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole)
    (hc0 : ¬isFirst i) (hc1 : k0_cond2 i = 1#1)
    (x0 : Vec Ideal S8192x128 .bf16) (x1 x2 : Vec Ideal S512x128 .bf16) (x3 : Vec Ideal S8192x128 .bf16) (x4 x5 d6 : Vec Ideal S8192x128 .f32)
    (E : Set ℕ) (K : PUnit → sProp 𝕄) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (adv x0 x3 x4 x5 x1 x2 (i 1).val (512 * (i 1).val) 8192 (d6, fun _ => (0 : EReal), fun _ => (0 : EReal))).1 ∗ owns (c : Thread nD τ) arg9 fullShare (fun y => (adv x0 x3 x4 x5 x1 x2 (i 1).val (512 * (i 1).val) 8192 (d6, fun _ => (0 : EReal), fun _ => (0 : EReal))).2.1 y * ((Real.log 2 : ℝ) : EReal)) ∗ owns (c : Thread nD τ) arg10 fullShare (adv x0 x3 x4 x5 x1 x2 (i 1).val (512 * (i 1).val) 8192 (d6, fun _ => (0 : EReal), fun _ => (0 : EReal))).2.2 ∗ (∃ d, owns (c : Thread nD τ) arg11 fullShare d) ∗ (∃ d, owns (c : Thread nD τ) arg12 fullShare d)) -∗ K ⟨⟩)) : sProp 𝕄)
    ⊢ wp frame (wpE (defs₀ (F := Ideal)) Variants.none c none) E (cc0_mla_bwd (F := Ideal) i arg2 harg2 arg3 harg3 arg4 harg4 arg5 harg5 arg6 harg6 arg7 harg7 arg8 harg8 arg9 harg9 arg10 harg10 arg11 harg11 arg12 harg12) K := by
  have htr := trips2 i
  simp only [cc0_mla_bwd_eq_skeleton]; unfold cc0_mla_bwd_skel
  simp only [k0_part4_eq_skeleton, k0_part5_eq_skeleton, k0_part6_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  subst hf0 hf1 hf2 hf3 hf4 hf5 hf6
  have hj : (i 1).val < 16 := (i 1).isLt
  have inb1 : ∀ a, k0_off1 i a + S512x128.size a ≤ S8192x128.size a := k0_off1_inb i
  obtain ⟨h01, h11⟩ := off1_at i
  have inb2 : ∀ a, k0_off2 i a + S512x128.size a ≤ S8192x128.size a := k0_off2_inb i hc1
  obtain ⟨h02, h12⟩ := off2_at i
  have hS : (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (512 * (i 1).val + 512 + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal)))) = adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (row0 (i 1).val) ((View.read (Elt Ideal) arg8.view f6), fun _ => (0 : EReal), fun _ => (0 : EReal)) := by
    have hm : (i 1).val % 2 = 0 := (cond2_iff i).1 hc1
    rw [adv_adv _ _ _ _ _ _ _ _ _ _ (by omega) (by omega), show row0 (i 1).val = 512 * (i 1).val + 512 + 512 by unfold row0; omega]
  have hk : k0_pay23 (F := Ideal) (View.ld (View.read (Elt Ideal) arg3.view f1) (Rect.unit (s := S512x128) ![0, 0] S512x128.size inb_S512x128_S512x128_0_0)) = (View.read (Elt Ideal) arg3.view f1) := (pay23_eq _).trans (ld_whole512 _)
  have hv : k0_pay24 (F := Ideal) (View.ld (View.read (Elt Ideal) arg4.view f2) (Rect.unit (s := S512x128) ![0, 0] S512x128.size inb_S512x128_S512x128_0_0)) = (View.read (Elt Ideal) arg4.view f2) := (pay24_eq _).trans (ld_whole512 _)
  sl_exec (disch := first | sl_exact hc0 | sl_exact hc1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    refine (read_itc harg8 _ _ rfl _).trans ?_
    show (iter (View.read (Elt Ideal) arg2.view f0) (View.read (Elt Ideal) arg5.view f3) (View.read (Elt Ideal) arg6.view f4) (View.read (Elt Ideal) arg7.view f5) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (i 1).val _ (k0_t1_loop i).trips).1 = _
    rw [hk, hv]
    refine iter_fin1 (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (512 * (i 1).val + 512 + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal)))) ((View.read (Elt Ideal) arg8.view f6), fun _ => (0 : EReal), fun _ => (0 : EReal)) (k0_t1_loop i).trips hj (trips1 i) hS _ ?_
    refine read_rows512 arg8.view _ (k0_off2 i) _ h02 h12 inb2 _ _ (fun a l hb => ?_) fun x hx => ?_
    · show k0_pay32 (F := Ideal) (k0_pay23 (F := Ideal) (View.ld (View.read (Elt Ideal) arg3.view f1) (Rect.unit (s := S512x128) ![0, 0] S512x128.size inb_S512x128_S512x128_0_0))) (k0_pay5 (F := Ideal) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (View.ld (View.read (Elt Ideal) arg7.view f5) (Rect.unit (s := S8192x128) (k0_off2 i) S512x128.size inb2))) _ (ix2 a l) = _
      rw [pay23_eq, pay24_eq, ld_whole512 (View.read (Elt Ideal) arg3.view f1), ld_whole512 (View.read (Elt Ideal) arg4.view f2)]
      refine stepQ_odd (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (View.ld (View.read (Elt Ideal) arg7.view f5) (Rect.unit (s := S8192x128) (k0_off2 i) S512x128.size inb2)) (ldB_odd (View.read (Elt Ideal) arg2.view f0) _ _ h02 h12 _) (ldB_odd (View.read (Elt Ideal) arg5.view f3) _ _ h02 h12 _) (ldF_odd (View.read (Elt Ideal) arg6.view f4) _ _ h02 h12 _) (ldF_odd (View.read (Elt Ideal) arg7.view f5) _ _ h02 h12 _) (le_refl _) _ (fun a' l' => ?_) a l hb
      have hb' : 512 * (i 1).val + 512 + a'.val < 8192 := below_odd _ _ h02 inb2 a'
      refine (ldF_odd (View.read (Elt Ideal) arg8.view f6) _ _ h02 h12 inb2 a' l').trans ?_
      rw [rowN_lt _ _ hb', rowN_lt _ _ hb']
      exact stepQ_off_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((View.read (Elt Ideal) arg8.view f6), fun _ => (0 : EReal), fun _ => (0 : EReal)) _ (Or.inr (by show _ ≤ 512 * (i 1).val + 512 + a'.val; omega))
    · refine Eq.trans ?_ (stepQ_off_odd (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal))) x hx)
      revert x;
      intro x _
      refine congrFun (?_ : View.read (Elt Ideal) arg8.view _ = _) x
      refine read_rows512 arg8.view _ (k0_off1 i) _ h01 h11 inb1 _ _ (fun a l hb => ?_) fun x hx => ?_
      · show k0_pay31 (F := Ideal) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (k0_pay26 (F := Ideal) (View.ld (View.read (Elt Ideal) arg5.view f3) (Rect.unit (s := S8192x128) (k0_off1 i) S512x128.size inb1))) (k0_pay27 (F := Ideal) (View.ld (View.read (Elt Ideal) arg3.view f1) (Rect.unit (s := S512x128) ![0, 0] S512x128.size inb_S512x128_S512x128_0_0)) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) (constant S512x512 .f32 0x00000000#32) (View.ld (View.read (Elt Ideal) arg7.view f5) (Rect.unit (s := S8192x128) (k0_off1 i) S512x128.size inb1)) _ (ix2 a l) = _
        rw [pay23_eq, pay24_eq, pay26_eq, ld_whole512 (View.read (Elt Ideal) arg3.view f1), ld_whole512 (View.read (Elt Ideal) arg4.view f2)]
        exact stepQ_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((View.read (Elt Ideal) arg8.view f6), fun _ => (0 : EReal), fun _ => (0 : EReal)) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (View.ld (View.read (Elt Ideal) arg6.view f4) (Rect.unit (s := S8192x128) (k0_off1 i) S512x128.size inb1)) (View.ld (View.read (Elt Ideal) arg7.view f5) (Rect.unit (s := S8192x128) (k0_off1 i) S512x128.size inb1)) (ldB_odd (View.read (Elt Ideal) arg2.view f0) _ _ h01 h11 _) (ldB_odd (View.read (Elt Ideal) arg5.view f3) _ _ h01 h11 _) (ldF_odd (View.read (Elt Ideal) arg6.view f4) _ _ h01 h11 _) (ldF_odd (View.read (Elt Ideal) arg7.view f5) _ _ h01 h11 _) rfl _ (ldF_odd (View.read (Elt Ideal) arg8.view f6) _ _ h01 h11 inb1) a l hb
      · exact stepQ_off_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((View.read (Elt Ideal) arg8.view f6), fun _ => (0 : EReal), fun _ => (0 : EReal)) x hx
  isplitl [H7]
  · iexists _; isplitr; swap; · iexact H7
    ipureintro
    refine (read_whole512 arg9.view _ _ _).trans ?_
    show k0_pay37 (F := Ideal) _ = _
    funext y
    obtain ⟨r, l, rfl⟩ : ∃ (r : Fin 512) (l : Fin 128), y = ix2 r l := ⟨y 0, y 1, by funext b; match b with | 0 => rfl | 1 => rfl⟩
    refine (pay37_at _ r l).trans ?_
    refine congrArg (· * ((Real.log 2 : ℝ) : EReal)) (congrFun (?_ : (_ : Vec Ideal S512x128 .f32) = _) (ix2 r l))
    refine (ld_whole512 _).trans ?_
    refine (read_itc harg11 _ _ rfl _).trans ?_
    show (iter (View.read (Elt Ideal) arg2.view f0) (View.read (Elt Ideal) arg5.view f3) (View.read (Elt Ideal) arg6.view f4) (View.read (Elt Ideal) arg7.view f5) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (i 1).val _ (k0_t1_loop i).trips).2.1 = _
    rw [hk, hv]
    refine iter_fin2 (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (512 * (i 1).val + 512 + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal)))) ((View.read (Elt Ideal) arg8.view f6), fun _ => (0 : EReal), fun _ => (0 : EReal)) (k0_t1_loop i).trips hj (trips1 i) hS _ ?_
    refine (read_whole512 arg11.view _ _ _).trans ?_
    show k0_pay7 (F := Ideal) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (View.ld (View.read (Elt Ideal) arg7.view f5) (Rect.unit (s := S8192x128) (k0_off2 i) S512x128.size inb2)) _ = _
    rw [pay23_eq, pay24_eq, ld_whole512 (View.read (Elt Ideal) arg3.view f1), ld_whole512 (View.read (Elt Ideal) arg4.view f2)]
    refine Eq.trans (congrArg (k0_pay7 (F := Ideal) (View.read (Elt Ideal) arg3.view f1) (View.read (Elt Ideal) arg4.view f2) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (View.ld (View.read (Elt Ideal) arg7.view f5) (Rect.unit (s := S8192x128) (k0_off2 i) S512x128.size inb2))) ?_) (stepK_odd (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (View.ld (View.read (Elt Ideal) arg7.view f5) (Rect.unit (s := S8192x128) (k0_off2 i) S512x128.size inb2)) (ldB_odd (View.read (Elt Ideal) arg2.view f0) _ _ h02 h12 _) (ldB_odd (View.read (Elt Ideal) arg5.view f3) _ _ h02 h12 _) (ldF_odd (View.read (Elt Ideal) arg6.view f4) _ _ h02 h12 _) (ldF_odd (View.read (Elt Ideal) arg7.view f5) _ _ h02 h12 _) (le_refl _))
    refine (ld_whole512 _).trans ?_
    refine (read_whole512 arg11.view _ _ _).trans ?_
    show k0_pay30 (F := Ideal) (k0_pay24 (F := Ideal) (View.ld (View.read (Elt Ideal) arg4.view f2) (Rect.unit (s := S512x128) ![0, 0] S512x128.size inb_S512x128_S512x128_0_0))) (k0_pay25 (F := Ideal) (View.ld (View.read (Elt Ideal) arg2.view f0) (Rect.unit (s := S8192x128) (k0_off1 i) S512x128.size inb1))) (k0_pay26 (F := Ideal) (View.ld (View.read (Elt Ideal) arg5.view f3) (Rect.unit (s := S8192x128) (k0_off1 i) S512x128.size inb1))) (k0_pay27 (F := Ideal) (View.ld (View.read (Elt Ideal) arg3.view f1) (Rect.unit (s := S512x128) ![0, 0] S512x128.size inb_S512x128_S512x128_0_0)) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) (constant S512x512 .f32 0x00000000#32) (View.ld (View.read (Elt Ideal) arg7.view f5) (Rect.unit (s := S8192x128) (k0_off1 i) S512x128.size inb1)) _ = _
    rw [pay24_eq, pay25_eq, pay26_eq, ld_whole512 (View.read (Elt Ideal) arg3.view f1), ld_whole512 (View.read (Elt Ideal) arg4.view f2)]
    refine Eq.trans (congrArg (k0_pay30 (F := Ideal) (View.read (Elt Ideal) arg4.view f2) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (k0_pay27 (F := Ideal) (View.read (Elt Ideal) arg3.view f1) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) (constant S512x512 .f32 0x00000000#32) (View.ld (View.read (Elt Ideal) arg7.view f5) (Rect.unit (s := S8192x128) (k0_off1 i) S512x128.size inb1))) ?_) (stepK_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((View.read (Elt Ideal) arg8.view f6), fun _ => (0 : EReal), fun _ => (0 : EReal)) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (View.ld (View.read (Elt Ideal) arg6.view f4) (Rect.unit (s := S8192x128) (k0_off1 i) S512x128.size inb1)) (View.ld (View.read (Elt Ideal) arg7.view f5) (Rect.unit (s := S8192x128) (k0_off1 i) S512x128.size inb1)) (ldB_odd (View.read (Elt Ideal) arg2.view f0) _ _ h01 h11 _) (ldB_odd (View.read (Elt Ideal) arg5.view f3) _ _ h01 h11 _) (ldF_odd (View.read (Elt Ideal) arg6.view f4) _ _ h01 h11 _) (ldF_odd (View.read (Elt Ideal) arg7.view f5) _ _ h01 h11 _) rfl)
    exact (ld_whole512 _).trans ((read_whole512 arg11.view _ _ _).trans pay21_eq)
  isplitl [H8]
  · iexists _; isplitr; swap; · iexact H8
    ipureintro
    refine (read_whole512 arg10.view _ _ _).trans ?_
    refine (pay1_eq _).trans ?_
    refine (ld_whole512 _).trans ?_
    refine (read_itc harg12 _ _ rfl _).trans ?_
    show (iter (View.read (Elt Ideal) arg2.view f0) (View.read (Elt Ideal) arg5.view f3) (View.read (Elt Ideal) arg6.view f4) (View.read (Elt Ideal) arg7.view f5) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (i 1).val _ (k0_t1_loop i).trips).2.2 = _
    rw [hk, hv]
    refine iter_fin3 (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (512 * (i 1).val + 512 + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal)))) ((View.read (Elt Ideal) arg8.view f6), fun _ => (0 : EReal), fun _ => (0 : EReal)) (k0_t1_loop i).trips hj (trips1 i) hS _ ?_
    refine (read_whole512 arg12.view _ _ _).trans ?_
    show k0_pay6 (F := Ideal) (k0_pay23 (F := Ideal) (View.ld (View.read (Elt Ideal) arg3.view f1) (Rect.unit (s := S512x128) ![0, 0] S512x128.size inb_S512x128_S512x128_0_0))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) _ = _
    rw [pay23_eq, ld_whole512 (View.read (Elt Ideal) arg3.view f1)]
    refine Eq.trans (congrArg (k0_pay6 (F := Ideal) (View.read (Elt Ideal) arg3.view f1) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2))) ?_) (stepV_odd (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val + 512) (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal))) (View.ld (View.read (Elt Ideal) arg2.view f0) (Rect.unit (s := S8192x128) (k0_off2 i) S512x128.size inb2)) (View.ld (View.read (Elt Ideal) arg5.view f3) (Rect.unit (s := S8192x128) (k0_off2 i) S512x128.size inb2)) (View.ld (View.read (Elt Ideal) arg6.view f4) (Rect.unit (s := S8192x128) (k0_off2 i) S512x128.size inb2)) (ldB_odd (View.read (Elt Ideal) arg2.view f0) _ _ h02 h12 _) (ldB_odd (View.read (Elt Ideal) arg5.view f3) _ _ h02 h12 _) (ldF_odd (View.read (Elt Ideal) arg6.view f4) _ _ h02 h12 _) (le_refl _))
    refine (ld_whole512 _).trans ?_
    refine (read_whole512 arg12.view _ _ _).trans ?_
    show k0_pay29 (F := Ideal) (k0_pay26 (F := Ideal) (View.ld (View.read (Elt Ideal) arg5.view f3) (Rect.unit (s := S8192x128) (k0_off1 i) S512x128.size inb1))) (k0_pay27 (F := Ideal) (View.ld (View.read (Elt Ideal) arg3.view f1) (Rect.unit (s := S512x128) ![0, 0] S512x128.size inb_S512x128_S512x128_0_0)) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) _ = _
    rw [pay26_eq, ld_whole512 (View.read (Elt Ideal) arg3.view f1)]
    refine Eq.trans (congrArg (k0_pay29 (F := Ideal) (View.ld (View.read (Elt Ideal) arg5.view f3) (Rect.unit (s := S8192x128) (k0_off1 i) S512x128.size inb1)) (k0_pay27 (F := Ideal) (View.read (Elt Ideal) arg3.view f1) (View.ld (View.read (Elt Ideal) arg2.view f0) (Rect.unit (s := S8192x128) (k0_off1 i) S512x128.size inb1)) (View.ld (View.read (Elt Ideal) arg6.view f4) (Rect.unit (s := S8192x128) (k0_off1 i) S512x128.size inb1)))) ?_) (stepV_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((View.read (Elt Ideal) arg8.view f6), fun _ => (0 : EReal), fun _ => (0 : EReal)) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (View.ld (View.read (Elt Ideal) arg6.view f4) (Rect.unit (s := S8192x128) (k0_off1 i) S512x128.size inb1)) (ldB_odd (View.read (Elt Ideal) arg2.view f0) _ _ h01 h11 _) (ldB_odd (View.read (Elt Ideal) arg5.view f3) _ _ h01 h11 _) (ldF_odd (View.read (Elt Ideal) arg6.view f4) _ _ h01 h11 _) rfl)
    exact (ld_whole512 _).trans ((read_whole512 arg12.view _ _ _).trans pay22_eq)
  isplitl [HS0]
  · iexists _; iexists _; isplitr; swap; · iexact HS0
    ipureintro; rfl
  iexists _; iexists _; isplitr; swap; · iexact HS1
  ipureintro; rfl

end Cert.KernelIdeal.Gen

end
-- ==== Proof.Run_odd.lean ====
/- The kernel's body at a point of the grid: what it leaves in the three output blocks. -/
module

public import proofs.«01_k».proof.Proof.Body

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem run_odd (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole)
    (hc0 : ¬isFirst i) (hc1 : ¬k0_cond2 i = 1#1)
    (x0 : Vec Ideal S8192x128 .bf16) (x1 x2 : Vec Ideal S512x128 .bf16) (x3 : Vec Ideal S8192x128 .bf16) (x4 x5 d6 : Vec Ideal S8192x128 .f32)
    (E : Set ℕ) (K : PUnit → sProp 𝕄) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (adv x0 x3 x4 x5 x1 x2 (i 1).val (512 * (i 1).val) 8192 (d6, fun _ => (0 : EReal), fun _ => (0 : EReal))).1 ∗ owns (c : Thread nD τ) arg9 fullShare (fun y => (adv x0 x3 x4 x5 x1 x2 (i 1).val (512 * (i 1).val) 8192 (d6, fun _ => (0 : EReal), fun _ => (0 : EReal))).2.1 y * ((Real.log 2 : ℝ) : EReal)) ∗ owns (c : Thread nD τ) arg10 fullShare (adv x0 x3 x4 x5 x1 x2 (i 1).val (512 * (i 1).val) 8192 (d6, fun _ => (0 : EReal), fun _ => (0 : EReal))).2.2 ∗ (∃ d, owns (c : Thread nD τ) arg11 fullShare d) ∗ (∃ d, owns (c : Thread nD τ) arg12 fullShare d)) -∗ K ⟨⟩)) : sProp 𝕄)
    ⊢ wp frame (wpE (defs₀ (F := Ideal)) Variants.none c none) E (cc0_mla_bwd (F := Ideal) i arg2 harg2 arg3 harg3 arg4 harg4 arg5 harg5 arg6 harg6 arg7 harg7 arg8 harg8 arg9 harg9 arg10 harg10 arg11 harg11 arg12 harg12) K := by
  have htr := trips2 i
  simp only [cc0_mla_bwd_eq_skeleton]; unfold cc0_mla_bwd_skel
  simp only [k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  subst hf0 hf1 hf2 hf3 hf4 hf5 hf6
  have hj : (i 1).val < 16 := (i 1).isLt
  have inb1 : ∀ a, k0_off1 i a + S512x128.size a ≤ S8192x128.size a := k0_off1_inb i
  obtain ⟨h01, h11⟩ := off1_at i
  have hS : (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal))) = adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (row0 (i 1).val) ((View.read (Elt Ideal) arg8.view f6), fun _ => (0 : EReal), fun _ => (0 : EReal)) := by
    have hm : (i 1).val % 2 = 1 := by have := (cond2_iff i).not.1 hc1; omega
    rw [show row0 (i 1).val = 512 * (i 1).val + 512 by unfold row0; omega]
  have hk : k0_pay23 (F := Ideal) (View.ld (View.read (Elt Ideal) arg3.view f1) (Rect.unit (s := S512x128) ![0, 0] S512x128.size inb_S512x128_S512x128_0_0)) = (View.read (Elt Ideal) arg3.view f1) := (pay23_eq _).trans (ld_whole512 _)
  have hv : k0_pay24 (F := Ideal) (View.ld (View.read (Elt Ideal) arg4.view f2) (Rect.unit (s := S512x128) ![0, 0] S512x128.size inb_S512x128_S512x128_0_0)) = (View.read (Elt Ideal) arg4.view f2) := (pay24_eq _).trans (ld_whole512 _)
  sl_exec (disch := first | sl_exact hc0 | sl_exact hc1)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    refine (read_itc harg8 _ _ rfl _).trans ?_
    show (iter (View.read (Elt Ideal) arg2.view f0) (View.read (Elt Ideal) arg5.view f3) (View.read (Elt Ideal) arg6.view f4) (View.read (Elt Ideal) arg7.view f5) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (i 1).val _ (k0_t1_loop i).trips).1 = _
    rw [hk, hv]
    refine iter_fin1 (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal))) ((View.read (Elt Ideal) arg8.view f6), fun _ => (0 : EReal), fun _ => (0 : EReal)) (k0_t1_loop i).trips hj (trips1 i) hS _ ?_
    refine read_rows512 arg8.view _ (k0_off1 i) _ h01 h11 inb1 _ _ (fun a l hb => ?_) fun x hx => ?_
    · show k0_pay31 (F := Ideal) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (k0_pay26 (F := Ideal) (View.ld (View.read (Elt Ideal) arg5.view f3) (Rect.unit (s := S8192x128) (k0_off1 i) S512x128.size inb1))) (k0_pay27 (F := Ideal) (View.ld (View.read (Elt Ideal) arg3.view f1) (Rect.unit (s := S512x128) ![0, 0] S512x128.size inb_S512x128_S512x128_0_0)) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) (constant S512x512 .f32 0x00000000#32) (View.ld (View.read (Elt Ideal) arg7.view f5) (Rect.unit (s := S8192x128) (k0_off1 i) S512x128.size inb1)) _ (ix2 a l) = _
      rw [pay23_eq, pay24_eq, pay26_eq, ld_whole512 (View.read (Elt Ideal) arg3.view f1), ld_whole512 (View.read (Elt Ideal) arg4.view f2)]
      exact stepQ_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((View.read (Elt Ideal) arg8.view f6), fun _ => (0 : EReal), fun _ => (0 : EReal)) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (View.ld (View.read (Elt Ideal) arg6.view f4) (Rect.unit (s := S8192x128) (k0_off1 i) S512x128.size inb1)) (View.ld (View.read (Elt Ideal) arg7.view f5) (Rect.unit (s := S8192x128) (k0_off1 i) S512x128.size inb1)) (ldB_odd (View.read (Elt Ideal) arg2.view f0) _ _ h01 h11 _) (ldB_odd (View.read (Elt Ideal) arg5.view f3) _ _ h01 h11 _) (ldF_odd (View.read (Elt Ideal) arg6.view f4) _ _ h01 h11 _) (ldF_odd (View.read (Elt Ideal) arg7.view f5) _ _ h01 h11 _) rfl _ (ldF_odd (View.read (Elt Ideal) arg8.view f6) _ _ h01 h11 inb1) a l hb
    · exact stepQ_off_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((View.read (Elt Ideal) arg8.view f6), fun _ => (0 : EReal), fun _ => (0 : EReal)) x hx
  isplitl [H7]
  · iexists _; isplitr; swap; · iexact H7
    ipureintro
    refine (read_whole512 arg9.view _ _ _).trans ?_
    show k0_pay37 (F := Ideal) _ = _
    funext y
    obtain ⟨r, l, rfl⟩ : ∃ (r : Fin 512) (l : Fin 128), y = ix2 r l := ⟨y 0, y 1, by funext b; match b with | 0 => rfl | 1 => rfl⟩
    refine (pay37_at _ r l).trans ?_
    refine congrArg (· * ((Real.log 2 : ℝ) : EReal)) (congrFun (?_ : (_ : Vec Ideal S512x128 .f32) = _) (ix2 r l))
    refine (ld_whole512 _).trans ?_
    refine (read_itc harg11 _ _ rfl _).trans ?_
    show (iter (View.read (Elt Ideal) arg2.view f0) (View.read (Elt Ideal) arg5.view f3) (View.read (Elt Ideal) arg6.view f4) (View.read (Elt Ideal) arg7.view f5) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (i 1).val _ (k0_t1_loop i).trips).2.1 = _
    rw [hk, hv]
    refine iter_fin2 (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal))) ((View.read (Elt Ideal) arg8.view f6), fun _ => (0 : EReal), fun _ => (0 : EReal)) (k0_t1_loop i).trips hj (trips1 i) hS _ ?_
    refine (read_whole512 arg11.view _ _ _).trans ?_
    show k0_pay30 (F := Ideal) (k0_pay24 (F := Ideal) (View.ld (View.read (Elt Ideal) arg4.view f2) (Rect.unit (s := S512x128) ![0, 0] S512x128.size inb_S512x128_S512x128_0_0))) (k0_pay25 (F := Ideal) (View.ld (View.read (Elt Ideal) arg2.view f0) (Rect.unit (s := S8192x128) (k0_off1 i) S512x128.size inb1))) (k0_pay26 (F := Ideal) (View.ld (View.read (Elt Ideal) arg5.view f3) (Rect.unit (s := S8192x128) (k0_off1 i) S512x128.size inb1))) (k0_pay27 (F := Ideal) (View.ld (View.read (Elt Ideal) arg3.view f1) (Rect.unit (s := S512x128) ![0, 0] S512x128.size inb_S512x128_S512x128_0_0)) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) (constant S512x512 .f32 0x00000000#32) (View.ld (View.read (Elt Ideal) arg7.view f5) (Rect.unit (s := S8192x128) (k0_off1 i) S512x128.size inb1)) _ = _
    rw [pay24_eq, pay25_eq, pay26_eq, ld_whole512 (View.read (Elt Ideal) arg3.view f1), ld_whole512 (View.read (Elt Ideal) arg4.view f2)]
    refine Eq.trans (congrArg (k0_pay30 (F := Ideal) (View.read (Elt Ideal) arg4.view f2) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (k0_pay27 (F := Ideal) (View.read (Elt Ideal) arg3.view f1) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) (constant S512x512 .f32 0x00000000#32) (View.ld (View.read (Elt Ideal) arg7.view f5) (Rect.unit (s := S8192x128) (k0_off1 i) S512x128.size inb1))) ?_) (stepK_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((View.read (Elt Ideal) arg8.view f6), fun _ => (0 : EReal), fun _ => (0 : EReal)) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (View.ld (View.read (Elt Ideal) arg6.view f4) (Rect.unit (s := S8192x128) (k0_off1 i) S512x128.size inb1)) (View.ld (View.read (Elt Ideal) arg7.view f5) (Rect.unit (s := S8192x128) (k0_off1 i) S512x128.size inb1)) (ldB_odd (View.read (Elt Ideal) arg2.view f0) _ _ h01 h11 _) (ldB_odd (View.read (Elt Ideal) arg5.view f3) _ _ h01 h11 _) (ldF_odd (View.read (Elt Ideal) arg6.view f4) _ _ h01 h11 _) (ldF_odd (View.read (Elt Ideal) arg7.view f5) _ _ h01 h11 _) rfl)
    exact (ld_whole512 _).trans ((read_whole512 arg11.view _ _ _).trans pay21_eq)
  isplitl [H8]
  · iexists _; isplitr; swap; · iexact H8
    ipureintro
    refine (read_whole512 arg10.view _ _ _).trans ?_
    refine (pay1_eq _).trans ?_
    refine (ld_whole512 _).trans ?_
    refine (read_itc harg12 _ _ rfl _).trans ?_
    show (iter (View.read (Elt Ideal) arg2.view f0) (View.read (Elt Ideal) arg5.view f3) (View.read (Elt Ideal) arg6.view f4) (View.read (Elt Ideal) arg7.view f5) (k0_pay23 (F := Ideal) (View.ld (View.read (Elt Ideal) arg3.view f1) (Rect.unit (s := S512x128) ![0, 0] S512x128.size inb_S512x128_S512x128_0_0))) (k0_pay24 (F := Ideal) (View.ld (View.read (Elt Ideal) arg4.view f2) (Rect.unit (s := S512x128) ![0, 0] S512x128.size inb_S512x128_S512x128_0_0))) (i 1).val _ (k0_t1_loop i).trips).2.2 = _
    rw [hk, hv]
    refine iter_fin3 (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (adv (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) (512 * (i 1).val + 512) ((View.read (Elt Ideal) arg8.view f6), fun _ => (0 : EReal), fun _ => (0 : EReal))) ((View.read (Elt Ideal) arg8.view f6), fun _ => (0 : EReal), fun _ => (0 : EReal)) (k0_t1_loop i).trips hj (trips1 i) hS _ ?_
    refine (read_whole512 arg12.view _ _ _).trans ?_
    show k0_pay29 (F := Ideal) (k0_pay26 (F := Ideal) (View.ld (View.read (Elt Ideal) arg5.view f3) (Rect.unit (s := S8192x128) (k0_off1 i) S512x128.size inb1))) (k0_pay27 (F := Ideal) (View.ld (View.read (Elt Ideal) arg3.view f1) (Rect.unit (s := S512x128) ![0, 0] S512x128.size inb_S512x128_S512x128_0_0)) (View.ld (View.read (Elt Ideal) arg2.view f0) (Rect.unit (s := S8192x128) (k0_off1 i) S512x128.size inb1)) (View.ld (View.read (Elt Ideal) arg6.view f4) (Rect.unit (s := S8192x128) (k0_off1 i) S512x128.size inb1))) _ = _
    rw [pay26_eq, ld_whole512 (View.read (Elt Ideal) arg3.view f1)]
    refine Eq.trans (congrArg (k0_pay29 (F := Ideal) (View.ld (View.read (Elt Ideal) arg5.view f3) (Rect.unit (s := S8192x128) (k0_off1 i) S512x128.size inb1)) (k0_pay27 (F := Ideal) (View.read (Elt Ideal) arg3.view f1) (View.ld (View.read (Elt Ideal) arg2.view f0) (Rect.unit (s := S8192x128) (k0_off1 i) S512x128.size inb1)) (View.ld (View.read (Elt Ideal) arg6.view f4) (Rect.unit (s := S8192x128) (k0_off1 i) S512x128.size inb1)))) ?_) (stepV_diag (View.read (Elt Ideal) arg2.view f0) (View.read (Elt Ideal) arg5.view f3) (View.read (Elt Ideal) arg6.view f4) (View.read (Elt Ideal) arg7.view f5) (View.read (Elt Ideal) arg3.view f1) (View.read (Elt Ideal) arg4.view f2) (i 1).val (512 * (i 1).val) ((View.read (Elt Ideal) arg8.view f6), fun _ => (0 : EReal), fun _ => (0 : EReal)) (View.ld (View.read (Elt Ideal) arg2.view f0) (Rect.unit (s := S8192x128) (k0_off1 i) S512x128.size inb1)) (View.ld (View.read (Elt Ideal) arg5.view f3) (Rect.unit (s := S8192x128) (k0_off1 i) S512x128.size inb1)) (View.ld (View.read (Elt Ideal) arg6.view f4) (Rect.unit (s := S8192x128) (k0_off1 i) S512x128.size inb1)) (ldB_odd (View.read (Elt Ideal) arg2.view f0) _ _ h01 h11 _) (ldB_odd (View.read (Elt Ideal) arg5.view f3) _ _ h01 h11 _) (ldF_odd (View.read (Elt Ideal) arg6.view f4) _ _ h01 h11 _) rfl)
    exact (ld_whole512 _).trans ((read_whole512 arg12.view _ _ _).trans pay22_eq)
  isplitl [HS0]
  · iexists _; iexists _; isplitr; swap; · iexact HS0
    ipureintro; rfl
  iexists _; iexists _; isplitr; swap; · iexact HS1
  ipureintro; rfl

end Cert.KernelIdeal.Gen

end
-- ==== Proof.Value.lean ====
/- The kernel's run: what the three output arrays' blocks hold after each point of the grid, the body's obligation over
   those contents, and the launch. -/
module

public import proofs.«01_k».proof.Proof.Run_first
public import proofs.«01_k».proof.Proof.Run_even
public import proofs.«01_k».proof.Proof.Run_odd
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-! ## What the blocks hold -/

/-- What a point leaves in the three accumulated arrays when the queries' block held `s`. -/
def left (c : Dev nD) (t : Fin cfg0.N) (s : Vec Ideal S8192x128 .f32) : St :=
  adv (iblk m c 0 t) (iblk m c 3 t) (iblk m c 4 t) (iblk m c 5 t) (iblk m c 1 t) (iblk m c 2 t)
    (grid0.coords t 1).val (512 * (grid0.coords t 1).val) 8192 (s, fun _ => (0 : EReal), fun _ => (0 : EReal))

/-- The queries' block after a point: started at zero at each head's first point and carried to its last. -/
def dqAt (c : Dev nD) : (n : ℕ) → n < cfg0.N → Vec Ideal S8192x128 .f32
  | 0, h => (left m c ⟨0, h⟩ (fun _ => (0 : EReal))).1
  | n + 1, h => (left m c ⟨n + 1, h⟩ (if (n + 1) % 16 = 0 then (fun _ => (0 : EReal)) else dqAt c n (Nat.lt_of_succ_lt h))).1

theorem dqAt_first (c : Dev nD) (t : Fin cfg0.N) (h : t.val % 16 = 0) :
    dqAt m c t.val t.isLt = (left m c t (fun _ => (0 : EReal))).1 := by
  obtain ⟨n, hn⟩ := t
  cases n with
  | zero => rfl
  | succ n =>
    have h' : (n + 1) % 16 = 0 := h
    show (left m c ⟨n + 1, hn⟩ (if (n + 1) % 16 = 0 then (fun _ => (0 : EReal)) else dqAt m c n (Nat.lt_of_succ_lt hn))).1 = _
    rw [if_pos h']

theorem dqAt_next (c : Dev nD) (t : Fin cfg0.N) (h : ¬ t.val % 16 = 0) :
    dqAt m c t.val t.isLt = (left m c t (dqAt m c (t.val - 1) (Nat.lt_of_le_of_lt (Nat.sub_le _ _) t.isLt))).1 := by
  obtain ⟨n, hn⟩ := t
  cases n with
  | zero => exact absurd rfl h
  | succ n =>
    have h' : ¬ (n + 1) % 16 = 0 := h
    show (left m c ⟨n + 1, hn⟩ (if (n + 1) % 16 = 0 then (fun _ => (0 : EReal)) else dqAt m c n (Nat.lt_of_succ_lt hn))).1 = _
    rw [if_neg h']
    rfl

/-- The keys' block after a point. -/
def dkAt (c : Dev nD) (t : Fin cfg0.N) : Vec Ideal S512x128 .f32 := fun y => (left m c t (fun _ => (0 : EReal))).2.1 y * ((Real.log 2 : ℝ) : EReal)

/-- The values' block after a point. -/
def dvAt (c : Dev nD) (t : Fin cfg0.N) : Vec Ideal S512x128 .bf16 := (left m c t (fun _ => (0 : EReal))).2.2

/-! ## The pipeline's proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => dkAt m c t
    | ⟨8, _⟩ => dvAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t.val t.isLt := by dsimp only [dats]
theorem after0_7 (c : Dev nD) (t : Fin cfg0.N) : (dats m 0 c).after 7 t = dkAt m c t := by dsimp only [dats]
theorem after0_8 (c : Dev nD) (t : Fin cfg0.N) : (dats m 0 c).after 8 t = dvAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Within a head the queries' block holds what the point before left in it. -/
theorem before0_6 (c : Dev nD) (t : Fin cfg0.N) (h : ¬ t.val % 16 = 0) (d) :
    (dats m 0 c).before 6 t d = dqAt m c (t.val - 1) (Nat.lt_of_le_of_lt (Nat.sub_le _ _) t.isLt) := by
  have ht : t.val ≠ 0 := fun e => h (by rw [e])
  rw [(dats m 0 c).before_out_kept 6 rfl t ht ?_ (fun _ => rfl) (fun _ _ => rfl) d, after0_6]
  refine Bool.eq_false_iff.mpr fun hf => ?_
  have := (flush0_6 _).1 hf
  simp only at this
  omega

/-! ## The conditions -/

theorem first_iff : ∀ t : Fin cfg0.N, isFirst (grid0.coords t) ↔ t.val % 16 = 0 :=
  (by decide +kernel : ∀ t : Fin grid0.N, isFirst (grid0.coords t) ↔ t.val % 16 = 0)

theorem pair_iff : ∀ t : Fin cfg0.N, k0_cond2 (grid0.coords t) = 1#1 ↔ t.val % 2 = 0 :=
  (by decide +kernel : ∀ t : Fin grid0.N, k0_cond2 (grid0.coords t) = 1#1 ↔ t.val % 2 = 0)

/-! ## The body's obligation -/

abbrev ms0_0 (t : Fin cfg0.N) : Memref sig .tc .vmem S8192x128 .bf16 := win0_0.stage (cfg0.slots t 0)
abbrev ms0_1 (t : Fin cfg0.N) : Memref sig .tc .vmem S512x128 .bf16 := win0_1.stage (cfg0.slots t 1)
abbrev ms0_2 (t : Fin cfg0.N) : Memref sig .tc .vmem S512x128 .bf16 := win0_2.stage (cfg0.slots t 2)
abbrev ms0_3 (t : Fin cfg0.N) : Memref sig .tc .vmem S8192x128 .bf16 := win0_3.stage (cfg0.slots t 3)
abbrev ms0_4 (t : Fin cfg0.N) : Memref sig .tc .vmem S8192x128 .f32 := win0_4.stage (cfg0.slots t 4)
abbrev ms0_5 (t : Fin cfg0.N) : Memref sig .tc .vmem S8192x128 .f32 := win0_5.stage (cfg0.slots t 5)
abbrev ms0_6 (t : Fin cfg0.N) : Memref sig .tc .vmem S8192x128 .f32 := win0_6.stage (cfg0.slots t 6)
abbrev ms0_7 (t : Fin cfg0.N) : Memref sig .tc .vmem S512x128 .f32 := win0_7.stage (cfg0.slots t 7)
abbrev ms0_8 (t : Fin cfg0.N) : Memref sig .tc .vmem S512x128 .bf16 := win0_8.stage (cfg0.slots t 8)
abbrev scM0_0 : Memref sig .tc .vmem S512x128 .f32 := Memref.whole cc0_scratch0
abbrev scM0_1 : Memref sig .tc .vmem S512x128 .f32 := Memref.whole cc0_scratch1

/-- The region's invariant as the two accumulators and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 2400000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  by_cases h0 : t.val % 16 = 0
  · rw [dqAt_first m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ _ _ _ _ ((first_iff t).2 h0) ((pair_iff t).2 (by omega)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [dqAt_next m c t h0]
    simp only [before0_6 m c t h0]
    by_cases h1 : t.val % 2 = 0
    · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_even c (grid0.coords t) _ _ _ _ _ _ _ _ _ _ _ _ _ _ _ _ _ _ _ _ _ _ (fun h => h0 ((first_iff t).1 h)) ((pair_iff t).2 h1) (iblk m c 0 t) (iblk m c 1 t) (iblk m c 2 t) (iblk m c 3 t) (iblk m c 4 t) (iblk m c 5 t) (dqAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_odd c (grid0.coords t) _ _ _ _ _ _ _ _ _ _ _ _ _ _ _ _ _ _ _ _ _ _ (fun h => h0 ((first_iff t).1 h)) (fun h => h1 ((pair_iff t).1 h)) (iblk m c 0 t) (iblk m c 1 t) (iblk m c 2 t) (iblk m c 3 t) (iblk m c 4 t) (iblk m c 5 t) (dqAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, with the arrays as the proof data say and every semaphore back at zero. -/
theorem run_main : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main m ρ))

/-- The arguments end unchanged and the machine at rest. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main m ρ))

/-- The three results, with the arguments unchanged. -/
theorem values : θ_run defs (onTc (τ := τ) (main (F := Ideal))) ⟨m, fun _ => 0, ρ⟩ (fun r => ∀ c : Dev nD,
      r.2.mem ((c.tc : Thread nD τ).loc main_v43_0) = (dats m 0 c).arrAt 6 cfg0.N
      ∧ r.2.mem ((c.tc : Thread nD τ).loc main_v43_1) = (dats m 0 c).arrAt 7 cfg0.N
      ∧ r.2.mem ((c.tc : Thread nD τ).loc main_v43_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).1 6, (h.1.1 c).1 7, (h.1.1 c).1 8, h.2 c⟩)
    (θ_run_and (run_main m ρ) (unchanged m ρ))

end Cert.KernelIdeal.Gen

end
-- ==== Proof.Out.lean ====
/- The kernel's three results when the arguments hold reals. -/
module

public import proofs.«01_k».proof.Proof.Blocks
public import proofs.«01_k».proof.Proof.Value

@[expose] public section

set_option maxRecDepth 16384

noncomputable section

namespace Cert.KernelIdeal.Gen

open Idealize.ShloMosaic Idealize.ShloMosaic.TcCoe
open Cert.Attn
open Cert.ReferenceIdeal.Gen (IsR hd hof lof dQ dK dV)
open scoped BigOperators

theorem idx_6 : ∀ t : Fin cfg0.N, win0_6.index t = ![0, t.val / 16] := (by decide +kernel : ∀ t : Fin grid0.N, _)
theorem idx_7 : ∀ t : Fin cfg0.N, win0_7.index t = ![t.val % 16, t.val / 16] := (by decide +kernel : ∀ t : Fin grid0.N, _)
theorem idx_8 : ∀ t : Fin cfg0.N, win0_8.index t = ![t.val % 16, t.val / 16] := (by decide +kernel : ∀ t : Fin grid0.N, _)

theorem hof_lane (h : Fin 8) (l : Fin 128) : hof (lane h l) = h := lane_head h l
theorem lof_lane (h : Fin 8) (l : Fin 128) : lof (lane h l) = l := by
  apply Fin.ext; show (h.val * 128 + l.val) % 128 = l.val; omega

section
variable (Q K X D : Fin 8192 → Fin 1024 → ℝ) (r : Fin 8192) (h : Fin 8) (l : Fin 128)

theorem dQ_lane : dQ Q K X D r (lane h l) = ∑ x, G (hd Q h) (hd K h) (hd X h) (hd D h) r x * hd K h x l := by
  unfold dQ; rw [hof_lane, lof_lane]
theorem upTo_lane : upTo (hd Q h) (hd K h) (hd X h) (hd D h) (512 * (15 + 1)) r l = dQ Q K X D r (lane h l) := by
  rw [dQ_lane, ← upTo_all]
theorem dK_lane : dK Q K X D r (lane h l) = ∑ x, G (hd Q h) (hd K h) (hd X h) (hd D h) x r * hd Q h x l := by
  unfold dK; rw [hof_lane, lof_lane]
theorem dV_lane : dV Q K D r (lane h l) = ∑ x, W (hd Q h) (hd K h) x r * hd D h x l := by
  unfold dV; rw [hof_lane, lof_lane]
end

section
variable {m : (ℓ : Loc nD τ sig) → Buf (Elt Ideal) ℓ} {c : Dev nD} {Q K X D : Fin 8192 → Fin 1024 → ℝ}
  (hq : IsR (m ((c.tc : Thread nD τ).loc main_arg0)) Q) (hk : IsR (m ((c.tc : Thread nD τ).loc main_arg1)) K)
  (hv : IsR (m ((c.tc : Thread nD τ).loc main_arg2)) X) (hd' : IsR (m ((c.tc : Thread nD τ).loc main_arg3)) D)
include hq hk hv hd'

theorem left_q_at (t : Fin cfg0.N) (s : Vec Ideal S8192x128 .f32) (x : Fin 8192) (l : Fin 128)
    (hs : s (ix2 x l) = ((upTo (hd Q (hpt t)) (hd K (hpt t)) (hd X (hpt t)) (hd D (hpt t)) (512 * (t.val % 16)) x l : ℝ) : EReal)) :
    (left m c t s).1 (ix2 x l) = ((upTo (hd Q (hpt t)) (hd K (hpt t)) (hd X (hpt t)) (hd D (hpt t)) (512 * (t.val % 16 + 1)) x l : ℝ) : EReal) := by
  rw [← coords_1] at hs ⊢
  exact left_q (holds hq hk hv hd' t) s x l hs

/-- The queries' block after a point holds the gradient from the key rows of the tiles so far. -/
theorem dqAt_real (n : ℕ) : ∀ (h : n < cfg0.N) (x : Fin 8192) (l : Fin 128), dqAt m c n h (ix2 x l)
    = ((upTo (hd Q (hpt ⟨n, h⟩)) (hd K (hpt ⟨n, h⟩)) (hd X (hpt ⟨n, h⟩)) (hd D (hpt ⟨n, h⟩)) (512 * (n % 16 + 1)) x l : ℝ) : EReal) := by
  induction n with
  | zero =>
    intro h x l
    rw [dqAt_first m c ⟨0, h⟩ rfl]
    exact left_q_at hq hk hv hd' ⟨0, h⟩ _ x l (by simp [upTo])
  | succ n ih =>
    intro h x l
    by_cases h0 : (n + 1) % 16 = 0
    · rw [dqAt_first m c ⟨n + 1, h⟩ h0]
      exact left_q_at hq hk hv hd' ⟨n + 1, h⟩ _ x l (by
        show (0 : EReal) = _
        rw [show (⟨n + 1, h⟩ : Fin cfg0.N).val % 16 = 0 from h0]; simp [upTo])
    · rw [dqAt_next m c ⟨n + 1, h⟩ h0]
      refine left_q_at hq hk hv hd' ⟨n + 1, h⟩ _ x l ((ih (Nat.lt_of_succ_lt h) x l).trans ?_)
      have e1 : hpt ⟨n, Nat.lt_of_succ_lt h⟩ = hpt ⟨n + 1, h⟩ := by
        apply Fin.ext; show n / 16 = (n + 1) / 16; omega
      have e2 : n % 16 + 1 = (⟨n + 1, h⟩ : Fin cfg0.N).val % 16 := by
        show n % 16 + 1 = (n + 1) % 16; omega
      rw [e1, e2]

theorem out_q : (dats m 0 c).arrAt 6 cfg0.N = fun i => ((dQ Q K X D (i 0) (i 1) : ℝ) : EReal) := by
  refine (dats m 0 c).arrAt_eq_of_covers 6 _ (by decide +kernel) fun t hf y => ?_
  blk_simp
  rw [after0_6]
  have hy : ((win0_6.blk t).view.emb y) = ix2 (y 0) (lane (hpt t) (y 1)) := by
    unfold lane hpt
    blk_ext [idx_6]
  have h15 : t.val % 16 = 15 := (flush0_6 t).1 hf
  have e := dqAt_real hq hk hv hd' t.val t.isLt (y 0) (y 1)
  rw [h15] at e
  rw [hy]
  refine (congrArg (dqAt m c t.val t.isLt) (eq_ix2 y)).trans (e.trans (congrArg _ ?_))
  exact upTo_lane Q K X D (y 0) (hpt t) (y 1)

theorem out_k : (dats m 0 c).arrAt 7 cfg0.N = fun i => ((dK Q K X D (i 0) (i 1) : ℝ) : EReal) := by
  refine (dats m 0 c).arrAt_eq_of_covers 7 _ (by decide +kernel) fun t hf y => ?_
  blk_simp
  rw [after0_7]
  have hy : ((win0_7.blk t).view.emb y) = ix2 (key (grid0.coords t 1).val (tile_lt t) (y 0)) (lane (hpt t) (y 1)) := by
    unfold lane hpt key
    blk_ext [idx_7, coords_1]
  have e := left_k (holds hq hk hv hd' t) (fun _ => (0 : EReal)) (y 0) (y 1)
  rw [hy]
  refine (congrArg (dkAt m c t) (eq_ix2 y)).trans (e.trans (congrArg _ ?_))
  show _ = dK Q K X D (key (grid0.coords t 1).val (tile_lt t) (y 0)) (lane (hpt t) (y 1))
  exact (dK_lane Q K X D _ _ _).symm

theorem out_v : (dats m 0 c).arrAt 8 cfg0.N = fun i => ((dV Q K D (i 0) (i 1) : ℝ) : EReal) := by
  refine (dats m 0 c).arrAt_eq_of_covers 8 _ (by decide +kernel) fun t hf y => ?_
  blk_simp
  rw [after0_8]
  have hy : ((win0_8.blk t).view.emb y) = ix2 (key (grid0.coords t 1).val (tile_lt t) (y 0)) (lane (hpt t) (y 1)) := by
    unfold lane hpt key
    blk_ext [idx_8, coords_1]
  have e := left_v (holds hq hk hv hd' t) (fun _ => (0 : EReal)) (y 0) (y 1)
  rw [hy]
  refine (congrArg (dvAt m c t) (eq_ix2 y)).trans (e.trans (congrArg _ ?_))
  show _ = dV Q K D (key (grid0.coords t 1).val (tile_lt t) (y 0)) (lane (hpt t) (y 1))
  exact (dV_lane Q K D _ _ _).symm

end

end Cert.KernelIdeal.Gen

end
-- ==== Proof.Pre.lean ====
/- What the precondition says: every element of the four arguments is a real. -/
module

public import proofs.«01_k».proof.Defs
public import proofs.«01_k».proof.Proof.Real
public import Idealize.ShloMosaic.Lib.ReduceAll
public import Idealize.ShloMosaic.Lib.Pointwise

@[expose] public section

set_option maxRecDepth 16384

noncomputable section

namespace Cert.Attn

open Idealize.ShloMosaic Idealize.ShloMosaic.TcCoe
open Cert.ReferenceIdeal.Gen (IsR)

/-- The side conditions of the precondition's operations. -/
theorem preFacts : Cert.Pre_finite.Facts where
  bcast_S_S8192x1024 := by decide
  reducesTo_S8192x1024_S_d0_1 := by decide
  h_S_ := by decide
  bcast_S_S1 := by decide
  concatenates_S1_S1_S1_S1_S4_d0 := by decide

/-- An extended real whose absolute value is below plus infinity is a real. -/
theorem real_of_abs {x : EReal} (h : Ideal.cmp .olt (max x (-x)) ⊤ = 1#1) : ∃ r : ℝ, x = (r : EReal) := by
  have hl : max x (-x) < ⊤ := by
    by_contra hn
    unfold Ideal.cmp at h
    simp [hn] at h
  have h1 : x ≠ ⊤ := fun e => by rw [e] at hl; exact absurd hl (by simp)
  have h2 : x ≠ ⊥ := fun e => by rw [e] at hl; exact absurd hl (by simp)
  exact ⟨x.toReal, (EReal.coe_toReal h1 h2).symm⟩

theorem top_bits : Ideal.ofBits .f32 0x7F800000#32 = ⊤ := by simp [Ideal.ofBits, Ideal.ieee]

section
attribute [local instance] preFacts
open Cert.Pre_finite

/-- One argument's test. -/
def test (x : FVec Ideal Cert.Pre_finite.S8192x1024 .f32) : IVec Cert.Pre_finite.S_ 1 :=
  Host.reduce IntOp.andi (cmpf (F := Ideal) (φ := .f32) .olt (Host.absf (F := Ideal) (φ := .f32) x) (broadcastInDim Cert.Pre_finite.S8192x1024 ![] Facts.bcast_S_S8192x1024 (constant (F := Ideal) Cert.Pre_finite.S_ .f32 0x7F800000#32))) (constantI Cert.Pre_finite.S_ 1 1#1) Facts.reducesTo_S8192x1024_S_d0_1 Facts.h_S_

/-- An argument that passes its test holds reals. -/
theorem real_of_test (x : FVec Ideal Cert.Pre_finite.S8192x1024 .f32) (j : Cert.Pre_finite.S_.Idx) (h : test x j = 1#1) :
    ∃ X, IsR x X := by
  haveI : Subsingleton Cert.Pre_finite.S_.Idx := ⟨fun a b => funext fun i => i.elim0⟩
  have e : ∀ i, x i = (((x i).toReal : ℝ) : EReal) := fun i => by
    have hi := Host.reduce_andi_all _ _ _ _ j h i
    obtain ⟨r, hr⟩ := real_of_abs (x := x i) (by rw [← top_bits]; exact hi)
    rw [hr]; rfl
  exact ⟨fun r l => (x (ix2 r l)).toReal, fun r l => e _⟩

/-- Four bits in a row. -/
def row4 (x0 x1 x2 x3 : IVec Cert.Pre_finite.S_ 1) : IVec Cert.Pre_finite.S4 1 :=
  concatenate Cert.Pre_finite.S4 0 [⟨Cert.Pre_finite.S1, broadcastInDim Cert.Pre_finite.S1 ![] Facts.bcast_S_S1 x0⟩, ⟨Cert.Pre_finite.S1, broadcastInDim Cert.Pre_finite.S1 ![] Facts.bcast_S_S1 x1⟩, ⟨Cert.Pre_finite.S1, broadcastInDim Cert.Pre_finite.S1 ![] Facts.bcast_S_S1 x2⟩, ⟨Cert.Pre_finite.S1, broadcastInDim Cert.Pre_finite.S1 ![] Facts.bcast_S_S1 x3⟩] Facts.concatenates_S1_S1_S1_S1_S4_d0

theorem row4_0 (x0 x1 x2 x3 : IVec Cert.Pre_finite.S_ 1) : row4 x0 x1 x2 x3 (ix1 0) = x0 ix0 := by
  pointwise [row4]
theorem row4_1 (x0 x1 x2 x3 : IVec Cert.Pre_finite.S_ 1) : row4 x0 x1 x2 x3 (ix1 1) = x1 ix0 := by
  pointwise [row4]
theorem row4_2 (x0 x1 x2 x3 : IVec Cert.Pre_finite.S_ 1) : row4 x0 x1 x2 x3 (ix1 2) = x2 ix0 := by
  pointwise [row4]
theorem row4_3 (x0 x1 x2 x3 : IVec Cert.Pre_finite.S_ 1) : row4 x0 x1 x2 x3 (ix1 3) = x3 ix0 := by
  pointwise [row4]

/-- Arguments that the precondition takes hold reals. -/
theorem real_of_pre (a b c d : FVec Ideal Cert.Pre_finite.S8192x1024 .f32) (h : Cert.Pre_finite.fn (F := Ideal) a b c d = fun _ => 1#1) :
    (∃ X, IsR a X) ∧ (∃ X, IsR b X) ∧ (∃ X, IsR c X) ∧ (∃ X, IsR d X) := by
  have e : Cert.Pre_finite.fn (F := Ideal) a b c d = row4 (test a) (test b) (test c) (test d) := by
    unfold Cert.Pre_finite.fn Cert.Pre_finite.fn_part1 row4 test
    rfl
  rw [e] at h
  exact ⟨real_of_test a ix0 ((row4_0 _ _ _ _).symm.trans (congrFun h _)), real_of_test b ix0 ((row4_1 _ _ _ _).symm.trans (congrFun h _)),
    real_of_test c ix0 ((row4_2 _ _ _ _).symm.trans (congrFun h _)), real_of_test d ix0 ((row4_3 _ _ _ _).symm.trans (congrFun h _))⟩

end

end Cert.Attn

end
-- ==== Proof.Prod_dx.lean ====
/- The input projection's gradient of its input. -/
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel2Ideal.Gen

open Idealize.ShloMosaic Idealize.ShloMosaic.TcCoe Idealize.SL.Sem
open scoped BigOperators

theorem at_0 : ∀ t : Fin cfg0.N, win0_0.index t = ![t.val / 14, t.val % 14] := (by decide +kernel : ∀ t : Fin grid0.N, _)
theorem at_1 : ∀ t : Fin cfg0.N, win0_1.index t = ![t.val % 14, 0] := (by decide +kernel : ∀ t : Fin grid0.N, _)
theorem at_2 : ∀ t : Fin cfg0.N, win0_2.index t = ![t.val / 14, 0] := (by decide +kernel : ∀ t : Fin grid0.N, _)

/-- The product of two blocks, at an element. -/
def part (a : Vec Ideal S1024x640 .bf16) (b : Vec Ideal S640x1024 .bf16) (y : S1024x1024.Idx) : EReal :=
  ∑ k : Fin 640, a (ix2 (y 0) k) * b (ix2 k (y 1))

theorem zero_block (y : S1024x1024.Idx) : k0_pay1 (F := Ideal) y = (0 : EReal) := by
  pointwise [k0_pay1]

theorem add_block (a : Vec Ideal S1024x640 .bf16) (b : Vec Ideal S640x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 14 = 0) (y : S1024x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 14 = 0) (y : S1024x1024.Idx) :
    (outsAt0 m c t.val t.isLt).2 y = (outsAt0 m c (t.val - 1) (Nat.lt_of_le_of_lt (Nat.sub_le _ _) t.isLt)).2 y
      + part (iblk m c 0 t) (iblk m c 1 t) y := by
  by_cases h1 : t.val % 14 = 13
  · rw [outsAt0_C m c t h h1]
    frame_out
    simp only [read_unread_whole]
    rw [add_block]
  · rw [outsAt0_B m c t h h1]
    frame_out
    simp only [read_unread_whole]
    rw [add_block]

/-- At the last block of a sum the output holds what was summed. -/
theorem out_last (t : Fin cfg0.N) (h1 : t.val % 14 = 13) : (outsAt0 m c t.val t.isLt).1 = (outsAt0 m c t.val t.isLt).2 := by
  rw [outsAt0_C m c t (by omega) h1]
  frame_out

theorem V_left : V m c main_v0 = truncf (F := Ideal) (φ := .f32) .bf16 (m ((c.tc : Thread nD τ).loc main_arg1)) bitsLt_bf16_f32 := by
  after_reads_simp

theorem V_right : V m c main_v2 = transpose S8960x1024 [1, 0]
    (truncf (F := Ideal) (φ := .f32) .bf16 (m ((c.tc : Thread nD τ).loc main_arg0)) bitsLt_bf16_f32) transposes_S1024x8960_S8960x1024_1_0 := by
  after_reads_simp

theorem left_at (r : Fin 8192) (j : Fin 8960) : V m c main_v0 (ix2 r j) = m ((c.tc : Thread nD τ).loc main_arg1) (ix2 r j) := by
  rw [V_left]; rfl

theorem right_at (j : Fin 8960) (i : Fin 1024) : V m c main_v2 (ix2 j i) = m ((c.tc : Thread nD τ).loc main_arg0) (ix2 i j) := by
  rw [V_right]
  pointwise

theorem pt_lt (t : Fin cfg0.N) : t.val < 112 := t.isLt

theorem blk_left (t : Fin cfg0.N) (r : Fin 1024) (k : Fin 640) : iblk m c 0 t (ix2 r k)
    = V m c main_v0 (ix2 (⟨t.val / 14 * 1024 + r.val, by have := pt_lt t; omega⟩ : Fin 8192) (⟨t.val % 14 * 640 + k.val, by omega⟩ : Fin 8960)) := by
  blk_simp [iblk]
  refine congrArg (V m c main_v0) ?_
  blk_ext [at_0]

theorem blk_right (t : Fin cfg0.N) (k : Fin 640) (i : Fin 1024) : iblk m c 1 t (ix2 k i)
    = V m c main_v2 (ix2 (⟨t.val % 14 * 640 + k.val, by omega⟩ : Fin 8960) i) := by
  blk_simp [iblk]
  refine congrArg (V m c main_v2) ?_
  blk_ext [at_1]

theorem left_pt (t : Fin cfg0.N) (s : Fin 14) (r : Fin 1024) (k : Fin 640) (h : 14 * (t.val / 14) + s.val < cfg0.N) :
    iblk m c 0 ⟨14 * (t.val / 14) + s.val, h⟩ (ix2 r k) = m ((c.tc : Thread nD τ).loc main_arg1)
      (ix2 (⟨t.val / 14 * 1024 + r.val, by have := pt_lt t; omega⟩ : Fin 8192) (⟨s.val * 640 + k.val, by omega⟩ : Fin 8960)) := by
  have e1 : (14 * (t.val / 14) + s.val) / 14 = t.val / 14 := by omega
  have e2 : (14 * (t.val / 14) + s.val) % 14 = s.val := by omega
  rw [blk_left, left_at]
  simp only [e1, e2]

theorem right_pt (t : Fin cfg0.N) (s : Fin 14) (k : Fin 640) (i : Fin 1024) (h : 14 * (t.val / 14) + s.val < cfg0.N) :
    iblk m c 1 ⟨14 * (t.val / 14) + s.val, h⟩ (ix2 k i) = m ((c.tc : Thread nD τ).loc main_arg0)
      (ix2 i (⟨s.val * 640 + k.val, by omega⟩ : Fin 8960)) := by
  have e2 : (14 * (t.val / 14) + s.val) % 14 = s.val := by omega
  rw [blk_right, right_at]
  simp only [e2]

/-- The product of the whole arrays, at an element. -/
def whole (x : Vec Ideal S8192x8960 .f32) (w : Vec Ideal S1024x8960 .f32) (i : S8192x1024.Idx) : EReal :=
  ∑ j : Fin 8960, x (ix2 (i 0) j) * w (ix2 (i 1) j)

theorem after_last (t : Fin cfg0.N) (h : t.val % 14 = 13) (y : S1024x1024.Idx) : (outsAt0 m c t.val t.isLt).1 y
    = whole (m ((c.tc : Thread nD τ).loc main_arg1)) (m ((c.tc : Thread nD τ).loc main_arg0))
      (ix2 (⟨t.val / 14 * 1024 + (y 0).val, by have := pt_lt t; have : (y 0).val < 1024 := (y 0).isLt; omega⟩ : Fin 8192) (y 1)) := by
  rw [out_last m c t h, Pipeline.eq_sum_fin_of_reset_step_apply_of_flush (fun n h => (outsAt0 m c n h).2) 14 (fun _ => (0 : EReal))
    (fun t y => part (iblk m c 0 t) (iblk m c 1 t) y) (sum_first m c) (sum_next m c) t h y, zero_add]
  unfold part whole
  refine Fin.sum_mul_add_congr (S := 14) (n := 640) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg1)) (m ((c.tc : Thread nD τ).loc main_arg0)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg1)) (m ((c.tc : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel2Ideal.Value.run_blocks m g)

end

end Cert.Kernel2Ideal.Gen

namespace Cert.Reference2Ideal.Gen

open Idealize.ShloMosaic Idealize.ShloMosaic.TcCoe

theorem ref_whole (x : Vec Ideal S8192x8960 .f32) (w : Vec Ideal S1024x8960 .f32) :
    Host.dotGeneral (F := Ideal) (φ₁ := .f32) (φ₂ := .f32) dot_S8192x8960_S1024x8960_S8192x1024_1_1_0_0_n_n none x w = Cert.Kernel2Ideal.Gen.whole x w := by
  funext i
  unfold Cert.Kernel2Ideal.Gen.whole
  pointwise

end Cert.Reference2Ideal.Gen

end
-- ==== Proof.Prod_dw.lean ====
/- The input projection's gradient of its weight. -/
module

public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel3Ideal.Gen

open Idealize.ShloMosaic Idealize.ShloMosaic.TcCoe Idealize.SL.Sem
open scoped BigOperators

theorem at_0 : ∀ t : Fin cfg0.N, win0_0.index t = ![t.val % 16, 0] := (by decide +kernel : ∀ t : Fin grid0.N, _)
theorem at_1 : ∀ t : Fin cfg0.N, win0_1.index t = ![t.val % 16, t.val / 16] := (by decide +kernel : ∀ t : Fin grid0.N, _)
theorem at_2 : ∀ t : Fin cfg0.N, win0_2.index t = ![0, t.val / 16] := (by decide +kernel : ∀ t : Fin grid0.N, _)

/-- The product of two blocks, at an element. -/
def part (a : Vec Ideal S512x1024 .bf16) (b : Vec Ideal S512x1280 .bf16) (y : S1024x1280.Idx) : EReal :=
  ∑ k : Fin 512, a (ix2 k (y 0)) * b (ix2 k (y 1))

theorem zero_block (y : S1024x1280.Idx) : k0_pay1 (F := Ideal) y = (0 : EReal) := by
  pointwise [k0_pay1]

theorem add_block (a : Vec Ideal S512x1024 .bf16) (b : Vec Ideal S512x1280 .bf16) (s : Vec Ideal S1024x1280 .f32) (y : S1024x1280.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 16 = 0) (y : S1024x1280.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 16 = 0) (y : S1024x1280.Idx) :
    (outsAt0 m c t.val t.isLt).2 y = (outsAt0 m c (t.val - 1) (Nat.lt_of_le_of_lt (Nat.sub_le _ _) t.isLt)).2 y
      + part (iblk m c 0 t) (iblk m c 1 t) y := by
  by_cases h1 : t.val % 16 = 15
  · rw [outsAt0_C m c t h h1]
    frame_out
    simp only [read_unread_whole]
    rw [add_block]
  · rw [outsAt0_B m c t h h1]
    frame_out
    simp only [read_unread_whole]
    rw [add_block]

/-- At the last block of a sum the output holds what was summed. -/
theorem out_last (t : Fin cfg0.N) (h1 : t.val % 16 = 15) : (outsAt0 m c t.val t.isLt).1 = (outsAt0 m c t.val t.isLt).2 := by
  rw [outsAt0_C m c t (by omega) h1]
  frame_out

theorem left_at (r : Fin 8192) (i : Fin 1024) : V m c main_v0 (ix2 r i) = m ((c.tc : Thread nD τ).loc main_arg0) (ix2 r i) := by
  rw [show V m c main_v0 = truncf (F := Ideal) (φ := .f32) .bf16 (m ((c.tc : Thread nD τ).loc main_arg0)) bitsLt_bf16_f32 by after_reads_simp]; rfl

theorem right_at (r : Fin 8192) (j : Fin 8960) : V m c main_v1 (ix2 r j) = m ((c.tc : Thread nD τ).loc main_arg1) (ix2 r j) := by
  rw [show V m c main_v1 = truncf (F := Ideal) (φ := .f32) .bf16 (m ((c.tc : Thread nD τ).loc main_arg1)) bitsLt_bf16_f32 by after_reads_simp]; rfl

theorem pt_lt (t : Fin cfg0.N) : t.val < 112 := t.isLt

theorem blk_left (t : Fin cfg0.N) (k : Fin 512) (i : Fin 1024) : iblk m c 0 t (ix2 k i)
    = V m c main_v0 (ix2 (⟨t.val % 16 * 512 + k.val, by omega⟩ : Fin 8192) i) := by
  blk_simp [iblk]
  refine congrArg (V m c main_v0) ?_
  blk_ext [at_0]

theorem blk_right (t : Fin cfg0.N) (k : Fin 512) (j : Fin 1280) : iblk m c 1 t (ix2 k j)
    = V m c main_v1 (ix2 (⟨t.val % 16 * 512 + k.val, by omega⟩ : Fin 8192) (⟨t.val / 16 * 1280 + j.val, by have := pt_lt t; omega⟩ : Fin 8960)) := by
  blk_simp [iblk]
  refine congrArg (V m c main_v1) ?_
  blk_ext [at_1]

theorem left_pt (t : Fin cfg0.N) (s : Fin 16) (k : Fin 512) (i : Fin 1024) (h : 16 * (t.val / 16) + s.val < cfg0.N) :
    iblk m c 0 ⟨16 * (t.val / 16) + s.val, h⟩ (ix2 k i) = m ((c.tc : Thread nD τ).loc main_arg0)
      (ix2 (⟨s.val * 512 + k.val, by omega⟩ : Fin 8192) i) := by
  have e2 : (16 * (t.val / 16) + s.val) % 16 = s.val := by omega
  rw [blk_left, left_at]
  simp only [e2]

theorem right_pt (t : Fin cfg0.N) (s : Fin 16) (k : Fin 512) (j : Fin 1280) (h : 16 * (t.val / 16) + s.val < cfg0.N) :
    iblk m c 1 ⟨16 * (t.val / 16) + s.val, h⟩ (ix2 k j) = m ((c.tc : Thread nD τ).loc main_arg1)
      (ix2 (⟨s.val * 512 + k.val, by omega⟩ : Fin 8192) (⟨t.val / 16 * 1280 + j.val, by have := pt_lt t; omega⟩ : Fin 8960)) := by
  have e1 : (16 * (t.val / 16) + s.val) / 16 = t.val / 16 := by omega
  have e2 : (16 * (t.val / 16) + s.val) % 16 = s.val := by omega
  rw [blk_right, right_at]
  simp only [e1, e2]

/-- The product of the whole arrays, at an element. -/
def whole (h : Vec Ideal S8192x1024 .f32) (x : Vec Ideal S8192x8960 .f32) (i : S1024x8960.Idx) : EReal :=
  ∑ r : Fin 8192, h (ix2 r (i 0)) * x (ix2 r (i 1))

theorem after_last (t : Fin cfg0.N) (h : t.val % 16 = 15) (y : S1024x1280.Idx) : (outsAt0 m c t.val t.isLt).1 y
    = whole (m ((c.tc : Thread nD τ).loc main_arg0)) (m ((c.tc : Thread nD τ).loc main_arg1))
      (ix2 (y 0) (⟨t.val / 16 * 1280 + (y 1).val, by have := pt_lt t; have : (y 1).val < 1280 := (y 1).isLt; omega⟩ : Fin 8960)) := by
  rw [out_last m c t h, Pipeline.eq_sum_fin_of_reset_step_apply_of_flush (fun n h => (outsAt0 m c n h).2) 16 (fun _ => (0 : EReal))
    (fun t y => part (iblk m c 0 t) (iblk m c 1 t) y) (sum_first m c) (sum_next m c) t h y, zero_add]
  unfold part whole
  refine Fin.sum_mul_add_congr (S := 16) (n := 512) fun s k hl => ?_
  exact congrArg₂ (· * ·) (left_pt m c t s k (y 0) _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel3Ideal.Value.run_blocks m g)

end

end Cert.Kernel3Ideal.Gen

namespace Cert.Reference3Ideal.Gen

open Idealize.ShloMosaic Idealize.ShloMosaic.TcCoe
open scoped BigOperators

theorem ref_whole (h : Vec Ideal S8192x1024 .f32) (x : Vec Ideal S8192x8960 .f32) :
    transpose S1024x8960 [1, 0] (Host.dotGeneral (F := Ideal) (φ₁ := .f32) (φ₂ := .f32) dot_S8192x8960_S8192x1024_S8960x1024_0_0_1_1_n_n none x h)
      transposes_S8960x1024_S1024x8960_1_0 = Cert.Kernel3Ideal.Gen.whole h x := by
  funext i
  unfold Cert.Kernel3Ideal.Gen.whole
  have e : transpose S1024x8960 [1, 0] (Host.dotGeneral (F := Ideal) (φ₁ := .f32) (φ₂ := .f32) dot_S8192x8960_S8192x1024_S8960x1024_0_0_1_1_n_n none x h)
      transposes_S8960x1024_S1024x8960_1_0 i = ∑ r : Fin 8192, x (ix2 r (i 1)) * h (ix2 r (i 0)) := by
    pointwise
  rw [e]
  exact Finset.sum_congr rfl fun r _ => mul_comm _ _

end Cert.Reference3Ideal.Gen

end
-- ==== Proof.Prod_ffn_down_dx.lean ====
/- The FFN's second product: the gradient of its input. -/
module

public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel4Ideal.Gen

open Idealize.ShloMosaic Idealize.ShloMosaic.TcCoe Idealize.SL.Sem
open scoped BigOperators

theorem at_0 : ∀ t : Fin cfg0.N, win0_0.index t = ![t.val / 4, t.val % 2] := (by decide +kernel : ∀ t : Fin grid0.N, _)
theorem at_1 : ∀ t : Fin cfg0.N, win0_1.index t = ![t.val % 2, t.val / 2 % 2] := (by decide +kernel : ∀ t : Fin grid0.N, _)
theorem at_2 : ∀ t : Fin cfg0.N, win0_2.index t = ![t.val / 4, t.val / 2 % 2] := (by decide +kernel : ∀ t : Fin grid0.N, _)

/-- The product of two blocks, at an element. -/
def part (a : Vec Ideal S1024x512 .bf16) (b : Vec Ideal S512x1408 .bf16) (y : S1024x1408.Idx) : EReal :=
  ∑ k : Fin 512, a (ix2 (y 0) k) * b (ix2 k (y 1))

theorem zero_block (y : S1024x1408.Idx) : k0_pay1 (F := Ideal) y = (0 : EReal) := by
  pointwise [k0_pay1]

theorem add_block (a : Vec Ideal S1024x512 .bf16) (b : Vec Ideal S512x1408 .bf16) (s : Vec Ideal S1024x1408 .f32) (y : S1024x1408.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x1408.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x1408.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x1408.Idx) :
    (outsAt0 m c t.val t.isLt).1 y = (outsAt0 m c t.val t.isLt).2 y := by
  rw [outsAt0_B m c t (by omega) h1]
  frame_out

theorem V_left : V m c main_v0 = truncf (F := Ideal) (φ := .f32) .bf16 (m ((c.tc : Thread nD τ).loc main_arg1)) bitsLt_bf16_f32 := by
  after_reads_simp

theorem V_right : V m c main_v2 = transpose S1024x2816 [1, 0] (truncf (F := Ideal) (φ := .f32) .bf16 (m ((c.tc : Thread nD τ).loc main_arg0)) bitsLt_bf16_f32) transposes_S2816x1024_S1024x2816_1_0 := by
  after_reads_simp

theorem left_at (r : Fin 8192) (k : Fin 1024) : V m c main_v0 (ix2 r k) = m ((c.tc : Thread nD τ).loc main_arg1) (ix2 r k) := by
  rw [V_left]; rfl

theorem right_at (k : Fin 1024) (j : Fin 2816) : V m c main_v2 (ix2 k j) = m ((c.tc : Thread nD τ).loc main_arg0) (ix2 j k) := by
  rw [V_right]
  pointwise

theorem pt_lt (t : Fin cfg0.N) : t.val < 32 := t.isLt

theorem blk_left (t : Fin cfg0.N) (r : Fin 1024) (k : Fin 512) : iblk m c 0 t (ix2 r k)
    = V m c main_v0 (ix2 (⟨t.val / 4 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 1408) : iblk m c 1 t (ix2 k j)
    = V m c main_v2 (ix2 (⟨t.val % 2 * 512 + k.val, by omega⟩ : Fin 1024) (⟨t.val / 2 % 2 * 1408 + j.val, by have := pt_lt t; omega⟩ : Fin 2816)) := by
  blk_simp [iblk]
  refine congrArg (V m c main_v2) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg1) (ix2 (⟨t.val / 4 * 1024 + r.val, by have := pt_lt t; omega⟩ : Fin 8192) (⟨s.val * 512 + k.val, by omega⟩ : Fin 1024)) := by
  have e1 : (2 * (t.val / 2) + s.val) / 4 = t.val / 4 := by have := pt_lt t; omega
  have e2 : (2 * (t.val / 2) + s.val) % 2 = s.val := by omega
  rw [blk_left, left_at]
  simp only [e1, e2]

theorem right_pt (t : Fin cfg0.N) (s : Fin 2) (k : Fin 512) (j : Fin 1408) (h : 2 * (t.val / 2) + s.val < cfg0.N) :
    iblk m c 1 ⟨2 * (t.val / 2) + s.val, h⟩ (ix2 k j) = m ((c.tc : Thread nD τ).loc main_arg0) (ix2 (⟨t.val / 2 % 2 * 1408 + j.val, by have := pt_lt t; omega⟩ : Fin 2816) (⟨s.val * 512 + k.val, by omega⟩ : Fin 1024)) := by
  have e1 : (2 * (t.val / 2) + s.val) / 2 % 2 = t.val / 2 % 2 := by have := pt_lt t; omega
  have e2 : (2 * (t.val / 2) + s.val) % 2 = s.val := by omega
  rw [blk_right, right_at]
  simp only [e1, e2]

/-- The product of the whole arrays, at an element. -/
def whole (df : Vec Ideal S8192x1024 .f32) (w : Vec Ideal S2816x1024 .f32) (i : S8192x2816.Idx) : EReal :=
  ∑ k : Fin 1024, df (ix2 (i 0) k) * w (ix2 (i 1) k)

theorem after_last (t : Fin cfg0.N) (h : t.val % 2 = 1) (y : S1024x1408.Idx) : (outsAt0 m c t.val t.isLt).1 y
    = whole (m ((c.tc : Thread nD τ).loc main_arg1)) (m ((c.tc : Thread nD τ).loc main_arg0)) (ix2 (⟨t.val / 4 * 1024 + (y 0).val, by have := pt_lt t; have : (y 0).val < 1024 := (y 0).isLt; omega⟩ : Fin 8192) (⟨t.val / 2 % 2 * 1408 + (y 1).val, by have := pt_lt t; have : (y 1).val < 1408 := (y 1).isLt; omega⟩ : Fin 2816)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg1)) (m ((c.tc : Thread nD τ).loc main_arg0)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg1)) (m ((c.tc : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel4Ideal.Value.run_blocks m g)

end

end Cert.Kernel4Ideal.Gen

namespace Cert.Reference4Ideal.Gen

open Idealize.ShloMosaic Idealize.ShloMosaic.TcCoe
open scoped BigOperators

theorem ref_whole (df : Vec Ideal S8192x1024 .f32) (w : Vec Ideal S2816x1024 .f32) :
    Host.dotGeneral (F := Ideal) (φ₁ := .f32) (φ₂ := .f32) dot_S8192x1024_S2816x1024_S8192x2816_1_1_0_0_n_n none df w = Cert.Kernel4Ideal.Gen.whole df w := by
  funext i
  unfold Cert.Kernel4Ideal.Gen.whole
  pointwise

end Cert.Reference4Ideal.Gen

end
-- ==== Proof.Prod_ffn_down_dw.lean ====
/- The FFN's second product: the gradient of its weight. -/
module

public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel5Ideal.Gen

open Idealize.ShloMosaic Idealize.ShloMosaic.TcCoe Idealize.SL.Sem
open scoped BigOperators

theorem at_0 : ∀ t : Fin cfg0.N, win0_0.index t = ![t.val % 16, t.val / 16] := (by decide +kernel : ∀ t : Fin grid0.N, _)
theorem at_1 : ∀ t : Fin cfg0.N, win0_1.index t = ![t.val % 16, 0] := (by decide +kernel : ∀ t : Fin grid0.N, _)
theorem at_2 : ∀ t : Fin cfg0.N, win0_2.index t = ![t.val / 16, 0] := (by decide +kernel : ∀ t : Fin grid0.N, _)

/-- The product of two blocks, at an element. -/
def part (a : Vec Ideal S512x256 .bf16) (b : Vec Ideal S512x1024 .bf16) (y : S256x1024.Idx) : EReal :=
  ∑ k : Fin 512, a (ix2 k (y 0)) * b (ix2 k (y 1))

theorem zero_block (y : S256x1024.Idx) : k0_pay1 (F := Ideal) y = (0 : EReal) := by
  pointwise [k0_pay1]

theorem add_block (a : Vec Ideal S512x256 .bf16) (b : Vec Ideal S512x1024 .bf16) (s : Vec Ideal S256x1024 .f32) (y : S256x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 16 = 0) (y : S256x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 16 = 0) (y : S256x1024.Idx) :
    (outsAt0 m c t.val t.isLt).2 y = (outsAt0 m c (t.val - 1) (Nat.lt_of_le_of_lt (Nat.sub_le _ _) t.isLt)).2 y
      + part (iblk m c 0 t) (iblk m c 1 t) y := by
  by_cases h1 : t.val % 16 = 15
  · rw [outsAt0_C m c t h h1]
    frame_out
    simp only [read_unread_whole]
    rw [add_block]
  · rw [outsAt0_B m c t h h1]
    frame_out
    simp only [read_unread_whole]
    rw [add_block]

/-- At the last block of a sum the output holds what was summed. -/
theorem out_last (t : Fin cfg0.N) (h1 : t.val % 16 = 15) (y : S256x1024.Idx) :
    (outsAt0 m c t.val t.isLt).1 y = (outsAt0 m c t.val t.isLt).2 y := by
  rw [outsAt0_C m c t (by omega) h1]
  frame_out

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (k : Fin 8192) (r : Fin 2816) : V m c main_v0 (ix2 k r) = m ((c.tc : Thread nD τ).loc main_arg0) (ix2 k r) := by
  rw [V_left]; rfl

theorem right_at (k : Fin 8192) (j : Fin 1024) : V m c main_v1 (ix2 k j) = m ((c.tc : Thread nD τ).loc main_arg1) (ix2 k j) := by
  rw [V_right]
  rfl

theorem pt_lt (t : Fin cfg0.N) : t.val < 176 := t.isLt

theorem blk_left (t : Fin cfg0.N) (k : Fin 512) (r : Fin 256) : iblk m c 0 t (ix2 k r)
    = V m c main_v0 (ix2 (⟨t.val % 16 * 512 + k.val, by omega⟩ : Fin 8192) (⟨t.val / 16 * 256 + r.val, by have := pt_lt t; omega⟩ : Fin 2816)) := by
  blk_simp [iblk]
  refine congrArg (V m c main_v0) ?_
  blk_ext [at_0]

theorem blk_right (t : Fin cfg0.N) (k : Fin 512) (j : Fin 1024) : iblk m c 1 t (ix2 k j)
    = V m c main_v1 (ix2 (⟨t.val % 16 * 512 + k.val, by omega⟩ : Fin 8192) j) := by
  blk_simp [iblk]
  refine congrArg (V m c main_v1) ?_
  blk_ext [at_1]

theorem left_pt (t : Fin cfg0.N) (s : Fin 16) (r : Fin 256) (k : Fin 512) (h : 16 * (t.val / 16) + s.val < cfg0.N) :
    iblk m c 0 ⟨16 * (t.val / 16) + s.val, h⟩ (ix2 k r) = m ((c.tc : Thread nD τ).loc main_arg0) (ix2 (⟨s.val * 512 + k.val, by omega⟩ : Fin 8192) (⟨t.val / 16 * 256 + r.val, by have := pt_lt t; omega⟩ : Fin 2816)) := by
  have e1 : (16 * (t.val / 16) + s.val) / 16 = t.val / 16 := by have := pt_lt t; omega
  have e2 : (16 * (t.val / 16) + s.val) % 16 = s.val := by omega
  rw [blk_left, left_at]
  simp only [e1, e2]

theorem right_pt (t : Fin cfg0.N) (s : Fin 16) (k : Fin 512) (j : Fin 1024) (h : 16 * (t.val / 16) + s.val < cfg0.N) :
    iblk m c 1 ⟨16 * (t.val / 16) + s.val, h⟩ (ix2 k j) = m ((c.tc : Thread nD τ).loc main_arg1) (ix2 (⟨s.val * 512 + k.val, by omega⟩ : Fin 8192) j) := by
  have e2 : (16 * (t.val / 16) + s.val) % 16 = s.val := by omega
  rw [blk_right, right_at]
  simp only [e2]

/-- The product of the whole arrays, at an element. -/
def whole (act : Vec Ideal S8192x2816 .f32) (df : Vec Ideal S8192x1024 .f32) (i : S2816x1024.Idx) : EReal :=
  ∑ k : Fin 8192, act (ix2 k (i 0)) * df (ix2 k (i 1))

theorem after_last (t : Fin cfg0.N) (h : t.val % 16 = 15) (y : S256x1024.Idx) : (outsAt0 m c t.val t.isLt).1 y
    = whole (m ((c.tc : Thread nD τ).loc main_arg0)) (m ((c.tc : Thread nD τ).loc main_arg1)) (ix2 (⟨t.val / 16 * 256 + (y 0).val, by have := pt_lt t; have : (y 0).val < 256 := (y 0).isLt; omega⟩ : Fin 2816) (y 1)) := by
  rw [out_last m c t h y, Pipeline.eq_sum_fin_of_reset_step_apply_of_flush (fun n h => (outsAt0 m c n h).2) 16 (fun _ => (0 : EReal))
    (fun t y => part (iblk m c 0 t) (iblk m c 1 t) y) (sum_first m c) (sum_next m c) t h y, zero_add]
  unfold part whole
  refine Fin.sum_mul_add_congr (S := 16) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel5Ideal.Value.run_blocks m g)

end

end Cert.Kernel5Ideal.Gen

namespace Cert.Reference5Ideal.Gen

open Idealize.ShloMosaic Idealize.ShloMosaic.TcCoe
open scoped BigOperators

theorem ref_whole (act : Vec Ideal S8192x2816 .f32) (df : Vec Ideal S8192x1024 .f32) :
    transpose S2816x1024 [1, 0] (Host.dotGeneral (F := Ideal) (φ₁ := .f32) (φ₂ := .f32) dot_S8192x1024_S8192x2816_S1024x2816_0_0_1_1_n_n none df act) transposes_S1024x2816_S2816x1024_1_0 = Cert.Kernel5Ideal.Gen.whole act df := by
  funext i
  unfold Cert.Kernel5Ideal.Gen.whole
  have e : (transpose S2816x1024 [1, 0] (Host.dotGeneral (F := Ideal) (φ₁ := .f32) (φ₂ := .f32) dot_S8192x1024_S8192x2816_S1024x2816_0_0_1_1_n_n none df act) transposes_S1024x2816_S2816x1024_1_0) i
      = ∑ r : Fin 8192, df (ix2 r (i 1)) * act (ix2 r (i 0)) := by
    pointwise
  rw [e]
  exact Finset.sum_congr rfl fun r _ => mul_comm _ _

end Cert.Reference5Ideal.Gen

end
-- ==== Proof.Prod_ffn_up_dx_gate.lean ====
/- The FFN's first product: the gradient of its input, from the gate half. -/
module

public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel6Ideal.Gen

open Idealize.ShloMosaic Idealize.ShloMosaic.TcCoe Idealize.SL.Sem
open scoped BigOperators

theorem at_0 : ∀ t : Fin cfg0.N, win0_0.index t = ![t.val / 11, t.val % 11] := (by decide +kernel : ∀ t : Fin grid0.N, _)
theorem at_1 : ∀ t : Fin cfg0.N, win0_1.index t = ![t.val % 11, 0] := (by decide +kernel : ∀ t : Fin grid0.N, _)
theorem at_2 : ∀ t : Fin cfg0.N, win0_2.index t = ![t.val / 11, 0] := (by decide +kernel : ∀ t : Fin grid0.N, _)

/-- The product of two blocks, at an element. -/
def part (a : Vec Ideal S1024x256 .bf16) (b : Vec Ideal S256x1024 .bf16) (y : S1024x1024.Idx) : EReal :=
  ∑ k : Fin 256, a (ix2 (y 0) k) * b (ix2 k (y 1))

theorem zero_block (y : S1024x1024.Idx) : k0_pay1 (F := Ideal) y = (0 : EReal) := by
  pointwise [k0_pay1]

theorem add_block (a : Vec Ideal S1024x256 .bf16) (b : Vec Ideal S256x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 11 = 0) (y : S1024x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 11 = 0) (y : S1024x1024.Idx) :
    (outsAt0 m c t.val t.isLt).2 y = (outsAt0 m c (t.val - 1) (Nat.lt_of_le_of_lt (Nat.sub_le _ _) t.isLt)).2 y
      + part (iblk m c 0 t) (iblk m c 1 t) y := by
  by_cases h1 : t.val % 11 = 10
  · rw [outsAt0_C m c t h h1]
    frame_out
    simp only [read_unread_whole]
    rw [add_block]
  · rw [outsAt0_B m c t h h1]
    frame_out
    simp only [read_unread_whole]
    rw [add_block]

/-- At the last block of a sum the output holds what was summed. -/
theorem out_last (t : Fin cfg0.N) (h1 : t.val % 11 = 10) (y : S1024x1024.Idx) :
    (outsAt0 m c t.val t.isLt).1 y = (outsAt0 m c t.val t.isLt).2 y := by
  rw [outsAt0_C m c t (by omega) h1]
  frame_out

theorem V_left : V m c main_v0 = truncf (F := Ideal) (φ := .f32) .bf16 (m ((c.tc : Thread nD τ).loc main_arg1)) bitsLt_bf16_f32 := by
  after_reads_simp

theorem V_right : V m c main_v3 = extractStridedSlice S2816x1024 ![0, 0] (transpose S5632x1024 [1, 0] (truncf (F := Ideal) (φ := .f32) .bf16 (m ((c.tc : Thread nD τ).loc main_arg0)) bitsLt_bf16_f32) transposes_S1024x5632_S5632x1024_1_0) slices_S5632x1024_S2816x1024_0_0 := by
  after_reads_simp

theorem left_at (r : Fin 8192) (k : Fin 2816) : V m c main_v0 (ix2 r k) = m ((c.tc : Thread nD τ).loc main_arg1) (ix2 r k) := by
  rw [V_left]; rfl

theorem right_at (k : Fin 2816) (j : Fin 1024) : V m c main_v3 (ix2 k j) = m ((c.tc : Thread nD τ).loc main_arg0) (ix2 j (⟨0 + k.val, by omega⟩ : Fin 5632)) := by
  rw [V_right]
  pointwise

theorem pt_lt (t : Fin cfg0.N) : t.val < 88 := t.isLt

theorem blk_left (t : Fin cfg0.N) (r : Fin 1024) (k : Fin 256) : iblk m c 0 t (ix2 r k)
    = V m c main_v0 (ix2 (⟨t.val / 11 * 1024 + r.val, by have := pt_lt t; omega⟩ : Fin 8192) (⟨t.val % 11 * 256 + k.val, by omega⟩ : Fin 2816)) := by
  blk_simp [iblk]
  refine congrArg (V m c main_v0) ?_
  blk_ext [at_0]

theorem blk_right (t : Fin cfg0.N) (k : Fin 256) (j : Fin 1024) : iblk m c 1 t (ix2 k j)
    = V m c main_v3 (ix2 (⟨t.val % 11 * 256 + k.val, by omega⟩ : Fin 2816) j) := by
  blk_simp [iblk]
  refine congrArg (V m c main_v3) ?_
  blk_ext [at_1]

theorem left_pt (t : Fin cfg0.N) (s : Fin 11) (r : Fin 1024) (k : Fin 256) (h : 11 * (t.val / 11) + s.val < cfg0.N) :
    iblk m c 0 ⟨11 * (t.val / 11) + s.val, h⟩ (ix2 r k) = m ((c.tc : Thread nD τ).loc main_arg1) (ix2 (⟨t.val / 11 * 1024 + r.val, by have := pt_lt t; omega⟩ : Fin 8192) (⟨s.val * 256 + k.val, by omega⟩ : Fin 2816)) := by
  have e1 : (11 * (t.val / 11) + s.val) / 11 = t.val / 11 := by have := pt_lt t; omega
  have e2 : (11 * (t.val / 11) + s.val) % 11 = s.val := by omega
  rw [blk_left, left_at]
  simp only [e1, e2]

theorem right_pt (t : Fin cfg0.N) (s : Fin 11) (k : Fin 256) (j : Fin 1024) (h : 11 * (t.val / 11) + s.val < cfg0.N) :
    iblk m c 1 ⟨11 * (t.val / 11) + s.val, h⟩ (ix2 k j) = m ((c.tc : Thread nD τ).loc main_arg0) (ix2 j (⟨0 + (s.val * 256 + k.val), by omega⟩ : Fin 5632)) := by
  have e2 : (11 * (t.val / 11) + s.val) % 11 = s.val := by omega
  rw [blk_right, right_at]
  simp only [e2]

/-- The product of the whole arrays, at an element. -/
def whole (du : Vec Ideal S8192x2816 .f32) (w : Vec Ideal S1024x5632 .f32) (i : S8192x1024.Idx) : EReal :=
  ∑ k : Fin 2816, du (ix2 (i 0) k) * w (ix2 (i 1) (⟨0 + k.val, by omega⟩ : Fin 5632))

theorem after_last (t : Fin cfg0.N) (h : t.val % 11 = 10) (y : S1024x1024.Idx) : (outsAt0 m c t.val t.isLt).1 y
    = whole (m ((c.tc : Thread nD τ).loc main_arg1)) (m ((c.tc : Thread nD τ).loc main_arg0)) (ix2 (⟨t.val / 11 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 11 (fun _ => (0 : EReal))
    (fun t y => part (iblk m c 0 t) (iblk m c 1 t) y) (sum_first m c) (sum_next m c) t h y, zero_add]
  unfold part whole
  refine Fin.sum_mul_add_congr (S := 11) (n := 256) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg1)) (m ((c.tc : Thread nD τ).loc main_arg0)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v4) = whole (m ((c.tc : Thread nD τ).loc main_arg1)) (m ((c.tc : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel6Ideal.Value.run_blocks m g)

end

end Cert.Kernel6Ideal.Gen

namespace Cert.Reference6Ideal.Gen

open Idealize.ShloMosaic Idealize.ShloMosaic.TcCoe
open scoped BigOperators

theorem ref_whole (du : Vec Ideal S8192x2816 .f32) (w : Vec Ideal S1024x5632 .f32) :
    Host.dotGeneral (F := Ideal) (φ₁ := .f32) (φ₂ := .f32) dot_S8192x2816_S1024x2816_S8192x1024_1_1_0_0_n_n none du (extractStridedSlice S1024x2816 ![0, 0] w slices_S1024x5632_S1024x2816_0_0) = Cert.Kernel6Ideal.Gen.whole du w := by
  funext i
  unfold Cert.Kernel6Ideal.Gen.whole
  pointwise

end Cert.Reference6Ideal.Gen

end
-- ==== Proof.Prod_ffn_up_dx_val.lean ====
/- The FFN's first product: the gradient of its input, the value half added to a given array. -/
module

public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel7Ideal.Gen

open Idealize.ShloMosaic Idealize.ShloMosaic.TcCoe Idealize.SL.Sem
open scoped BigOperators

theorem at_0 : ∀ t : Fin cfg0.N, win0_0.index t = ![t.val / 11, t.val % 11] := (by decide +kernel : ∀ t : Fin grid0.N, _)
theorem at_1 : ∀ t : Fin cfg0.N, win0_1.index t = ![t.val % 11, 0] := (by decide +kernel : ∀ t : Fin grid0.N, _)
theorem at_2 : ∀ t : Fin cfg0.N, win0_2.index t = ![t.val / 11, 0] := (by decide +kernel : ∀ t : Fin grid0.N, _)
theorem at_3 : ∀ t : Fin cfg0.N, win0_3.index t = ![t.val / 11, 0] := (by decide +kernel : ∀ t : Fin grid0.N, _)

/-- The product of two blocks, at an element. -/
def part (a : Vec Ideal S1024x256 .bf16) (b : Vec Ideal S256x1024 .bf16) (y : S1024x1024.Idx) : EReal :=
  ∑ k : Fin 256, a (ix2 (y 0) k) * b (ix2 k (y 1))

theorem start_block (a : Vec Ideal S1024x1024 .f32) (y : S1024x1024.Idx) : k0_pay1 (F := Ideal) a y = a y := by
  pointwise [k0_pay1]

theorem add_block (a : Vec Ideal S1024x256 .bf16) (b : Vec Ideal S256x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

/-- The given block of a point, at an element. -/
def given (t : Fin cfg0.N) (y : S1024x1024.Idx) : EReal := iblk m c 2 t y

/-- What a point adds: the product of its blocks and, at the first point of a sum, the given block. -/
def term (t : Fin cfg0.N) (y : S1024x1024.Idx) : EReal :=
  (if t.val % 11 = 0 then given m c t y else 0) + part (iblk m c 0 t) (iblk m c 1 t) y

theorem sum_first (t : Fin cfg0.N) (h : t.val % 11 = 0) (y : S1024x1024.Idx) :
    (outsAt0 m c t.val t.isLt).2 y = 0 + term m c t y := by
  rw [outsAt0_A m c t h (by omega)]
  frame_out
  rw [add_block, start_block, term, if_pos h, zero_add]
  rfl

theorem sum_next (t : Fin cfg0.N) (h : ¬ t.val % 11 = 0) (y : S1024x1024.Idx) :
    (outsAt0 m c t.val t.isLt).2 y = (outsAt0 m c (t.val - 1) (Nat.lt_of_le_of_lt (Nat.sub_le _ _) t.isLt)).2 y
      + term m c t y := by
  by_cases h1 : t.val % 11 = 10
  · rw [outsAt0_C m c t h h1]
    frame_out
    simp only [read_unread_whole]
    rw [add_block, term, if_neg h, zero_add]
  · rw [outsAt0_B m c t h h1]
    frame_out
    simp only [read_unread_whole]
    rw [add_block, term, if_neg h, zero_add]

/-- At the last block of a sum the output holds what was summed. -/
theorem out_last (t : Fin cfg0.N) (h1 : t.val % 11 = 10) (y : S1024x1024.Idx) :
    (outsAt0 m c t.val t.isLt).1 y = (outsAt0 m c t.val t.isLt).2 y := by
  rw [outsAt0_C m c t (by omega) h1]
  frame_out

theorem V_left : V m c main_v0 = truncf (F := Ideal) (φ := .f32) .bf16 (m ((c.tc : Thread nD τ).loc main_arg1)) bitsLt_bf16_f32 := by
  after_reads_simp

theorem V_right : V m c main_v3 = extractStridedSlice S2816x1024 ![2816, 0] (transpose S5632x1024 [1, 0] (truncf (F := Ideal) (φ := .f32) .bf16 (m ((c.tc : Thread nD τ).loc main_arg0)) bitsLt_bf16_f32) transposes_S1024x5632_S5632x1024_1_0) slices_S5632x1024_S2816x1024_2816_0 := by
  after_reads_simp

theorem left_at (r : Fin 8192) (k : Fin 2816) : V m c main_v0 (ix2 r k) = m ((c.tc : Thread nD τ).loc main_arg1) (ix2 r k) := by
  rw [V_left]; rfl

theorem right_at (k : Fin 2816) (j : Fin 1024) : V m c main_v3 (ix2 k j) = m ((c.tc : Thread nD τ).loc main_arg0) (ix2 j (⟨2816 + k.val, by omega⟩ : Fin 5632)) := by
  rw [V_right]
  pointwise

theorem pt_lt (t : Fin cfg0.N) : t.val < 88 := t.isLt

theorem blk_left (t : Fin cfg0.N) (r : Fin 1024) (k : Fin 256) : iblk m c 0 t (ix2 r k)
    = V m c main_v0 (ix2 (⟨t.val / 11 * 1024 + r.val, by have := pt_lt t; omega⟩ : Fin 8192) (⟨t.val % 11 * 256 + k.val, by omega⟩ : Fin 2816)) := by
  blk_simp [iblk]
  refine congrArg (V m c main_v0) ?_
  blk_ext [at_0]

theorem blk_right (t : Fin cfg0.N) (k : Fin 256) (j : Fin 1024) : iblk m c 1 t (ix2 k j)
    = V m c main_v3 (ix2 (⟨t.val % 11 * 256 + k.val, by omega⟩ : Fin 2816) j) := by
  blk_simp [iblk]
  refine congrArg (V m c main_v3) ?_
  blk_ext [at_1]

theorem left_pt (t : Fin cfg0.N) (s : Fin 11) (r : Fin 1024) (k : Fin 256) (h : 11 * (t.val / 11) + s.val < cfg0.N) :
    iblk m c 0 ⟨11 * (t.val / 11) + s.val, h⟩ (ix2 r k) = m ((c.tc : Thread nD τ).loc main_arg1) (ix2 (⟨t.val / 11 * 1024 + r.val, by have := pt_lt t; omega⟩ : Fin 8192) (⟨s.val * 256 + k.val, by omega⟩ : Fin 2816)) := by
  have e1 : (11 * (t.val / 11) + s.val) / 11 = t.val / 11 := by have := pt_lt t; omega
  have e2 : (11 * (t.val / 11) + s.val) % 11 = s.val := by omega
  rw [blk_left, left_at]
  simp only [e1, e2]

theorem right_pt (t : Fin cfg0.N) (s : Fin 11) (k : Fin 256) (j : Fin 1024) (h : 11 * (t.val / 11) + s.val < cfg0.N) :
    iblk m c 1 ⟨11 * (t.val / 11) + s.val, h⟩ (ix2 k j) = m ((c.tc : Thread nD τ).loc main_arg0) (ix2 j (⟨2816 + (s.val * 256 + k.val), by omega⟩ : Fin 5632)) := by
  have e2 : (11 * (t.val / 11) + s.val) % 11 = s.val := by omega
  rw [blk_right, right_at]
  simp only [e2]

/-- The product of the whole arrays, at an element. -/
def whole (du : Vec Ideal S8192x2816 .f32) (w : Vec Ideal S1024x5632 .f32) (d : Vec Ideal S8192x1024 .f32) (i : S8192x1024.Idx) : EReal :=
  d i + ∑ k : Fin 2816, du (ix2 (i 0) k) * w (ix2 (i 1) (⟨2816 + k.val, by omega⟩ : Fin 5632))

theorem add_pt (t : Fin cfg0.N) (y : S1024x1024.Idx) (h : 11 * (t.val / 11) < cfg0.N) :
    given m c ⟨11 * (t.val / 11), h⟩ y = m ((c.tc : Thread nD τ).loc main_arg2) (ix2 (⟨t.val / 11 * 1024 + (y 0).val, by have := pt_lt t; have : (y 0).val < 1024 := (y 0).isLt; omega⟩ : Fin 8192) (y 1)) := by
  have e : 11 * (t.val / 11) / 11 = t.val / 11 := by omega
  unfold given
  rw [← V_main_arg2 m c]
  blk_simp [iblk]
  refine congrArg (V m c main_arg2) ?_
  blk_ext [at_2, e]

/-- The given block is added once in a sum. -/
theorem sum_add (t : Fin cfg0.N) (y : S1024x1024.Idx) (h : ∀ s : Fin 11, 11 * (t.val / 11) + s.val < cfg0.N) :
    ∑ s : Fin 11, (if (11 * (t.val / 11) + s.val) % 11 = 0 then given m c ⟨11 * (t.val / 11) + s.val, h s⟩ y else 0)
      = m ((c.tc : Thread nD τ).loc main_arg2) (ix2 (⟨t.val / 11 * 1024 + (y 0).val, by have := pt_lt t; have : (y 0).val < 1024 := (y 0).isLt; omega⟩ : Fin 8192) (y 1)) := by
  rw [Finset.sum_eq_single (0 : Fin 11) (fun s _ hs => if_neg (by have : s.val ≠ 0 := fun e => hs (Fin.ext e); omega))
    (fun hs => absurd (Finset.mem_univ _) hs)]
  rw [if_pos (by simp)]
  exact add_pt m c t y (h 0)

theorem after_last (t : Fin cfg0.N) (h : t.val % 11 = 10) (y : S1024x1024.Idx) : (outsAt0 m c t.val t.isLt).1 y
    = whole (m ((c.tc : Thread nD τ).loc main_arg1)) (m ((c.tc : Thread nD τ).loc main_arg0)) (m ((c.tc : Thread nD τ).loc main_arg2)) (ix2 (⟨t.val / 11 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 11 (fun _ => (0 : EReal))
    (fun t y => term m c t y) (sum_first m c) (sum_next m c) t h y, zero_add]
  unfold term part whole
  rw [Finset.sum_add_distrib]
  refine (congrArg (· + _) (sum_add m c t y fun s => by have := pt_lt t; have := s.isLt; exact (by omega : 11 * (t.val / 11) + s.val < 88))).trans ?_
  refine congrArg _ ?_
  refine Fin.sum_mul_add_congr (S := 11) (n := 256) fun s k hl => ?_
  exact congrArg₂ (· * ·) (left_pt m c t s (y 0) k _) (right_pt m c t s k (y 1) _)

/-- The array after the run. -/
theorem array : (dats m 0 c).arrAt 3 cfg0.N = whole (m ((c.tc : Thread nD τ).loc main_arg1)) (m ((c.tc : Thread nD τ).loc main_arg0)) (m ((c.tc : Thread nD τ).loc main_arg2)) := by
  refine (dats m 0 c).arrAt_eq_of_covers 3 _ (by decide +kernel) fun t hf y => ?_
  blk_simp
  rw [after0_3, after_last m c t ((flush0_3 t).mp hf)]
  refine congrArg _ ?_
  blk_ext [at_3]

theorem run_whole (g : Dev nD → PrngReg) : θ_run defs (onTc (τ := τ) (main (F := Ideal))) ⟨m, fun _ => 0, g⟩ fun r => ∀ c : Dev nD,
      r.2.mem ((c : Thread nD τ).loc main_v4) = whole (m ((c.tc : Thread nD τ).loc main_arg1)) (m ((c.tc : Thread nD τ).loc main_arg0)) (m ((c.tc : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array m c), (h c).2⟩) (Cert.Kernel7Ideal.Value.run_blocks m g)

end

end Cert.Kernel7Ideal.Gen

namespace Cert.Reference7Ideal.Gen

open Idealize.ShloMosaic Idealize.ShloMosaic.TcCoe
open scoped BigOperators

theorem ref_whole (du : Vec Ideal S8192x2816 .f32) (w : Vec Ideal S1024x5632 .f32) (d : Vec Ideal S8192x1024 .f32) :
    addf (F := Ideal) (φ := .f32) d (Host.dotGeneral (F := Ideal) (φ₁ := .f32) (φ₂ := .f32) dot_S8192x2816_S1024x2816_S8192x1024_1_1_0_0_n_n none du (extractStridedSlice S1024x2816 ![0, 2816] w slices_S1024x5632_S1024x2816_0_2816)) = Cert.Kernel7Ideal.Gen.whole du w d := by
  funext i
  unfold Cert.Kernel7Ideal.Gen.whole
  pointwise

end Cert.Reference7Ideal.Gen

end
-- ==== Proof.Prod_ffn_up_dw_gate.lean ====
/- The FFN's first product: the gradient of one half of its weight. -/
module

public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel8Ideal.Gen

open Idealize.ShloMosaic Idealize.ShloMosaic.TcCoe Idealize.SL.Sem
open scoped BigOperators

theorem at_0 : ∀ t : Fin cfg0.N, win0_0.index t = ![t.val % 16, 0] := (by decide +kernel : ∀ t : Fin grid0.N, _)
theorem at_1 : ∀ t : Fin cfg0.N, win0_1.index t = ![t.val % 16, t.val / 16] := (by decide +kernel : ∀ t : Fin grid0.N, _)
theorem at_2 : ∀ t : Fin cfg0.N, win0_2.index t = ![0, t.val / 16] := (by decide +kernel : ∀ t : Fin grid0.N, _)

/-- The product of two blocks, at an element. -/
def part (a : Vec Ideal S512x1024 .bf16) (b : Vec Ideal S512x1408 .bf16) (y : S1024x1408.Idx) : EReal :=
  ∑ k : Fin 512, a (ix2 k (y 0)) * b (ix2 k (y 1))

theorem zero_block (y : S1024x1408.Idx) : k0_pay1 (F := Ideal) y = (0 : EReal) := by
  pointwise [k0_pay1]

theorem add_block (a : Vec Ideal S512x1024 .bf16) (b : Vec Ideal S512x1408 .bf16) (s : Vec Ideal S1024x1408 .f32) (y : S1024x1408.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 16 = 0) (y : S1024x1408.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 16 = 0) (y : S1024x1408.Idx) :
    (outsAt0 m c t.val t.isLt).2 y = (outsAt0 m c (t.val - 1) (Nat.lt_of_le_of_lt (Nat.sub_le _ _) t.isLt)).2 y
      + part (iblk m c 0 t) (iblk m c 1 t) y := by
  by_cases h1 : t.val % 16 = 15
  · rw [outsAt0_C m c t h h1]
    frame_out
    simp only [read_unread_whole]
    rw [add_block]
  · rw [outsAt0_B m c t h h1]
    frame_out
    simp only [read_unread_whole]
    rw [add_block]

/-- At the last block of a sum the output holds what was summed. -/
theorem out_last (t : Fin cfg0.N) (h1 : t.val % 16 = 15) (y : S1024x1408.Idx) :
    (outsAt0 m c t.val t.isLt).1 y = (outsAt0 m c t.val t.isLt).2 y := by
  rw [outsAt0_C m c t (by omega) h1]
  frame_out

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (k : Fin 8192) (r : Fin 1024) : V m c main_v0 (ix2 k r) = m ((c.tc : Thread nD τ).loc main_arg0) (ix2 k r) := by
  rw [V_left]; rfl

theorem right_at (k : Fin 8192) (j : Fin 2816) : V m c main_v1 (ix2 k j) = m ((c.tc : Thread nD τ).loc main_arg1) (ix2 k j) := by
  rw [V_right]
  rfl

theorem pt_lt (t : Fin cfg0.N) : t.val < 32 := t.isLt

theorem blk_left (t : Fin cfg0.N) (k : Fin 512) (r : Fin 1024) : iblk m c 0 t (ix2 k r)
    = V m c main_v0 (ix2 (⟨t.val % 16 * 512 + k.val, by omega⟩ : Fin 8192) r) := by
  blk_simp [iblk]
  refine congrArg (V m c main_v0) ?_
  blk_ext [at_0]

theorem blk_right (t : Fin cfg0.N) (k : Fin 512) (j : Fin 1408) : iblk m c 1 t (ix2 k j)
    = V m c main_v1 (ix2 (⟨t.val % 16 * 512 + k.val, by omega⟩ : Fin 8192) (⟨t.val / 16 * 1408 + j.val, by have := pt_lt t; omega⟩ : Fin 2816)) := by
  blk_simp [iblk]
  refine congrArg (V m c main_v1) ?_
  blk_ext [at_1]

theorem left_pt (t : Fin cfg0.N) (s : Fin 16) (r : Fin 1024) (k : Fin 512) (h : 16 * (t.val / 16) + s.val < cfg0.N) :
    iblk m c 0 ⟨16 * (t.val / 16) + s.val, h⟩ (ix2 k r) = m ((c.tc : Thread nD τ).loc main_arg0) (ix2 (⟨s.val * 512 + k.val, by omega⟩ : Fin 8192) r) := by
  have e2 : (16 * (t.val / 16) + s.val) % 16 = s.val := by omega
  rw [blk_left, left_at]
  simp only [e2]

theorem right_pt (t : Fin cfg0.N) (s : Fin 16) (k : Fin 512) (j : Fin 1408) (h : 16 * (t.val / 16) + s.val < cfg0.N) :
    iblk m c 1 ⟨16 * (t.val / 16) + s.val, h⟩ (ix2 k j) = m ((c.tc : Thread nD τ).loc main_arg1) (ix2 (⟨s.val * 512 + k.val, by omega⟩ : Fin 8192) (⟨t.val / 16 * 1408 + j.val, by have := pt_lt t; omega⟩ : Fin 2816)) := by
  have e1 : (16 * (t.val / 16) + s.val) / 16 = t.val / 16 := by have := pt_lt t; omega
  have e2 : (16 * (t.val / 16) + s.val) % 16 = s.val := by omega
  rw [blk_right, right_at]
  simp only [e1, e2]

/-- The product of the whole arrays, at an element. -/
def whole (h : Vec Ideal S8192x1024 .f32) (du : Vec Ideal S8192x2816 .f32) (i : S1024x2816.Idx) : EReal :=
  ∑ k : Fin 8192, h (ix2 k (i 0)) * du (ix2 k (i 1))

theorem after_last (t : Fin cfg0.N) (h : t.val % 16 = 15) (y : S1024x1408.Idx) : (outsAt0 m c t.val t.isLt).1 y
    = whole (m ((c.tc : Thread nD τ).loc main_arg0)) (m ((c.tc : Thread nD τ).loc main_arg1)) (ix2 (y 0) (⟨t.val / 16 * 1408 + (y 1).val, by have := pt_lt t; have : (y 1).val < 1408 := (y 1).isLt; omega⟩ : Fin 2816)) := by
  rw [out_last m c t h y, Pipeline.eq_sum_fin_of_reset_step_apply_of_flush (fun n h => (outsAt0 m c n h).2) 16 (fun _ => (0 : EReal))
    (fun t y => part (iblk m c 0 t) (iblk m c 1 t) y) (sum_first m c) (sum_next m c) t h y, zero_add]
  unfold part whole
  refine Fin.sum_mul_add_congr (S := 16) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel8Ideal.Value.run_blocks m g)

end

end Cert.Kernel8Ideal.Gen

namespace Cert.Reference8Ideal.Gen

open Idealize.ShloMosaic Idealize.ShloMosaic.TcCoe
open scoped BigOperators

theorem ref_whole (h : Vec Ideal S8192x1024 .f32) (du : Vec Ideal S8192x2816 .f32) :
    transpose S1024x2816 [1, 0] (Host.dotGeneral (F := Ideal) (φ₁ := .f32) (φ₂ := .f32) dot_S8192x2816_S8192x1024_S2816x1024_0_0_1_1_n_n none du h) transposes_S2816x1024_S1024x2816_1_0 = Cert.Kernel8Ideal.Gen.whole h du := by
  funext i
  unfold Cert.Kernel8Ideal.Gen.whole
  have e : (transpose S1024x2816 [1, 0] (Host.dotGeneral (F := Ideal) (φ₁ := .f32) (φ₂ := .f32) dot_S8192x2816_S8192x1024_S2816x1024_0_0_1_1_n_n none du h) transposes_S2816x1024_S1024x2816_1_0) i
      = ∑ r : Fin 8192, du (ix2 r (i 1)) * h (ix2 r (i 0)) := by
    pointwise
  rw [e]
  exact Finset.sum_congr rfl fun r _ => mul_comm _ _

end Cert.Reference8Ideal.Gen

end
-- ==== Proof.Prod_ffn_up.lean ====
/- The FFN's first product. -/
module

public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel9Ideal.Gen

open Idealize.ShloMosaic Idealize.ShloMosaic.TcCoe Idealize.SL.Sem
open scoped BigOperators

theorem at_0 : ∀ t : Fin cfg0.N, win0_0.index t = ![t.val / 8, t.val % 2] := (by decide +kernel : ∀ t : Fin grid0.N, _)
theorem at_1 : ∀ t : Fin cfg0.N, win0_1.index t = ![t.val % 2, t.val / 2 % 4] := (by decide +kernel : ∀ t : Fin grid0.N, _)
theorem at_2 : ∀ t : Fin cfg0.N, win0_2.index t = ![t.val / 8, t.val / 2 % 4] := (by decide +kernel : ∀ t : Fin grid0.N, _)

/-- The product of two blocks, at an element. -/
def part (a : Vec Ideal S1024x512 .bf16) (b : Vec Ideal S512x1408 .bf16) (y : S1024x1408.Idx) : EReal :=
  ∑ k : Fin 512, a (ix2 (y 0) k) * b (ix2 k (y 1))

theorem zero_block (y : S1024x1408.Idx) : k0_pay1 (F := Ideal) y = (0 : EReal) := by
  pointwise [k0_pay1]

theorem add_block (a : Vec Ideal S1024x512 .bf16) (b : Vec Ideal S512x1408 .bf16) (s : Vec Ideal S1024x1408 .f32) (y : S1024x1408.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x1408.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x1408.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x1408.Idx) :
    (outsAt0 m c t.val t.isLt).1 y = (outsAt0 m c t.val t.isLt).2 y := by
  rw [outsAt0_B m c t (by omega) h1]
  frame_out

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (r : Fin 8192) (k : Fin 1024) : V m c main_v0 (ix2 r k) = m ((c.tc : Thread nD τ).loc main_arg0) (ix2 r k) := by
  rw [V_left]; rfl

theorem right_at (k : Fin 1024) (j : Fin 5632) : V m c main_v1 (ix2 k j) = m ((c.tc : Thread nD τ).loc main_arg1) (ix2 k j) := by
  rw [V_right]
  rfl

theorem pt_lt (t : Fin cfg0.N) : t.val < 64 := t.isLt

theorem blk_left (t : Fin cfg0.N) (r : Fin 1024) (k : Fin 512) : iblk m c 0 t (ix2 r k)
    = V m c main_v0 (ix2 (⟨t.val / 8 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 1408) : iblk m c 1 t (ix2 k j)
    = V m c main_v1 (ix2 (⟨t.val % 2 * 512 + k.val, by omega⟩ : Fin 1024) (⟨t.val / 2 % 4 * 1408 + j.val, by have := pt_lt t; omega⟩ : Fin 5632)) := by
  blk_simp [iblk]
  refine congrArg (V m c main_v1) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg0) (ix2 (⟨t.val / 8 * 1024 + r.val, by have := pt_lt t; omega⟩ : Fin 8192) (⟨s.val * 512 + k.val, by omega⟩ : Fin 1024)) := by
  have e1 : (2 * (t.val / 2) + s.val) / 8 = t.val / 8 := by have := pt_lt t; omega
  have e2 : (2 * (t.val / 2) + s.val) % 2 = s.val := by omega
  rw [blk_left, left_at]
  simp only [e1, e2]

theorem right_pt (t : Fin cfg0.N) (s : Fin 2) (k : Fin 512) (j : Fin 1408) (h : 2 * (t.val / 2) + s.val < cfg0.N) :
    iblk m c 1 ⟨2 * (t.val / 2) + s.val, h⟩ (ix2 k j) = m ((c.tc : Thread nD τ).loc main_arg1) (ix2 (⟨s.val * 512 + k.val, by omega⟩ : Fin 1024) (⟨t.val / 2 % 4 * 1408 + j.val, by have := pt_lt t; omega⟩ : Fin 5632)) := by
  have e1 : (2 * (t.val / 2) + s.val) / 2 % 4 = t.val / 2 % 4 := by have := pt_lt t; omega
  have e2 : (2 * (t.val / 2) + s.val) % 2 = s.val := by omega
  rw [blk_right, right_at]
  simp only [e1, e2]

/-- The product of the whole arrays, at an element. -/
def whole (h : Vec Ideal S8192x1024 .f32) (w : Vec Ideal S1024x5632 .f32) (i : S8192x5632.Idx) : EReal :=
  ∑ k : Fin 1024, h (ix2 (i 0) k) * w (ix2 k (i 1))

theorem after_last (t : Fin cfg0.N) (h : t.val % 2 = 1) (y : S1024x1408.Idx) : (outsAt0 m c t.val t.isLt).1 y
    = whole (m ((c.tc : Thread nD τ).loc main_arg0)) (m ((c.tc : Thread nD τ).loc main_arg1)) (ix2 (⟨t.val / 8 * 1024 + (y 0).val, by have := pt_lt t; have : (y 0).val < 1024 := (y 0).isLt; omega⟩ : Fin 8192) (⟨t.val / 2 % 4 * 1408 + (y 1).val, by have := pt_lt t; have : (y 1).val < 1408 := (y 1).isLt; omega⟩ : Fin 5632)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel9Ideal.Value.run_blocks m g)

end

end Cert.Kernel9Ideal.Gen

namespace Cert.Reference9Ideal.Gen

open Idealize.ShloMosaic Idealize.ShloMosaic.TcCoe
open scoped BigOperators

theorem ref_whole (h : Vec Ideal S8192x1024 .f32) (w : Vec Ideal S1024x5632 .f32) :
    Host.dotGeneral (F := Ideal) (φ₁ := .f32) (φ₂ := .f32) dot_S8192x1024_S1024x5632_S8192x5632_1_0_0_1_n_n none h w = Cert.Kernel9Ideal.Gen.whole h w := by
  funext i
  unfold Cert.Kernel9Ideal.Gen.whole
  pointwise

end Cert.Reference9Ideal.Gen

end
-- ==== Proof.Prod_ffn_down.lean ====
/- The FFN's second product. -/
module

public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel10Ideal.Gen

open Idealize.ShloMosaic Idealize.ShloMosaic.TcCoe Idealize.SL.Sem
open scoped BigOperators

theorem at_0 : ∀ t : Fin cfg0.N, win0_0.index t = ![t.val / 11, t.val % 11] := (by decide +kernel : ∀ t : Fin grid0.N, _)
theorem at_1 : ∀ t : Fin cfg0.N, win0_1.index t = ![t.val % 11, 0] := (by decide +kernel : ∀ t : Fin grid0.N, _)
theorem at_2 : ∀ t : Fin cfg0.N, win0_2.index t = ![t.val / 11, 0] := (by decide +kernel : ∀ t : Fin grid0.N, _)

/-- The product of two blocks, at an element. -/
def part (a : Vec Ideal S1024x256 .bf16) (b : Vec Ideal S256x1024 .bf16) (y : S1024x1024.Idx) : EReal :=
  ∑ k : Fin 256, a (ix2 (y 0) k) * b (ix2 k (y 1))

theorem zero_block (y : S1024x1024.Idx) : k0_pay1 (F := Ideal) y = (0 : EReal) := by
  pointwise [k0_pay1]

theorem add_block (a : Vec Ideal S1024x256 .bf16) (b : Vec Ideal S256x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 11 = 0) (y : S1024x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 11 = 0) (y : S1024x1024.Idx) :
    (outsAt0 m c t.val t.isLt).2 y = (outsAt0 m c (t.val - 1) (Nat.lt_of_le_of_lt (Nat.sub_le _ _) t.isLt)).2 y
      + part (iblk m c 0 t) (iblk m c 1 t) y := by
  by_cases h1 : t.val % 11 = 10
  · rw [outsAt0_C m c t h h1]
    frame_out
    simp only [read_unread_whole]
    rw [add_block]
  · rw [outsAt0_B m c t h h1]
    frame_out
    simp only [read_unread_whole]
    rw [add_block]

/-- At the last block of a sum the output holds what was summed. -/
theorem out_last (t : Fin cfg0.N) (h1 : t.val % 11 = 10) (y : S1024x1024.Idx) :
    (outsAt0 m c t.val t.isLt).1 y = (outsAt0 m c t.val t.isLt).2 y := by
  rw [outsAt0_C m c t (by omega) h1]
  frame_out

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (r : Fin 8192) (k : Fin 2816) : V m c main_v0 (ix2 r k) = m ((c.tc : Thread nD τ).loc main_arg0) (ix2 r k) := by
  rw [V_left]; rfl

theorem right_at (k : Fin 2816) (j : Fin 1024) : V m c main_v1 (ix2 k j) = m ((c.tc : Thread nD τ).loc main_arg1) (ix2 k j) := by
  rw [V_right]
  rfl

theorem pt_lt (t : Fin cfg0.N) : t.val < 88 := t.isLt

theorem blk_left (t : Fin cfg0.N) (r : Fin 1024) (k : Fin 256) : iblk m c 0 t (ix2 r k)
    = V m c main_v0 (ix2 (⟨t.val / 11 * 1024 + r.val, by have := pt_lt t; omega⟩ : Fin 8192) (⟨t.val % 11 * 256 + k.val, by omega⟩ : Fin 2816)) := by
  blk_simp [iblk]
  refine congrArg (V m c main_v0) ?_
  blk_ext [at_0]

theorem blk_right (t : Fin cfg0.N) (k : Fin 256) (j : Fin 1024) : iblk m c 1 t (ix2 k j)
    = V m c main_v1 (ix2 (⟨t.val % 11 * 256 + k.val, by omega⟩ : Fin 2816) j) := by
  blk_simp [iblk]
  refine congrArg (V m c main_v1) ?_
  blk_ext [at_1]

theorem left_pt (t : Fin cfg0.N) (s : Fin 11) (r : Fin 1024) (k : Fin 256) (h : 11 * (t.val / 11) + s.val < cfg0.N) :
    iblk m c 0 ⟨11 * (t.val / 11) + s.val, h⟩ (ix2 r k) = m ((c.tc : Thread nD τ).loc main_arg0) (ix2 (⟨t.val / 11 * 1024 + r.val, by have := pt_lt t; omega⟩ : Fin 8192) (⟨s.val * 256 + k.val, by omega⟩ : Fin 2816)) := by
  have e1 : (11 * (t.val / 11) + s.val) / 11 = t.val / 11 := by have := pt_lt t; omega
  have e2 : (11 * (t.val / 11) + s.val) % 11 = s.val := by omega
  rw [blk_left, left_at]
  simp only [e1, e2]

theorem right_pt (t : Fin cfg0.N) (s : Fin 11) (k : Fin 256) (j : Fin 1024) (h : 11 * (t.val / 11) + s.val < cfg0.N) :
    iblk m c 1 ⟨11 * (t.val / 11) + s.val, h⟩ (ix2 k j) = m ((c.tc : Thread nD τ).loc main_arg1) (ix2 (⟨s.val * 256 + k.val, by omega⟩ : Fin 2816) j) := by
  have e2 : (11 * (t.val / 11) + s.val) % 11 = s.val := by omega
  rw [blk_right, right_at]
  simp only [e2]

/-- The product of the whole arrays, at an element. -/
def whole (act : Vec Ideal S8192x2816 .f32) (w : Vec Ideal S2816x1024 .f32) (i : S8192x1024.Idx) : EReal :=
  ∑ k : Fin 2816, act (ix2 (i 0) k) * w (ix2 k (i 1))

theorem after_last (t : Fin cfg0.N) (h : t.val % 11 = 10) (y : S1024x1024.Idx) : (outsAt0 m c t.val t.isLt).1 y
    = whole (m ((c.tc : Thread nD τ).loc main_arg0)) (m ((c.tc : Thread nD τ).loc main_arg1)) (ix2 (⟨t.val / 11 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 11 (fun _ => (0 : EReal))
    (fun t y => part (iblk m c 0 t) (iblk m c 1 t) y) (sum_first m c) (sum_next m c) t h y, zero_add]
  unfold part whole
  refine Fin.sum_mul_add_congr (S := 11) (n := 256) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel10Ideal.Value.run_blocks m g)

end

end Cert.Kernel10Ideal.Gen

namespace Cert.Reference10Ideal.Gen

open Idealize.ShloMosaic Idealize.ShloMosaic.TcCoe
open scoped BigOperators

theorem ref_whole (act : Vec Ideal S8192x2816 .f32) (w : Vec Ideal S2816x1024 .f32) :
    Host.dotGeneral (F := Ideal) (φ₁ := .f32) (φ₂ := .f32) dot_S8192x2816_S2816x1024_S8192x1024_1_0_0_1_n_n none act w = Cert.Kernel10Ideal.Gen.whole act w := by
  funext i
  unfold Cert.Kernel10Ideal.Gen.whole
  pointwise

end Cert.Reference10Ideal.Gen

end
-- ==== Proof.Prod_proj_a.lean ====
/- The input projection: the first 768 columns. -/
module

public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel11Ideal.Gen

open Idealize.ShloMosaic Idealize.ShloMosaic.TcCoe Idealize.SL.Sem
open scoped BigOperators

theorem at_0 : ∀ t : Fin cfg0.N, win0_0.index t = ![t.val / 2, t.val % 2] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, 0] := (by decide +kernel : ∀ t : Fin grid0.N, _)

/-- The product of two blocks, at an element. -/
def part (a : Vec Ideal S1024x512 .bf16) (b : Vec Ideal S512x768 .bf16) (y : S1024x768.Idx) : EReal :=
  ∑ k : Fin 512, a (ix2 (y 0) k) * b (ix2 k (y 1))

theorem zero_block (y : S1024x768.Idx) : k0_pay1 (F := Ideal) y = (0 : EReal) := by
  pointwise [k0_pay1]

theorem add_block (a : Vec Ideal S1024x512 .bf16) (b : Vec Ideal S512x768 .bf16) (s : Vec Ideal S1024x768 .f32) (y : S1024x768.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x768.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x768.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x768.Idx) :
    (outsAt0 m c t.val t.isLt).1 y = (outsAt0 m c t.val t.isLt).2 y := by
  rw [outsAt0_B m c t (by omega) h1]
  frame_out

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (r : Fin 8192) (k : Fin 1024) : V m c main_v0 (ix2 r k) = m ((c.tc : Thread nD τ).loc main_arg0) (ix2 r k) := by
  rw [V_left]; rfl

theorem right_at (k : Fin 1024) (j : Fin 768) : V m c main_v1 (ix2 k j) = m ((c.tc : Thread nD τ).loc main_arg1) (ix2 k j) := by
  rw [V_right]
  rfl

theorem pt_lt (t : Fin cfg0.N) : t.val < 16 := t.isLt

theorem blk_left (t : Fin cfg0.N) (r : Fin 1024) (k : Fin 512) : iblk m c 0 t (ix2 r k)
    = V m c main_v0 (ix2 (⟨t.val / 2 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 768) : iblk m c 1 t (ix2 k j)
    = V m c main_v1 (ix2 (⟨t.val % 2 * 512 + k.val, by omega⟩ : Fin 1024) j) := by
  blk_simp [iblk]
  refine congrArg (V m c main_v1) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg0) (ix2 (⟨t.val / 2 * 1024 + r.val, by have := pt_lt t; omega⟩ : Fin 8192) (⟨s.val * 512 + k.val, by omega⟩ : Fin 1024)) := by
  have e1 : (2 * (t.val / 2) + s.val) / 2 = t.val / 2 := by have := pt_lt t; omega
  have e2 : (2 * (t.val / 2) + s.val) % 2 = s.val := by omega
  rw [blk_left, left_at]
  simp only [e1, e2]

theorem right_pt (t : Fin cfg0.N) (s : Fin 2) (k : Fin 512) (j : Fin 768) (h : 2 * (t.val / 2) + s.val < cfg0.N) :
    iblk m c 1 ⟨2 * (t.val / 2) + s.val, h⟩ (ix2 k j) = m ((c.tc : Thread nD τ).loc main_arg1) (ix2 (⟨s.val * 512 + k.val, by omega⟩ : Fin 1024) j) := by
  have e2 : (2 * (t.val / 2) + s.val) % 2 = s.val := by omega
  rw [blk_right, right_at]
  simp only [e2]

/-- The product of the whole arrays, at an element. -/
def whole (h : Vec Ideal S8192x1024 .f32) (w : Vec Ideal S1024x768 .f32) (i : S8192x768.Idx) : EReal :=
  ∑ k : Fin 1024, h (ix2 (i 0) k) * w (ix2 k (i 1))

theorem after_last (t : Fin cfg0.N) (h : t.val % 2 = 1) (y : S1024x768.Idx) : (outsAt0 m c t.val t.isLt).1 y
    = whole (m ((c.tc : Thread nD τ).loc main_arg0)) (m ((c.tc : Thread nD τ).loc main_arg1)) (ix2 (⟨t.val / 2 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel11Ideal.Value.run_blocks m g)

end

end Cert.Kernel11Ideal.Gen

namespace Cert.Reference11Ideal.Gen

open Idealize.ShloMosaic Idealize.ShloMosaic.TcCoe
open scoped BigOperators

theorem ref_whole (h : Vec Ideal S8192x1024 .f32) (w : Vec Ideal S1024x768 .f32) :
    Host.dotGeneral (F := Ideal) (φ₁ := .f32) (φ₂ := .f32) dot_S8192x1024_S1024x768_S8192x768_1_0_0_1_n_n none h w = Cert.Kernel11Ideal.Gen.whole h w := by
  funext i
  unfold Cert.Kernel11Ideal.Gen.whole
  pointwise

end Cert.Reference11Ideal.Gen

end
-- ==== Proof.Prod_proj_dm.lean ====
/- The input projection: the columns of the dilated and memory attention. -/
module

public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel12Ideal.Gen

open Idealize.ShloMosaic Idealize.ShloMosaic.TcCoe Idealize.SL.Sem
open scoped BigOperators

theorem at_0 : ∀ t : Fin cfg0.N, win0_0.index t = ![t.val / 8, t.val % 2] := (by decide +kernel : ∀ t : Fin grid0.N, _)
theorem at_1 : ∀ t : Fin cfg0.N, win0_1.index t = ![t.val % 2, t.val / 2 % 4] := (by decide +kernel : ∀ t : Fin grid0.N, _)
theorem at_2 : ∀ t : Fin cfg0.N, win0_2.index t = ![t.val / 8, t.val / 2 % 4] := (by decide +kernel : ∀ t : Fin grid0.N, _)

/-- The product of two blocks, at an element. -/
def part (a : Vec Ideal S1024x512 .bf16) (b : Vec Ideal S512x1280 .bf16) (y : S1024x1280.Idx) : EReal :=
  ∑ k : Fin 512, a (ix2 (y 0) k) * b (ix2 k (y 1))

theorem zero_block (y : S1024x1280.Idx) : k0_pay1 (F := Ideal) y = (0 : EReal) := by
  pointwise [k0_pay1]

theorem add_block (a : Vec Ideal S1024x512 .bf16) (b : Vec Ideal S512x1280 .bf16) (s : Vec Ideal S1024x1280 .f32) (y : S1024x1280.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x1280.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x1280.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x1280.Idx) :
    (outsAt0 m c t.val t.isLt).1 y = (outsAt0 m c t.val t.isLt).2 y := by
  rw [outsAt0_B m c t (by omega) h1]
  frame_out
  rfl

theorem V_left : V m c main_v0 = truncf (F := Ideal) (φ := .f32) .bf16 (m ((c.tc : Thread nD τ).loc main_arg0)) bitsLt_bf16_f32 := by
  after_reads_simp

theorem V_right : V m c main_v2 = truncf (F := Ideal) (φ := .f32) .bf16 (extractStridedSlice S1024x5120 ![0, 672] (m ((c.tc : Thread nD τ).loc main_arg1)) slices_S1024x8864_S1024x5120_0_672) bitsLt_bf16_f32 := by
  after_reads_simp

theorem left_at (r : Fin 8192) (k : Fin 1024) : V m c main_v0 (ix2 r k) = m ((c.tc : Thread nD τ).loc main_arg0) (ix2 r k) := by
  rw [V_left]; rfl

theorem right_at (k : Fin 1024) (j : Fin 5120) : V m c main_v2 (ix2 k j) = m ((c.tc : Thread nD τ).loc main_arg1) (ix2 k (⟨672 + j.val, by have : j.val < 5120 := (j).isLt; omega⟩ : Fin 8864)) := by
  rw [V_right]
  pointwise

theorem pt_lt (t : Fin cfg0.N) : t.val < 64 := t.isLt

theorem blk_left (t : Fin cfg0.N) (r : Fin 1024) (k : Fin 512) : iblk m c 0 t (ix2 r k)
    = V m c main_v0 (ix2 (⟨t.val / 8 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 1280) : iblk m c 1 t (ix2 k j)
    = V m c main_v2 (ix2 (⟨t.val % 2 * 512 + k.val, by omega⟩ : Fin 1024) (⟨t.val / 2 % 4 * 1280 + j.val, by have := pt_lt t; omega⟩ : Fin 5120)) := by
  blk_simp [iblk]
  refine congrArg (V m c main_v2) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg0) (ix2 (⟨t.val / 8 * 1024 + r.val, by have := pt_lt t; omega⟩ : Fin 8192) (⟨s.val * 512 + k.val, by omega⟩ : Fin 1024)) := by
  have e1 : (2 * (t.val / 2) + s.val) / 8 = t.val / 8 := by have := pt_lt t; omega
  have e2 : (2 * (t.val / 2) + s.val) % 2 = s.val := by omega
  rw [blk_left, left_at]
  simp only [e1, e2]

theorem right_pt (t : Fin cfg0.N) (s : Fin 2) (k : Fin 512) (j : Fin 1280) (h : 2 * (t.val / 2) + s.val < cfg0.N) :
    iblk m c 1 ⟨2 * (t.val / 2) + s.val, h⟩ (ix2 k j) = m ((c.tc : Thread nD τ).loc main_arg1) (ix2 (⟨s.val * 512 + k.val, by omega⟩ : Fin 1024) (⟨672 + (t.val / 2 % 4 * 1280 + j.val), by have : (t.val / 2 % 4 * 1280 + j.val) < 5120 := ((⟨t.val / 2 % 4 * 1280 + j.val, by have := pt_lt t; omega⟩ : Fin 5120)).isLt; omega⟩ : Fin 8864)) := by
  have e1 : (2 * (t.val / 2) + s.val) / 2 % 4 = t.val / 2 % 4 := by have := pt_lt t; omega
  have e2 : (2 * (t.val / 2) + s.val) % 2 = s.val := by omega
  rw [blk_right, right_at]
  simp only [e1, e2]

/-- The product of the whole arrays, at an element. -/
def whole (h : Vec Ideal S8192x1024 .f32) (w : Vec Ideal S1024x8864 .f32) (i : S8192x5120.Idx) : EReal :=
  ∑ k : Fin 1024, h (ix2 (i 0) k) * w (ix2 k (⟨672 + (i 1).val, by have : (i 1).val < 5120 := (i 1).isLt; omega⟩ : Fin 8864))

theorem after_last (t : Fin cfg0.N) (h : t.val % 2 = 1) (y : S1024x1280.Idx) : (outsAt0 m c t.val t.isLt).1 y
    = whole (m ((c.tc : Thread nD τ).loc main_arg0)) (m ((c.tc : Thread nD τ).loc main_arg1)) (ix2 (⟨t.val / 8 * 1024 + (y 0).val, by have := pt_lt t; have : (y 0).val < 1024 := (y 0).isLt; omega⟩ : Fin 8192) (⟨t.val / 2 % 4 * 1280 + (y 1).val, by have := pt_lt t; have : (y 1).val < 1280 := (y 1).isLt; omega⟩ : Fin 5120)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel12Ideal.Value.run_blocks m g)

end

end Cert.Kernel12Ideal.Gen

namespace Cert.Reference12Ideal.Gen

open Idealize.ShloMosaic Idealize.ShloMosaic.TcCoe
open scoped BigOperators

theorem ref_whole (h : Vec Ideal S8192x1024 .f32) (w : Vec Ideal S1024x8864 .f32) :
    truncf (F := Ideal) (φ := .f32) .bf16 (extractStridedSlice S8192x5120 ![0, 672] (Host.dotGeneral (F := Ideal) (φ₁ := .f32) (φ₂ := .f32) dot_S8192x1024_S1024x8864_S8192x8864_1_0_0_1_n_n none h w) slices_S8192x8864_S8192x5120_0_672) bitsLt_bf16_f32 = Cert.Kernel12Ideal.Gen.whole h w := by
  funext i
  unfold Cert.Kernel12Ideal.Gen.whole
  pointwise

end Cert.Reference12Ideal.Gen

end
-- ==== Proof.Prod_proj_gate.lean ====
/- The input projection: the last 3072 columns. -/
module

public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel13Ideal.Gen

open Idealize.ShloMosaic Idealize.ShloMosaic.TcCoe Idealize.SL.Sem
open scoped BigOperators

theorem at_0 : ∀ t : Fin cfg0.N, win0_0.index t = ![t.val / 6, t.val % 2] := (by decide +kernel : ∀ t : Fin grid0.N, _)
theorem at_1 : ∀ t : Fin cfg0.N, win0_1.index t = ![t.val % 2, t.val / 2 % 3] := (by decide +kernel : ∀ t : Fin grid0.N, _)
theorem at_2 : ∀ t : Fin cfg0.N, win0_2.index t = ![t.val / 6, t.val / 2 % 3] := (by decide +kernel : ∀ t : Fin grid0.N, _)

/-- The product of two blocks, at an element. -/
def part (a : Vec Ideal S1024x512 .bf16) (b : Vec Ideal S512x1024 .bf16) (y : S1024x1024.Idx) : EReal :=
  ∑ k : Fin 512, a (ix2 (y 0) k) * b (ix2 k (y 1))

theorem zero_block (y : S1024x1024.Idx) : k0_pay1 (F := Ideal) y = (0 : EReal) := by
  pointwise [k0_pay1]

theorem add_block (a : Vec Ideal S1024x512 .bf16) (b : Vec Ideal S512x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x1024.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x1024.Idx) :
    (outsAt0 m c t.val t.isLt).1 y = (outsAt0 m c t.val t.isLt).2 y := by
  rw [outsAt0_B m c t (by omega) h1]
  frame_out

theorem V_left : V m c main_v0 = truncf (F := Ideal) (φ := .f32) .bf16 (m ((c.tc : Thread nD τ).loc main_arg0)) bitsLt_bf16_f32 := by
  after_reads_simp

theorem V_right : V m c main_v2 = truncf (F := Ideal) (φ := .f32) .bf16 (extractStridedSlice S1024x3072 ![0, 5792] (m ((c.tc : Thread nD τ).loc main_arg1)) slices_S1024x8864_S1024x3072_0_5792) bitsLt_bf16_f32 := by
  after_reads_simp

theorem left_at (r : Fin 8192) (k : Fin 1024) : V m c main_v0 (ix2 r k) = m ((c.tc : Thread nD τ).loc main_arg0) (ix2 r k) := by
  rw [V_left]; rfl

theorem right_at (k : Fin 1024) (j : Fin 3072) : V m c main_v2 (ix2 k j) = m ((c.tc : Thread nD τ).loc main_arg1) (ix2 k (⟨5792 + j.val, by have : j.val < 3072 := (j).isLt; omega⟩ : Fin 8864)) := by
  rw [V_right]
  pointwise

theorem pt_lt (t : Fin cfg0.N) : t.val < 48 := t.isLt

theorem blk_left (t : Fin cfg0.N) (r : Fin 1024) (k : Fin 512) : iblk m c 0 t (ix2 r k)
    = V m c main_v0 (ix2 (⟨t.val / 6 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 1024) : iblk m c 1 t (ix2 k j)
    = V m c main_v2 (ix2 (⟨t.val % 2 * 512 + k.val, by omega⟩ : Fin 1024) (⟨t.val / 2 % 3 * 1024 + j.val, by have := pt_lt t; omega⟩ : Fin 3072)) := by
  blk_simp [iblk]
  refine congrArg (V m c main_v2) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg0) (ix2 (⟨t.val / 6 * 1024 + r.val, by have := pt_lt t; omega⟩ : Fin 8192) (⟨s.val * 512 + k.val, by omega⟩ : Fin 1024)) := by
  have e1 : (2 * (t.val / 2) + s.val) / 6 = t.val / 6 := by have := pt_lt t; omega
  have e2 : (2 * (t.val / 2) + s.val) % 2 = s.val := by omega
  rw [blk_left, left_at]
  simp only [e1, e2]

theorem right_pt (t : Fin cfg0.N) (s : Fin 2) (k : Fin 512) (j : Fin 1024) (h : 2 * (t.val / 2) + s.val < cfg0.N) :
    iblk m c 1 ⟨2 * (t.val / 2) + s.val, h⟩ (ix2 k j) = m ((c.tc : Thread nD τ).loc main_arg1) (ix2 (⟨s.val * 512 + k.val, by omega⟩ : Fin 1024) (⟨5792 + (t.val / 2 % 3 * 1024 + j.val), by have : (t.val / 2 % 3 * 1024 + j.val) < 3072 := ((⟨t.val / 2 % 3 * 1024 + j.val, by have := pt_lt t; omega⟩ : Fin 3072)).isLt; omega⟩ : Fin 8864)) := by
  have e1 : (2 * (t.val / 2) + s.val) / 2 % 3 = t.val / 2 % 3 := by have := pt_lt t; omega
  have e2 : (2 * (t.val / 2) + s.val) % 2 = s.val := by omega
  rw [blk_right, right_at]
  simp only [e1, e2]

/-- The product of the whole arrays, at an element. -/
def whole (h : Vec Ideal S8192x1024 .f32) (w : Vec Ideal S1024x8864 .f32) (i : S8192x3072.Idx) : EReal :=
  ∑ k : Fin 1024, h (ix2 (i 0) k) * w (ix2 k (⟨5792 + (i 1).val, by have : (i 1).val < 3072 := (i 1).isLt; omega⟩ : Fin 8864))

theorem after_last (t : Fin cfg0.N) (h : t.val % 2 = 1) (y : S1024x1024.Idx) : (outsAt0 m c t.val t.isLt).1 y
    = whole (m ((c.tc : Thread nD τ).loc main_arg0)) (m ((c.tc : Thread nD τ).loc main_arg1)) (ix2 (⟨t.val / 6 * 1024 + (y 0).val, by have := pt_lt t; have : (y 0).val < 1024 := (y 0).isLt; omega⟩ : Fin 8192) (⟨t.val / 2 % 3 * 1024 + (y 1).val, by have := pt_lt t; have : (y 1).val < 1024 := (y 1).isLt; omega⟩ : Fin 3072)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel13Ideal.Value.run_blocks m g)

end

end Cert.Kernel13Ideal.Gen

namespace Cert.Reference13Ideal.Gen

open Idealize.ShloMosaic Idealize.ShloMosaic.TcCoe
open scoped BigOperators

theorem ref_whole (h : Vec Ideal S8192x1024 .f32) (w : Vec Ideal S1024x8864 .f32) :
    extractStridedSlice S8192x3072 ![0, 5792] (Host.dotGeneral (F := Ideal) (φ₁ := .f32) (φ₂ := .f32) dot_S8192x1024_S1024x8864_S8192x8864_1_0_0_1_n_n none h w) slices_S8192x8864_S8192x3072_0_5792 = Cert.Kernel13Ideal.Gen.whole h w := by
  funext i
  unfold Cert.Kernel13Ideal.Gen.whole
  pointwise

end Cert.Reference13Ideal.Gen

end
-- ==== Proof.Prod_out_proj.lean ====
/- The output projection. -/
module

public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel14Ideal.Gen

open Idealize.ShloMosaic Idealize.ShloMosaic.TcCoe Idealize.SL.Sem
open scoped BigOperators

theorem at_0 : ∀ t : Fin cfg0.N, win0_0.index t = ![t.val / 2, t.val % 2] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, 0] := (by decide +kernel : ∀ t : Fin grid0.N, _)

/-- The product of two blocks, at an element. -/
def part (a : Vec Ideal S1024x512 .bf16) (b : Vec Ideal S512x1024 .bf16) (y : S1024x1024.Idx) : EReal :=
  ∑ k : Fin 512, a (ix2 (y 0) k) * b (ix2 k (y 1))

theorem zero_block (y : S1024x1024.Idx) : k0_pay1 (F := Ideal) y = (0 : EReal) := by
  pointwise [k0_pay1]

theorem add_block (a : Vec Ideal S1024x512 .bf16) (b : Vec Ideal S512x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x1024.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x1024.Idx) :
    (outsAt0 m c t.val t.isLt).1 y = (outsAt0 m c t.val t.isLt).2 y := by
  rw [outsAt0_B m c t (by omega) h1]
  frame_out

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (r : Fin 8192) (k : Fin 1024) : V m c main_v0 (ix2 r k) = m ((c.tc : Thread nD τ).loc main_arg0) (ix2 r k) := by
  rw [V_left]; rfl

theorem right_at (k : Fin 1024) (j : Fin 1024) : V m c main_v1 (ix2 k j) = m ((c.tc : Thread nD τ).loc main_arg1) (ix2 k j) := by
  rw [V_right]
  rfl

theorem pt_lt (t : Fin cfg0.N) : t.val < 16 := t.isLt

theorem blk_left (t : Fin cfg0.N) (r : Fin 1024) (k : Fin 512) : iblk m c 0 t (ix2 r k)
    = V m c main_v0 (ix2 (⟨t.val / 2 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 1024) : iblk m c 1 t (ix2 k j)
    = V m c main_v1 (ix2 (⟨t.val % 2 * 512 + k.val, by omega⟩ : Fin 1024) j) := by
  blk_simp [iblk]
  refine congrArg (V m c main_v1) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg0) (ix2 (⟨t.val / 2 * 1024 + r.val, by have := pt_lt t; omega⟩ : Fin 8192) (⟨s.val * 512 + k.val, by omega⟩ : Fin 1024)) := by
  have e1 : (2 * (t.val / 2) + s.val) / 2 = t.val / 2 := by have := pt_lt t; omega
  have e2 : (2 * (t.val / 2) + s.val) % 2 = s.val := by omega
  rw [blk_left, left_at]
  simp only [e1, e2]

theorem right_pt (t : Fin cfg0.N) (s : Fin 2) (k : Fin 512) (j : Fin 1024) (h : 2 * (t.val / 2) + s.val < cfg0.N) :
    iblk m c 1 ⟨2 * (t.val / 2) + s.val, h⟩ (ix2 k j) = m ((c.tc : Thread nD τ).loc main_arg1) (ix2 (⟨s.val * 512 + k.val, by omega⟩ : Fin 1024) j) := by
  have e2 : (2 * (t.val / 2) + s.val) % 2 = s.val := by omega
  rw [blk_right, right_at]
  simp only [e2]

/-- The product of the whole arrays, at an element. -/
def whole (x : Vec Ideal S8192x1024 .f32) (w : Vec Ideal S1024x1024 .f32) (i : S8192x1024.Idx) : EReal :=
  ∑ k : Fin 1024, x (ix2 (i 0) k) * w (ix2 k (i 1))

theorem after_last (t : Fin cfg0.N) (h : t.val % 2 = 1) (y : S1024x1024.Idx) : (outsAt0 m c t.val t.isLt).1 y
    = whole (m ((c.tc : Thread nD τ).loc main_arg0)) (m ((c.tc : Thread nD τ).loc main_arg1)) (ix2 (⟨t.val / 2 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel14Ideal.Value.run_blocks m g)

end

end Cert.Kernel14Ideal.Gen

namespace Cert.Reference14Ideal.Gen

open Idealize.ShloMosaic Idealize.ShloMosaic.TcCoe
open scoped BigOperators

theorem ref_whole (x : Vec Ideal S8192x1024 .f32) (w : Vec Ideal S1024x1024 .f32) :
    Host.dotGeneral (F := Ideal) (φ₁ := .f32) (φ₂ := .f32) dot_S8192x1024_S1024x1024_S8192x1024_1_0_0_1_n_n none x w = Cert.Kernel14Ideal.Gen.whole x w := by
  funext i
  unfold Cert.Kernel14Ideal.Gen.whole
  pointwise

end Cert.Reference14Ideal.Gen

end
-- ==== Proof.Prod_out_proj_dx.lean ====
/- The output projection: the gradient of its input. -/
module

public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel15Ideal.Gen

open Idealize.ShloMosaic Idealize.ShloMosaic.TcCoe Idealize.SL.Sem
open scoped BigOperators

theorem at_0 : ∀ t : Fin cfg0.N, win0_0.index t = ![t.val / 2, t.val % 2] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, 0] := (by decide +kernel : ∀ t : Fin grid0.N, _)

/-- The product of two blocks, at an element. -/
def part (a : Vec Ideal S1024x512 .bf16) (b : Vec Ideal S512x1024 .bf16) (y : S1024x1024.Idx) : EReal :=
  ∑ k : Fin 512, a (ix2 (y 0) k) * b (ix2 k (y 1))

theorem zero_block (y : S1024x1024.Idx) : k0_pay1 (F := Ideal) y = (0 : EReal) := by
  pointwise [k0_pay1]

theorem add_block (a : Vec Ideal S1024x512 .bf16) (b : Vec Ideal S512x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x1024.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x1024.Idx) :
    (outsAt0 m c t.val t.isLt).1 y = (outsAt0 m c t.val t.isLt).2 y := by
  rw [outsAt0_B m c t (by omega) h1]
  frame_out

theorem V_left : V m c main_v0 = truncf (F := Ideal) (φ := .f32) .bf16 (m ((c.tc : Thread nD τ).loc main_arg1)) bitsLt_bf16_f32 := by
  after_reads_simp

theorem V_right : V m c main_v2 = transpose S1024x1024 [1, 0] (truncf (F := Ideal) (φ := .f32) .bf16 (m ((c.tc : Thread nD τ).loc main_arg0)) bitsLt_bf16_f32) transposes_S1024x1024_S1024x1024_1_0 := by
  after_reads_simp

theorem left_at (r : Fin 8192) (k : Fin 1024) : V m c main_v0 (ix2 r k) = m ((c.tc : Thread nD τ).loc main_arg1) (ix2 r k) := by
  rw [V_left]; rfl

theorem right_at (k : Fin 1024) (j : Fin 1024) : V m c main_v2 (ix2 k j) = m ((c.tc : Thread nD τ).loc main_arg0) (ix2 j k) := by
  rw [V_right]
  pointwise

theorem pt_lt (t : Fin cfg0.N) : t.val < 16 := t.isLt

theorem blk_left (t : Fin cfg0.N) (r : Fin 1024) (k : Fin 512) : iblk m c 0 t (ix2 r k)
    = V m c main_v0 (ix2 (⟨t.val / 2 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 1024) : iblk m c 1 t (ix2 k j)
    = V m c main_v2 (ix2 (⟨t.val % 2 * 512 + k.val, by omega⟩ : Fin 1024) j) := by
  blk_simp [iblk]
  refine congrArg (V m c main_v2) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg1) (ix2 (⟨t.val / 2 * 1024 + r.val, by have := pt_lt t; omega⟩ : Fin 8192) (⟨s.val * 512 + k.val, by omega⟩ : Fin 1024)) := by
  have e1 : (2 * (t.val / 2) + s.val) / 2 = t.val / 2 := by have := pt_lt t; omega
  have e2 : (2 * (t.val / 2) + s.val) % 2 = s.val := by omega
  rw [blk_left, left_at]
  simp only [e1, e2]

theorem right_pt (t : Fin cfg0.N) (s : Fin 2) (k : Fin 512) (j : Fin 1024) (h : 2 * (t.val / 2) + s.val < cfg0.N) :
    iblk m c 1 ⟨2 * (t.val / 2) + s.val, h⟩ (ix2 k j) = m ((c.tc : Thread nD τ).loc main_arg0) (ix2 j (⟨s.val * 512 + k.val, by omega⟩ : Fin 1024)) := by
  have e2 : (2 * (t.val / 2) + s.val) % 2 = s.val := by omega
  rw [blk_right, right_at]
  simp only [e2]

/-- The product of the whole arrays, at an element. -/
def whole (dz : Vec Ideal S8192x1024 .f32) (w : Vec Ideal S1024x1024 .f32) (i : S8192x1024.Idx) : EReal :=
  ∑ k : Fin 1024, dz (ix2 (i 0) k) * w (ix2 (i 1) k)

theorem after_last (t : Fin cfg0.N) (h : t.val % 2 = 1) (y : S1024x1024.Idx) : (outsAt0 m c t.val t.isLt).1 y
    = whole (m ((c.tc : Thread nD τ).loc main_arg1)) (m ((c.tc : Thread nD τ).loc main_arg0)) (ix2 (⟨t.val / 2 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg1)) (m ((c.tc : Thread nD τ).loc main_arg0)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg1)) (m ((c.tc : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel15Ideal.Value.run_blocks m g)

end

end Cert.Kernel15Ideal.Gen

namespace Cert.Reference15Ideal.Gen

open Idealize.ShloMosaic Idealize.ShloMosaic.TcCoe
open scoped BigOperators

theorem ref_whole (dz : Vec Ideal S8192x1024 .f32) (w : Vec Ideal S1024x1024 .f32) :
    Host.dotGeneral (F := Ideal) (φ₁ := .f32) (φ₂ := .f32) dot_S8192x1024_S1024x1024_S8192x1024_1_1_0_0_n_n none dz w = Cert.Kernel15Ideal.Gen.whole dz w := by
  funext i
  unfold Cert.Kernel15Ideal.Gen.whole
  pointwise

end Cert.Reference15Ideal.Gen

end
-- ==== Proof.Prod_out_proj_dw.lean ====
/- The output projection: the gradient of its weight. -/
module

public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel16Ideal.Gen

open Idealize.ShloMosaic Idealize.ShloMosaic.TcCoe Idealize.SL.Sem
open scoped BigOperators

theorem at_0 : ∀ t : Fin cfg0.N, win0_0.index t = ![t.val % 16, 0] := (by decide +kernel : ∀ t : Fin grid0.N, _)
theorem at_1 : ∀ t : Fin cfg0.N, win0_1.index t = ![t.val % 16, 0] := (by decide +kernel : ∀ t : Fin grid0.N, _)
theorem at_2 : ∀ t : Fin cfg0.N, win0_2.index t = ![0, 0] := (by decide +kernel : ∀ t : Fin grid0.N, _)

/-- The product of two blocks, at an element. -/
def part (a : Vec Ideal S512x1024 .bf16) (b : Vec Ideal S512x1024 .bf16) (y : S1024x1024.Idx) : EReal :=
  ∑ k : Fin 512, a (ix2 k (y 0)) * b (ix2 k (y 1))

theorem zero_block (y : S1024x1024.Idx) : k0_pay1 (F := Ideal) y = (0 : EReal) := by
  pointwise [k0_pay1]

theorem add_block (a : Vec Ideal S512x1024 .bf16) (b : Vec Ideal S512x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 16 = 0) (y : S1024x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 16 = 0) (y : S1024x1024.Idx) :
    (outsAt0 m c t.val t.isLt).2 y = (outsAt0 m c (t.val - 1) (Nat.lt_of_le_of_lt (Nat.sub_le _ _) t.isLt)).2 y
      + part (iblk m c 0 t) (iblk m c 1 t) y := by
  by_cases h1 : t.val % 16 = 15
  · rw [outsAt0_C m c t h h1]
    frame_out
    simp only [read_unread_whole]
    rw [add_block]
  · rw [outsAt0_B m c t h h1]
    frame_out
    simp only [read_unread_whole]
    rw [add_block]

/-- At the last block of a sum the output holds what was summed. -/
theorem out_last (t : Fin cfg0.N) (h1 : t.val % 16 = 15) (y : S1024x1024.Idx) :
    (outsAt0 m c t.val t.isLt).1 y = (outsAt0 m c t.val t.isLt).2 y := by
  rw [outsAt0_C m c t (by omega) h1]
  frame_out

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (k : Fin 8192) (r : Fin 1024) : V m c main_v0 (ix2 k r) = m ((c.tc : Thread nD τ).loc main_arg0) (ix2 k r) := by
  rw [V_left]; rfl

theorem right_at (k : Fin 8192) (j : Fin 1024) : V m c main_v1 (ix2 k j) = m ((c.tc : Thread nD τ).loc main_arg1) (ix2 k j) := by
  rw [V_right]
  rfl

theorem pt_lt (t : Fin cfg0.N) : t.val < 16 := t.isLt

theorem blk_left (t : Fin cfg0.N) (k : Fin 512) (r : Fin 1024) : iblk m c 0 t (ix2 k r)
    = V m c main_v0 (ix2 (⟨t.val % 16 * 512 + k.val, by omega⟩ : Fin 8192) r) := by
  blk_simp [iblk]
  refine congrArg (V m c main_v0) ?_
  blk_ext [at_0]

theorem blk_right (t : Fin cfg0.N) (k : Fin 512) (j : Fin 1024) : iblk m c 1 t (ix2 k j)
    = V m c main_v1 (ix2 (⟨t.val % 16 * 512 + k.val, by omega⟩ : Fin 8192) j) := by
  blk_simp [iblk]
  refine congrArg (V m c main_v1) ?_
  blk_ext [at_1]

theorem left_pt (t : Fin cfg0.N) (s : Fin 16) (r : Fin 1024) (k : Fin 512) (h : 16 * (t.val / 16) + s.val < cfg0.N) :
    iblk m c 0 ⟨16 * (t.val / 16) + s.val, h⟩ (ix2 k r) = m ((c.tc : Thread nD τ).loc main_arg0) (ix2 (⟨s.val * 512 + k.val, by omega⟩ : Fin 8192) r) := by
  have e2 : (16 * (t.val / 16) + s.val) % 16 = s.val := by omega
  rw [blk_left, left_at]
  simp only [e2]

theorem right_pt (t : Fin cfg0.N) (s : Fin 16) (k : Fin 512) (j : Fin 1024) (h : 16 * (t.val / 16) + s.val < cfg0.N) :
    iblk m c 1 ⟨16 * (t.val / 16) + s.val, h⟩ (ix2 k j) = m ((c.tc : Thread nD τ).loc main_arg1) (ix2 (⟨s.val * 512 + k.val, by omega⟩ : Fin 8192) j) := by
  have e2 : (16 * (t.val / 16) + s.val) % 16 = s.val := by omega
  rw [blk_right, right_at]
  simp only [e2]

/-- The product of the whole arrays, at an element. -/
def whole (x : Vec Ideal S8192x1024 .f32) (dz : Vec Ideal S8192x1024 .f32) (i : S1024x1024.Idx) : EReal :=
  ∑ k : Fin 8192, x (ix2 k (i 0)) * dz (ix2 k (i 1))

theorem after_last (t : Fin cfg0.N) (h : t.val % 16 = 15) (y : S1024x1024.Idx) : (outsAt0 m c t.val t.isLt).1 y
    = whole (m ((c.tc : Thread nD τ).loc main_arg0)) (m ((c.tc : Thread nD τ).loc main_arg1)) (ix2 (y 0) (y 1)) := by
  rw [out_last m c t h y, Pipeline.eq_sum_fin_of_reset_step_apply_of_flush (fun n h => (outsAt0 m c n h).2) 16 (fun _ => (0 : EReal))
    (fun t y => part (iblk m c 0 t) (iblk m c 1 t) y) (sum_first m c) (sum_next m c) t h y, zero_add]
  unfold part whole
  refine Fin.sum_mul_add_congr (S := 16) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel16Ideal.Value.run_blocks m g)

end

end Cert.Kernel16Ideal.Gen

namespace Cert.Reference16Ideal.Gen

open Idealize.ShloMosaic Idealize.ShloMosaic.TcCoe
open scoped BigOperators

theorem ref_whole (x : Vec Ideal S8192x1024 .f32) (dz : Vec Ideal S8192x1024 .f32) :
    transpose S1024x1024 [1, 0] (Host.dotGeneral (F := Ideal) (φ₁ := .f32) (φ₂ := .f32) dot_S8192x1024_S8192x1024_S1024x1024_0_0_1_1_n_n none dz x) transposes_S1024x1024_S1024x1024_1_0 = Cert.Kernel16Ideal.Gen.whole x dz := by
  funext i
  unfold Cert.Kernel16Ideal.Gen.whole
  have e : (transpose S1024x1024 [1, 0] (Host.dotGeneral (F := Ideal) (φ₁ := .f32) (φ₂ := .f32) dot_S8192x1024_S8192x1024_S1024x1024_0_0_1_1_n_n none dz x) transposes_S1024x1024_S1024x1024_1_0) i
      = ∑ r : Fin 8192, dz (ix2 r (i 1)) * x (ix2 r (i 0)) := by
    pointwise
  rw [e]
  exact Finset.sum_congr rfl fun r _ => mul_comm _ _

end Cert.Reference16Ideal.Gen

end
-- ==== Proof.Prod_br_dil.lean ====
/- A branch's product. -/
module

public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel17Ideal.Gen

open Idealize.ShloMosaic Idealize.ShloMosaic.TcCoe Idealize.SL.Sem
open scoped BigOperators

theorem at_0 : ∀ t : Fin cfg0.N, win0_0.index t = ![t.val, 0] := (by decide +kernel : ∀ t : Fin grid0.N, _)
theorem at_1 : ∀ t : Fin cfg0.N, win0_1.index t = ![0, 0] := (by decide +kernel : ∀ t : Fin grid0.N, _)
theorem at_2 : ∀ t : Fin cfg0.N, win0_2.index t = ![t.val, 0] := (by decide +kernel : ∀ t : Fin grid0.N, _)

/-- The product of two blocks, at an element. -/
def part (a : Vec Ideal S1024x512 .bf16) (b : Vec Ideal S512x1024 .bf16) (y : S1024x1024.Idx) : EReal :=
  ∑ k : Fin 512, a (ix2 (y 0) k) * b (ix2 k (y 1))

theorem zero_block (y : S1024x1024.Idx) : k0_pay1 (F := Ideal) y = (0 : EReal) := by
  pointwise [k0_pay1]

theorem add_block (a : Vec Ideal S1024x512 .bf16) (b : Vec Ideal S512x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem out_part (t : Fin cfg0.N) (y : S1024x1024.Idx) : outsAt0 m c t y = part (iblk m c 0 t) (iblk m c 1 t) y := by
  unfold outsAt0 out0_A_2
  frame_out
  rw [add_block, zero_block, zero_add]

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (r : Fin 8192) (k : Fin 512) : V m c main_v0 (ix2 r k) = m ((c.tc : Thread nD τ).loc main_arg0) (ix2 r k) := by
  rw [V_left]; rfl

theorem right_at (k : Fin 512) (j : Fin 1024) : V m c main_v1 (ix2 k j) = m ((c.tc : Thread nD τ).loc main_arg1) (ix2 k j) := by
  rw [V_right]
  rfl

theorem pt_lt (t : Fin cfg0.N) : t.val < 8 := t.isLt

theorem blk_left (t : Fin cfg0.N) (r : Fin 1024) (k : Fin 512) : iblk m c 0 t (ix2 r k)
    = V m c main_v0 (ix2 (⟨t.val * 1024 + r.val, by have := pt_lt t; omega⟩ : Fin 8192) k) := by
  blk_simp [iblk]
  refine congrArg (V m c main_v0) ?_
  blk_ext [at_0]

theorem blk_right (t : Fin cfg0.N) (k : Fin 512) (j : Fin 1024) : iblk m c 1 t (ix2 k j)
    = V m c main_v1 (ix2 k j) := by
  blk_simp [iblk]
  refine congrArg (V m c main_v1) ?_
  blk_ext [at_1]

/-- The product of the whole arrays, at an element. -/
def whole (x : Vec Ideal S8192x512 .f32) (w : Vec Ideal S512x1024 .f32) (i : S8192x1024.Idx) : EReal :=
  ∑ k : Fin 512, x (ix2 (i 0) k) * w (ix2 k (i 1))

theorem after_last (t : Fin cfg0.N) (y : S1024x1024.Idx) : outsAt0 m c t y
    = whole (m ((c.tc : Thread nD τ).loc main_arg0)) (m ((c.tc : Thread nD τ).loc main_arg1)) (ix2 (⟨t.val * 1024 + (y 0).val, by have := pt_lt t; have : (y 0).val < 1024 := (y 0).isLt; omega⟩ : Fin 8192) (y 1)) := by
  rw [out_part]
  unfold part whole
  exact Finset.sum_congr rfl fun k _ => congrArg₂ (· * ·) ((blk_left m c t (y 0) k).trans (left_at m c _ k)) ((blk_right m c t k (y 1)).trans (right_at m c k _))

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel17Ideal.Value.run_blocks m g)

end

end Cert.Kernel17Ideal.Gen

namespace Cert.Reference17Ideal.Gen

open Idealize.ShloMosaic Idealize.ShloMosaic.TcCoe
open scoped BigOperators

theorem ref_whole (x : Vec Ideal S8192x512 .f32) (w : Vec Ideal S512x1024 .f32) :
    Host.dotGeneral (F := Ideal) (φ₁ := .f32) (φ₂ := .f32) dot_S8192x512_S512x1024_S8192x1024_1_0_0_1_n_n none x w = Cert.Kernel17Ideal.Gen.whole x w := by
  funext i
  unfold Cert.Kernel17Ideal.Gen.whole
  pointwise

end Cert.Reference17Ideal.Gen

end
-- ==== Proof.Prod_br_dil_dx.lean ====
/- A branch's product: the gradient of its input. -/
module

public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel18Ideal.Gen

open Idealize.ShloMosaic Idealize.ShloMosaic.TcCoe Idealize.SL.Sem
open scoped BigOperators

theorem at_0 : ∀ t : Fin cfg0.N, win0_0.index t = ![t.val / 2, t.val % 2] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, 0] := (by decide +kernel : ∀ t : Fin grid0.N, _)

/-- The product of two blocks, at an element. -/
def part (a : Vec Ideal S1024x512 .bf16) (b : Vec Ideal S512x512 .bf16) (y : S1024x512.Idx) : EReal :=
  ∑ k : Fin 512, a (ix2 (y 0) k) * b (ix2 k (y 1))

theorem zero_block (y : S1024x512.Idx) : k0_pay1 (F := Ideal) y = (0 : EReal) := by
  pointwise [k0_pay1]

theorem add_block (a : Vec Ideal S1024x512 .bf16) (b : Vec Ideal S512x512 .bf16) (s : Vec Ideal S1024x512 .f32) (y : S1024x512.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x512.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x512.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x512.Idx) :
    (outsAt0 m c t.val t.isLt).1 y = (outsAt0 m c t.val t.isLt).2 y := by
  rw [outsAt0_B m c t (by omega) h1]
  frame_out

theorem V_left : V m c main_v0 = truncf (F := Ideal) (φ := .f32) .bf16 (m ((c.tc : Thread nD τ).loc main_arg1)) bitsLt_bf16_f32 := by
  after_reads_simp

theorem V_right : V m c main_v2 = transpose S1024x512 [1, 0] (truncf (F := Ideal) (φ := .f32) .bf16 (m ((c.tc : Thread nD τ).loc main_arg0)) bitsLt_bf16_f32) transposes_S512x1024_S1024x512_1_0 := by
  after_reads_simp

theorem left_at (r : Fin 8192) (k : Fin 1024) : V m c main_v0 (ix2 r k) = m ((c.tc : Thread nD τ).loc main_arg1) (ix2 r k) := by
  rw [V_left]; rfl

theorem right_at (k : Fin 1024) (j : Fin 512) : V m c main_v2 (ix2 k j) = m ((c.tc : Thread nD τ).loc main_arg0) (ix2 j k) := by
  rw [V_right]
  pointwise

theorem pt_lt (t : Fin cfg0.N) : t.val < 16 := t.isLt

theorem blk_left (t : Fin cfg0.N) (r : Fin 1024) (k : Fin 512) : iblk m c 0 t (ix2 r k)
    = V m c main_v0 (ix2 (⟨t.val / 2 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 512) : iblk m c 1 t (ix2 k j)
    = V m c main_v2 (ix2 (⟨t.val % 2 * 512 + k.val, by omega⟩ : Fin 1024) j) := by
  blk_simp [iblk]
  refine congrArg (V m c main_v2) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg1) (ix2 (⟨t.val / 2 * 1024 + r.val, by have := pt_lt t; omega⟩ : Fin 8192) (⟨s.val * 512 + k.val, by omega⟩ : Fin 1024)) := by
  have e1 : (2 * (t.val / 2) + s.val) / 2 = t.val / 2 := by have := pt_lt t; omega
  have e2 : (2 * (t.val / 2) + s.val) % 2 = s.val := by omega
  rw [blk_left, left_at]
  simp only [e1, e2]

theorem right_pt (t : Fin cfg0.N) (s : Fin 2) (k : Fin 512) (j : Fin 512) (h : 2 * (t.val / 2) + s.val < cfg0.N) :
    iblk m c 1 ⟨2 * (t.val / 2) + s.val, h⟩ (ix2 k j) = m ((c.tc : Thread nD τ).loc main_arg0) (ix2 j (⟨s.val * 512 + k.val, by omega⟩ : Fin 1024)) := by
  have e2 : (2 * (t.val / 2) + s.val) % 2 = s.val := by omega
  rw [blk_right, right_at]
  simp only [e2]

/-- The product of the whole arrays, at an element. -/
def whole (db : Vec Ideal S8192x1024 .f32) (w : Vec Ideal S512x1024 .f32) (i : S8192x512.Idx) : EReal :=
  ∑ k : Fin 1024, db (ix2 (i 0) k) * w (ix2 (i 1) k)

theorem after_last (t : Fin cfg0.N) (h : t.val % 2 = 1) (y : S1024x512.Idx) : (outsAt0 m c t.val t.isLt).1 y
    = whole (m ((c.tc : Thread nD τ).loc main_arg1)) (m ((c.tc : Thread nD τ).loc main_arg0)) (ix2 (⟨t.val / 2 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg1)) (m ((c.tc : Thread nD τ).loc main_arg0)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg1)) (m ((c.tc : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel18Ideal.Value.run_blocks m g)

end

end Cert.Kernel18Ideal.Gen

namespace Cert.Reference18Ideal.Gen

open Idealize.ShloMosaic Idealize.ShloMosaic.TcCoe
open scoped BigOperators

theorem ref_whole (db : Vec Ideal S8192x1024 .f32) (w : Vec Ideal S512x1024 .f32) :
    Host.dotGeneral (F := Ideal) (φ₁ := .f32) (φ₂ := .f32) dot_S8192x1024_S512x1024_S8192x512_1_1_0_0_n_n none db w = Cert.Kernel18Ideal.Gen.whole db w := by
  funext i
  unfold Cert.Kernel18Ideal.Gen.whole
  pointwise

end Cert.Reference18Ideal.Gen

end
-- ==== Proof.Prod_br_dil_dw.lean ====
/- A branch's product: the gradient of its weight. -/
module

public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel19Ideal.Gen

open Idealize.ShloMosaic Idealize.ShloMosaic.TcCoe Idealize.SL.Sem
open scoped BigOperators

theorem at_0 : ∀ t : Fin cfg0.N, win0_0.index t = ![t.val % 16, 0] := (by decide +kernel : ∀ t : Fin grid0.N, _)
theorem at_1 : ∀ t : Fin cfg0.N, win0_1.index t = ![t.val % 16, 0] := (by decide +kernel : ∀ t : Fin grid0.N, _)
theorem at_2 : ∀ t : Fin cfg0.N, win0_2.index t = ![0, 0] := (by decide +kernel : ∀ t : Fin grid0.N, _)

/-- The product of two blocks, at an element. -/
def part (a : Vec Ideal S512x512 .bf16) (b : Vec Ideal S512x1024 .bf16) (y : S512x1024.Idx) : EReal :=
  ∑ k : Fin 512, a (ix2 k (y 0)) * b (ix2 k (y 1))

theorem zero_block (y : S512x1024.Idx) : k0_pay1 (F := Ideal) y = (0 : EReal) := by
  pointwise [k0_pay1]

theorem add_block (a : Vec Ideal S512x512 .bf16) (b : Vec Ideal S512x1024 .bf16) (s : Vec Ideal S512x1024 .f32) (y : S512x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 16 = 0) (y : S512x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 16 = 0) (y : S512x1024.Idx) :
    (outsAt0 m c t.val t.isLt).2 y = (outsAt0 m c (t.val - 1) (Nat.lt_of_le_of_lt (Nat.sub_le _ _) t.isLt)).2 y
      + part (iblk m c 0 t) (iblk m c 1 t) y := by
  by_cases h1 : t.val % 16 = 15
  · rw [outsAt0_C m c t h h1]
    frame_out
    simp only [read_unread_whole]
    rw [add_block]
  · rw [outsAt0_B m c t h h1]
    frame_out
    simp only [read_unread_whole]
    rw [add_block]

/-- At the last block of a sum the output holds what was summed. -/
theorem out_last (t : Fin cfg0.N) (h1 : t.val % 16 = 15) (y : S512x1024.Idx) :
    (outsAt0 m c t.val t.isLt).1 y = (outsAt0 m c t.val t.isLt).2 y := by
  rw [outsAt0_C m c t (by omega) h1]
  frame_out

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (k : Fin 8192) (r : Fin 512) : V m c main_v0 (ix2 k r) = m ((c.tc : Thread nD τ).loc main_arg0) (ix2 k r) := by
  rw [V_left]; rfl

theorem right_at (k : Fin 8192) (j : Fin 1024) : V m c main_v1 (ix2 k j) = m ((c.tc : Thread nD τ).loc main_arg1) (ix2 k j) := by
  rw [V_right]
  rfl

theorem pt_lt (t : Fin cfg0.N) : t.val < 16 := t.isLt

theorem blk_left (t : Fin cfg0.N) (k : Fin 512) (r : Fin 512) : iblk m c 0 t (ix2 k r)
    = V m c main_v0 (ix2 (⟨t.val % 16 * 512 + k.val, by omega⟩ : Fin 8192) r) := by
  blk_simp [iblk]
  refine congrArg (V m c main_v0) ?_
  blk_ext [at_0]

theorem blk_right (t : Fin cfg0.N) (k : Fin 512) (j : Fin 1024) : iblk m c 1 t (ix2 k j)
    = V m c main_v1 (ix2 (⟨t.val % 16 * 512 + k.val, by omega⟩ : Fin 8192) j) := by
  blk_simp [iblk]
  refine congrArg (V m c main_v1) ?_
  blk_ext [at_1]

theorem left_pt (t : Fin cfg0.N) (s : Fin 16) (r : Fin 512) (k : Fin 512) (h : 16 * (t.val / 16) + s.val < cfg0.N) :
    iblk m c 0 ⟨16 * (t.val / 16) + s.val, h⟩ (ix2 k r) = m ((c.tc : Thread nD τ).loc main_arg0) (ix2 (⟨s.val * 512 + k.val, by omega⟩ : Fin 8192) r) := by
  have e2 : (16 * (t.val / 16) + s.val) % 16 = s.val := by omega
  rw [blk_left, left_at]
  simp only [e2]

theorem right_pt (t : Fin cfg0.N) (s : Fin 16) (k : Fin 512) (j : Fin 1024) (h : 16 * (t.val / 16) + s.val < cfg0.N) :
    iblk m c 1 ⟨16 * (t.val / 16) + s.val, h⟩ (ix2 k j) = m ((c.tc : Thread nD τ).loc main_arg1) (ix2 (⟨s.val * 512 + k.val, by omega⟩ : Fin 8192) j) := by
  have e2 : (16 * (t.val / 16) + s.val) % 16 = s.val := by omega
  rw [blk_right, right_at]
  simp only [e2]

/-- The product of the whole arrays, at an element. -/
def whole (x : Vec Ideal S8192x512 .f32) (db : Vec Ideal S8192x1024 .f32) (i : S512x1024.Idx) : EReal :=
  ∑ k : Fin 8192, x (ix2 k (i 0)) * db (ix2 k (i 1))

theorem after_last (t : Fin cfg0.N) (h : t.val % 16 = 15) (y : S512x1024.Idx) : (outsAt0 m c t.val t.isLt).1 y
    = whole (m ((c.tc : Thread nD τ).loc main_arg0)) (m ((c.tc : Thread nD τ).loc main_arg1)) (ix2 (y 0) (y 1)) := by
  rw [out_last m c t h y, Pipeline.eq_sum_fin_of_reset_step_apply_of_flush (fun n h => (outsAt0 m c n h).2) 16 (fun _ => (0 : EReal))
    (fun t y => part (iblk m c 0 t) (iblk m c 1 t) y) (sum_first m c) (sum_next m c) t h y, zero_add]
  unfold part whole
  refine Fin.sum_mul_add_congr (S := 16) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel19Ideal.Value.run_blocks m g)

end

end Cert.Kernel19Ideal.Gen

namespace Cert.Reference19Ideal.Gen

open Idealize.ShloMosaic Idealize.ShloMosaic.TcCoe
open scoped BigOperators

theorem ref_whole (x : Vec Ideal S8192x512 .f32) (db : Vec Ideal S8192x1024 .f32) :
    transpose S512x1024 [1, 0] (Host.dotGeneral (F := Ideal) (φ₁ := .f32) (φ₂ := .f32) dot_S8192x1024_S8192x512_S1024x512_0_0_1_1_n_n none db x) transposes_S1024x512_S512x1024_1_0 = Cert.Kernel19Ideal.Gen.whole x db := by
  funext i
  unfold Cert.Kernel19Ideal.Gen.whole
  have e : (transpose S512x1024 [1, 0] (Host.dotGeneral (F := Ideal) (φ₁ := .f32) (φ₂ := .f32) dot_S8192x1024_S8192x512_S1024x512_0_0_1_1_n_n none db x) transposes_S1024x512_S512x1024_1_0) i
      = ∑ r : Fin 8192, db (ix2 r (i 1)) * x (ix2 r (i 0)) := by
    pointwise
  rw [e]
  exact Finset.sum_congr rfl fun r _ => mul_comm _ _

end Cert.Reference19Ideal.Gen

end
-- ==== Proof.Prod_br_mla_dx.lean ====
/- The queries' up-projection. -/
module

public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel20Ideal.Gen

open Idealize.ShloMosaic Idealize.ShloMosaic.TcCoe Idealize.SL.Sem
open scoped BigOperators

theorem at_0 : ∀ t : Fin cfg0.N, win0_0.index t = ![t.val / 2, t.val % 2] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, 0] := (by decide +kernel : ∀ t : Fin grid0.N, _)

/-- The product of two blocks, at an element. -/
def part (a : Vec Ideal S1024x512 .bf16) (b : Vec Ideal S512x1024 .bf16) (y : S1024x1024.Idx) : EReal :=
  ∑ k : Fin 512, a (ix2 (y 0) k) * b (ix2 k (y 1))

theorem zero_block (y : S1024x1024.Idx) : k0_pay1 (F := Ideal) y = (0 : EReal) := by
  pointwise [k0_pay1]

theorem add_block (a : Vec Ideal S1024x512 .bf16) (b : Vec Ideal S512x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x1024.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x1024.Idx) :
    (outsAt0 m c t.val t.isLt).1 y = (outsAt0 m c t.val t.isLt).2 y := by
  rw [outsAt0_B m c t (by omega) h1]
  frame_out
  rfl

theorem V_left : V m c main_v0 = truncf (F := Ideal) (φ := .f32) .bf16 (m ((c.tc : Thread nD τ).loc main_arg1)) bitsLt_bf16_f32 := by
  after_reads_simp

theorem V_right : V m c main_v2 = transpose S1024x1024 [1, 0] (truncf (F := Ideal) (φ := .f32) .bf16 (m ((c.tc : Thread nD τ).loc main_arg0)) bitsLt_bf16_f32) transposes_S1024x1024_S1024x1024_1_0 := by
  after_reads_simp

theorem left_at (r : Fin 8192) (k : Fin 1024) : V m c main_v0 (ix2 r k) = m ((c.tc : Thread nD τ).loc main_arg1) (ix2 r k) := by
  rw [V_left]; rfl

theorem right_at (k : Fin 1024) (j : Fin 1024) : V m c main_v2 (ix2 k j) = m ((c.tc : Thread nD τ).loc main_arg0) (ix2 j k) := by
  rw [V_right]
  pointwise

theorem pt_lt (t : Fin cfg0.N) : t.val < 16 := t.isLt

theorem blk_left (t : Fin cfg0.N) (r : Fin 1024) (k : Fin 512) : iblk m c 0 t (ix2 r k)
    = V m c main_v0 (ix2 (⟨t.val / 2 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 1024) : iblk m c 1 t (ix2 k j)
    = V m c main_v2 (ix2 (⟨t.val % 2 * 512 + k.val, by omega⟩ : Fin 1024) j) := by
  blk_simp [iblk]
  refine congrArg (V m c main_v2) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg1) (ix2 (⟨t.val / 2 * 1024 + r.val, by have := pt_lt t; omega⟩ : Fin 8192) (⟨s.val * 512 + k.val, by omega⟩ : Fin 1024)) := by
  have e1 : (2 * (t.val / 2) + s.val) / 2 = t.val / 2 := by have := pt_lt t; omega
  have e2 : (2 * (t.val / 2) + s.val) % 2 = s.val := by omega
  rw [blk_left, left_at]
  simp only [e1, e2]

theorem right_pt (t : Fin cfg0.N) (s : Fin 2) (k : Fin 512) (j : Fin 1024) (h : 2 * (t.val / 2) + s.val < cfg0.N) :
    iblk m c 1 ⟨2 * (t.val / 2) + s.val, h⟩ (ix2 k j) = m ((c.tc : Thread nD τ).loc main_arg0) (ix2 j (⟨s.val * 512 + k.val, by omega⟩ : Fin 1024)) := by
  have e2 : (2 * (t.val / 2) + s.val) % 2 = s.val := by omega
  rw [blk_right, right_at]
  simp only [e2]

/-- The product of the whole arrays, at an element. -/
def whole (db : Vec Ideal S8192x1024 .f32) (w : Vec Ideal S1024x1024 .f32) (i : S8192x1024.Idx) : EReal :=
  ∑ k : Fin 1024, db (ix2 (i 0) k) * w (ix2 (i 1) k)

theorem after_last (t : Fin cfg0.N) (h : t.val % 2 = 1) (y : S1024x1024.Idx) : (outsAt0 m c t.val t.isLt).1 y
    = whole (m ((c.tc : Thread nD τ).loc main_arg1)) (m ((c.tc : Thread nD τ).loc main_arg0)) (ix2 (⟨t.val / 2 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg1)) (m ((c.tc : Thread nD τ).loc main_arg0)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg1)) (m ((c.tc : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel20Ideal.Value.run_blocks m g)

end

end Cert.Kernel20Ideal.Gen

namespace Cert.Reference20Ideal.Gen

open Idealize.ShloMosaic Idealize.ShloMosaic.TcCoe
open scoped BigOperators

theorem ref_whole (db : Vec Ideal S8192x1024 .f32) (w : Vec Ideal S1024x1024 .f32) :
    truncf (F := Ideal) (φ := .f32) .bf16 (Host.dotGeneral (F := Ideal) (φ₁ := .f32) (φ₂ := .f32) dot_S8192x1024_S1024x1024_S8192x1024_1_1_0_0_n_n none db w) bitsLt_bf16_f32 = Cert.Kernel20Ideal.Gen.whole db w := by
  funext i
  unfold Cert.Kernel20Ideal.Gen.whole
  pointwise

end Cert.Reference20Ideal.Gen

end
-- ==== Proof.Prod_br_mem_dx.lean ====
/- The keys' up-projection. -/
module

public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel21Ideal.Gen

open Idealize.ShloMosaic Idealize.ShloMosaic.TcCoe Idealize.SL.Sem
open scoped BigOperators

theorem at_0 : ∀ t : Fin cfg0.N, win0_0.index t = ![t.val / 2, t.val % 2] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, 0] := (by decide +kernel : ∀ t : Fin grid0.N, _)

/-- The product of two blocks, at an element. -/
def part (a : Vec Ideal S1024x512 .bf16) (b : Vec Ideal S512x512 .bf16) (y : S1024x512.Idx) : EReal :=
  ∑ k : Fin 512, a (ix2 (y 0) k) * b (ix2 k (y 1))

theorem zero_block (y : S1024x512.Idx) : k0_pay1 (F := Ideal) y = (0 : EReal) := by
  pointwise [k0_pay1]

theorem add_block (a : Vec Ideal S1024x512 .bf16) (b : Vec Ideal S512x512 .bf16) (s : Vec Ideal S1024x512 .f32) (y : S1024x512.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x512.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x512.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x512.Idx) :
    (outsAt0 m c t.val t.isLt).1 y = (outsAt0 m c t.val t.isLt).2 y := by
  rw [outsAt0_B m c t (by omega) h1]
  frame_out
  rfl

theorem V_left : V m c main_v0 = truncf (F := Ideal) (φ := .f32) .bf16 (m ((c.tc : Thread nD τ).loc main_arg1)) bitsLt_bf16_f32 := by
  after_reads_simp

theorem V_right : V m c main_v2 = transpose S1024x512 [1, 0] (truncf (F := Ideal) (φ := .f32) .bf16 (m ((c.tc : Thread nD τ).loc main_arg0)) bitsLt_bf16_f32) transposes_S512x1024_S1024x512_1_0 := by
  after_reads_simp

theorem left_at (r : Fin 8192) (k : Fin 1024) : V m c main_v0 (ix2 r k) = m ((c.tc : Thread nD τ).loc main_arg1) (ix2 r k) := by
  rw [V_left]; rfl

theorem right_at (k : Fin 1024) (j : Fin 512) : V m c main_v2 (ix2 k j) = m ((c.tc : Thread nD τ).loc main_arg0) (ix2 j k) := by
  rw [V_right]
  pointwise

theorem pt_lt (t : Fin cfg0.N) : t.val < 16 := t.isLt

theorem blk_left (t : Fin cfg0.N) (r : Fin 1024) (k : Fin 512) : iblk m c 0 t (ix2 r k)
    = V m c main_v0 (ix2 (⟨t.val / 2 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 512) : iblk m c 1 t (ix2 k j)
    = V m c main_v2 (ix2 (⟨t.val % 2 * 512 + k.val, by omega⟩ : Fin 1024) j) := by
  blk_simp [iblk]
  refine congrArg (V m c main_v2) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg1) (ix2 (⟨t.val / 2 * 1024 + r.val, by have := pt_lt t; omega⟩ : Fin 8192) (⟨s.val * 512 + k.val, by omega⟩ : Fin 1024)) := by
  have e1 : (2 * (t.val / 2) + s.val) / 2 = t.val / 2 := by have := pt_lt t; omega
  have e2 : (2 * (t.val / 2) + s.val) % 2 = s.val := by omega
  rw [blk_left, left_at]
  simp only [e1, e2]

theorem right_pt (t : Fin cfg0.N) (s : Fin 2) (k : Fin 512) (j : Fin 512) (h : 2 * (t.val / 2) + s.val < cfg0.N) :
    iblk m c 1 ⟨2 * (t.val / 2) + s.val, h⟩ (ix2 k j) = m ((c.tc : Thread nD τ).loc main_arg0) (ix2 j (⟨s.val * 512 + k.val, by omega⟩ : Fin 1024)) := by
  have e2 : (2 * (t.val / 2) + s.val) % 2 = s.val := by omega
  rw [blk_right, right_at]
  simp only [e2]

/-- The product of the whole arrays, at an element. -/
def whole (db : Vec Ideal S8192x1024 .f32) (w : Vec Ideal S512x1024 .f32) (i : S8192x512.Idx) : EReal :=
  ∑ k : Fin 1024, db (ix2 (i 0) k) * w (ix2 (i 1) k)

theorem after_last (t : Fin cfg0.N) (h : t.val % 2 = 1) (y : S1024x512.Idx) : (outsAt0 m c t.val t.isLt).1 y
    = whole (m ((c.tc : Thread nD τ).loc main_arg1)) (m ((c.tc : Thread nD τ).loc main_arg0)) (ix2 (⟨t.val / 2 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg1)) (m ((c.tc : Thread nD τ).loc main_arg0)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg1)) (m ((c.tc : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel21Ideal.Value.run_blocks m g)

end

end Cert.Kernel21Ideal.Gen

namespace Cert.Reference21Ideal.Gen

open Idealize.ShloMosaic Idealize.ShloMosaic.TcCoe
open scoped BigOperators

theorem ref_whole (db : Vec Ideal S8192x1024 .f32) (w : Vec Ideal S512x1024 .f32) :
    truncf (F := Ideal) (φ := .f32) .bf16 (Host.dotGeneral (F := Ideal) (φ₁ := .f32) (φ₂ := .f32) dot_S8192x1024_S512x1024_S8192x512_1_1_0_0_n_n none db w) bitsLt_bf16_f32 = Cert.Kernel21Ideal.Gen.whole db w := by
  funext i
  unfold Cert.Kernel21Ideal.Gen.whole
  pointwise

end Cert.Reference21Ideal.Gen

end
-- ==== Proof.Prod_mla_q_up.lean ====
/- The queries' up-projection. -/
module

public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel23Ideal.Gen

open Idealize.ShloMosaic Idealize.ShloMosaic.TcCoe Idealize.SL.Sem
open scoped BigOperators

theorem at_0 : ∀ t : Fin cfg0.N, win0_0.index t = ![t.val, 0] := (by decide +kernel : ∀ t : Fin grid0.N, _)
theorem at_1 : ∀ t : Fin cfg0.N, win0_1.index t = ![0, 0] := (by decide +kernel : ∀ t : Fin grid0.N, _)
theorem at_2 : ∀ t : Fin cfg0.N, win0_2.index t = ![t.val, 0] := (by decide +kernel : ∀ t : Fin grid0.N, _)

/-- The product of two blocks, at an element. -/
def part (a : Vec Ideal S1024x384 .bf16) (b : Vec Ideal S384x1024 .bf16) (y : S1024x1024.Idx) : EReal :=
  ∑ k : Fin 384, a (ix2 (y 0) k) * b (ix2 k (y 1))

theorem zero_block (y : S1024x1024.Idx) : k0_pay1 (F := Ideal) y = (0 : EReal) := by
  pointwise [k0_pay1]

theorem add_block (a : Vec Ideal S1024x384 .bf16) (b : Vec Ideal S384x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem out_part (t : Fin cfg0.N) (y : S1024x1024.Idx) : outsAt0 m c t y = part (iblk m c 0 t) (iblk m c 1 t) y := by
  unfold outsAt0 out0_A_2
  frame_out
  rw [add_block, zero_block, zero_add]

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (r : Fin 8192) (k : Fin 384) : V m c main_v0 (ix2 r k) = m ((c.tc : Thread nD τ).loc main_arg0) (ix2 r k) := by
  rw [V_left]; rfl

theorem right_at (k : Fin 384) (j : Fin 1024) : V m c main_v1 (ix2 k j) = m ((c.tc : Thread nD τ).loc main_arg1) (ix2 k j) := by
  rw [V_right]
  rfl

theorem pt_lt (t : Fin cfg0.N) : t.val < 8 := t.isLt

theorem blk_left (t : Fin cfg0.N) (r : Fin 1024) (k : Fin 384) : iblk m c 0 t (ix2 r k)
    = V m c main_v0 (ix2 (⟨t.val * 1024 + r.val, by have := pt_lt t; omega⟩ : Fin 8192) k) := by
  blk_simp [iblk]
  refine congrArg (V m c main_v0) ?_
  blk_ext [at_0]

theorem blk_right (t : Fin cfg0.N) (k : Fin 384) (j : Fin 1024) : iblk m c 1 t (ix2 k j)
    = V m c main_v1 (ix2 k j) := by
  blk_simp [iblk]
  refine congrArg (V m c main_v1) ?_
  blk_ext [at_1]

/-- The product of the whole arrays, at an element. -/
def whole (x : Vec Ideal S8192x384 .f32) (w : Vec Ideal S384x1024 .f32) (i : S8192x1024.Idx) : EReal :=
  ∑ k : Fin 384, x (ix2 (i 0) k) * w (ix2 k (i 1))

theorem after_last (t : Fin cfg0.N) (y : S1024x1024.Idx) : outsAt0 m c t y
    = whole (m ((c.tc : Thread nD τ).loc main_arg0)) (m ((c.tc : Thread nD τ).loc main_arg1)) (ix2 (⟨t.val * 1024 + (y 0).val, by have := pt_lt t; have : (y 0).val < 1024 := (y 0).isLt; omega⟩ : Fin 8192) (y 1)) := by
  rw [out_part]
  unfold part whole
  exact Finset.sum_congr rfl fun k _ => congrArg₂ (· * ·) ((blk_left m c t (y 0) k).trans (left_at m c _ k)) ((blk_right m c t k (y 1)).trans (right_at m c k _))

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel23Ideal.Value.run_blocks m g)

end

end Cert.Kernel23Ideal.Gen

namespace Cert.Reference23Ideal.Gen

open Idealize.ShloMosaic Idealize.ShloMosaic.TcCoe
open scoped BigOperators

theorem ref_whole (x : Vec Ideal S8192x384 .f32) (w : Vec Ideal S384x1024 .f32) :
    Host.dotGeneral (F := Ideal) (φ₁ := .f32) (φ₂ := .f32) dot_S8192x384_S384x1024_S8192x1024_1_0_0_1_n_n none x w = Cert.Kernel23Ideal.Gen.whole x w := by
  funext i
  unfold Cert.Kernel23Ideal.Gen.whole
  pointwise

end Cert.Reference23Ideal.Gen

end
-- ==== Proof.Prod_mla_k_up.lean ====
/- The keys' up-projection. -/
module

public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel24Ideal.Gen

open Idealize.ShloMosaic Idealize.ShloMosaic.TcCoe Idealize.SL.Sem
open scoped BigOperators

theorem at_0 : ∀ t : Fin cfg0.N, win0_0.index t = ![t.val, 0] := (by decide +kernel : ∀ t : Fin grid0.N, _)
theorem at_1 : ∀ t : Fin cfg0.N, win0_1.index t = ![0, 0] := (by decide +kernel : ∀ t : Fin grid0.N, _)
theorem at_2 : ∀ t : Fin cfg0.N, win0_2.index t = ![t.val, 0] := (by decide +kernel : ∀ t : Fin grid0.N, _)

/-- The product of two blocks, at an element. -/
def part (a : Vec Ideal S1024x256 .bf16) (b : Vec Ideal S256x1024 .bf16) (y : S1024x1024.Idx) : EReal :=
  ∑ k : Fin 256, a (ix2 (y 0) k) * b (ix2 k (y 1))

theorem zero_block (y : S1024x1024.Idx) : k0_pay1 (F := Ideal) y = (0 : EReal) := by
  pointwise [k0_pay1]

theorem add_block (a : Vec Ideal S1024x256 .bf16) (b : Vec Ideal S256x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem out_part (t : Fin cfg0.N) (y : S1024x1024.Idx) : outsAt0 m c t y = part (iblk m c 0 t) (iblk m c 1 t) y := by
  unfold outsAt0 out0_A_2
  frame_out
  rw [add_block, zero_block, zero_add]

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (r : Fin 8192) (k : Fin 256) : V m c main_v0 (ix2 r k) = m ((c.tc : Thread nD τ).loc main_arg0) (ix2 r k) := by
  rw [V_left]; rfl

theorem right_at (k : Fin 256) (j : Fin 1024) : V m c main_v1 (ix2 k j) = m ((c.tc : Thread nD τ).loc main_arg1) (ix2 k j) := by
  rw [V_right]
  rfl

theorem pt_lt (t : Fin cfg0.N) : t.val < 8 := t.isLt

theorem blk_left (t : Fin cfg0.N) (r : Fin 1024) (k : Fin 256) : iblk m c 0 t (ix2 r k)
    = V m c main_v0 (ix2 (⟨t.val * 1024 + r.val, by have := pt_lt t; omega⟩ : Fin 8192) k) := by
  blk_simp [iblk]
  refine congrArg (V m c main_v0) ?_
  blk_ext [at_0]

theorem blk_right (t : Fin cfg0.N) (k : Fin 256) (j : Fin 1024) : iblk m c 1 t (ix2 k j)
    = V m c main_v1 (ix2 k j) := by
  blk_simp [iblk]
  refine congrArg (V m c main_v1) ?_
  blk_ext [at_1]

/-- The product of the whole arrays, at an element. -/
def whole (x : Vec Ideal S8192x256 .f32) (w : Vec Ideal S256x1024 .f32) (i : S8192x1024.Idx) : EReal :=
  ∑ k : Fin 256, x (ix2 (i 0) k) * w (ix2 k (i 1))

theorem after_last (t : Fin cfg0.N) (y : S1024x1024.Idx) : outsAt0 m c t y
    = whole (m ((c.tc : Thread nD τ).loc main_arg0)) (m ((c.tc : Thread nD τ).loc main_arg1)) (ix2 (⟨t.val * 1024 + (y 0).val, by have := pt_lt t; have : (y 0).val < 1024 := (y 0).isLt; omega⟩ : Fin 8192) (y 1)) := by
  rw [out_part]
  unfold part whole
  exact Finset.sum_congr rfl fun k _ => congrArg₂ (· * ·) ((blk_left m c t (y 0) k).trans (left_at m c _ k)) ((blk_right m c t k (y 1)).trans (right_at m c k _))

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel24Ideal.Value.run_blocks m g)

end

end Cert.Kernel24Ideal.Gen

namespace Cert.Reference24Ideal.Gen

open Idealize.ShloMosaic Idealize.ShloMosaic.TcCoe
open scoped BigOperators

theorem ref_whole (x : Vec Ideal S8192x256 .f32) (w : Vec Ideal S256x1024 .f32) :
    Host.dotGeneral (F := Ideal) (φ₁ := .f32) (φ₂ := .f32) dot_S8192x256_S256x1024_S8192x1024_1_0_0_1_n_n none x w = Cert.Kernel24Ideal.Gen.whole x w := by
  funext i
  unfold Cert.Kernel24Ideal.Gen.whole
  pointwise

end Cert.Reference24Ideal.Gen

end
-- ==== Proof.Prod_mla_v_up.lean ====
/- The values' up-projection. -/
module

public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel25Ideal.Gen

open Idealize.ShloMosaic Idealize.ShloMosaic.TcCoe Idealize.SL.Sem
open scoped BigOperators

theorem at_0 : ∀ t : Fin cfg0.N, win0_0.index t = ![t.val, 0] := (by decide +kernel : ∀ t : Fin grid0.N, _)
theorem at_1 : ∀ t : Fin cfg0.N, win0_1.index t = ![0, 0] := (by decide +kernel : ∀ t : Fin grid0.N, _)
theorem at_2 : ∀ t : Fin cfg0.N, win0_2.index t = ![t.val, 0] := (by decide +kernel : ∀ t : Fin grid0.N, _)

/-- The product of two blocks, at an element. -/
def part (a : Vec Ideal S1024x256 .bf16) (b : Vec Ideal S256x1024 .bf16) (y : S1024x1024.Idx) : EReal :=
  ∑ k : Fin 256, a (ix2 (y 0) k) * b (ix2 k (y 1))

theorem zero_block (y : S1024x1024.Idx) : k0_pay1 (F := Ideal) y = (0 : EReal) := by
  pointwise [k0_pay1]

theorem add_block (a : Vec Ideal S1024x256 .bf16) (b : Vec Ideal S256x1024 .bf16) (s : Vec Ideal S1024x1024 .f32) (y : S1024x1024.Idx) :
    k0_pay2 (F := Ideal) a b s y = s y + part a b y := by
  unfold part
  pointwise [k0_pay2]

section
variable (m : (ℓ : Loc nD τ sig) → Buf (Elt Ideal) ℓ) (c : Dev nD)

theorem out_part (t : Fin cfg0.N) (y : S1024x1024.Idx) : outsAt0 m c t y = part (iblk m c 0 t) (iblk m c 1 t) y := by
  unfold outsAt0 out0_A_2
  frame_out
  refine (add_block (iblk m c 0 t) (iblk m c 1 t) (k0_pay1 (F := Ideal)) y).trans ?_
  rw [zero_block, zero_add]

theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (r : Fin 8192) (k : Fin 256) : V m c main_v0 (ix2 r k) = m ((c.tc : Thread nD τ).loc main_arg0) (ix2 r k) := by
  rw [V_left]; rfl

theorem right_at (k : Fin 256) (j : Fin 1024) : V m c main_v1 (ix2 k j) = m ((c.tc : Thread nD τ).loc main_arg1) (ix2 k j) := by
  rw [V_right]
  rfl

theorem pt_lt (t : Fin cfg0.N) : t.val < 8 := t.isLt

theorem blk_left (t : Fin cfg0.N) (r : Fin 1024) (k : Fin 256) : iblk m c 0 t (ix2 r k)
    = V m c main_v0 (ix2 (⟨t.val * 1024 + r.val, by have := pt_lt t; omega⟩ : Fin 8192) k) := by
  blk_simp [iblk]
  refine congrArg (V m c main_v0) ?_
  blk_ext [at_0]

theorem blk_right (t : Fin cfg0.N) (k : Fin 256) (j : Fin 1024) : iblk m c 1 t (ix2 k j)
    = V m c main_v1 (ix2 k j) := by
  blk_simp [iblk]
  refine congrArg (V m c main_v1) ?_
  blk_ext [at_1]

/-- The product of the whole arrays, at an element. -/
def whole (x : Vec Ideal S8192x256 .f32) (w : Vec Ideal S256x1024 .f32) (i : S8192x1024.Idx) : EReal :=
  ∑ k : Fin 256, x (ix2 (i 0) k) * w (ix2 k (i 1))

theorem after_last (t : Fin cfg0.N) (y : S1024x1024.Idx) : outsAt0 m c t y
    = whole (m ((c.tc : Thread nD τ).loc main_arg0)) (m ((c.tc : Thread nD τ).loc main_arg1)) (ix2 (⟨t.val * 1024 + (y 0).val, by have := pt_lt t; have : (y 0).val < 1024 := (y 0).isLt; omega⟩ : Fin 8192) (y 1)) := by
  rw [out_part]
  unfold part whole
  exact Finset.sum_congr rfl fun k _ => congrArg₂ (· * ·) ((blk_left m c t (y 0) k).trans (left_at m c _ k)) ((blk_right m c t k (y 1)).trans (right_at m c k _))

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel25Ideal.Value.run_blocks m g)

end

end Cert.Kernel25Ideal.Gen

namespace Cert.Reference25Ideal.Gen

open Idealize.ShloMosaic Idealize.ShloMosaic.TcCoe
open scoped BigOperators

theorem ref_whole (x : Vec Ideal S8192x256 .f32) (w : Vec Ideal S256x1024 .f32) :
    truncf (F := Ideal) (φ := .f32) .bf16 (Host.dotGeneral (F := Ideal) (φ₁ := .f32) (φ₂ := .f32) dot_S8192x256_S256x1024_S8192x1024_1_0_0_1_n_n none x w) bitsLt_bf16_f32 = Cert.Kernel25Ideal.Gen.whole x w := by
  funext i
  unfold Cert.Kernel25Ideal.Gen.whole
  pointwise

end Cert.Reference25Ideal.Gen

end
-- ==== Proof.Prod_mla_q_up_dx.lean ====
/- The queries' up-projection: the gradient of its input. -/
module

public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel26Ideal.Gen

open Idealize.ShloMosaic Idealize.ShloMosaic.TcCoe Idealize.SL.Sem
open scoped BigOperators

theorem at_0 : ∀ t : Fin cfg0.N, win0_0.index t = ![t.val / 2, t.val % 2] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, 0] := (by decide +kernel : ∀ t : Fin grid0.N, _)

/-- The product of two blocks, at an element. -/
def part (a : Vec Ideal S1024x512 .bf16) (b : Vec Ideal S512x384 .bf16) (y : S1024x384.Idx) : EReal :=
  ∑ k : Fin 512, a (ix2 (y 0) k) * b (ix2 k (y 1))

theorem zero_block (y : S1024x384.Idx) : k0_pay1 (F := Ideal) y = (0 : EReal) := by
  pointwise [k0_pay1]

theorem add_block (a : Vec Ideal S1024x512 .bf16) (b : Vec Ideal S512x384 .bf16) (s : Vec Ideal S1024x384 .f32) (y : S1024x384.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x384.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x384.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x384.Idx) :
    (outsAt0 m c t.val t.isLt).1 y = (outsAt0 m c t.val t.isLt).2 y := by
  rw [outsAt0_B m c t (by omega) h1]
  frame_out
theorem V_left : V m c main_v0 = truncf (F := Ideal) (φ := .f32) .bf16 (m ((c.tc : Thread nD τ).loc main_arg1)) bitsLt_bf16_f32 := by
  after_reads_simp

theorem V_right : V m c main_v2 = transpose S1024x384 [1, 0] (truncf (F := Ideal) (φ := .f32) .bf16 (m ((c.tc : Thread nD τ).loc main_arg0)) bitsLt_bf16_f32) transposes_S384x1024_S1024x384_1_0 := by
  after_reads_simp

theorem left_at (r : Fin 8192) (k : Fin 1024) : V m c main_v0 (ix2 r k) = m ((c.tc : Thread nD τ).loc main_arg1) (ix2 r k) := by
  rw [V_left]; rfl

theorem right_at (k : Fin 1024) (j : Fin 384) : V m c main_v2 (ix2 k j) = m ((c.tc : Thread nD τ).loc main_arg0) (ix2 j k) := by
  rw [V_right]
  pointwise

theorem pt_lt (t : Fin cfg0.N) : t.val < 16 := t.isLt

theorem blk_left (t : Fin cfg0.N) (r : Fin 1024) (k : Fin 512) : iblk m c 0 t (ix2 r k)
    = V m c main_v0 (ix2 (⟨t.val / 2 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 384) : iblk m c 1 t (ix2 k j)
    = V m c main_v2 (ix2 (⟨t.val % 2 * 512 + k.val, by omega⟩ : Fin 1024) j) := by
  blk_simp [iblk]
  refine congrArg (V m c main_v2) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg1) (ix2 (⟨t.val / 2 * 1024 + r.val, by have := pt_lt t; omega⟩ : Fin 8192) (⟨s.val * 512 + k.val, by omega⟩ : Fin 1024)) := by
  have e1 : (2 * (t.val / 2) + s.val) / 2 = t.val / 2 := by have := pt_lt t; omega
  have e2 : (2 * (t.val / 2) + s.val) % 2 = s.val := by omega
  rw [blk_left, left_at]
  simp only [e1, e2]

theorem right_pt (t : Fin cfg0.N) (s : Fin 2) (k : Fin 512) (j : Fin 384) (h : 2 * (t.val / 2) + s.val < cfg0.N) :
    iblk m c 1 ⟨2 * (t.val / 2) + s.val, h⟩ (ix2 k j) = m ((c.tc : Thread nD τ).loc main_arg0) (ix2 j (⟨s.val * 512 + k.val, by omega⟩ : Fin 1024)) := by
  have e2 : (2 * (t.val / 2) + s.val) % 2 = s.val := by omega
  rw [blk_right, right_at]
  simp only [e2]

/-- The product of the whole arrays, at an element. -/
def whole (dq : Vec Ideal S8192x1024 .f32) (w : Vec Ideal S384x1024 .f32) (i : S8192x384.Idx) : EReal :=
  ∑ k : Fin 1024, dq (ix2 (i 0) k) * w (ix2 (i 1) k)

theorem after_last (t : Fin cfg0.N) (h : t.val % 2 = 1) (y : S1024x384.Idx) : (outsAt0 m c t.val t.isLt).1 y
    = whole (m ((c.tc : Thread nD τ).loc main_arg1)) (m ((c.tc : Thread nD τ).loc main_arg0)) (ix2 (⟨t.val / 2 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg1)) (m ((c.tc : Thread nD τ).loc main_arg0)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg1)) (m ((c.tc : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel26Ideal.Value.run_blocks m g)

end

end Cert.Kernel26Ideal.Gen

namespace Cert.Reference26Ideal.Gen

open Idealize.ShloMosaic Idealize.ShloMosaic.TcCoe
open scoped BigOperators

theorem ref_whole (dq : Vec Ideal S8192x1024 .f32) (w : Vec Ideal S384x1024 .f32) :
    Host.dotGeneral (F := Ideal) (φ₁ := .f32) (φ₂ := .f32) dot_S8192x1024_S384x1024_S8192x384_1_1_0_0_n_n none dq w = Cert.Kernel26Ideal.Gen.whole dq w := by
  funext i
  unfold Cert.Kernel26Ideal.Gen.whole
  pointwise

end Cert.Reference26Ideal.Gen

end
-- ==== Proof.Prod_mla_q_up_dw.lean ====
/- The queries' up-projection: the gradient of its weight. -/
module

public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel27Ideal.Gen

open Idealize.ShloMosaic Idealize.ShloMosaic.TcCoe Idealize.SL.Sem
open scoped BigOperators

theorem at_0 : ∀ t : Fin cfg0.N, win0_0.index t = ![t.val % 16, 0] := (by decide +kernel : ∀ t : Fin grid0.N, _)
theorem at_1 : ∀ t : Fin cfg0.N, win0_1.index t = ![t.val % 16, 0] := (by decide +kernel : ∀ t : Fin grid0.N, _)
theorem at_2 : ∀ t : Fin cfg0.N, win0_2.index t = ![0, 0] := (by decide +kernel : ∀ t : Fin grid0.N, _)

/-- The product of two blocks, at an element. -/
def part (a : Vec Ideal S512x384 .bf16) (b : Vec Ideal S512x1024 .bf16) (y : S384x1024.Idx) : EReal :=
  ∑ k : Fin 512, a (ix2 k (y 0)) * b (ix2 k (y 1))

theorem zero_block (y : S384x1024.Idx) : k0_pay1 (F := Ideal) y = (0 : EReal) := by
  pointwise [k0_pay1]

theorem add_block (a : Vec Ideal S512x384 .bf16) (b : Vec Ideal S512x1024 .bf16) (s : Vec Ideal S384x1024 .f32) (y : S384x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 16 = 0) (y : S384x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 16 = 0) (y : S384x1024.Idx) :
    (outsAt0 m c t.val t.isLt).2 y = (outsAt0 m c (t.val - 1) (Nat.lt_of_le_of_lt (Nat.sub_le _ _) t.isLt)).2 y
      + part (iblk m c 0 t) (iblk m c 1 t) y := by
  by_cases h1 : t.val % 16 = 15
  · rw [outsAt0_C m c t h h1]
    frame_out
    simp only [read_unread_whole]
    rw [add_block]
  · rw [outsAt0_B m c t h h1]
    frame_out
    simp only [read_unread_whole]
    rw [add_block]

/-- At the last block of a sum the output holds what was summed. -/
theorem out_last (t : Fin cfg0.N) (h1 : t.val % 16 = 15) (y : S384x1024.Idx) :
    (outsAt0 m c t.val t.isLt).1 y = (outsAt0 m c t.val t.isLt).2 y := by
  rw [outsAt0_C m c t (by omega) h1]
  frame_out
theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (k : Fin 8192) (r : Fin 384) : V m c main_v0 (ix2 k r) = m ((c.tc : Thread nD τ).loc main_arg0) (ix2 k r) := by
  rw [V_left]; rfl

theorem right_at (k : Fin 8192) (j : Fin 1024) : V m c main_v1 (ix2 k j) = m ((c.tc : Thread nD τ).loc main_arg1) (ix2 k j) := by
  rw [V_right]
  rfl

theorem pt_lt (t : Fin cfg0.N) : t.val < 16 := t.isLt

theorem blk_left (t : Fin cfg0.N) (k : Fin 512) (r : Fin 384) : iblk m c 0 t (ix2 k r)
    = V m c main_v0 (ix2 (⟨t.val % 16 * 512 + k.val, by omega⟩ : Fin 8192) r) := by
  blk_simp [iblk]
  refine congrArg (V m c main_v0) ?_
  blk_ext [at_0]

theorem blk_right (t : Fin cfg0.N) (k : Fin 512) (j : Fin 1024) : iblk m c 1 t (ix2 k j)
    = V m c main_v1 (ix2 (⟨t.val % 16 * 512 + k.val, by omega⟩ : Fin 8192) j) := by
  blk_simp [iblk]
  refine congrArg (V m c main_v1) ?_
  blk_ext [at_1]

theorem left_pt (t : Fin cfg0.N) (s : Fin 16) (r : Fin 384) (k : Fin 512) (h : 16 * (t.val / 16) + s.val < cfg0.N) :
    iblk m c 0 ⟨16 * (t.val / 16) + s.val, h⟩ (ix2 k r) = m ((c.tc : Thread nD τ).loc main_arg0) (ix2 (⟨s.val * 512 + k.val, by omega⟩ : Fin 8192) r) := by
  have e2 : (16 * (t.val / 16) + s.val) % 16 = s.val := by omega
  rw [blk_left, left_at]
  simp only [e2]

theorem right_pt (t : Fin cfg0.N) (s : Fin 16) (k : Fin 512) (j : Fin 1024) (h : 16 * (t.val / 16) + s.val < cfg0.N) :
    iblk m c 1 ⟨16 * (t.val / 16) + s.val, h⟩ (ix2 k j) = m ((c.tc : Thread nD τ).loc main_arg1) (ix2 (⟨s.val * 512 + k.val, by omega⟩ : Fin 8192) j) := by
  have e2 : (16 * (t.val / 16) + s.val) % 16 = s.val := by omega
  rw [blk_right, right_at]
  simp only [e2]

/-- The product of the whole arrays, at an element. -/
def whole (x : Vec Ideal S8192x384 .f32) (dq : Vec Ideal S8192x1024 .f32) (i : S384x1024.Idx) : EReal :=
  ∑ k : Fin 8192, x (ix2 k (i 0)) * dq (ix2 k (i 1))

theorem after_last (t : Fin cfg0.N) (h : t.val % 16 = 15) (y : S384x1024.Idx) : (outsAt0 m c t.val t.isLt).1 y
    = whole (m ((c.tc : Thread nD τ).loc main_arg0)) (m ((c.tc : Thread nD τ).loc main_arg1)) (ix2 (y 0) (y 1)) := by
  rw [out_last m c t h y, Pipeline.eq_sum_fin_of_reset_step_apply_of_flush (fun n h => (outsAt0 m c n h).2) 16 (fun _ => (0 : EReal))
    (fun t y => part (iblk m c 0 t) (iblk m c 1 t) y) (sum_first m c) (sum_next m c) t h y, zero_add]
  unfold part whole
  refine Fin.sum_mul_add_congr (S := 16) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel27Ideal.Value.run_blocks m g)

end

end Cert.Kernel27Ideal.Gen

namespace Cert.Reference27Ideal.Gen

open Idealize.ShloMosaic Idealize.ShloMosaic.TcCoe
open scoped BigOperators

theorem ref_whole (x : Vec Ideal S8192x384 .f32) (dq : Vec Ideal S8192x1024 .f32) :
    transpose S384x1024 [1, 0] (Host.dotGeneral (F := Ideal) (φ₁ := .f32) (φ₂ := .f32) dot_S8192x1024_S8192x384_S1024x384_0_0_1_1_n_n none dq x) transposes_S1024x384_S384x1024_1_0 = Cert.Kernel27Ideal.Gen.whole x dq := by
  funext i
  unfold Cert.Kernel27Ideal.Gen.whole
  have e : (transpose S384x1024 [1, 0] (Host.dotGeneral (F := Ideal) (φ₁ := .f32) (φ₂ := .f32) dot_S8192x1024_S8192x384_S1024x384_0_0_1_1_n_n none dq x) transposes_S1024x384_S384x1024_1_0) i
      = ∑ r : Fin 8192, dq (ix2 r (i 1)) * x (ix2 r (i 0)) := by
    pointwise
  rw [e]
  exact Finset.sum_congr rfl fun r _ => mul_comm _ _

end Cert.Reference27Ideal.Gen

end
-- ==== Proof.Prod_mla_k_up_dx.lean ====
/- The keys' up-projection: the gradient of its input. -/
module

public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel28Ideal.Gen

open Idealize.ShloMosaic Idealize.ShloMosaic.TcCoe Idealize.SL.Sem
open scoped BigOperators

theorem at_0 : ∀ t : Fin cfg0.N, win0_0.index t = ![t.val / 2, t.val % 2] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, 0] := (by decide +kernel : ∀ t : Fin grid0.N, _)

/-- The product of two blocks, at an element. -/
def part (a : Vec Ideal S1024x512 .bf16) (b : Vec Ideal S512x256 .bf16) (y : S1024x256.Idx) : EReal :=
  ∑ k : Fin 512, a (ix2 (y 0) k) * b (ix2 k (y 1))

theorem zero_block (y : S1024x256.Idx) : k0_pay1 (F := Ideal) y = (0 : EReal) := by
  pointwise [k0_pay1]

theorem add_block (a : Vec Ideal S1024x512 .bf16) (b : Vec Ideal S512x256 .bf16) (s : Vec Ideal S1024x256 .f32) (y : S1024x256.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 2 = 0) (y : S1024x256.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 2 = 0) (y : S1024x256.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t h (by omega)]
  frame_out
  simp only [read_unread_whole]
  rw [add_block]

/-- At the last block of a sum the output holds what was summed. -/
theorem out_last (t : Fin cfg0.N) (h1 : t.val % 2 = 1) (y : S1024x256.Idx) :
    (outsAt0 m c t.val t.isLt).1 y = (outsAt0 m c t.val t.isLt).2 y := by
  rw [outsAt0_B m c t (by omega) h1]
  frame_out
theorem V_left : V m c main_v0 = truncf (F := Ideal) (φ := .f32) .bf16 (m ((c.tc : Thread nD τ).loc main_arg1)) bitsLt_bf16_f32 := by
  after_reads_simp

theorem V_right : V m c main_v2 = transpose S1024x256 [1, 0] (truncf (F := Ideal) (φ := .f32) .bf16 (m ((c.tc : Thread nD τ).loc main_arg0)) bitsLt_bf16_f32) transposes_S256x1024_S1024x256_1_0 := by
  after_reads_simp

theorem left_at (r : Fin 8192) (k : Fin 1024) : V m c main_v0 (ix2 r k) = m ((c.tc : Thread nD τ).loc main_arg1) (ix2 r k) := by
  rw [V_left]; rfl

theorem right_at (k : Fin 1024) (j : Fin 256) : V m c main_v2 (ix2 k j) = m ((c.tc : Thread nD τ).loc main_arg0) (ix2 j k) := by
  rw [V_right]
  pointwise

theorem pt_lt (t : Fin cfg0.N) : t.val < 16 := t.isLt

theorem blk_left (t : Fin cfg0.N) (r : Fin 1024) (k : Fin 512) : iblk m c 0 t (ix2 r k)
    = V m c main_v0 (ix2 (⟨t.val / 2 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 256) : iblk m c 1 t (ix2 k j)
    = V m c main_v2 (ix2 (⟨t.val % 2 * 512 + k.val, by omega⟩ : Fin 1024) j) := by
  blk_simp [iblk]
  refine congrArg (V m c main_v2) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg1) (ix2 (⟨t.val / 2 * 1024 + r.val, by have := pt_lt t; omega⟩ : Fin 8192) (⟨s.val * 512 + k.val, by omega⟩ : Fin 1024)) := by
  have e1 : (2 * (t.val / 2) + s.val) / 2 = t.val / 2 := by have := pt_lt t; omega
  have e2 : (2 * (t.val / 2) + s.val) % 2 = s.val := by omega
  rw [blk_left, left_at]
  simp only [e1, e2]

theorem right_pt (t : Fin cfg0.N) (s : Fin 2) (k : Fin 512) (j : Fin 256) (h : 2 * (t.val / 2) + s.val < cfg0.N) :
    iblk m c 1 ⟨2 * (t.val / 2) + s.val, h⟩ (ix2 k j) = m ((c.tc : Thread nD τ).loc main_arg0) (ix2 j (⟨s.val * 512 + k.val, by omega⟩ : Fin 1024)) := by
  have e2 : (2 * (t.val / 2) + s.val) % 2 = s.val := by omega
  rw [blk_right, right_at]
  simp only [e2]

/-- The product of the whole arrays, at an element. -/
def whole (dk : Vec Ideal S8192x1024 .f32) (w : Vec Ideal S256x1024 .f32) (i : S8192x256.Idx) : EReal :=
  ∑ k : Fin 1024, dk (ix2 (i 0) k) * w (ix2 (i 1) k)

theorem after_last (t : Fin cfg0.N) (h : t.val % 2 = 1) (y : S1024x256.Idx) : (outsAt0 m c t.val t.isLt).1 y
    = whole (m ((c.tc : Thread nD τ).loc main_arg1)) (m ((c.tc : Thread nD τ).loc main_arg0)) (ix2 (⟨t.val / 2 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 2 (fun _ => (0 : EReal))
    (fun t y => part (iblk m c 0 t) (iblk m c 1 t) y) (sum_first m c) (sum_next m c) t h y, zero_add]
  unfold part whole
  refine Fin.sum_mul_add_congr (S := 2) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg1)) (m ((c.tc : Thread nD τ).loc main_arg0)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg1)) (m ((c.tc : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel28Ideal.Value.run_blocks m g)

end

end Cert.Kernel28Ideal.Gen

namespace Cert.Reference28Ideal.Gen

open Idealize.ShloMosaic Idealize.ShloMosaic.TcCoe
open scoped BigOperators

theorem ref_whole (dk : Vec Ideal S8192x1024 .f32) (w : Vec Ideal S256x1024 .f32) :
    Host.dotGeneral (F := Ideal) (φ₁ := .f32) (φ₂ := .f32) dot_S8192x1024_S256x1024_S8192x256_1_1_0_0_n_n none dk w = Cert.Kernel28Ideal.Gen.whole dk w := by
  funext i
  unfold Cert.Kernel28Ideal.Gen.whole
  pointwise

end Cert.Reference28Ideal.Gen

end
-- ==== Proof.Prod_mla_k_up_dw.lean ====
/- The keys' up-projection: the gradient of its weight. -/
module

public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel29Ideal.Gen

open Idealize.ShloMosaic Idealize.ShloMosaic.TcCoe Idealize.SL.Sem
open scoped BigOperators

theorem at_0 : ∀ t : Fin cfg0.N, win0_0.index t = ![t.val % 16, 0] := (by decide +kernel : ∀ t : Fin grid0.N, _)
theorem at_1 : ∀ t : Fin cfg0.N, win0_1.index t = ![t.val % 16, 0] := (by decide +kernel : ∀ t : Fin grid0.N, _)
theorem at_2 : ∀ t : Fin cfg0.N, win0_2.index t = ![0, 0] := (by decide +kernel : ∀ t : Fin grid0.N, _)

/-- The product of two blocks, at an element. -/
def part (a : Vec Ideal S512x256 .bf16) (b : Vec Ideal S512x1024 .bf16) (y : S256x1024.Idx) : EReal :=
  ∑ k : Fin 512, a (ix2 k (y 0)) * b (ix2 k (y 1))

theorem zero_block (y : S256x1024.Idx) : k0_pay1 (F := Ideal) y = (0 : EReal) := by
  pointwise [k0_pay1]

theorem add_block (a : Vec Ideal S512x256 .bf16) (b : Vec Ideal S512x1024 .bf16) (s : Vec Ideal S256x1024 .f32) (y : S256x1024.Idx) :
    k0_pay2 (F := Ideal) a b s y = s y + part a b y := by
  unfold part
  pointwise [k0_pay2]

section
variable (m : (ℓ : Loc nD τ sig) → Buf (Elt Ideal) ℓ) (c : Dev nD)

theorem sum_first (t : Fin cfg0.N) (h : t.val % 16 = 0) (y : S256x1024.Idx) :
    (outsAt0 m c t.val t.isLt).2 y = 0 + part (iblk m c 0 t) (iblk m c 1 t) y := by
  rw [outsAt0_A m c t h (by omega)]
  frame_out
  rw [add_block, zero_block]

theorem sum_next (t : Fin cfg0.N) (h : ¬ t.val % 16 = 0) (y : S256x1024.Idx) :
    (outsAt0 m c t.val t.isLt).2 y = (outsAt0 m c (t.val - 1) (Nat.lt_of_le_of_lt (Nat.sub_le _ _) t.isLt)).2 y
      + part (iblk m c 0 t) (iblk m c 1 t) y := by
  by_cases h1 : t.val % 16 = 15
  · rw [outsAt0_C m c t h h1]
    frame_out
    simp only [read_unread_whole]
    rw [add_block]
  · rw [outsAt0_B m c t h h1]
    frame_out
    simp only [read_unread_whole]
    rw [add_block]

/-- At the last block of a sum the output holds what was summed. -/
theorem out_last (t : Fin cfg0.N) (h1 : t.val % 16 = 15) (y : S256x1024.Idx) :
    (outsAt0 m c t.val t.isLt).1 y = (outsAt0 m c t.val t.isLt).2 y := by
  rw [outsAt0_C m c t (by omega) h1]
  frame_out
theorem V_left : V m c main_v0 = truncf (F := Ideal) (φ := .f32) .bf16 (m ((c.tc : Thread nD τ).loc main_arg0)) bitsLt_bf16_f32 := by
  after_reads_simp

theorem V_right : V m c main_v1 = truncf (F := Ideal) (φ := .f32) .bf16 (m ((c.tc : Thread nD τ).loc main_arg1)) bitsLt_bf16_f32 := by
  after_reads_simp

theorem left_at (k : Fin 8192) (r : Fin 256) : V m c main_v0 (ix2 k r) = m ((c.tc : Thread nD τ).loc main_arg0) (ix2 k r) := by
  rw [V_left]; rfl

theorem right_at (k : Fin 8192) (j : Fin 1024) : V m c main_v1 (ix2 k j) = m ((c.tc : Thread nD τ).loc main_arg1) (ix2 k j) := by
  rw [V_right]
  rfl

theorem pt_lt (t : Fin cfg0.N) : t.val < 16 := t.isLt

theorem blk_left (t : Fin cfg0.N) (k : Fin 512) (r : Fin 256) : iblk m c 0 t (ix2 k r)
    = V m c main_v0 (ix2 (⟨t.val % 16 * 512 + k.val, by omega⟩ : Fin 8192) r) := by
  blk_simp [iblk]
  refine congrArg (V m c main_v0) ?_
  blk_ext [at_0]

theorem blk_right (t : Fin cfg0.N) (k : Fin 512) (j : Fin 1024) : iblk m c 1 t (ix2 k j)
    = V m c main_v1 (ix2 (⟨t.val % 16 * 512 + k.val, by omega⟩ : Fin 8192) j) := by
  blk_simp [iblk]
  refine congrArg (V m c main_v1) ?_
  blk_ext [at_1]

theorem left_pt (t : Fin cfg0.N) (s : Fin 16) (r : Fin 256) (k : Fin 512) (h : 16 * (t.val / 16) + s.val < cfg0.N) :
    iblk m c 0 ⟨16 * (t.val / 16) + s.val, h⟩ (ix2 k r) = m ((c.tc : Thread nD τ).loc main_arg0) (ix2 (⟨s.val * 512 + k.val, by omega⟩ : Fin 8192) r) := by
  have e2 : (16 * (t.val / 16) + s.val) % 16 = s.val := by omega
  rw [blk_left, left_at]
  simp only [e2]

theorem right_pt (t : Fin cfg0.N) (s : Fin 16) (k : Fin 512) (j : Fin 1024) (h : 16 * (t.val / 16) + s.val < cfg0.N) :
    iblk m c 1 ⟨16 * (t.val / 16) + s.val, h⟩ (ix2 k j) = m ((c.tc : Thread nD τ).loc main_arg1) (ix2 (⟨s.val * 512 + k.val, by omega⟩ : Fin 8192) j) := by
  have e2 : (16 * (t.val / 16) + s.val) % 16 = s.val := by omega
  rw [blk_right, right_at]
  simp only [e2]

/-- The product of the whole arrays, at an element. -/
def whole (x : Vec Ideal S8192x256 .f32) (dk : Vec Ideal S8192x1024 .f32) (i : S256x1024.Idx) : EReal :=
  ∑ k : Fin 8192, x (ix2 k (i 0)) * dk (ix2 k (i 1))

theorem after_last (t : Fin cfg0.N) (h : t.val % 16 = 15) (y : S256x1024.Idx) : (outsAt0 m c t.val t.isLt).1 y
    = whole (m ((c.tc : Thread nD τ).loc main_arg0)) (m ((c.tc : Thread nD τ).loc main_arg1)) (ix2 (y 0) (y 1)) := by
  rw [out_last m c t h y, Pipeline.eq_sum_fin_of_reset_step_apply_of_flush (fun n h => (outsAt0 m c n h).2) 16 (fun _ => (0 : EReal))
    (fun t y => part (iblk m c 0 t) (iblk m c 1 t) y) (sum_first m c) (sum_next m c) t h y, zero_add]
  unfold part whole
  refine Fin.sum_mul_add_congr (S := 16) (n := 512) fun s k hl => ?_
  exact congrArg₂ (· * ·) (left_pt m c t s (y 0) k _) (right_pt m c t s k (y 1) _)

/-- The array after the run. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, after_last m c t ((flush0_2 t).mp hf)]
  refine congrArg _ ?_
  blk_ext [at_2]

theorem run_whole (g : Dev nD → PrngReg) : θ_run defs (onTc (τ := τ) (main (F := Ideal))) ⟨m, fun _ => 0, g⟩ fun r => ∀ c : Dev nD,
      r.2.mem ((c : Thread nD τ).loc main_v2) = whole (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Cert.Kernel29Ideal.Value.run_blocks m g)

end

end Cert.Kernel29Ideal.Gen

namespace Cert.Reference29Ideal.Gen

open Idealize.ShloMosaic Idealize.ShloMosaic.TcCoe
open scoped BigOperators

theorem ref_whole (x : Vec Ideal S8192x256 .f32) (dk : Vec Ideal S8192x1024 .f32) :
    transpose S256x1024 [1, 0] (Host.dotGeneral (F := Ideal) (φ₁ := .f32) (φ₂ := .f32) dot_S8192x1024_S8192x256_S1024x256_0_0_1_1_n_n none dk x) transposes_S1024x256_S256x1024_1_0 = Cert.Kernel29Ideal.Gen.whole x dk := by
  funext i
  unfold Cert.Kernel29Ideal.Gen.whole
  have e : (transpose S256x1024 [1, 0] (Host.dotGeneral (F := Ideal) (φ₁ := .f32) (φ₂ := .f32) dot_S8192x1024_S8192x256_S1024x256_0_0_1_1_n_n none dk x) transposes_S1024x256_S256x1024_1_0) i
      = ∑ r : Fin 8192, dk (ix2 r (i 1)) * x (ix2 r (i 0)) := by
    pointwise
  rw [e]
  exact Finset.sum_congr rfl fun r _ => mul_comm _ _

end Cert.Reference29Ideal.Gen

end
-- ==== Proof.Prod_mla_v_up_dx.lean ====
/- The values' up-projection: the gradient of its input, added to a given array. -/
module

public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel30Ideal.Gen

open Idealize.ShloMosaic Idealize.ShloMosaic.TcCoe Idealize.SL.Sem
open scoped BigOperators

theorem at_0 : ∀ t : Fin cfg0.N, win0_0.index t = ![t.val / 2, t.val % 2] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, 0] := (by decide +kernel : ∀ t : Fin grid0.N, _)
theorem at_3 : ∀ t : Fin cfg0.N, win0_3.index t = ![t.val / 2, 0] := (by decide +kernel : ∀ t : Fin grid0.N, _)

/-- The product of two blocks, at an element. -/
def part (a : Vec Ideal S1024x512 .bf16) (b : Vec Ideal S512x256 .bf16) (y : S1024x256.Idx) : EReal :=
  ∑ k : Fin 512, a (ix2 (y 0) k) * b (ix2 k (y 1))

theorem start_block (a : Vec Ideal S1024x256 .f32) (y : S1024x256.Idx) : k0_pay1 (F := Ideal) a y = a y := by
  pointwise [k0_pay1]

theorem add_block (a : Vec Ideal S1024x512 .bf16) (b : Vec Ideal S512x256 .bf16) (s : Vec Ideal S1024x256 .f32) (y : S1024x256.Idx) :
    k0_pay2 (F := Ideal) a b s y = s y + part a b y := by
  unfold part
  pointwise [k0_pay2]

section
variable (m : (ℓ : Loc nD τ sig) → Buf (Elt Ideal) ℓ) (c : Dev nD)

/-- The given block of a point, at an element. -/
def given (t : Fin cfg0.N) (y : S1024x256.Idx) : EReal := iblk m c 2 t y

/-- What a point adds: the product of its blocks and, at the first point of a sum, the given block. -/
def term (t : Fin cfg0.N) (y : S1024x256.Idx) : EReal :=
  (if t.val % 2 = 0 then given m c t y else 0) + part (iblk m c 0 t) (iblk m c 1 t) y

theorem sum_first (t : Fin cfg0.N) (h : t.val % 2 = 0) (y : S1024x256.Idx) :
    (outsAt0 m c t.val t.isLt).2 y = 0 + term m c t y := by
  rw [outsAt0_A m c t h (by omega)]
  frame_out
  rw [add_block, start_block, term, if_pos h, zero_add]
  rfl

theorem sum_next (t : Fin cfg0.N) (h : ¬ t.val % 2 = 0) (y : S1024x256.Idx) :
    (outsAt0 m c t.val t.isLt).2 y = (outsAt0 m c (t.val - 1) (Nat.lt_of_le_of_lt (Nat.sub_le _ _) t.isLt)).2 y
      + term m c t y := by
  rw [outsAt0_B m c t h (by omega)]
  frame_out
  simp only [read_unread_whole]
  rw [add_block, term, if_neg h, zero_add]

/-- At the last block of a sum the output holds what was summed. -/
theorem out_last (t : Fin cfg0.N) (h1 : t.val % 2 = 1) (y : S1024x256.Idx) :
    (outsAt0 m c t.val t.isLt).1 y = (outsAt0 m c t.val t.isLt).2 y := by
  rw [outsAt0_B m c t (by omega) h1]
  frame_out
theorem V_left : V m c main_v0 = truncf (F := Ideal) (φ := .f32) .bf16 (m ((c.tc : Thread nD τ).loc main_arg1)) bitsLt_bf16_f32 := by
  after_reads_simp

theorem V_right : V m c main_v2 = transpose S1024x256 [1, 0] (truncf (F := Ideal) (φ := .f32) .bf16 (m ((c.tc : Thread nD τ).loc main_arg0)) bitsLt_bf16_f32) transposes_S256x1024_S1024x256_1_0 := by
  after_reads_simp

theorem left_at (r : Fin 8192) (k : Fin 1024) : V m c main_v0 (ix2 r k) = m ((c.tc : Thread nD τ).loc main_arg1) (ix2 r k) := by
  rw [V_left]; rfl

theorem right_at (k : Fin 1024) (j : Fin 256) : V m c main_v2 (ix2 k j) = m ((c.tc : Thread nD τ).loc main_arg0) (ix2 j k) := by
  rw [V_right]
  pointwise

theorem pt_lt (t : Fin cfg0.N) : t.val < 16 := t.isLt

theorem blk_left (t : Fin cfg0.N) (r : Fin 1024) (k : Fin 512) : iblk m c 0 t (ix2 r k)
    = V m c main_v0 (ix2 (⟨t.val / 2 * 1024 + r.val, by have := pt_lt t; omega⟩ : Fin 8192) (⟨t.val % 2 * 512 + k.val, by omega⟩ : Fin 1024)) := by
  blk_simp [iblk]
  refine congrArg (V m c main_v0) ?_
  blk_ext [at_0]

theorem blk_right (t : Fin cfg0.N) (k : Fin 512) (j : Fin 256) : iblk m c 1 t (ix2 k j)
    = V m c main_v2 (ix2 (⟨t.val % 2 * 512 + k.val, by omega⟩ : Fin 1024) j) := by
  blk_simp [iblk]
  refine congrArg (V m c main_v2) ?_
  blk_ext [at_1]

theorem left_pt (t : Fin cfg0.N) (s : Fin 2) (r : Fin 1024) (k : Fin 512) (h : 2 * (t.val / 2) + s.val < cfg0.N) :
    iblk m c 0 ⟨2 * (t.val / 2) + s.val, h⟩ (ix2 r k) = m ((c.tc : Thread nD τ).loc main_arg1) (ix2 (⟨t.val / 2 * 1024 + r.val, by have := pt_lt t; omega⟩ : Fin 8192) (⟨s.val * 512 + k.val, by omega⟩ : Fin 1024)) := by
  have e1 : (2 * (t.val / 2) + s.val) / 2 = t.val / 2 := by have := pt_lt t; omega
  have e2 : (2 * (t.val / 2) + s.val) % 2 = s.val := by omega
  rw [blk_left, left_at]
  simp only [e1, e2]

theorem right_pt (t : Fin cfg0.N) (s : Fin 2) (k : Fin 512) (j : Fin 256) (h : 2 * (t.val / 2) + s.val < cfg0.N) :
    iblk m c 1 ⟨2 * (t.val / 2) + s.val, h⟩ (ix2 k j) = m ((c.tc : Thread nD τ).loc main_arg0) (ix2 j (⟨s.val * 512 + k.val, by omega⟩ : Fin 1024)) := by
  have e2 : (2 * (t.val / 2) + s.val) % 2 = s.val := by omega
  rw [blk_right, right_at]
  simp only [e2]

/-- The product of the whole arrays, at an element. -/
def whole (dv : Vec Ideal S8192x1024 .f32) (w : Vec Ideal S256x1024 .f32) (d : Vec Ideal S8192x256 .f32) (i : S8192x256.Idx) : EReal :=
  d i + ∑ k : Fin 1024, dv (ix2 (i 0) k) * w (ix2 (i 1) k)

theorem add_pt (t : Fin cfg0.N) (y : S1024x256.Idx) (h : 2 * (t.val / 2) < cfg0.N) :
    given m c ⟨2 * (t.val / 2), h⟩ y = m ((c.tc : Thread nD τ).loc main_arg2) (ix2 (⟨t.val / 2 * 1024 + (y 0).val, by have := pt_lt t; have : (y 0).val < 1024 := (y 0).isLt; omega⟩ : Fin 8192) (y 1)) := by
  have e : 2 * (t.val / 2) / 2 = t.val / 2 := by omega
  unfold given
  rw [← V_main_arg2 m c]
  blk_simp [iblk]
  refine congrArg (V m c main_arg2) ?_
  blk_ext [at_2, e]

/-- The given block is added once in a sum. -/
theorem sum_add (t : Fin cfg0.N) (y : S1024x256.Idx) (h : ∀ s : Fin 2, 2 * (t.val / 2) + s.val < cfg0.N) :
    ∑ s : Fin 2, (if (2 * (t.val / 2) + s.val) % 2 = 0 then given m c ⟨2 * (t.val / 2) + s.val, h s⟩ y else 0)
      = m ((c.tc : Thread nD τ).loc main_arg2) (ix2 (⟨t.val / 2 * 1024 + (y 0).val, by have := pt_lt t; have : (y 0).val < 1024 := (y 0).isLt; omega⟩ : Fin 8192) (y 1)) := by
  rw [Finset.sum_eq_single (0 : Fin 2) (fun s _ hs => if_neg (by have : s.val ≠ 0 := fun e => hs (Fin.ext e); omega))
    (fun hs => absurd (Finset.mem_univ _) hs)]
  rw [if_pos (by simp)]
  exact add_pt m c t y (h 0)

theorem after_last (t : Fin cfg0.N) (h : t.val % 2 = 1) (y : S1024x256.Idx) : (outsAt0 m c t.val t.isLt).1 y
    = whole (m ((c.tc : Thread nD τ).loc main_arg1)) (m ((c.tc : Thread nD τ).loc main_arg0)) (m ((c.tc : Thread nD τ).loc main_arg2)) (ix2 (⟨t.val / 2 * 1024 + (y 0).val, by have := pt_lt t; have : (y 0).val < 1024 := (y 0).isLt; omega⟩ : Fin 8192) (y 1)) := by
  rw [out_last m c t h y, Pipeline.eq_sum_fin_of_reset_step_apply_of_flush (fun n h => (outsAt0 m c n h).2) 2 (fun _ => (0 : EReal))
    (fun t y => term m c t y) (sum_first m c) (sum_next m c) t h y, zero_add]
  unfold term part whole
  rw [Finset.sum_add_distrib]
  refine (congrArg (· + _) (sum_add m c t y fun s => by have := pt_lt t; have := s.isLt; exact (by omega : 2 * (t.val / 2) + s.val < 16))).trans ?_
  refine congrArg _ ?_
  refine Fin.sum_mul_add_congr (S := 2) (n := 512) fun s k hl => ?_
  exact congrArg₂ (· * ·) (left_pt m c t s (y 0) k _) (right_pt m c t s k (y 1) _)

/-- The array after the run. -/
theorem array : (dats m 0 c).arrAt 3 cfg0.N = whole (m ((c.tc : Thread nD τ).loc main_arg1)) (m ((c.tc : Thread nD τ).loc main_arg0)) (m ((c.tc : Thread nD τ).loc main_arg2)) := by
  refine (dats m 0 c).arrAt_eq_of_covers 3 _ (by decide +kernel) fun t hf y => ?_
  blk_simp
  rw [after0_3, after_last m c t ((flush0_3 t).mp hf)]
  refine congrArg _ ?_
  blk_ext [at_3]

theorem run_whole (g : Dev nD → PrngReg) : θ_run defs (onTc (τ := τ) (main (F := Ideal))) ⟨m, fun _ => 0, g⟩ fun r => ∀ c : Dev nD,
      r.2.mem ((c : Thread nD τ).loc main_v3) = whole (m ((c.tc : Thread nD τ).loc main_arg1)) (m ((c.tc : Thread nD τ).loc main_arg0)) (m ((c.tc : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array m c), (h c).2⟩) (Cert.Kernel30Ideal.Value.run_blocks m g)

end

end Cert.Kernel30Ideal.Gen

namespace Cert.Reference30Ideal.Gen

open Idealize.ShloMosaic Idealize.ShloMosaic.TcCoe
open scoped BigOperators

theorem ref_whole (dv : Vec Ideal S8192x1024 .f32) (w : Vec Ideal S256x1024 .f32) (d : Vec Ideal S8192x256 .f32) :
    addf (F := Ideal) (φ := .f32) d (Host.dotGeneral (F := Ideal) (φ₁ := .f32) (φ₂ := .f32) dot_S8192x1024_S256x1024_S8192x256_1_1_0_0_n_n none dv w) = Cert.Kernel30Ideal.Gen.whole dv w d := by
  funext i
  unfold Cert.Kernel30Ideal.Gen.whole
  pointwise

end Cert.Reference30Ideal.Gen

end
-- ==== Proof.Prod.lean ====
/- The products: each kernel's result is its reference's. -/
module

public import proofs.«01_k».proof.Defs
public import proofs.«01_k».proof.Proof.Prod_dx
public import proofs.«01_k».proof.Proof.Prod_dw
public import proofs.«01_k».proof.Proof.Prod_ffn_down_dx
public import proofs.«01_k».proof.Proof.Prod_ffn_down_dw
public import proofs.«01_k».proof.Proof.Prod_ffn_up_dx_gate
public import proofs.«01_k».proof.Proof.Prod_ffn_up_dx_val
public import proofs.«01_k».proof.Proof.Prod_ffn_up_dw_gate
public import proofs.«01_k».proof.Proof.Prod_ffn_up
public import proofs.«01_k».proof.Proof.Prod_ffn_down
public import proofs.«01_k».proof.Proof.Prod_proj_a
public import proofs.«01_k».proof.Proof.Prod_proj_dm
public import proofs.«01_k».proof.Proof.Prod_proj_gate
public import proofs.«01_k».proof.Proof.Prod_out_proj
public import proofs.«01_k».proof.Proof.Prod_out_proj_dx
public import proofs.«01_k».proof.Proof.Prod_out_proj_dw
public import proofs.«01_k».proof.Proof.Prod_br_dil
public import proofs.«01_k».proof.Proof.Prod_br_dil_dx
public import proofs.«01_k».proof.Proof.Prod_br_dil_dw
public import proofs.«01_k».proof.Proof.Prod_br_mla_dx
public import proofs.«01_k».proof.Proof.Prod_br_mem_dx
public import proofs.«01_k».proof.Proof.Prod_mla_q_up
public import proofs.«01_k».proof.Proof.Prod_mla_k_up
public import proofs.«01_k».proof.Proof.Prod_mla_v_up
public import proofs.«01_k».proof.Proof.Prod_mla_q_up_dx
public import proofs.«01_k».proof.Proof.Prod_mla_q_up_dw
public import proofs.«01_k».proof.Proof.Prod_mla_k_up_dx
public import proofs.«01_k».proof.Proof.Prod_mla_k_up_dw
public import proofs.«01_k».proof.Proof.Prod_mla_v_up_dx

@[expose] public section

set_option maxRecDepth 16384

noncomputable section

namespace Cert.Proof

open Idealize.ShloMosaic Idealize.ShloMosaic.TcCoe Idealize.SL.Sem

section
attribute [local instance] Cert.Kernel2Ideal.Gen.facts Cert.Reference2Ideal.Gen.facts Cert.Kernel3Ideal.Gen.facts Cert.Reference3Ideal.Gen.facts
  Cert.Kernel4Ideal.Gen.facts Cert.Reference4Ideal.Gen.facts
  Cert.Kernel5Ideal.Gen.facts Cert.Reference5Ideal.Gen.facts
  Cert.Kernel6Ideal.Gen.facts Cert.Reference6Ideal.Gen.facts
  Cert.Kernel7Ideal.Gen.facts Cert.Reference7Ideal.Gen.facts
  Cert.Kernel8Ideal.Gen.facts Cert.Reference8Ideal.Gen.facts
  Cert.Kernel9Ideal.Gen.facts Cert.Reference9Ideal.Gen.facts
  Cert.Kernel10Ideal.Gen.facts Cert.Reference10Ideal.Gen.facts
  Cert.Kernel11Ideal.Gen.facts Cert.Reference11Ideal.Gen.facts
  Cert.Kernel12Ideal.Gen.facts Cert.Reference12Ideal.Gen.facts
  Cert.Kernel13Ideal.Gen.facts Cert.Reference13Ideal.Gen.facts
  Cert.Kernel14Ideal.Gen.facts Cert.Reference14Ideal.Gen.facts
  Cert.Kernel15Ideal.Gen.facts Cert.Reference15Ideal.Gen.facts
  Cert.Kernel16Ideal.Gen.facts Cert.Reference16Ideal.Gen.facts
  Cert.Kernel17Ideal.Gen.facts Cert.Reference17Ideal.Gen.facts
  Cert.Kernel18Ideal.Gen.facts Cert.Reference18Ideal.Gen.facts
  Cert.Kernel19Ideal.Gen.facts Cert.Reference19Ideal.Gen.facts
  Cert.Kernel20Ideal.Gen.facts Cert.Reference20Ideal.Gen.facts
  Cert.Kernel21Ideal.Gen.facts Cert.Reference21Ideal.Gen.facts
  Cert.Kernel23Ideal.Gen.facts Cert.Reference23Ideal.Gen.facts
  Cert.Kernel24Ideal.Gen.facts Cert.Reference24Ideal.Gen.facts
  Cert.Kernel25Ideal.Gen.facts Cert.Reference25Ideal.Gen.facts
  Cert.Kernel26Ideal.Gen.facts Cert.Reference26Ideal.Gen.facts
  Cert.Kernel27Ideal.Gen.facts Cert.Reference27Ideal.Gen.facts
  Cert.Kernel28Ideal.Gen.facts Cert.Reference28Ideal.Gen.facts
  Cert.Kernel29Ideal.Gen.facts Cert.Reference29Ideal.Gen.facts
  Cert.Kernel30Ideal.Gen.facts Cert.Reference30Ideal.Gen.facts

/-- The gradient of the projection's input is the reference's, on all extended reals. -/
theorem proj_dx : Cert.algebraic_Kernel2Ideal_Reference2Ideal := by
  intro m g m' g' _ hargs
  refine ⟨fun c => Cert.Kernel2Ideal.Gen.whole (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg0)), Cert.Kernel2Ideal.Gen.run_whole m g, ?_⟩
  refine (θ_run Cert.Reference2Ideal.defs _ _).mono (fun r h c => ⟨(h c).1.trans ?_, (h c).2⟩) (Cert.Reference2Ideal.Value.run (F := Ideal) m' g')
  rw [(hargs c).1, (hargs c).2]
  exact Cert.Reference2Ideal.Gen.ref_whole _ _

/-- The gradient of the projection's weight is the reference's, on all extended reals. -/
theorem proj_dw : Cert.algebraic_Kernel3Ideal_Reference3Ideal := by
  intro m g m' g' _ hargs
  refine ⟨fun c => Cert.Kernel3Ideal.Gen.whole (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), Cert.Kernel3Ideal.Gen.run_whole m g, ?_⟩
  refine (θ_run Cert.Reference3Ideal.defs _ _).mono (fun r h c => ⟨(h c).1.trans ?_, (h c).2⟩) (Cert.Reference3Ideal.Value.run (F := Ideal) m' g')
  rw [(hargs c).1, (hargs c).2]
  exact Cert.Reference3Ideal.Gen.ref_whole _ _

/-- The FFN's second product: the gradient of its input, on all extended reals. -/
theorem ffn_down_dx : Cert.algebraic_Kernel4Ideal_Reference4Ideal := by
  intro m g m' g' _ hargs
  refine ⟨fun c => Cert.Kernel4Ideal.Gen.whole (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg0)),
    Cert.Kernel4Ideal.Gen.run_whole m g, ?_⟩
  refine (θ_run Cert.Reference4Ideal.defs _ _).mono (fun r h c => ⟨(h c).1.trans ?_, (h c).2⟩) (Cert.Reference4Ideal.Value.run (F := Ideal) m' g')
  rw [(hargs c).1, (hargs c).2]
  exact Cert.Reference4Ideal.Gen.ref_whole _ _

/-- The FFN's second product: the gradient of its weight, on all extended reals. -/
theorem ffn_down_dw : Cert.algebraic_Kernel5Ideal_Reference5Ideal := by
  intro m g m' g' _ hargs
  refine ⟨fun c => Cert.Kernel5Ideal.Gen.whole (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    Cert.Kernel5Ideal.Gen.run_whole m g, ?_⟩
  refine (θ_run Cert.Reference5Ideal.defs _ _).mono (fun r h c => ⟨(h c).1.trans ?_, (h c).2⟩) (Cert.Reference5Ideal.Value.run (F := Ideal) m' g')
  rw [(hargs c).1, (hargs c).2]
  exact Cert.Reference5Ideal.Gen.ref_whole _ _

/-- The FFN's first product: the gradient of its input from the gate half, on all extended reals. -/
theorem ffn_up_dx_gate : Cert.algebraic_Kernel6Ideal_Reference6Ideal := by
  intro m g m' g' _ hargs
  refine ⟨fun c => Cert.Kernel6Ideal.Gen.whole (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg0)),
    Cert.Kernel6Ideal.Gen.run_whole m g, ?_⟩
  refine (θ_run Cert.Reference6Ideal.defs _ _).mono (fun r h c => ⟨(h c).1.trans ?_, (h c).2⟩) (Cert.Reference6Ideal.Value.run (F := Ideal) m' g')
  rw [(hargs c).1, (hargs c).2]
  exact Cert.Reference6Ideal.Gen.ref_whole _ _

/-- The FFN's first product: the gradient of its input from the value half, added to a given array, on all extended reals. -/
theorem ffn_up_dx_val : Cert.algebraic_Kernel7Ideal_Reference7Ideal := by
  intro m g m' g' _ hargs
  refine ⟨fun c => Cert.Kernel7Ideal.Gen.whole (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg2)),
    Cert.Kernel7Ideal.Gen.run_whole m g, ?_⟩
  refine (θ_run Cert.Reference7Ideal.defs _ _).mono (fun r h c => ⟨(h c).1.trans ?_, (h c).2⟩) (Cert.Reference7Ideal.Value.run (F := Ideal) m' g')
  rw [(hargs c).1, (hargs c).2.1, (hargs c).2.2]
  exact Cert.Reference7Ideal.Gen.ref_whole _ _ _

/-- The FFN's first product: the gradient of half its weight, on all extended reals. -/
theorem ffn_up_dw_gate : Cert.algebraic_Kernel8Ideal_Reference8Ideal := by
  intro m g m' g' _ hargs
  refine ⟨fun c => Cert.Kernel8Ideal.Gen.whole (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    Cert.Kernel8Ideal.Gen.run_whole m g, ?_⟩
  refine (θ_run Cert.Reference8Ideal.defs _ _).mono (fun r h c => ⟨(h c).1.trans ?_, (h c).2⟩) (Cert.Reference8Ideal.Value.run (F := Ideal) m' g')
  rw [(hargs c).1, (hargs c).2]
  exact Cert.Reference8Ideal.Gen.ref_whole _ _

/-- The FFN's first product, on all extended reals. -/
theorem ffn_up : Cert.algebraic_Kernel9Ideal_Reference9Ideal := by
  intro m g m' g' _ hargs
  refine ⟨fun c => Cert.Kernel9Ideal.Gen.whole (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    Cert.Kernel9Ideal.Gen.run_whole m g, ?_⟩
  refine (θ_run Cert.Reference9Ideal.defs _ _).mono (fun r h c => ⟨(h c).1.trans ?_, (h c).2⟩) (Cert.Reference9Ideal.Value.run (F := Ideal) m' g')
  rw [(hargs c).1, (hargs c).2]
  exact Cert.Reference9Ideal.Gen.ref_whole _ _

/-- The FFN's second product, on all extended reals. -/
theorem ffn_down : Cert.algebraic_Kernel10Ideal_Reference10Ideal := by
  intro m g m' g' _ hargs
  refine ⟨fun c => Cert.Kernel10Ideal.Gen.whole (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    Cert.Kernel10Ideal.Gen.run_whole m g, ?_⟩
  refine (θ_run Cert.Reference10Ideal.defs _ _).mono (fun r h c => ⟨(h c).1.trans ?_, (h c).2⟩) (Cert.Reference10Ideal.Value.run (F := Ideal) m' g')
  rw [(hargs c).1, (hargs c).2]
  exact Cert.Reference10Ideal.Gen.ref_whole _ _

/-- The input projection's first columns, on all extended reals. -/
theorem proj_a : Cert.algebraic_Kernel11Ideal_Reference11Ideal := by
  intro m g m' g' _ hargs
  refine ⟨fun c => Cert.Kernel11Ideal.Gen.whole (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    Cert.Kernel11Ideal.Gen.run_whole m g, ?_⟩
  refine (θ_run Cert.Reference11Ideal.defs _ _).mono (fun r h c => ⟨(h c).1.trans ?_, (h c).2⟩) (Cert.Reference11Ideal.Value.run (F := Ideal) m' g')
  rw [(hargs c).1, (hargs c).2]
  exact Cert.Reference11Ideal.Gen.ref_whole _ _

/-- The input projection's columns of the dilated and memory attention, on all extended reals. -/
theorem proj_dm : Cert.algebraic_Kernel12Ideal_Reference12Ideal := by
  intro m g m' g' _ hargs
  refine ⟨fun c => Cert.Kernel12Ideal.Gen.whole (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    Cert.Kernel12Ideal.Gen.run_whole m g, ?_⟩
  refine (θ_run Cert.Reference12Ideal.defs _ _).mono (fun r h c => ⟨(h c).1.trans ?_, (h c).2⟩) (Cert.Reference12Ideal.Value.run (F := Ideal) m' g')
  rw [(hargs c).1, (hargs c).2]
  exact Cert.Reference12Ideal.Gen.ref_whole _ _

/-- The input projection's last columns, on all extended reals. -/
theorem proj_gate : Cert.algebraic_Kernel13Ideal_Reference13Ideal := by
  intro m g m' g' _ hargs
  refine ⟨fun c => Cert.Kernel13Ideal.Gen.whole (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    Cert.Kernel13Ideal.Gen.run_whole m g, ?_⟩
  refine (θ_run Cert.Reference13Ideal.defs _ _).mono (fun r h c => ⟨(h c).1.trans ?_, (h c).2⟩) (Cert.Reference13Ideal.Value.run (F := Ideal) m' g')
  rw [(hargs c).1, (hargs c).2]
  exact Cert.Reference13Ideal.Gen.ref_whole _ _

/-- The output projection, on all extended reals. -/
theorem out_proj : Cert.algebraic_Kernel14Ideal_Reference14Ideal := by
  intro m g m' g' _ hargs
  refine ⟨fun c => Cert.Kernel14Ideal.Gen.whole (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    Cert.Kernel14Ideal.Gen.run_whole m g, ?_⟩
  refine (θ_run Cert.Reference14Ideal.defs _ _).mono (fun r h c => ⟨(h c).1.trans ?_, (h c).2⟩) (Cert.Reference14Ideal.Value.run (F := Ideal) m' g')
  rw [(hargs c).1, (hargs c).2]
  exact Cert.Reference14Ideal.Gen.ref_whole _ _

/-- The output projection: the gradient of its input, on all extended reals. -/
theorem out_proj_dx : Cert.algebraic_Kernel15Ideal_Reference15Ideal := by
  intro m g m' g' _ hargs
  refine ⟨fun c => Cert.Kernel15Ideal.Gen.whole (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg0)),
    Cert.Kernel15Ideal.Gen.run_whole m g, ?_⟩
  refine (θ_run Cert.Reference15Ideal.defs _ _).mono (fun r h c => ⟨(h c).1.trans ?_, (h c).2⟩) (Cert.Reference15Ideal.Value.run (F := Ideal) m' g')
  rw [(hargs c).1, (hargs c).2]
  exact Cert.Reference15Ideal.Gen.ref_whole _ _

/-- The output projection: the gradient of its weight, on all extended reals. -/
theorem out_proj_dw : Cert.algebraic_Kernel16Ideal_Reference16Ideal := by
  intro m g m' g' _ hargs
  refine ⟨fun c => Cert.Kernel16Ideal.Gen.whole (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    Cert.Kernel16Ideal.Gen.run_whole m g, ?_⟩
  refine (θ_run Cert.Reference16Ideal.defs _ _).mono (fun r h c => ⟨(h c).1.trans ?_, (h c).2⟩) (Cert.Reference16Ideal.Value.run (F := Ideal) m' g')
  rw [(hargs c).1, (hargs c).2]
  exact Cert.Reference16Ideal.Gen.ref_whole _ _

/-- A branch's product, on all extended reals. -/
theorem br_dil : Cert.algebraic_Kernel17Ideal_Reference17Ideal := by
  intro m g m' g' _ hargs
  refine ⟨fun c => Cert.Kernel17Ideal.Gen.whole (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    Cert.Kernel17Ideal.Gen.run_whole m g, ?_⟩
  refine (θ_run Cert.Reference17Ideal.defs _ _).mono (fun r h c => ⟨(h c).1.trans ?_, (h c).2⟩) (Cert.Reference17Ideal.Value.run (F := Ideal) m' g')
  rw [(hargs c).1, (hargs c).2]
  exact Cert.Reference17Ideal.Gen.ref_whole _ _

/-- A branch's product: the gradient of its input, on all extended reals. -/
theorem br_dil_dx : Cert.algebraic_Kernel18Ideal_Reference18Ideal := by
  intro m g m' g' _ hargs
  refine ⟨fun c => Cert.Kernel18Ideal.Gen.whole (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg0)),
    Cert.Kernel18Ideal.Gen.run_whole m g, ?_⟩
  refine (θ_run Cert.Reference18Ideal.defs _ _).mono (fun r h c => ⟨(h c).1.trans ?_, (h c).2⟩) (Cert.Reference18Ideal.Value.run (F := Ideal) m' g')
  rw [(hargs c).1, (hargs c).2]
  exact Cert.Reference18Ideal.Gen.ref_whole _ _

/-- A branch's product: the gradient of its weight, on all extended reals. -/
theorem br_dil_dw : Cert.algebraic_Kernel19Ideal_Reference19Ideal := by
  intro m g m' g' _ hargs
  refine ⟨fun c => Cert.Kernel19Ideal.Gen.whole (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    Cert.Kernel19Ideal.Gen.run_whole m g, ?_⟩
  refine (θ_run Cert.Reference19Ideal.defs _ _).mono (fun r h c => ⟨(h c).1.trans ?_, (h c).2⟩) (Cert.Reference19Ideal.Value.run (F := Ideal) m' g')
  rw [(hargs c).1, (hargs c).2]
  exact Cert.Reference19Ideal.Gen.ref_whole _ _

/-- The causal attention's branch: the gradient of its input, on all extended reals. -/
theorem br_mla_dx : Cert.algebraic_Kernel20Ideal_Reference20Ideal := by
  intro m g m' g' _ hargs
  refine ⟨fun c => Cert.Kernel20Ideal.Gen.whole (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg0)),
    Cert.Kernel20Ideal.Gen.run_whole m g, ?_⟩
  refine (θ_run Cert.Reference20Ideal.defs _ _).mono (fun r h c => ⟨(h c).1.trans ?_, (h c).2⟩) (Cert.Reference20Ideal.Value.run (F := Ideal) m' g')
  rw [(hargs c).1, (hargs c).2]
  exact Cert.Reference20Ideal.Gen.ref_whole _ _

/-- The memory attention's branch: the gradient of its input, on all extended reals. -/
theorem br_mem_dx : Cert.algebraic_Kernel21Ideal_Reference21Ideal := by
  intro m g m' g' _ hargs
  refine ⟨fun c => Cert.Kernel21Ideal.Gen.whole (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg0)),
    Cert.Kernel21Ideal.Gen.run_whole m g, ?_⟩
  refine (θ_run Cert.Reference21Ideal.defs _ _).mono (fun r h c => ⟨(h c).1.trans ?_, (h c).2⟩) (Cert.Reference21Ideal.Value.run (F := Ideal) m' g')
  rw [(hargs c).1, (hargs c).2]
  exact Cert.Reference21Ideal.Gen.ref_whole _ _

/-- The queries' up-projection, on all extended reals. -/
theorem mla_q_up : Cert.algebraic_Kernel23Ideal_Reference23Ideal := by
  intro m g m' g' _ hargs
  refine ⟨fun c => Cert.Kernel23Ideal.Gen.whole (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)),
    Cert.Kernel23Ideal.Gen.run_whole m g, ?_⟩
  refine (θ_run Cert.Reference23Ideal.defs _ _).mono (fun r h c => ⟨(h c).1.trans ?_, (h c).2⟩) (Cert.Reference23Ideal.Value.run (F := Ideal) m' g')
  rw [(hargs c).1, (hargs c).2]
  exact Cert.Reference23Ideal.Gen.ref_whole _ _

/-- The keys' up-projection, on all extended reals. -/
theorem mla_k_up : Cert.algebraic_Kernel24Ideal_Reference24Ideal := by
  intro m g m' g' _ hargs
  refine ⟨fun c => Cert.Kernel24Ideal.Gen.whole (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)),
    Cert.Kernel24Ideal.Gen.run_whole m g, ?_⟩
  refine (θ_run Cert.Reference24Ideal.defs _ _).mono (fun r h c => ⟨(h c).1.trans ?_, (h c).2⟩) (Cert.Reference24Ideal.Value.run (F := Ideal) m' g')
  rw [(hargs c).1, (hargs c).2]
  exact Cert.Reference24Ideal.Gen.ref_whole _ _

/-- The values' up-projection, on all extended reals. -/
theorem mla_v_up : Cert.algebraic_Kernel25Ideal_Reference25Ideal := by
  intro m g m' g' _ hargs
  refine ⟨fun c => Cert.Kernel25Ideal.Gen.whole (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)),
    Cert.Kernel25Ideal.Gen.run_whole m g, ?_⟩
  refine (θ_run Cert.Reference25Ideal.defs _ _).mono (fun r h c => ⟨(h c).1.trans ?_, (h c).2⟩) (Cert.Reference25Ideal.Value.run (F := Ideal) m' g')
  rw [(hargs c).1, (hargs c).2]
  exact Cert.Reference25Ideal.Gen.ref_whole _ _

/-- The queries' up-projection: the gradient of its input, on all extended reals. -/
theorem mla_q_up_dx : Cert.algebraic_Kernel26Ideal_Reference26Ideal := by
  intro m g m' g' _ hargs
  refine ⟨fun c => Cert.Kernel26Ideal.Gen.whole (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg0)),
    Cert.Kernel26Ideal.Gen.run_whole m g, ?_⟩
  refine (θ_run Cert.Reference26Ideal.defs _ _).mono (fun r h c => ⟨(h c).1.trans ?_, (h c).2⟩) (Cert.Reference26Ideal.Value.run (F := Ideal) m' g')
  rw [(hargs c).1, (hargs c).2]
  exact Cert.Reference26Ideal.Gen.ref_whole _ _

/-- The queries' up-projection: the gradient of its weight, on all extended reals. -/
theorem mla_q_up_dw : Cert.algebraic_Kernel27Ideal_Reference27Ideal := by
  intro m g m' g' _ hargs
  refine ⟨fun c => Cert.Kernel27Ideal.Gen.whole (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)),
    Cert.Kernel27Ideal.Gen.run_whole m g, ?_⟩
  refine (θ_run Cert.Reference27Ideal.defs _ _).mono (fun r h c => ⟨(h c).1.trans ?_, (h c).2⟩) (Cert.Reference27Ideal.Value.run (F := Ideal) m' g')
  rw [(hargs c).1, (hargs c).2]
  exact Cert.Reference27Ideal.Gen.ref_whole _ _

/-- The keys' up-projection: the gradient of its input, on all extended reals. -/
theorem mla_k_up_dx : Cert.algebraic_Kernel28Ideal_Reference28Ideal := by
  intro m g m' g' _ hargs
  refine ⟨fun c => Cert.Kernel28Ideal.Gen.whole (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg0)),
    Cert.Kernel28Ideal.Gen.run_whole m g, ?_⟩
  refine (θ_run Cert.Reference28Ideal.defs _ _).mono (fun r h c => ⟨(h c).1.trans ?_, (h c).2⟩) (Cert.Reference28Ideal.Value.run (F := Ideal) m' g')
  rw [(hargs c).1, (hargs c).2]
  exact Cert.Reference28Ideal.Gen.ref_whole _ _

/-- The keys' up-projection: the gradient of its weight, on all extended reals. -/
theorem mla_k_up_dw : Cert.algebraic_Kernel29Ideal_Reference29Ideal := by
  intro m g m' g' _ hargs
  refine ⟨fun c => Cert.Kernel29Ideal.Gen.whole (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)),
    Cert.Kernel29Ideal.Gen.run_whole m g, ?_⟩
  refine (θ_run Cert.Reference29Ideal.defs _ _).mono (fun r h c => ⟨(h c).1.trans ?_, (h c).2⟩) (Cert.Reference29Ideal.Value.run (F := Ideal) m' g')
  rw [(hargs c).1, (hargs c).2]
  exact Cert.Reference29Ideal.Gen.ref_whole _ _

/-- The values' up-projection: the gradient of its input, added to a given array, on all extended reals. -/
theorem mla_v_up_dx : Cert.algebraic_Kernel30Ideal_Reference30Ideal := by
  intro m g m' g' _ hargs
  refine ⟨fun c => Cert.Kernel30Ideal.Gen.whole (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg2)),
    Cert.Kernel30Ideal.Gen.run_whole m g, ?_⟩
  refine (θ_run Cert.Reference30Ideal.defs _ _).mono (fun r h c => ⟨(h c).1.trans ?_, (h c).2⟩) (Cert.Reference30Ideal.Value.run (F := Ideal) m' g')
  rw [(hargs c).1, (hargs c).2.1, (hargs c).2.2]
  exact Cert.Reference30Ideal.Gen.ref_whole _ _ _

end

end Cert.Proof

end
-- ==== Proof.Fwd_math.lean ====
/- The forward attention over the reals, one row of queries: what a running maximum and a running sum of powers of two
   hold after the keys up to some number, how a block of keys moves them on, and what they say of the softmax. -/
module

public import proofs.«01_k».proof.Proof.Math
public import Idealize.ShloMosaic.Lib.Pointwise

@[expose] public section

noncomputable section

namespace Cert.Attn

open Idealize.ShloMosaic
open scoped BigOperators

/-- A nonnegative real distributes over a sum of extended reals. -/
theorem mul_sum_nonneg {ι : Type} (a : ℝ) (ha : 0 ≤ a) (s : Finset ι) (f : ι → EReal) : (a : EReal) * ∑ i ∈ s, f i = ∑ i ∈ s, (a : EReal) * f i := by
  induction s using Finset.cons_induction with
  | empty => simp
  | cons i s hi ih =>
    rw [Finset.sum_cons, Finset.sum_cons, EReal.left_distrib_of_nonneg_of_ne_top (by exact_mod_cast ha) (EReal.coe_ne_top _), ih]

/-- Row `x`'s maximum `M` and sums `A` after the keys below `n`, the scores being `σ` and the values `w`: nothing yet, or
    some real on every lane and the powers of two over it of the keys the row sees, times the values. -/
def Good (σ : ℕ → ℝ) (w : ℕ → Fin 128 → EReal) (x n : ℕ) (M A : Fin 128 → EReal) : Prop :=
  (n = 0 ∧ ∀ l, M l = ⊥ ∧ A l = 0) ∨ ∃ μ : ℝ, (∀ l, M l = (μ : EReal))
    ∧ ∀ l, A l = ∑ y ∈ Finset.range n, (if y ≤ x then ((Real.rpow 2 (σ y - μ) : ℝ) : EReal) * w y l else 0)

/-- The greatest of some numbers none of which is plus infinity, one of which is a real, is a real. -/
theorem fold_real {n : ℕ} (f : Fin n → EReal) (i : Fin n) (ht : ∀ b, f b ≠ ⊤) (hb : f i ≠ ⊥) :
    ∃ ν : ℝ, Finset.univ.fold max (⊥ : EReal) f = (ν : EReal) := by
  have h1 : Finset.univ.fold max (⊥ : EReal) f ≠ ⊤ :=
    ne_of_lt ((Finset.fold_max_lt _).2 ⟨bot_lt_top, fun i _ => lt_top_iff_ne_top.2 (ht i)⟩)
  have h2 : Finset.univ.fold max (⊥ : EReal) f ≠ ⊥ :=
    ne_of_gt ((Finset.lt_fold_max _).2 (Or.inr ⟨i, Finset.mem_univ _, bot_lt_iff_ne_bot.2 hb⟩))
  exact ⟨_, (EReal.coe_toReal h1 h2).symm⟩

theorem rpow_two_mul (a b : ℝ) : Real.rpow 2 a * Real.rpow 2 b = Real.rpow 2 (a + b) :=
  (Real.rpow_add (by norm_num : (0 : ℝ) < 2) a b).symm

section
variable {σ : ℕ → ℝ} {w : ℕ → Fin 128 → EReal} {x n : ℕ}

/-- A block's sum over a real maximum. -/
theorem block_sum (μ : ℝ) (sc : Fin 512 → EReal) (hs : ∀ b : Fin 512, sc b = if n + b.val ≤ x then ((σ (n + b.val) : ℝ) : EReal) else ⊥)
    (vb : Fin 512 → EReal) (l : Fin 128) (hv : ∀ b : Fin 512, vb b = w (n + b.val) l) :
    ∑ b, Ideal.exp2 (sc b - (μ : EReal)) * vb b
      = ∑ b ∈ Finset.range 512, (if n + b ≤ x then ((Real.rpow 2 (σ (n + b) - μ) : ℝ) : EReal) * w (n + b) l else 0) := by
  rw [Finset.sum_range fun b => if n + b ≤ x then ((Real.rpow 2 (σ (n + b) - μ) : ℝ) : EReal) * w (n + b) l else 0]
  refine Finset.sum_congr rfl fun b _ => ?_
  rw [hs, hv]
  by_cases h : n + b.val ≤ x
  · rw [if_pos h, if_pos h, ← EReal.coe_sub, Ideal.exp2_coe]
  · rw [if_neg h, if_neg h, show (⊥ : EReal) - (μ : EReal) = ⊥ from rfl, Ideal.exp2_bot, zero_mul]

/-- A block of 512 keys, the first of which the row sees, moves the two on. -/
theorem good_step (hx : n ≤ x) (sc : Fin 512 → EReal)
    (hs : ∀ b : Fin 512, sc b = if n + b.val ≤ x then ((σ (n + b.val) : ℝ) : EReal) else ⊥)
    (vb : Fin 512 → Fin 128 → EReal) (hv : ∀ b l, vb b l = w (n + b.val) l) (M A M' A' : Fin 128 → EReal)
    (hM : ∀ l, M' l = max (M l) (Finset.univ.fold max ⊥ sc))
    (hA : ∀ l, A' l = Ideal.exp2 (M l - M' l) * A l + ∑ b, Ideal.exp2 (sc b - M' 0) * vb b l) (h : Good σ w x n M A) :
    Good σ w x (n + 512) M' A' := by
  obtain ⟨ν, hν⟩ := fold_real sc 0 (fun b => by
      rw [hs]; split
      · exact EReal.coe_ne_top _
      · exact bot_ne_top)
    (by rw [hs, if_pos (by simpa using hx)]; exact EReal.coe_ne_bot _)
  rw [hν] at hM
  refine Or.inr ?_
  rcases h with ⟨h0, h⟩ | ⟨μ, hμ, h⟩
  · have hM' : ∀ l, M' l = (ν : EReal) := fun l => by rw [hM, (h l).1, max_eq_right bot_le]
    refine ⟨ν, hM', fun l => ?_⟩
    rw [hA, (h l).2, mul_zero, zero_add, hM', block_sum ν sc hs (fun b => vb b l) l fun b => hv b l, h0]
    simp only [Nat.zero_add]
  · have hM' : ∀ l, M' l = ((max μ ν : ℝ) : EReal) := fun l => by rw [hM, hμ]; exact (EReal.coe_strictMono.monotone.map_max).symm
    refine ⟨max μ ν, hM', fun l => ?_⟩
    rw [hA, h, hM', hM', hμ, block_sum (max μ ν) sc hs (fun b => vb b l) l fun b => hv b l, ← EReal.coe_sub, Ideal.exp2_coe,
      mul_sum_nonneg (Real.rpow 2 (μ - max μ ν)) (Real.rpow_nonneg (by norm_num) _), Finset.sum_range_add]
    refine congrArg (· + _) (Finset.sum_congr rfl fun y _ => ?_)
    split
    · rw [← mul_assoc, ← EReal.coe_mul, rpow_two_mul, show μ - max μ ν + (σ y - μ) = σ y - max μ ν by ring]
    · rw [mul_zero]
end

section
variable (q k : Fin 8192 → Fin 128 → ℝ) (w : Fin 8192 → Fin 128 → EReal)

/-- Row `r`'s scores in powers of two, by key number. -/
def sg (r : Fin 8192) (y : ℕ) : ℝ := if h : y < 8192 then ∑ l, q r l / Real.log 2 * k ⟨y, h⟩ l else 0
/-- The values by key number. -/
def wv (y : ℕ) (l : Fin 128) : EReal := if h : y < 8192 then w ⟨y, h⟩ l else 0

theorem sg_lt (r : Fin 8192) (y : ℕ) (h : y < 8192) : sg q k r y = ∑ l, q r l / Real.log 2 * k ⟨y, h⟩ l := dif_pos h
theorem wv_lt (y : ℕ) (l : Fin 128) (h : y < 8192) : wv w y l = w ⟨y, h⟩ l := dif_pos h

/-- The sums over every key the row sees, as exponentials. -/
theorem sum_seen (r : Fin 8192) (n : ℕ) (hr : r.val < n) (hn : n ≤ 8192) (μ : ℝ) (l : Fin 128) :
    ∑ y ∈ Finset.range n, (if y ≤ r.val then ((Real.rpow 2 (sg q k r y - μ) : ℝ) : EReal) * wv w y l else 0)
      = ((Real.exp (-(μ * Real.log 2)) : ℝ) : EReal) * ∑ y, ((E q k r y : ℝ) : EReal) * w y l := by
  have h2 : Real.log 2 ≠ 0 := (Real.log_pos (by norm_num)).ne'
  rw [Finset.sum_subset (s₂ := Finset.range 8192) (by intro y; simp only [Finset.mem_range]; omega) (fun y _ hy => by
    simp only [Finset.mem_range] at hy
    rw [if_neg (by omega)]), Finset.sum_range, mul_sum_nonneg _ (Real.exp_pos _).le]
  refine Finset.sum_congr rfl fun y _ => ?_
  unfold E
  by_cases h : y ≤ r
  · rw [if_pos (show y.val ≤ r.val from h), if_pos h, sg_lt _ _ _ _ y.isLt, wv_lt _ _ _ y.isLt, ← mul_assoc, ← EReal.coe_mul, ← Real.exp_add]
    refine congrArg (fun z : ℝ => (z : EReal) * _) ?_
    have hs : ∑ l, q r l / Real.log 2 * k ⟨y.val, y.isLt⟩ l = S q k r y / Real.log 2 := by
      unfold S; rw [Finset.sum_div]; exact Finset.sum_congr rfl fun l _ => by ring
    rw [hs]
    show (2 : ℝ) ^ (S q k r y / Real.log 2 - μ) = _
    rw [Real.rpow_def_of_pos (by norm_num : (0 : ℝ) < 2)]
    congr 1
    field_simp
    ring
  · rw [if_neg (show ¬ y.val ≤ r.val from h), if_neg h, EReal.coe_zero, zero_mul, mul_zero]

/-- What the two hold after every key the row sees: the sums divided by the one of lane 64, whose values are ones, are the
    softmax times the values, and the maximum plus that sum's logarithm is the row's. -/
theorem good_end (r : Fin 8192) (n : ℕ) (hr : r.val < n) (hn : n ≤ 8192) (h64 : ∀ y, w y 64 = 1) (M A : Fin 128 → EReal)
    (h : Good (sg q k r) (wv w) r.val n M A) :
    (∀ l, Ideal.div (A l) (A 64) = ∑ y, ((W q k r y : ℝ) : EReal) * w y l)
      ∧ ∀ l, M l + Ideal.div (Ideal.log (A 64)) ((Real.log 2 : ℝ) : EReal) = ((Real.log (Z q k r) / Real.log 2 : ℝ) : EReal) := by
  have h2 : Real.log 2 ≠ 0 := (Real.log_pos (by norm_num)).ne'
  rcases h with ⟨h0, -⟩ | ⟨μ, hM, hA⟩
  · omega
  have hz := Z_pos q k r
  have he := Real.exp_pos (-(μ * Real.log 2))
  have hA' : ∀ l, A l = ((Real.exp (-(μ * Real.log 2)) : ℝ) : EReal) * ∑ y, ((E q k r y : ℝ) : EReal) * w y l := fun l => by
    rw [hA, sum_seen q k w r n hr hn]
  have hD : A 64 = ((Real.exp (-(μ * Real.log 2)) * Z q k r : ℝ) : EReal) := by
    rw [hA', EReal.coe_mul]; unfold Z; simp only [h64, mul_one]; rw [coe_sum]
  refine ⟨fun l => ?_, fun l => ?_⟩
  · rw [hD, hA']
    unfold Ideal.div
    rw [if_neg (by exact_mod_cast (mul_pos he hz).ne'), ← EReal.coe_inv, mul_comm, ← mul_assoc, ← EReal.coe_mul,
      mul_sum_nonneg _ (mul_nonneg (inv_nonneg.2 (mul_pos he hz).le) he.le)]
    refine Finset.sum_congr rfl fun y _ => ?_
    rw [← mul_assoc, ← EReal.coe_mul]
    refine congrArg (fun z : ℝ => (z : EReal) * _) ?_
    have h1 := he.ne'
    have h2 := hz.ne'
    unfold W; field_simp
  · rw [hD, hM, Ideal.log_coe, if_neg (not_le.2 (mul_pos he hz)), div_coe _ _ h2, ← EReal.coe_add, Real.log_mul he.ne' hz.ne',
      Real.log_exp]
    refine congrArg _ ?_
    field_simp
    ring

/-- The logarithm of a row's sum as the reference comes to it. -/
theorem ref_lse (M : ℝ) (r : Fin 8192) : (M + Real.log (∑ c, F q k M r c)) / Real.log 2 = Real.log (Z q k r) / Real.log 2 := by
  rw [sum_F, Real.log_mul (Z_pos q k r).ne' (Real.exp_pos _).ne', Real.log_exp]
  ring
end

end Cert.Attn

end
-- ==== Proof.Fwd_tile.lean ====
/- The forward attention's body at the ideal instance: what each value it stores is at an index, and how one update of a
   half of the rows moves the running maximum and the running sums on. -/
module

public import proofs.«01_k».proof.Proof.Gen.Kernel22Ideal.Skeleton
public import proofs.«01_k».proof.Proof.Fwd_math
public import Idealize.ShloMosaic.Lib.Pointwise
public import Idealize.ShloMosaic.Lib.Writes
public import Idealize.ShloMosaic.Lib.WholeRead

@[expose] public section

set_option maxRecDepth 16384

noncomputable section

namespace Cert.Kernel22Ideal.Gen

open Idealize.ShloMosaic
open scoped BigOperators

theorem mask_eq : (Named.named (F := Ideal) κ (φ := .f32) "mask" 0xF149F2CA#32 : EReal) = ⊥ :=
  IdealRules.named_const.ideal_named_scalar _ _ _ _ rfl

theorem ln2_eq : (Named.named (F := Ideal) κ (φ := .f32) "ln2" 0x3F317218#32 : EReal) = ((Real.log 2 : ℝ) : EReal) :=
  IdealRules.named_const.ideal_named_scalar _ _ _ _ rfl

/-- Two numbers below 512 compare as words as they compare as numbers. -/
theorem le_words (a r : Fin 512) :
    IntOp.cmpi CmpIPredicate.sle (BitVec.ofNat 32 r.val) (BitVec.ofNat 32 a.val) = if r.val ≤ a.val then 1#1 else 0#1 := by
  have hr := r.isLt
  have ha := a.isLt
  have e1 : (BitVec.ofNat 32 r.val).toInt = (r.val : ℤ) := by
    rw [BitVec.toInt_eq_toNat_of_lt] <;> simp only [BitVec.toNat_ofNat] <;> omega
  have e2 : (BitVec.ofNat 32 a.val).toInt = (a.val : ℤ) := by
    rw [BitVec.toInt_eq_toNat_of_lt] <;> simp only [BitVec.toNat_ofNat] <;> omega
  simp only [IntOp.cmpi, BitVec.sle, e1, e2]
  by_cases h : r.val ≤ a.val <;> simp [h]

/-- Lane 64, as words, is the lane of number 64. -/
theorem eq_words (l : Fin 128) : IntOp.cmpi CmpIPredicate.eq (BitVec.ofNat 32 l.val) 64#32 = if l = 64 then 1#1 else 0#1 := by
  revert l; decide +kernel

/-! ## The stored values, read at an index -/

theorem pay19_at (s : FVec Ideal S512x512 .f32) (m : Vec Ideal S1x512x128 .f32) (r : Fin 512) (l : Fin 128) :
    k0_pay19 (F := Ideal) s m (ix2 r l) = max (m (ix3 0 r l)) (Finset.univ.fold max ⊥ fun b : Fin 512 => s (ix2 r b)) := by
  pointwise [k0_pay19, k0_pay18]
  rw [Attn.bits_bot]

theorem pay21_at (s : FVec Ideal S512x512 .f32) (m : Vec Ideal S1x512x128 .f32) (r : Fin 512) (l : Fin 128) :
    k0_pay21 (F := Ideal) s m (ix3 0 r l) = k0_pay19 (F := Ideal) s m (ix2 r l) := by
  pointwise [k0_pay21]

theorem pay20_at (s : FVec Ideal S512x512 .f32) (m a : Vec Ideal S1x512x128 .f32) (v : Vec Ideal S512x128 .bf16) (r : Fin 512) (l : Fin 128) :
    k0_pay20 (F := Ideal) s m a v (ix3 0 r l)
      = Ideal.exp2 (m (ix3 0 r l) - k0_pay19 (F := Ideal) s m (ix2 r l)) * a (ix3 0 r l)
        + ∑ b : Fin 512, Ideal.exp2 (s (ix2 r b) - k0_pay19 (F := Ideal) s m (ix2 r 0)) * v (ix2 b l) := by
  pointwise [k0_pay20, k0_pay18]
  rfl

theorem pay2_at (q k : Vec Ideal S512x128 .bf16) (r b : Fin 512) :
    k0_pay2 (F := Ideal) q k (ix2 r b) = ∑ l : Fin 128, q (ix2 r l) * k (ix2 b l) := by
  pointwise [k0_pay2]

theorem pay15_eq (q : Vec Ideal S512x128 .bf16) : k0_pay15 (F := Ideal) q = q := by
  funext i; idx_vars i; pointwise [k0_pay15]

theorem pay16_eq (q : Vec Ideal S512x128 .bf16) : k0_pay16 (F := Ideal) q = q := by
  funext i; idx_vars i; pointwise [k0_pay16]

theorem pay30_at (s : FVec Ideal S512x512 .f32) (r b : Fin 512) :
    k0_pay30 (F := Ideal) s (ix2 r b) = if b.val ≤ r.val then s (ix2 r b) else ⊥ := by
  pointwise [k0_pay30, k0_pay29]
  rw [le_words, mask_eq]
  by_cases h : b.val ≤ r.val
  · simp only [h, if_true]; rfl
  · simp only [h, if_false]; rfl

theorem pay12_at (v : Vec Ideal S8192x128 .bf16) (y : Fin 8192) (l : Fin 128) :
    k0_pay12 (F := Ideal) v (ix2 y l) = if l = 64 then 1 else v (ix2 y l) := by
  pointwise [k0_pay12]
  rw [eq_words]
  by_cases h : l = 64
  · simp only [h, if_true]; rfl
  · simp only [h, if_false]; rfl

theorem pay13_at (c : Fin 2) (r : Fin 512) (l : Fin 128) : k0_pay13 (F := Ideal) (ix3 c r l) = ⊥ := by
  pointwise [k0_pay13]
  exact mask_eq

theorem pay14_at (c : Fin 2) (r : Fin 512) (l : Fin 128) : k0_pay14 (F := Ideal) (ix3 c r l) = 0 := by
  pointwise [k0_pay14]

theorem pay46_at (a : Vec Ideal S1x512x128 .f32) (r : Fin 512) (l : Fin 128) :
    k0_pay46 (F := Ideal) (iota .tc S512x128 32 [1] iota_S512x128_d1_w32) a (ix2 r l)
      = if l = 64 then 0 else Ideal.div (a (ix3 0 r l)) (a (ix3 0 r 64)) := by
  pointwise [k0_pay46, k0_pay45, k0_pay44]
  rw [eq_words]
  by_cases h : l = 64
  · simp only [h, if_true]; rfl
  · simp only [h, if_false]; rfl

theorem pay47_at (a m : Vec Ideal S1x512x128 .f32) (r : Fin 512) (l : Fin 128) :
    k0_pay47 (F := Ideal) a m (ix2 r l)
      = m (ix3 0 r l) + Ideal.div (Ideal.log (a (ix3 0 r 64))) ((Real.log 2 : ℝ) : EReal) := by
  pointwise [k0_pay47, k0_pay45, k0_pay44]
  rw [ln2_eq]

theorem pay50_eq (i : IVec S512x128 32) (a : Vec Ideal S1x512x128 .f32) : k0_pay50 (F := Ideal) i a = k0_pay46 i a := rfl

theorem pay1_eq (a m : Vec Ideal S1x512x128 .f32) :
    k0_pay1 (F := Ideal) (k0_pay51 m) (k0_pay52 a) k0_pay53 = k0_pay47 a m := rfl

/-! ## Reading and writing a half -/

section
variable {κ : Kind} {sp : Space} {e : EltTy} (vw : View sig κ sp S2x512x128 e) (f : vw.ty.Contents (Elt Ideal))

/-- A load of half `c`. -/
theorem ld_half (c : Fin 2) (off : Fin 3 → ℕ) (h0 : off 0 = c.val) (h1 : off 1 = 0) (h2 : off 2 = 0)
    (inb : ∀ a, off a + S1x512x128.size a ≤ S2x512x128.size a) (r : Fin 512) (l : Fin 128) :
    View.readAt (Elt Ideal) vw (Rect.unit (s := S2x512x128) off S1x512x128.size inb).toLoadRect f (ix3 0 r l)
      = vw.read (Elt Ideal) f (ix3 c r l) := by
  refine congrArg (vw.read (Elt Ideal) f) (Rect.emb_eq_of_coords _ _ _ fun b => ?_)
  match b with
  | 0 => show c.val = off 0 + 1 * 0; omega
  | 1 => show r.val = off 1 + 1 * r.val; omega
  | 2 => show l.val = off 2 + 1 * l.val; omega

/-- A store of half `c`, that half read back. -/
theorem st_half (c : Fin 2) (off : Fin 3 → ℕ) (h0 : off 0 = c.val) (h1 : off 1 = 0) (h2 : off 2 = 0)
    (inb : ∀ a, off a + S1x512x128.size a ≤ S2x512x128.size a) (w : S1x512x128.Idx → Elt Ideal e) (L : List (View.Piece (Elt Ideal) S2x512x128 e))
    (r : Fin 512) (l : Fin 128) :
    vw.read (Elt Ideal) (vw.writes (Elt Ideal) f (⟨Rect.unit (s := S2x512x128) off S1x512x128.size inb, w⟩ :: L)) (ix3 c r l) = w (ix3 0 r l) :=
  View.read_writes_cons_hit_of_coords vw f (Rect.unit (s := S2x512x128) off S1x512x128.size inb) w L (ix3 0 r l) (ix3 c r l) (fun b => by
    match b with
    | 0 => show c.val = off 0 + 1 * 0; omega
    | 1 => show r.val = off 1 + 1 * r.val; omega
    | 2 => show l.val = off 2 + 1 * l.val; omega)

/-- A store of the other half leaves half `c`. -/
theorem st_other (c : Fin 2) (off : Fin 3 → ℕ) (n : ℕ) (h0 : off 0 = n) (hn : n ≠ c.val)
    (inb : ∀ a, off a + S1x512x128.size a ≤ S2x512x128.size a) (w : S1x512x128.Idx → Elt Ideal e) (L : List (View.Piece (Elt Ideal) S2x512x128 e))
    (r : Fin 512) (l : Fin 128) :
    vw.read (Elt Ideal) (vw.writes (Elt Ideal) f (⟨Rect.unit (s := S2x512x128) off S1x512x128.size inb, w⟩ :: L)) (ix3 c r l)
      = vw.read (Elt Ideal) (vw.writes (Elt Ideal) f L) (ix3 c r l) :=
  View.read_writes_cons_miss_of_axis vw f ⟨Rect.unit (s := S2x512x128) off S1x512x128.size inb, w⟩ L (ix3 c r l) 0 n 1 h0 rfl rfl (by show c.val < n ∨ n + 1 ≤ c.val; omega)

/-- A store of the whole array. -/
theorem st_both (off : Fin 3 → ℕ) (h0 : off 0 = 0) (h1 : off 1 = 0) (h2 : off 2 = 0)
    (inb : ∀ a, off a + S2x512x128.size a ≤ S2x512x128.size a) (w : S2x512x128.Idx → Elt Ideal e) (L : List (View.Piece (Elt Ideal) S2x512x128 e))
    (c : Fin 2) (r : Fin 512) (l : Fin 128) :
    vw.read (Elt Ideal) (vw.writes (Elt Ideal) f (⟨Rect.unit (s := S2x512x128) off S2x512x128.size inb, w⟩ :: L)) (ix3 c r l) = w (ix3 c r l) :=
  View.read_writes_cons_hit_of_coords vw f (Rect.unit (s := S2x512x128) off S2x512x128.size inb) w L (ix3 c r l) (ix3 c r l) (fun b => by
    match b with
    | 0 => show c.val = off 0 + 1 * c.val; omega
    | 1 => show r.val = off 1 + 1 * r.val; omega
    | 2 => show l.val = off 2 + 1 * l.val; omega)
end

/-! ## One update -/

section
variable (q k : Fin 8192 → Fin 128 → ℝ) (w : Fin 8192 → Fin 128 → EReal)

/-- The two running arrays of 512 rows from `o` on, the keys below `n` seen. -/
def Half (o n : ℕ) (M A : Fin 512 → Fin 128 → EReal) : Prop :=
  ∀ (r : Fin 512) (h : o + r.val < 8192), Attn.Good (Attn.sg q k ⟨o + r.val, h⟩) (Attn.wv w) (o + r.val) n (M r) (A r)

/-- What a half starts from. -/
theorem half_start (o : ℕ) (M A : Fin 512 → Fin 128 → EReal) (hM : ∀ r l, M r l = ⊥) (hA : ∀ r l, A r l = 0) : Half q k w o 0 M A :=
  fun r _ => Or.inl ⟨rfl, fun l => ⟨hM r l, hA r l⟩⟩

/-- Scores of a block: real where the row sees the key. -/
def Scores (o n : ℕ) (s : FVec Ideal S512x512 .f32) : Prop :=
  ∀ (r : Fin 512) (h : o + r.val < 8192) (b : Fin 512),
    s (ix2 r b) = if n + b.val ≤ o + r.val then ((Attn.sg q k ⟨o + r.val, h⟩ (n + b.val) : ℝ) : EReal) else ⊥

/-- An update by a block of 512 keys moves a half on by 512 keys. -/
theorem half_step (o n : ℕ) (hon : n ≤ o) (s : FVec Ideal S512x512 .f32) (hs : Scores q k o n s)
    (v : Vec Ideal S512x128 .bf16) (hv : ∀ (b : Fin 512) (l : Fin 128), v (ix2 b l) = Attn.wv w (n + b.val) l)
    (m a : Vec Ideal S1x512x128 .f32) (M A M' A' : Fin 512 → Fin 128 → EReal) (hm : ∀ r l, m (ix3 0 r l) = M r l)
    (ha : ∀ r l, a (ix3 0 r l) = A r l) (hM : ∀ r l, M' r l = k0_pay21 (F := Ideal) s m (ix3 0 r l))
    (hA : ∀ r l, A' r l = k0_pay20 (F := Ideal) s m a v (ix3 0 r l)) (h : Half q k w o n M A) : Half q k w o (n + 512) M' A' := by
  intro r hr
  refine Attn.good_step (by omega) (fun b => s (ix2 r b)) (fun b => hs r hr b) (fun b l => v (ix2 b l)) hv (M r) (A r) (M' r) (A' r)
    (fun l => ?_) (fun l => ?_) (h r hr)
  · rw [hM, pay21_at, pay19_at, hm]
  · rw [hA, pay20_at, hM, hM, pay21_at, pay21_at, hm, ha]

variable (qb : Vec Ideal S512x128 .bf16) (kb : Vec Ideal S512x128 .bf16) (o n : ℕ)
  (hq : ∀ (r : Fin 512) (h : o + r.val < 8192) (l : Fin 128), qb (ix2 r l) = ((q ⟨o + r.val, h⟩ l / Real.log 2 : ℝ) : EReal))
  (hk : ∀ (b : Fin 512) (h : n + b.val < 8192) (l : Fin 128), kb (ix2 b l) = ((k ⟨n + b.val, h⟩ l : ℝ) : EReal))
  (hn : n + 512 ≤ 8192)
include hq hk hn

theorem dot_eq (r : Fin 512) (h : o + r.val < 8192) (b : Fin 512) :
    k0_pay2 (F := Ideal) qb kb (ix2 r b) = ((Attn.sg q k ⟨o + r.val, h⟩ (n + b.val) : ℝ) : EReal) := by
  have hb : n + b.val < 8192 := by have := b.isLt; omega
  rw [pay2_at, Attn.sg_lt _ _ _ _ hb, ← Attn.coe_sum]
  refine Finset.sum_congr rfl fun l _ => ?_
  rw [hq r h, hk b hb, EReal.coe_mul]

/-- Below the diagonal every score counts. -/
theorem scores_full (hno : n + 512 ≤ o) : Scores q k o n (k0_pay2 (F := Ideal) qb kb) := by
  intro r h b
  have := b.isLt
  rw [dot_eq q k qb kb o n hq hk hn r h b, if_pos (by omega)]

/-- On the diagonal the later keys are masked. -/
theorem scores_diag (hno : n = o) : Scores q k o n (k0_pay30 (F := Ideal) (k0_pay2 (F := Ideal) qb kb)) := by
  intro r h b
  rw [pay30_at, dot_eq q k qb kb o n hq hk hn r h b]
  subst hno
  simp only [Nat.add_le_add_iff_left]
end

end Cert.Kernel22Ideal.Gen

end
-- ==== Proof.Fwd_loop.lean ====
/- The forward attention's body, run once: what its two running arrays hold after the loop and after the three updates
   behind it, and what the two outputs of the point then are. -/
module

public import proofs.«01_k».proof.Proof.Fwd_tile
public import proofs.«01_k».proof.Proof.Gen.Kernel22Ideal.Frame

@[expose] public section

set_option maxRecDepth 16384
set_option maxHeartbeats 400000

noncomputable section

namespace Cert.Kernel22Ideal.Gen

open Idealize.ShloMosaic Idealize.ShloMosaic.TcCoe
open scoped BigOperators

/-! ## Where the blocks stand -/

theorem trips1 : ∀ i : grid0.Coords, (k0_t1_loop i).trips = 2 * (i 1).val := by decide +kernel
theorem trips2 : ∀ i : grid0.Coords, (k0_t2_loop i).trips = 0 := by
  intro i
  have := (k0_t2_abs i).2.1
  omega
theorem off1_at : ∀ (i : grid0.Coords) (t : Fin (k0_t1_loop i).trips), k0_off1 i t 0 = 512 * t.val ∧ k0_off1 i t 1 = 0 := by decide +kernel
theorem off3_at : ∀ i : grid0.Coords, k0_off3 i 0 = 1024 * (i 1).val ∧ k0_off3 i 1 = 0 := by decide +kernel
theorem off4_at : ∀ i : grid0.Coords, k0_off4 i 0 = 1024 * (i 1).val + 512 ∧ k0_off4 i 1 = 0 := by decide +kernel

/-- A load of 512 of the 8192 rows, of an array. -/
theorem ld_rows {κ : Kind} {sp : Space} (vw : View sig κ sp S8192x128 .bf16) (f : vw.ty.Contents (Elt Ideal)) (g : Fin 8192 → Fin 128 → EReal)
    (hf : ∀ y l, vw.read (Elt Ideal) f (ix2 y l) = g y l) (off : Fin 2 → ℕ) (n : ℕ) (h0 : off 0 = n ∧ off 1 = 0)
    (inb : ∀ a, off a + S512x128.size a ≤ S8192x128.size a) (b : Fin 512) (h : n + b.val < 8192) (l : Fin 128) :
    View.readAt (Elt Ideal) vw (Rect.unit (s := S8192x128) off S512x128.size inb).toLoadRect f (ix2 b l) = g ⟨n + b.val, h⟩ l := by
  rw [← hf]
  refine congrArg (vw.read (Elt Ideal) f) (Rect.emb_eq_of_coords _ _ _ fun x => ?_)
  match x with
  | 0 => show n + b.val = off 0 + 1 * b.val; omega
  | 1 => show l.val = off 1 + 1 * l.val; omega

/-- A load of 512 of a block's 1024 rows of queries. -/
theorem ld_q {κ : Kind} {sp : Space} (vw : View sig κ sp S1024x128 .bf16) (f : vw.ty.Contents (Elt Ideal)) (off : Fin 2 → ℕ) (n : ℕ)
    (h0 : off 0 = n ∧ off 1 = 0) (inb : ∀ a, off a + S512x128.size a ≤ S1024x128.size a) (b : Fin 512) (h : n + b.val < 1024) (l : Fin 128) :
    View.readAt (Elt Ideal) vw (Rect.unit (s := S1024x128) off S512x128.size inb).toLoadRect f (ix2 b l)
      = vw.read (Elt Ideal) f (ix2 ⟨n + b.val, h⟩ l) := by
  refine congrArg (vw.read (Elt Ideal) f) (Rect.emb_eq_of_coords _ _ _ fun x => ?_)
  match x with
  | 0 => show n + b.val = off 0 + 1 * b.val; omega
  | 1 => show l.val = off 1 + 1 * l.val; omega

/-! ## Two halves -/

section
variable (q k : Fin 8192 → Fin 128 → ℝ) (w : Fin 8192 → Fin 128 → EReal)

/-- The two halves of a block's 1024 rows from `o` on, the first with the keys below `n0` seen, the second below `n1`. -/
structure Both {κ κ' : Kind} {sp sp' : Space} (vm : View sig κ sp S2x512x128 .f32) (va : View sig κ' sp' S2x512x128 .f32) (o n0 n1 : ℕ)
    (fm : vm.ty.Contents (Elt Ideal)) (fa : va.ty.Contents (Elt Ideal)) : Prop where
  lo : Half q k w o n0 (fun r l => vm.read (Elt Ideal) fm (ix3 0 r l)) (fun r l => va.read (Elt Ideal) fa (ix3 0 r l))
  hi : Half q k w (o + 512) n1 (fun r l => vm.read (Elt Ideal) fm (ix3 1 r l)) (fun r l => va.read (Elt Ideal) fa (ix3 1 r l))

section
variable {q k w} {κ κ' : Kind} {sp sp' : Space} {vm : View sig κ sp S2x512x128 .f32} {va : View sig κ' sp' S2x512x128 .f32} {o n0 n1 : ℕ}
  {fm : vm.ty.Contents (Elt Ideal)} {fa : va.ty.Contents (Elt Ideal)} {Lm : List (View.Piece (Elt Ideal) S2x512x128 .f32)}
  {La : List (View.Piece (Elt Ideal) S2x512x128 .f32)}
  (h : Both q k w vm va o n0 n1 (vm.writes (Elt Ideal) fm Lm) (va.writes (Elt Ideal) fa La))
  {s : FVec Ideal S512x512 .f32} {v : Vec Ideal S512x128 .bf16} {m a : Vec Ideal S1x512x128 .f32}
include h

/-- An update of the first half. -/
theorem up_lo (hs : Scores q k o n0 s) (hon : n0 ≤ o)
    (hv : ∀ (b : Fin 512) (l : Fin 128), v (ix2 b l) = Attn.wv w (n0 + b.val) l)
    (hm : ∀ r l, m (ix3 0 r l) = vm.read (Elt Ideal) (vm.writes (Elt Ideal) fm Lm) (ix3 0 r l))
    (ha : ∀ r l, a (ix3 0 r l) = va.read (Elt Ideal) (va.writes (Elt Ideal) fa La) (ix3 0 r l))
    (i1 i2 : ∀ x, (![0, 0, 0] : Fin 3 → ℕ) x + S1x512x128.size x ≤ S2x512x128.size x) :
    Both q k w vm va o (n0 + 512) n1
      (vm.writes (Elt Ideal) fm (⟨Rect.unit (s := S2x512x128) ![0, 0, 0] S1x512x128.size i1, k0_pay21 (F := Ideal) s m⟩ :: Lm))
      (va.writes (Elt Ideal) fa (⟨Rect.unit (s := S2x512x128) ![0, 0, 0] S1x512x128.size i2, k0_pay20 (F := Ideal) s m a v⟩ :: La)) where
  lo := half_step q k w o n0 hon s hs v hv m a _ _ _ _ hm ha (fun r l => st_half vm fm 0 _ rfl rfl rfl i1 _ Lm r l)
    (fun r l => st_half va fa 0 _ rfl rfl rfl i2 _ La r l) h.lo
  hi := by
    have e := h.hi
    refine Eq.mp (congrArg₂ (Half q k w (o + 512) n1) (funext fun r => funext fun l => ?_) (funext fun r => funext fun l => ?_)) e
    · exact (st_other vm fm 1 _ 0 rfl (by decide) i1 _ Lm r l).symm
    · exact (st_other va fa 1 _ 0 rfl (by decide) i2 _ La r l).symm

/-- An update of the second half. -/
theorem up_hi (hs : Scores q k (o + 512) n1 s) (hon : n1 ≤ o + 512)
    (hv : ∀ (b : Fin 512) (l : Fin 128), v (ix2 b l) = Attn.wv w (n1 + b.val) l)
    (hm : ∀ r l, m (ix3 0 r l) = vm.read (Elt Ideal) (vm.writes (Elt Ideal) fm Lm) (ix3 1 r l))
    (ha : ∀ r l, a (ix3 0 r l) = va.read (Elt Ideal) (va.writes (Elt Ideal) fa La) (ix3 1 r l))
    (i1 i2 : ∀ x, (![1, 0, 0] : Fin 3 → ℕ) x + S1x512x128.size x ≤ S2x512x128.size x) :
    Both q k w vm va o n0 (n1 + 512)
      (vm.writes (Elt Ideal) fm (⟨Rect.unit (s := S2x512x128) ![1, 0, 0] S1x512x128.size i1, k0_pay21 (F := Ideal) s m⟩ :: Lm))
      (va.writes (Elt Ideal) fa (⟨Rect.unit (s := S2x512x128) ![1, 0, 0] S1x512x128.size i2, k0_pay20 (F := Ideal) s m a v⟩ :: La)) where
  hi := half_step q k w (o + 512) n1 hon s hs v hv m a _ _ _ _ hm ha (fun r l => st_half vm fm 1 _ rfl rfl rfl i1 _ Lm r l)
    (fun r l => st_half va fa 1 _ rfl rfl rfl i2 _ La r l) h.hi
  lo := by
    have e := h.lo
    refine Eq.mp (congrArg₂ (Half q k w o n0) (funext fun r => funext fun l => ?_) (funext fun r => funext fun l => ?_)) e
    · exact (st_other vm fm 0 _ 1 rfl (by decide) i1 _ Lm r l).symm
    · exact (st_other va fa 0 _ 1 rfl (by decide) i2 _ La r l).symm
end

/-! ## The loop -/

section
variable (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S8192x128 .bf16) (harg7 : arg7.IsWhole) (arg8 : Memref sig .tc .vmem S2x512x128 .f32) (harg8 : arg8.IsWhole) (arg9 : Memref sig .tc .vmem S2x512x128 .f32) (harg9 : arg9.IsWhole)

/-- A trip's stores. -/
theorem trip_eq (𝒱 : Variants) (bd : Option 𝒱.V) (v11 v13 : Vec Ideal S512x128 .bf16) (X3 : BufTy.Contents (Elt Ideal) arg3.view.ty)
    (X7 : BufTy.Contents (Elt Ideal) arg7.view.ty) (t : Fin (k0_t1_loop i).trips) (f8 : BufTy.Contents (Elt Ideal) arg8.view.ty)
    (f9 : BufTy.Contents (Elt Ideal) arg9.view.ty) :
    tripL_k0_t1 (F := Ideal) 𝒱 c bd i arg2 harg2 arg3 harg3 arg4 harg4 arg5 harg5 arg6 harg6 arg7 harg7 arg8 harg8 arg9 harg9 v11 v13 X3 X7 t f8 f9
      = ([⟨Rect.unit (s := S2x512x128) ![1, 0, 0] S1x512x128.size inb_S2x512x128_S1x512x128_1_0_0,
            k0_pay21 (F := Ideal) (k0_pay2 (k0_pay16 v13) (View.readAt (Elt Ideal) arg3.view (Rect.unit (s := S8192x128) (k0_off1 i t) S512x128.size (k0_off1_inb i t)).toLoadRect X3))
              (View.readAt (Elt Ideal) arg8.view (Rect.unit (s := S2x512x128) ![1, 0, 0] S1x512x128.size inb_S2x512x128_S1x512x128_1_0_0).toLoadRect f8)⟩,
          ⟨Rect.unit (s := S2x512x128) ![0, 0, 0] S1x512x128.size inb_S2x512x128_S1x512x128_0_0_0,
            k0_pay21 (F := Ideal) (k0_pay2 (k0_pay15 v11) (View.readAt (Elt Ideal) arg3.view (Rect.unit (s := S8192x128) (k0_off1 i t) S512x128.size (k0_off1_inb i t)).toLoadRect X3))
              (View.readAt (Elt Ideal) arg8.view (Rect.unit (s := S2x512x128) ![0, 0, 0] S1x512x128.size inb_S2x512x128_S1x512x128_0_0_0).toLoadRect f8)⟩],
         [⟨Rect.unit (s := S2x512x128) ![1, 0, 0] S1x512x128.size inb_S2x512x128_S1x512x128_1_0_0,
            k0_pay20 (F := Ideal) (k0_pay2 (k0_pay16 v13) (View.readAt (Elt Ideal) arg3.view (Rect.unit (s := S8192x128) (k0_off1 i t) S512x128.size (k0_off1_inb i t)).toLoadRect X3))
              (View.readAt (Elt Ideal) arg8.view (Rect.unit (s := S2x512x128) ![1, 0, 0] S1x512x128.size inb_S2x512x128_S1x512x128_1_0_0).toLoadRect f8)
              (View.readAt (Elt Ideal) arg9.view (Rect.unit (s := S2x512x128) ![1, 0, 0] S1x512x128.size inb_S2x512x128_S1x512x128_1_0_0).toLoadRect f9)
              (View.readAt (Elt Ideal) arg7.view (Rect.unit (s := S8192x128) (k0_off1 i t) S512x128.size (k0_off1_inb i t)).toLoadRect X7)⟩,
          ⟨Rect.unit (s := S2x512x128) ![0, 0, 0] S1x512x128.size inb_S2x512x128_S1x512x128_0_0_0,
            k0_pay20 (F := Ideal) (k0_pay2 (k0_pay15 v11) (View.readAt (Elt Ideal) arg3.view (Rect.unit (s := S8192x128) (k0_off1 i t) S512x128.size (k0_off1_inb i t)).toLoadRect X3))
              (View.readAt (Elt Ideal) arg8.view (Rect.unit (s := S2x512x128) ![0, 0, 0] S1x512x128.size inb_S2x512x128_S1x512x128_0_0_0).toLoadRect f8)
              (View.readAt (Elt Ideal) arg9.view (Rect.unit (s := S2x512x128) ![0, 0, 0] S1x512x128.size inb_S2x512x128_S1x512x128_0_0_0).toLoadRect f9)
              (View.readAt (Elt Ideal) arg7.view (Rect.unit (s := S8192x128) (k0_off1 i t) S512x128.size (k0_off1_inb i t)).toLoadRect X7)⟩]) := by
  unfold tripL_k0_t1 trip_k0_t1
  rfl

/-- What a point works on: the keys and values of its head, and its 1024 rows of queries in two halves. -/
structure Given (v11 v13 : Vec Ideal S512x128 .bf16) (X3 : BufTy.Contents (Elt Ideal) arg3.view.ty) (X7 : BufTy.Contents (Elt Ideal) arg7.view.ty) : Prop where
  hk : ∀ y l, arg3.view.read (Elt Ideal) X3 (ix2 y l) = ((k y l : ℝ) : EReal)
  hw : ∀ y l, arg7.view.read (Elt Ideal) X7 (ix2 y l) = w y l
  hlo : ∀ (r : Fin 512) (h : 1024 * (i 1).val + r.val < 8192) (l : Fin 128), v11 (ix2 r l) = ((q ⟨1024 * (i 1).val + r.val, h⟩ l / Real.log 2 : ℝ) : EReal)
  hhi : ∀ (r : Fin 512) (h : 1024 * (i 1).val + 512 + r.val < 8192) (l : Fin 128),
    v13 (ix2 r l) = ((q ⟨1024 * (i 1).val + 512 + r.val, h⟩ l / Real.log 2 : ℝ) : EReal)

variable {q k w c i} {arg2 harg2 arg3 harg3 arg4 harg4 arg5 harg5 arg6 harg6 arg7 harg7 arg8 harg8 arg9 harg9}
  {v11 v13 : Vec Ideal S512x128 .bf16} {X3 : BufTy.Contents (Elt Ideal) arg3.view.ty} {X7 : BufTy.Contents (Elt Ideal) arg7.view.ty}
  (g : Given q k w i arg3 arg7 v11 v13 X3 X7)
include g

theorem Given.kb {off : Fin 2 → ℕ} {n : ℕ} (h0 : off 0 = n ∧ off 1 = 0) (inb : ∀ a, off a + S512x128.size a ≤ S8192x128.size a)
    (b : Fin 512) (h : n + b.val < 8192) (l : Fin 128) :
    View.readAt (Elt Ideal) arg3.view (Rect.unit (s := S8192x128) off S512x128.size inb).toLoadRect X3 (ix2 b l) = ((k ⟨n + b.val, h⟩ l : ℝ) : EReal) :=
  ld_rows arg3.view X3 (fun y l => ((k y l : ℝ) : EReal)) g.hk off n h0 inb b h l

theorem Given.vb {off : Fin 2 → ℕ} {n : ℕ} (h0 : off 0 = n ∧ off 1 = 0) (inb : ∀ a, off a + S512x128.size a ≤ S8192x128.size a)
    (hn : n + 512 ≤ 8192) (b : Fin 512) (l : Fin 128) :
    View.readAt (Elt Ideal) arg7.view (Rect.unit (s := S8192x128) off S512x128.size inb).toLoadRect X7 (ix2 b l) = Attn.wv w (n + b.val) l := by
  have hb : n + b.val < 8192 := by have := b.isLt; omega
  rw [ld_rows arg7.view X7 w g.hw off n h0 inb b hb l, Attn.wv_lt _ _ _ hb]

/-- After `t` trips both halves have seen `512 t` keys. -/
theorem loop_both (𝒱 : Variants) (bd : Option 𝒱.V) (G8 : BufTy.Contents (Elt Ideal) arg8.view.ty) (G9 : BufTy.Contents (Elt Ideal) arg9.view.ty)
    (h0 : Both q k w arg8.view arg9.view (1024 * (i 1).val) 0 0 G8 G9) (t : ℕ) (ht : t ≤ (k0_t1_loop i).trips) :
    Both q k w arg8.view arg9.view (1024 * (i 1).val) (512 * t) (512 * t)
      (arg8.view.writes (Elt Ideal) G8 (pb_k0_t1 (F := Ideal) 𝒱 c bd i arg2 harg2 arg3 harg3 arg4 harg4 arg5 harg5 arg6 harg6 arg7 harg7 arg8 harg8 arg9 harg9 v11 v13 X3 X7 G8 G9 t).1)
      (arg9.view.writes (Elt Ideal) G9 (pb_k0_t1 (F := Ideal) 𝒱 c bd i arg2 harg2 arg3 harg3 arg4 harg4 arg5 harg5 arg6 harg6 arg7 harg7 arg8 harg8 arg9 harg9 v11 v13 X3 X7 G8 G9 t).2) := by
  induction t with
  | zero => exact h0
  | succ t ih =>
    have ih := ih (by omega)
    have hi : (i 1).val < 8 := (i 1).isLt
    have htr := trips1 i
    have e := pb_k0_t1_succ (F := Ideal) 𝒱 c bd i arg2 harg2 arg3 harg3 arg4 harg4 arg5 harg5 arg6 harg6 arg7 harg7 arg8 harg8 arg9 harg9 v11 v13 X3 X7 G8 G9 ⟨t, by omega⟩
    rw [trip_eq] at e
    have e' : pb_k0_t1 (F := Ideal) 𝒱 c bd i arg2 harg2 arg3 harg3 arg4 harg4 arg5 harg5 arg6 harg6 arg7 harg7 arg8 harg8 arg9 harg9 v11 v13 X3 X7 G8 G9 (t + 1) = _ := e
    rw [e']
    have ho := off1_at i ⟨t, by omega⟩
    have hk := g.kb (n := 512 * t) ho (k0_off1_inb i _)
    have hv := g.vb (n := 512 * t) ho (k0_off1_inb i _) (by omega)
    have h1 := up_lo ih (scores_full q k (k0_pay15 v11) _ _ _ (by rw [pay15_eq]; exact g.hlo) hk (by omega) (by omega)) (by omega) hv
      (fun r l => ld_half arg8.view _ 0 _ rfl rfl rfl inb_S2x512x128_S1x512x128_0_0_0 r l) (fun r l => ld_half arg9.view _ 0 _ rfl rfl rfl inb_S2x512x128_S1x512x128_0_0_0 r l)
      inb_S2x512x128_S1x512x128_0_0_0 inb_S2x512x128_S1x512x128_0_0_0
    have h2 := up_hi h1 (scores_full q k (k0_pay16 v13) _ _ _ (by rw [pay16_eq]; exact g.hhi) hk (by omega) (by omega)) (by omega) hv
      (fun r l => (ld_half arg8.view _ 1 _ rfl rfl rfl inb_S2x512x128_S1x512x128_1_0_0 r l).trans (st_other arg8.view G8 1 _ 0 rfl (by decide) _ _ _ r l).symm)
      (fun r l => (ld_half arg9.view _ 1 _ rfl rfl rfl inb_S2x512x128_S1x512x128_1_0_0 r l).trans (st_other arg9.view G9 1 _ 0 rfl (by decide) _ _ _ r l).symm)
      inb_S2x512x128_S1x512x128_1_0_0 inb_S2x512x128_S1x512x128_1_0_0
    exact h2
end

end

end Cert.Kernel22Ideal.Gen

end
-- ==== Proof.Fwd_out.lean ====
/- The forward attention's body, run once: the three updates behind the loop, and what the point's two outputs are. -/
module

public import proofs.«01_k».proof.Proof.Fwd_loop

@[expose] public section

set_option maxRecDepth 16384
set_option maxHeartbeats 800000

noncomputable section

namespace Cert.Kernel22Ideal.Gen

open Idealize.ShloMosaic Idealize.ShloMosaic.TcCoe
open scoped BigOperators

/-- A store of the first 512 of 1024 rows and then of the rest, read back. -/
theorem read_two {κ : Kind} {sp : Space} {e : EltTy} (vw : View sig κ sp S1024x128 e) (f : vw.ty.Contents (Elt Ideal))
    (i1 : ∀ x, (![512, 0] : Fin 2 → ℕ) x + S512x128.size x ≤ S1024x128.size x) (i0 : ∀ x, (![0, 0] : Fin 2 → ℕ) x + S512x128.size x ≤ S1024x128.size x)
    (W1 W0 : S512x128.Idx → Elt Ideal e) (G : Fin 1024 → Fin 128 → Elt Ideal e)
    (h0 : ∀ (r : Fin 512) (l : Fin 128) (h : r.val < 1024), W0 (ix2 r l) = G ⟨r.val, h⟩ l)
    (h1 : ∀ (r : Fin 512) (l : Fin 128) (h : 512 + r.val < 1024), W1 (ix2 r l) = G ⟨512 + r.val, h⟩ l) (y : Fin 1024) (l : Fin 128) :
    vw.read (Elt Ideal) (vw.writes (Elt Ideal) f
      [⟨Rect.unit (s := S1024x128) ![512, 0] S512x128.size i1, W1⟩, ⟨Rect.unit (s := S1024x128) ![0, 0] S512x128.size i0, W0⟩]) (ix2 y l) = G y l := by
  by_cases hy : y.val < 512
  · rw [View.read_writes_cons_miss_of_axis vw f ⟨Rect.unit (s := S1024x128) ![512, 0] S512x128.size i1, W1⟩ _ (ix2 y l) 0 512 512 rfl rfl rfl (Or.inl hy)]
    rw [View.read_writes_cons_hit_of_coords vw f (Rect.unit (s := S1024x128) ![0, 0] S512x128.size i0) W0 [] (ix2 ⟨y.val, hy⟩ l) (ix2 y l) (fun b => by
      match b with
      | 0 => show y.val = 0 + 1 * y.val; omega
      | 1 => show l.val = 0 + 1 * l.val; omega)]
    exact h0 ⟨y.val, hy⟩ l y.isLt
  · have hl := y.isLt
    rw [View.read_writes_cons_hit_of_coords vw f (Rect.unit (s := S1024x128) ![512, 0] S512x128.size i1) W1 _ (ix2 ⟨y.val - 512, by omega⟩ l) (ix2 y l) (fun b => by
      match b with
      | 0 => show y.val = 512 + 1 * (y.val - 512); omega
      | 1 => show l.val = 0 + 1 * l.val; omega)]
    rw [h1 ⟨y.val - 512, by omega⟩ l (show 512 + (y.val - 512) < 1024 by omega)]
    exact congrArg (fun z => G z l) (Fin.ext (show 512 + (y.val - 512) = y.val by omega))

/-- The values as the head's first point stores them, read back. -/
theorem read_one {κ κ' : Kind} {sp sp' : Space} (vw : View sig κ sp S8192x128 .bf16) (f : vw.ty.Contents (Elt Ideal)) (vx : View sig κ' sp' S8192x128 .bf16)
    (fx : vx.ty.Contents (Elt Ideal)) (x : Vec Ideal S8192x128 .bf16) (hx : vx.read (Elt Ideal) fx = x)
    {i0 i1 : ∀ a, (![0, 0] : Fin 2 → ℕ) a + S8192x128.size a ≤ S8192x128.size a} :
    vw.read (Elt Ideal) (vw.writes (Elt Ideal) f [⟨Rect.unit (s := S8192x128) ![0, 0] S8192x128.size i0,
      k0_pay12 (F := Ideal) (View.readAt (Elt Ideal) vx (Rect.unit (s := S8192x128) ![0, 0] S8192x128.size i1).toLoadRect fx)⟩]) = k0_pay12 (F := Ideal) x := by
  have e : View.readAt (Elt Ideal) vx (Rect.unit (s := S8192x128) ![0, 0] S8192x128.size i1).toLoadRect fx = x := by
    rw [← hx]; funext z
    refine congrArg (vx.read (Elt Ideal) fx) (Rect.emb_eq_of_coords _ _ _ fun b => ?_)
    match b with
    | 0 => show (z 0).val = 0 + 1 * (z 0).val; omega
    | 1 => show (z 1).val = 0 + 1 * (z 1).val; omega
  rw [e]
  funext z
  exact View.read_writes_cons_hit_of_coords vw f (Rect.unit (s := S8192x128) ![0, 0] S8192x128.size i0) _ [] z z (fun b => by
    match b with
    | 0 => show (z 0).val = 0 + 1 * (z 0).val; omega
    | 1 => show (z 1).val = 0 + 1 * (z 1).val; omega)

section
variable (q k : Fin 8192 → Fin 128 → ℝ) (w : Fin 8192 → Fin 128 → EReal)

/-- What the call hands out for row `r`, lane `l`: the softmax times the values, lane 64 at zero. -/
def oAt (r : Fin 8192) (l : Fin 128) : EReal := if l = 64 then 0 else ∑ y, ((Attn.W q k r y : ℝ) : EReal) * w y l
/-- The logarithm to base two of the row's sum of exponentials. -/
def lAt (r : Fin 8192) : EReal := ((Real.log (Attn.Z q k r) / Real.log 2 : ℝ) : EReal)

variable {q k w}

theorem half_end {o n : ℕ} {M A : Fin 512 → Fin 128 → EReal} (h : Half q k w o n M A) (hon : o + 512 ≤ n) (hn : n ≤ 8192) (h64 : ∀ y, w y 64 = 1)
    (m a : Vec Ideal S1x512x128 .f32) (hm : ∀ r l, m (ix3 0 r l) = M r l) (ha : ∀ r l, a (ix3 0 r l) = A r l) (r : Fin 512) (hr : o + r.val < 8192) (l : Fin 128) :
    k0_pay46 (F := Ideal) (iota .tc S512x128 32 [1] iota_S512x128_d1_w32) a (ix2 r l) = oAt q k w ⟨o + r.val, hr⟩ l
      ∧ k0_pay47 (F := Ideal) a m (ix2 r l) = lAt q k ⟨o + r.val, hr⟩ := by
  have := r.isLt
  have e := Attn.good_end q k w ⟨o + r.val, hr⟩ n (show o + r.val < n by omega) hn h64 (M r) (A r) (h r hr)
  constructor
  · rw [pay46_at, ha, ha]; unfold oAt
    rw [e.1]
  · rw [pay47_at, hm, ha, e.2]; rfl

section
variable {c : Dev nD} {i : grid0.Coords} {arg2 : Memref sig .tc .vmem S1024x128 .bf16} {harg2 : arg2.IsWhole} {arg3 : Memref sig .tc .vmem S8192x128 .bf16} {harg3 : arg3.IsWhole} {arg4 : Memref sig .tc .vmem S8192x128 .bf16} {harg4 : arg4.IsWhole} {arg5 : Memref sig .tc .vmem S1024x128 .bf16} {harg5 : arg5.IsWhole} {arg6 : Memref sig .tc .vmem S1024x128 .f32} {harg6 : arg6.IsWhole} {arg7 : Memref sig .tc .vmem S8192x128 .bf16} {harg7 : arg7.IsWhole} {arg8 : Memref sig .tc .vmem S2x512x128 .f32} {harg8 : arg8.IsWhole} {arg9 : Memref sig .tc .vmem S2x512x128 .f32} {harg9 : arg9.IsWhole}

/-- The second loop makes no trip. -/
theorem loop2_both {κ : Kind} {o n0 n1 : ℕ} {f8 : arg8.view.ty.Contents (Elt Ideal)} {f9 : arg9.view.ty.Contents (Elt Ideal)} {L8 L9}
    (h : Both q k w arg8.view arg9.view o n0 n1 (arg8.view.writes (Elt Ideal) f8 L8) (arg9.view.writes (Elt Ideal) f9 L9))
    (𝒱 : Variants) (bd : Option 𝒱.V) (v11 v13 v20 X3 X7) :
    Both q k w arg8.view arg9.view o n0 n1
      (arg8.view.writes (Elt Ideal) f8 ((pb_k0_t2 (F := Ideal) 𝒱 c bd i arg2 harg2 arg3 harg3 arg4 harg4 arg5 harg5 arg6 harg6 arg7 harg7 arg8 harg8 arg9 harg9 v11 v13 v20 X3 X7 (arg8.view.writes (Elt Ideal) f8 L8) (arg9.view.writes (Elt Ideal) f9 L9) (k0_t2_loop i).trips).1 ++ L8))
      (arg9.view.writes (Elt Ideal) f9 ((pb_k0_t2 (F := Ideal) 𝒱 c bd i arg2 harg2 arg3 harg3 arg4 harg4 arg5 harg5 arg6 harg6 arg7 harg7 arg8 harg8 arg9 harg9 v11 v13 v20 X3 X7 (arg8.view.writes (Elt Ideal) f8 L8) (arg9.view.writes (Elt Ideal) f9 L9) (k0_t2_loop i).trips).2 ++ L9)) := by
  rw [trips2]; exact h

/-! ## Case A -/

section
variable (x0 : Vec Ideal S1024x128 .bf16) (x1 x2 : Vec Ideal S8192x128 .bf16)
  (hx0 : ∀ (y : Fin 1024) (h : 1024 * (i 1).val + y.val < 8192) (l : Fin 128), x0 (ix2 y l) = ((q ⟨1024 * (i 1).val + y.val, h⟩ l / Real.log 2 : ℝ) : EReal))
  (hx1 : ∀ y l, x1 (ix2 y l) = ((k y l : ℝ) : EReal)) (hx2 : ∀ y l, k0_pay12 (F := Ideal) x2 (ix2 y l) = w y l)
include hx0 hx1 hx2

theorem given_A : Given q k w i arg3 arg7
    (View.readAt (Elt Ideal) arg2.view (Rect.unit (s := S1024x128) ![0, 0] S512x128.size inb_S1024x128_S512x128_0_0).toLoadRect (harg2.unread x0))
    (View.readAt (Elt Ideal) arg2.view (Rect.unit (s := S1024x128) ![512, 0] S512x128.size inb_S1024x128_S512x128_512_0).toLoadRect (harg2.unread x0))
    (harg3.unread x1) (arg7.view.writes (Elt Ideal) arg7.view.junk (kernelRun0_A.sl.HS0_1 (F := Ideal) c arg4 harg4 x2)) where
  hk y l := by rw [harg3.read_unread]; exact hx1 y l
  hw y l := by exact (congrFun (read_one arg7.view _ arg4.view (harg4.unread x2) x2 (harg4.read_unread x2)) (ix2 y l)).trans (hx2 y l)
  hlo r h l := by
    rw [ld_q arg2.view _ ![0, 0] 0 ⟨rfl, rfl⟩ _ r (by have := r.isLt; omega) l, harg2.read_unread]
    have e := hx0 ⟨0 + r.val, by have := r.isLt; omega⟩ (show 1024 * (i 1).val + (0 + r.val) < 8192 by omega) l
    rw [e]
    exact congrArg (fun z => ((q z l / Real.log 2 : ℝ) : EReal)) (Fin.ext (show 1024 * (i 1).val + (0 + r.val) = 1024 * (i 1).val + r.val by omega))
  hhi r h l := by
    rw [ld_q arg2.view _ ![512, 0] 512 ⟨rfl, rfl⟩ _ r (by have := r.isLt; omega) l, harg2.read_unread]
    have e := hx0 ⟨512 + r.val, by have := r.isLt; omega⟩ (show 1024 * (i 1).val + (512 + r.val) < 8192 by omega) l
    rw [e]
    exact congrArg (fun z => ((q z l / Real.log 2 : ℝ) : EReal)) (Fin.ext (show 1024 * (i 1).val + (512 + r.val) = 1024 * (i 1).val + 512 + r.val by omega))

/-- The running arrays once the block's keys have been seen. -/
theorem both_A : Both q k w arg8.view arg9.view (1024 * (i 1).val) (1024 * (i 1).val + 512) (1024 * (i 1).val + 512 + 512)
    (arg8.view.writes (Elt Ideal) arg8.view.junk (kernelRun0_A.sl.HS1_3 (F := Ideal) c i arg2 harg2 arg3 harg3 arg4 harg4 arg5 harg5 arg6 harg6 arg7 harg7 arg8 harg8 arg9 harg9 x0 x1 x2))
    (arg9.view.writes (Elt Ideal) arg9.view.junk (kernelRun0_A.sl.HS2_3 (F := Ideal) c i arg2 harg2 arg3 harg3 arg4 harg4 arg5 harg5 arg6 harg6 arg7 harg7 arg8 harg8 arg9 harg9 x0 x1 x2)) := by
  have g := given_A (harg2 := harg2) (harg3 := harg3) (arg7 := arg7) (c := c) (arg4 := arg4) (harg4 := harg4) x0 x1 x2 hx0 hx1 hx2
  have hi : (i 1).val < 8 := (i 1).isLt
  have b0 : Both q k w arg8.view arg9.view (1024 * (i 1).val) 0 0
      (arg8.view.writes (Elt Ideal) arg8.view.junk (kernelRun0_A.sl.HS1_1 (F := Ideal)))
      (arg9.view.writes (Elt Ideal) arg9.view.junk (kernelRun0_A.sl.HS2_1 (F := Ideal))) :=
    ⟨half_start q k w _ _ _ (fun r l => (st_both arg8.view _ _ rfl rfl rfl inb_S2x512x128_S2x512x128_0_0_0 _ [] 0 r l).trans (pay13_at 0 r l))
        (fun r l => (st_both arg9.view _ _ rfl rfl rfl inb_S2x512x128_S2x512x128_0_0_0 _ [] 0 r l).trans (pay14_at 0 r l)),
      half_start q k w _ _ _ (fun r l => (st_both arg8.view _ _ rfl rfl rfl inb_S2x512x128_S2x512x128_0_0_0 _ [] 1 r l).trans (pay13_at 1 r l))
        (fun r l => (st_both arg9.view _ _ rfl rfl rfl inb_S2x512x128_S2x512x128_0_0_0 _ [] 1 r l).trans (pay14_at 1 r l))⟩
  have b1 := loop_both (c := c) (harg2 := harg2) (harg3 := harg3) (harg4 := harg4) (harg5 := harg5) (harg6 := harg6) (harg7 := harg7)
    (harg8 := harg8) (harg9 := harg9) g Variants.none none _ _ b0 (k0_t1_loop i).trips le_rfl
  rw [← View.writes_append, ← View.writes_append, show 512 * (k0_t1_loop i).trips = 1024 * (i 1).val by rw [trips1]; omega] at b1
  have o3 := off3_at i
  have o4 := off4_at i
  have b2 := loop2_both (c := c) (i := i) (κ := .tc) (harg2 := harg2) (harg3 := harg3) (harg4 := harg4) (harg5 := harg5) (harg6 := harg6) (harg7 := harg7)
    (harg8 := harg8) (harg9 := harg9) b1 Variants.none none
    (View.readAt (Elt Ideal) arg2.view (Rect.unit (s := S1024x128) ![0, 0] S512x128.size inb_S1024x128_S512x128_0_0).toLoadRect (harg2.unread x0))
    (View.readAt (Elt Ideal) arg2.view (Rect.unit (s := S1024x128) ![512, 0] S512x128.size inb_S1024x128_S512x128_512_0).toLoadRect (harg2.unread x0))
    (kernelRun0_A.sl.v20 i) (harg3.unread x1) (arg7.view.writes (Elt Ideal) arg7.view.junk (kernelRun0_A.sl.HS0_1 (F := Ideal) c arg4 harg4 x2))
  have u1 := up_lo b2 (scores_diag q k (k0_pay15 (F := Ideal) _) _ _ _ (by rw [pay15_eq]; exact g.hlo) (g.kb o3 (k0_off3_inb i)) (by omega) rfl) (le_refl _)
    (g.vb o3 (k0_off3_inb i) (by omega))
    (fun r l => ld_half arg8.view _ 0 _ rfl rfl rfl inb_S2x512x128_S1x512x128_0_0_0 r l)
    (fun r l => ld_half arg9.view _ 0 _ rfl rfl rfl inb_S2x512x128_S1x512x128_0_0_0 r l)
    inb_S2x512x128_S1x512x128_0_0_0 inb_S2x512x128_S1x512x128_0_0_0
  have u2 := up_hi u1 (scores_full q k (k0_pay16 (F := Ideal) _) _ _ _ (by rw [pay16_eq]; exact g.hhi) (g.kb o3 (k0_off3_inb i)) (by omega) (le_refl _)) (by omega)
    (g.vb o3 (k0_off3_inb i) (by omega))
    (fun r l => ld_half arg8.view _ 1 _ rfl rfl rfl inb_S2x512x128_S1x512x128_1_0_0 r l)
    (fun r l => ld_half arg9.view _ 1 _ rfl rfl rfl inb_S2x512x128_S1x512x128_1_0_0 r l)
    inb_S2x512x128_S1x512x128_1_0_0 inb_S2x512x128_S1x512x128_1_0_0
  have u3 := up_hi u2 (scores_diag q k (k0_pay16 (F := Ideal) _) _ _ _ (by rw [pay16_eq]; exact g.hhi) (g.kb o4 (k0_off4_inb i)) (by omega) rfl) (le_refl _)
    (g.vb o4 (k0_off4_inb i) (by omega))
    (fun r l => ld_half arg8.view _ 1 _ rfl rfl rfl inb_S2x512x128_S1x512x128_1_0_0 r l)
    (fun r l => ld_half arg9.view _ 1 _ rfl rfl rfl inb_S2x512x128_S1x512x128_1_0_0 r l)
    inb_S2x512x128_S1x512x128_1_0_0 inb_S2x512x128_S1x512x128_1_0_0
  exact u3

variable (h64 : ∀ y, w y 64 = 1) (hc0 : cond0_0 i)
include h64

/-- The point's part of the first output. -/
theorem out3_A (y : Fin 1024) (h : 1024 * (i 1).val + y.val < 8192) (l : Fin 128) :
    out0_A_3 (F := Ideal) c i arg2 harg2 arg3 harg3 arg4 harg4 arg5 harg5 arg6 harg6 arg7 harg7 arg8 harg8 arg9 harg9 hc0 x0 x1 x2 (ix2 y l) = oAt q k w ⟨1024 * (i 1).val + y.val, h⟩ l := by
  have b := both_A (c := c) (harg2 := harg2) (harg3 := harg3) (harg4 := harg4) (harg5 := harg5) (harg6 := harg6) (harg7 := harg7)
    (harg8 := harg8) (harg9 := harg9) x0 x1 x2 hx0 hx1 hx2
  have hi : (i 1).val < 8 := (i 1).isLt
  have e : (kernelRun0_A (F := Ideal) c i arg2 harg2 arg3 harg3 arg4 harg4 arg5 harg5 arg6 harg6 arg7 harg7 arg8 harg8 arg9 harg9 hc0 x0 x1 x2).1
      = [⟨Rect.unit (s := S1024x128) ![512, 0] S512x128.size inb_S1024x128_S512x128_512_0,
          k0_pay46 (F := Ideal) (iota .tc S512x128 32 [1] iota_S512x128_d1_w32) (View.readAt (Elt Ideal) arg9.view (Rect.unit (s := S2x512x128) ![1, 0, 0] S1x512x128.size inb_S2x512x128_S1x512x128_1_0_0).toLoadRect
            (arg9.view.writes (Elt Ideal) arg9.view.junk (kernelRun0_A.sl.HS2_3 (F := Ideal) c i arg2 harg2 arg3 harg3 arg4 harg4 arg5 harg5 arg6 harg6 arg7 harg7 arg8 harg8 arg9 harg9 x0 x1 x2)))⟩,
        ⟨Rect.unit (s := S1024x128) ![0, 0] S512x128.size inb_S1024x128_S512x128_0_0,
          k0_pay46 (F := Ideal) (iota .tc S512x128 32 [1] iota_S512x128_d1_w32) (View.readAt (Elt Ideal) arg9.view (Rect.unit (s := S2x512x128) ![0, 0, 0] S1x512x128.size inb_S2x512x128_S1x512x128_0_0_0).toLoadRect
            (arg9.view.writes (Elt Ideal) arg9.view.junk (kernelRun0_A.sl.HS2_3 (F := Ideal) c i arg2 harg2 arg3 harg3 arg4 harg4 arg5 harg5 arg6 harg6 arg7 harg7 arg8 harg8 arg9 harg9 x0 x1 x2)))⟩] := by
    unfold kernelRun0_A; rfl
  unfold out0_A_3
  rw [e]
  refine (read_two VO0_3 VO0_3.junk _ _ _ _ (fun y l => if h : 1024 * (i 1).val + y.val < 8192 then oAt q k w ⟨1024 * (i 1).val + y.val, h⟩ l else 0)
    (fun r l h => ?_) (fun r l h => ?_) y l).trans (dif_pos h)
  · have hb : 1024 * (i 1).val + r.val < 8192 := by omega
    refine Eq.trans ?_ (dif_pos hb).symm
    exact (half_end b.lo (le_refl _) (by omega) h64 (fun x => arg8.view.read (Elt Ideal) _ (ix3 0 (x 1) (x 2))) _ (fun _ _ => rfl)
      (fun r l => ld_half arg9.view _ 0 _ rfl rfl rfl _ r l) r hb l).1
  · have hb : 1024 * (i 1).val + (512 + r.val) < 8192 := by omega
    refine Eq.trans ?_ (dif_pos hb).symm
    have hb' : 1024 * (i 1).val + 512 + r.val < 8192 := by omega
    refine ((half_end b.hi (le_refl _) (by omega) h64 (fun x => arg8.view.read (Elt Ideal) _ (ix3 1 (x 1) (x 2))) _ (fun _ _ => rfl)
      (fun r l => ld_half arg9.view _ 1 _ rfl rfl rfl _ r l) r hb' l).1).trans ?_
    exact congrArg (fun z => oAt q k w z l) (Fin.ext (show 1024 * (i 1).val + 512 + r.val = 1024 * (i 1).val + (512 + r.val) by omega))

/-- The point's part of the second output. -/
theorem out4_A (y : Fin 1024) (h : 1024 * (i 1).val + y.val < 8192) (l : Fin 128) :
    out0_A_4 (F := Ideal) c i arg2 harg2 arg3 harg3 arg4 harg4 arg5 harg5 arg6 harg6 arg7 harg7 arg8 harg8 arg9 harg9 hc0 x0 x1 x2 (ix2 y l) = lAt q k ⟨1024 * (i 1).val + y.val, h⟩ := by
  have b := both_A (c := c) (harg2 := harg2) (harg3 := harg3) (harg4 := harg4) (harg5 := harg5) (harg6 := harg6) (harg7 := harg7)
    (harg8 := harg8) (harg9 := harg9) x0 x1 x2 hx0 hx1 hx2
  have hi : (i 1).val < 8 := (i 1).isLt
  have e : (kernelRun0_A (F := Ideal) c i arg2 harg2 arg3 harg3 arg4 harg4 arg5 harg5 arg6 harg6 arg7 harg7 arg8 harg8 arg9 harg9 hc0 x0 x1 x2).2.1
      = [⟨Rect.unit (s := S1024x128) ![512, 0] S512x128.size inb_S1024x128_S512x128_512_0,
          k0_pay47 (F := Ideal) (View.readAt (Elt Ideal) arg9.view (Rect.unit (s := S2x512x128) ![1, 0, 0] S1x512x128.size inb_S2x512x128_S1x512x128_1_0_0).toLoadRect
            (arg9.view.writes (Elt Ideal) arg9.view.junk (kernelRun0_A.sl.HS2_3 (F := Ideal) c i arg2 harg2 arg3 harg3 arg4 harg4 arg5 harg5 arg6 harg6 arg7 harg7 arg8 harg8 arg9 harg9 x0 x1 x2)))
            (View.readAt (Elt Ideal) arg8.view (Rect.unit (s := S2x512x128) ![1, 0, 0] S1x512x128.size inb_S2x512x128_S1x512x128_1_0_0).toLoadRect
            (arg8.view.writes (Elt Ideal) arg8.view.junk (kernelRun0_A.sl.HS1_3 (F := Ideal) c i arg2 harg2 arg3 harg3 arg4 harg4 arg5 harg5 arg6 harg6 arg7 harg7 arg8 harg8 arg9 harg9 x0 x1 x2)))⟩,
        ⟨Rect.unit (s := S1024x128) ![0, 0] S512x128.size inb_S1024x128_S512x128_0_0,
          k0_pay47 (F := Ideal) (View.readAt (Elt Ideal) arg9.view (Rect.unit (s := S2x512x128) ![0, 0, 0] S1x512x128.size inb_S2x512x128_S1x512x128_0_0_0).toLoadRect
            (arg9.view.writes (Elt Ideal) arg9.view.junk (kernelRun0_A.sl.HS2_3 (F := Ideal) c i arg2 harg2 arg3 harg3 arg4 harg4 arg5 harg5 arg6 harg6 arg7 harg7 arg8 harg8 arg9 harg9 x0 x1 x2)))
            (View.readAt (Elt Ideal) arg8.view (Rect.unit (s := S2x512x128) ![0, 0, 0] S1x512x128.size inb_S2x512x128_S1x512x128_0_0_0).toLoadRect
            (arg8.view.writes (Elt Ideal) arg8.view.junk (kernelRun0_A.sl.HS1_3 (F := Ideal) c i arg2 harg2 arg3 harg3 arg4 harg4 arg5 harg5 arg6 harg6 arg7 harg7 arg8 harg8 arg9 harg9 x0 x1 x2)))⟩] := by
    unfold kernelRun0_A; rfl
  unfold out0_A_4
  rw [e]
  refine (read_two VO0_4 VO0_4.junk _ _ _ _ (fun y _ => if h : 1024 * (i 1).val + y.val < 8192 then lAt q k ⟨1024 * (i 1).val + y.val, h⟩ else 0)
    (fun r l h => ?_) (fun r l h => ?_) y l).trans (dif_pos h)
  · have hb : 1024 * (i 1).val + r.val < 8192 := by omega
    refine Eq.trans ?_ (dif_pos hb).symm
    exact (half_end b.lo (le_refl _) (by omega) h64 _ _ (fun r l => ld_half arg8.view _ 0 _ rfl rfl rfl _ r l)
      (fun r l => ld_half arg9.view _ 0 _ rfl rfl rfl _ r l) r hb l).2
  · have hb : 1024 * (i 1).val + (512 + r.val) < 8192 := by omega
    refine Eq.trans ?_ (dif_pos hb).symm
    have hb' : 1024 * (i 1).val + 512 + r.val < 8192 := by omega
    refine ((half_end b.hi (le_refl _) (by omega) h64 _ _ (fun r l => ld_half arg8.view _ 1 _ rfl rfl rfl _ r l)
      (fun r l => ld_half arg9.view _ 1 _ rfl rfl rfl _ r l) r hb' l).2).trans ?_
    exact congrArg (lAt q k) (Fin.ext (show 1024 * (i 1).val + 512 + r.val = 1024 * (i 1).val + (512 + r.val) by omega))
end

/-! ## Case B -/

section
variable (x0 : Vec Ideal S1024x128 .bf16) (x1 : Vec Ideal S8192x128 .bf16) (xs0 : Vec Ideal S8192x128 .bf16)
  (hx0 : ∀ (y : Fin 1024) (h : 1024 * (i 1).val + y.val < 8192) (l : Fin 128), x0 (ix2 y l) = ((q ⟨1024 * (i 1).val + y.val, h⟩ l / Real.log 2 : ℝ) : EReal))
  (hx1 : ∀ y l, x1 (ix2 y l) = ((k y l : ℝ) : EReal)) (hx2 : ∀ y l, xs0 (ix2 y l) = w y l)
include hx0 hx1 hx2

theorem given_B : Given q k w i arg3 arg7
    (View.readAt (Elt Ideal) arg2.view (Rect.unit (s := S1024x128) ![0, 0] S512x128.size inb_S1024x128_S512x128_0_0).toLoadRect (harg2.unread x0))
    (View.readAt (Elt Ideal) arg2.view (Rect.unit (s := S1024x128) ![512, 0] S512x128.size inb_S1024x128_S512x128_512_0).toLoadRect (harg2.unread x0))
    (harg3.unread x1) (harg7.unread xs0) where
  hk y l := by rw [harg3.read_unread]; exact hx1 y l
  hw y l := by rw [harg7.read_unread]; exact hx2 y l
  hlo r h l := by
    rw [ld_q arg2.view _ ![0, 0] 0 ⟨rfl, rfl⟩ _ r (by have := r.isLt; omega) l, harg2.read_unread]
    have e := hx0 ⟨0 + r.val, by have := r.isLt; omega⟩ (show 1024 * (i 1).val + (0 + r.val) < 8192 by omega) l
    rw [e]
    exact congrArg (fun z => ((q z l / Real.log 2 : ℝ) : EReal)) (Fin.ext (show 1024 * (i 1).val + (0 + r.val) = 1024 * (i 1).val + r.val by omega))
  hhi r h l := by
    rw [ld_q arg2.view _ ![512, 0] 512 ⟨rfl, rfl⟩ _ r (by have := r.isLt; omega) l, harg2.read_unread]
    have e := hx0 ⟨512 + r.val, by have := r.isLt; omega⟩ (show 1024 * (i 1).val + (512 + r.val) < 8192 by omega) l
    rw [e]
    exact congrArg (fun z => ((q z l / Real.log 2 : ℝ) : EReal)) (Fin.ext (show 1024 * (i 1).val + (512 + r.val) = 1024 * (i 1).val + 512 + r.val by omega))

/-- The running arrays once the block's keys have been seen. -/
theorem both_B : Both q k w arg8.view arg9.view (1024 * (i 1).val) (1024 * (i 1).val + 512) (1024 * (i 1).val + 512 + 512)
    (arg8.view.writes (Elt Ideal) arg8.view.junk (kernelRun0_B.sl.HS1_3 (F := Ideal) c i arg2 harg2 arg3 harg3 arg4 harg4 arg5 harg5 arg6 harg6 arg7 harg7 arg8 harg8 arg9 harg9 x0 x1 xs0))
    (arg9.view.writes (Elt Ideal) arg9.view.junk (kernelRun0_B.sl.HS2_3 (F := Ideal) c i arg2 harg2 arg3 harg3 arg4 harg4 arg5 harg5 arg6 harg6 arg7 harg7 arg8 harg8 arg9 harg9 x0 x1 xs0)) := by
  have g := given_B (harg2 := harg2) (harg3 := harg3) (harg7 := harg7) x0 x1 xs0 hx0 hx1 hx2
  have hi : (i 1).val < 8 := (i 1).isLt
  have b0 : Both q k w arg8.view arg9.view (1024 * (i 1).val) 0 0
      (arg8.view.writes (Elt Ideal) arg8.view.junk (kernelRun0_B.sl.HS1_1 (F := Ideal)))
      (arg9.view.writes (Elt Ideal) arg9.view.junk (kernelRun0_B.sl.HS2_1 (F := Ideal))) :=
    ⟨half_start q k w _ _ _ (fun r l => (st_both arg8.view _ _ rfl rfl rfl inb_S2x512x128_S2x512x128_0_0_0 _ [] 0 r l).trans (pay13_at 0 r l))
        (fun r l => (st_both arg9.view _ _ rfl rfl rfl inb_S2x512x128_S2x512x128_0_0_0 _ [] 0 r l).trans (pay14_at 0 r l)),
      half_start q k w _ _ _ (fun r l => (st_both arg8.view _ _ rfl rfl rfl inb_S2x512x128_S2x512x128_0_0_0 _ [] 1 r l).trans (pay13_at 1 r l))
        (fun r l => (st_both arg9.view _ _ rfl rfl rfl inb_S2x512x128_S2x512x128_0_0_0 _ [] 1 r l).trans (pay14_at 1 r l))⟩
  have b1 := loop_both (c := c) (harg2 := harg2) (harg3 := harg3) (harg4 := harg4) (harg5 := harg5) (harg6 := harg6) (harg7 := harg7)
    (harg8 := harg8) (harg9 := harg9) g Variants.none none _ _ b0 (k0_t1_loop i).trips le_rfl
  rw [← View.writes_append, ← View.writes_append, show 512 * (k0_t1_loop i).trips = 1024 * (i 1).val by rw [trips1]; omega] at b1
  have o3 := off3_at i
  have o4 := off4_at i
  have b2 := loop2_both (c := c) (i := i) (κ := .tc) (harg2 := harg2) (harg3 := harg3) (harg4 := harg4) (harg5 := harg5) (harg6 := harg6) (harg7 := harg7)
    (harg8 := harg8) (harg9 := harg9) b1 Variants.none none
    (View.readAt (Elt Ideal) arg2.view (Rect.unit (s := S1024x128) ![0, 0] S512x128.size inb_S1024x128_S512x128_0_0).toLoadRect (harg2.unread x0))
    (View.readAt (Elt Ideal) arg2.view (Rect.unit (s := S1024x128) ![512, 0] S512x128.size inb_S1024x128_S512x128_512_0).toLoadRect (harg2.unread x0))
    (kernelRun0_B.sl.v20 i) (harg3.unread x1) (harg7.unread xs0)
  have u1 := up_lo b2 (scores_diag q k (k0_pay15 (F := Ideal) _) _ _ _ (by rw [pay15_eq]; exact g.hlo) (g.kb o3 (k0_off3_inb i)) (by omega) rfl) (le_refl _)
    (g.vb o3 (k0_off3_inb i) (by omega))
    (fun r l => ld_half arg8.view _ 0 _ rfl rfl rfl inb_S2x512x128_S1x512x128_0_0_0 r l)
    (fun r l => ld_half arg9.view _ 0 _ rfl rfl rfl inb_S2x512x128_S1x512x128_0_0_0 r l)
    inb_S2x512x128_S1x512x128_0_0_0 inb_S2x512x128_S1x512x128_0_0_0
  have u2 := up_hi u1 (scores_full q k (k0_pay16 (F := Ideal) _) _ _ _ (by rw [pay16_eq]; exact g.hhi) (g.kb o3 (k0_off3_inb i)) (by omega) (le_refl _)) (by omega)
    (g.vb o3 (k0_off3_inb i) (by omega))
    (fun r l => ld_half arg8.view _ 1 _ rfl rfl rfl inb_S2x512x128_S1x512x128_1_0_0 r l)
    (fun r l => ld_half arg9.view _ 1 _ rfl rfl rfl inb_S2x512x128_S1x512x128_1_0_0 r l)
    inb_S2x512x128_S1x512x128_1_0_0 inb_S2x512x128_S1x512x128_1_0_0
  have u3 := up_hi u2 (scores_diag q k (k0_pay16 (F := Ideal) _) _ _ _ (by rw [pay16_eq]; exact g.hhi) (g.kb o4 (k0_off4_inb i)) (by omega) rfl) (le_refl _)
    (g.vb o4 (k0_off4_inb i) (by omega))
    (fun r l => ld_half arg8.view _ 1 _ rfl rfl rfl inb_S2x512x128_S1x512x128_1_0_0 r l)
    (fun r l => ld_half arg9.view _ 1 _ rfl rfl rfl inb_S2x512x128_S1x512x128_1_0_0 r l)
    inb_S2x512x128_S1x512x128_1_0_0 inb_S2x512x128_S1x512x128_1_0_0
  exact u3

variable (x2 : Vec Ideal S8192x128 .bf16) (h64 : ∀ y, w y 64 = 1) (hc0 : ¬cond0_0 i)
include h64

/-- The point's part of the first output. -/
theorem out3_B (y : Fin 1024) (h : 1024 * (i 1).val + y.val < 8192) (l : Fin 128) :
    out0_B_3 (F := Ideal) c i arg2 harg2 arg3 harg3 arg4 harg4 arg5 harg5 arg6 harg6 arg7 harg7 arg8 harg8 arg9 harg9 hc0 x0 x1 x2 xs0 (ix2 y l) = oAt q k w ⟨1024 * (i 1).val + y.val, h⟩ l := by
  have b := both_B (c := c) (harg2 := harg2) (harg3 := harg3) (harg4 := harg4) (harg5 := harg5) (harg6 := harg6) (harg7 := harg7)
    (harg8 := harg8) (harg9 := harg9) x0 x1 xs0 hx0 hx1 hx2
  have hi : (i 1).val < 8 := (i 1).isLt
  have e : (kernelRun0_B (F := Ideal) c i arg2 harg2 arg3 harg3 arg4 harg4 arg5 harg5 arg6 harg6 arg7 harg7 arg8 harg8 arg9 harg9 hc0 x0 x1 x2 xs0).1
      = [⟨Rect.unit (s := S1024x128) ![512, 0] S512x128.size inb_S1024x128_S512x128_512_0,
          k0_pay46 (F := Ideal) (iota .tc S512x128 32 [1] iota_S512x128_d1_w32) (View.readAt (Elt Ideal) arg9.view (Rect.unit (s := S2x512x128) ![1, 0, 0] S1x512x128.size inb_S2x512x128_S1x512x128_1_0_0).toLoadRect
            (arg9.view.writes (Elt Ideal) arg9.view.junk (kernelRun0_B.sl.HS2_3 (F := Ideal) c i arg2 harg2 arg3 harg3 arg4 harg4 arg5 harg5 arg6 harg6 arg7 harg7 arg8 harg8 arg9 harg9 x0 x1 xs0)))⟩,
        ⟨Rect.unit (s := S1024x128) ![0, 0] S512x128.size inb_S1024x128_S512x128_0_0,
          k0_pay46 (F := Ideal) (iota .tc S512x128 32 [1] iota_S512x128_d1_w32) (View.readAt (Elt Ideal) arg9.view (Rect.unit (s := S2x512x128) ![0, 0, 0] S1x512x128.size inb_S2x512x128_S1x512x128_0_0_0).toLoadRect
            (arg9.view.writes (Elt Ideal) arg9.view.junk (kernelRun0_B.sl.HS2_3 (F := Ideal) c i arg2 harg2 arg3 harg3 arg4 harg4 arg5 harg5 arg6 harg6 arg7 harg7 arg8 harg8 arg9 harg9 x0 x1 xs0)))⟩] := by
    unfold kernelRun0_B; rfl
  unfold out0_B_3
  rw [e]
  refine (read_two VO0_3 VO0_3.junk _ _ _ _ (fun y l => if h : 1024 * (i 1).val + y.val < 8192 then oAt q k w ⟨1024 * (i 1).val + y.val, h⟩ l else 0)
    (fun r l h => ?_) (fun r l h => ?_) y l).trans (dif_pos h)
  · have hb : 1024 * (i 1).val + r.val < 8192 := by omega
    refine Eq.trans ?_ (dif_pos hb).symm
    exact (half_end b.lo (le_refl _) (by omega) h64 (fun x => arg8.view.read (Elt Ideal) _ (ix3 0 (x 1) (x 2))) _ (fun _ _ => rfl)
      (fun r l => ld_half arg9.view _ 0 _ rfl rfl rfl _ r l) r hb l).1
  · have hb : 1024 * (i 1).val + (512 + r.val) < 8192 := by omega
    refine Eq.trans ?_ (dif_pos hb).symm
    have hb' : 1024 * (i 1).val + 512 + r.val < 8192 := by omega
    refine ((half_end b.hi (le_refl _) (by omega) h64 (fun x => arg8.view.read (Elt Ideal) _ (ix3 1 (x 1) (x 2))) _ (fun _ _ => rfl)
      (fun r l => ld_half arg9.view _ 1 _ rfl rfl rfl _ r l) r hb' l).1).trans ?_
    exact congrArg (fun z => oAt q k w z l) (Fin.ext (show 1024 * (i 1).val + 512 + r.val = 1024 * (i 1).val + (512 + r.val) by omega))

/-- The point's part of the second output. -/
theorem out4_B (y : Fin 1024) (h : 1024 * (i 1).val + y.val < 8192) (l : Fin 128) :
    out0_B_4 (F := Ideal) c i arg2 harg2 arg3 harg3 arg4 harg4 arg5 harg5 arg6 harg6 arg7 harg7 arg8 harg8 arg9 harg9 hc0 x0 x1 x2 xs0 (ix2 y l) = lAt q k ⟨1024 * (i 1).val + y.val, h⟩ := by
  have b := both_B (c := c) (harg2 := harg2) (harg3 := harg3) (harg4 := harg4) (harg5 := harg5) (harg6 := harg6) (harg7 := harg7)
    (harg8 := harg8) (harg9 := harg9) x0 x1 xs0 hx0 hx1 hx2
  have hi : (i 1).val < 8 := (i 1).isLt
  have e : (kernelRun0_B (F := Ideal) c i arg2 harg2 arg3 harg3 arg4 harg4 arg5 harg5 arg6 harg6 arg7 harg7 arg8 harg8 arg9 harg9 hc0 x0 x1 x2 xs0).2.1
      = [⟨Rect.unit (s := S1024x128) ![512, 0] S512x128.size inb_S1024x128_S512x128_512_0,
          k0_pay47 (F := Ideal) (View.readAt (Elt Ideal) arg9.view (Rect.unit (s := S2x512x128) ![1, 0, 0] S1x512x128.size inb_S2x512x128_S1x512x128_1_0_0).toLoadRect
            (arg9.view.writes (Elt Ideal) arg9.view.junk (kernelRun0_B.sl.HS2_3 (F := Ideal) c i arg2 harg2 arg3 harg3 arg4 harg4 arg5 harg5 arg6 harg6 arg7 harg7 arg8 harg8 arg9 harg9 x0 x1 xs0)))
            (View.readAt (Elt Ideal) arg8.view (Rect.unit (s := S2x512x128) ![1, 0, 0] S1x512x128.size inb_S2x512x128_S1x512x128_1_0_0).toLoadRect
            (arg8.view.writes (Elt Ideal) arg8.view.junk (kernelRun0_B.sl.HS1_3 (F := Ideal) c i arg2 harg2 arg3 harg3 arg4 harg4 arg5 harg5 arg6 harg6 arg7 harg7 arg8 harg8 arg9 harg9 x0 x1 xs0)))⟩,
        ⟨Rect.unit (s := S1024x128) ![0, 0] S512x128.size inb_S1024x128_S512x128_0_0,
          k0_pay47 (F := Ideal) (View.readAt (Elt Ideal) arg9.view (Rect.unit (s := S2x512x128) ![0, 0, 0] S1x512x128.size inb_S2x512x128_S1x512x128_0_0_0).toLoadRect
            (arg9.view.writes (Elt Ideal) arg9.view.junk (kernelRun0_B.sl.HS2_3 (F := Ideal) c i arg2 harg2 arg3 harg3 arg4 harg4 arg5 harg5 arg6 harg6 arg7 harg7 arg8 harg8 arg9 harg9 x0 x1 xs0)))
            (View.readAt (Elt Ideal) arg8.view (Rect.unit (s := S2x512x128) ![0, 0, 0] S1x512x128.size inb_S2x512x128_S1x512x128_0_0_0).toLoadRect
            (arg8.view.writes (Elt Ideal) arg8.view.junk (kernelRun0_B.sl.HS1_3 (F := Ideal) c i arg2 harg2 arg3 harg3 arg4 harg4 arg5 harg5 arg6 harg6 arg7 harg7 arg8 harg8 arg9 harg9 x0 x1 xs0)))⟩] := by
    unfold kernelRun0_B; rfl
  unfold out0_B_4
  rw [e]
  refine (read_two VO0_4 VO0_4.junk _ _ _ _ (fun y _ => if h : 1024 * (i 1).val + y.val < 8192 then lAt q k ⟨1024 * (i 1).val + y.val, h⟩ else 0)
    (fun r l h => ?_) (fun r l h => ?_) y l).trans (dif_pos h)
  · have hb : 1024 * (i 1).val + r.val < 8192 := by omega
    refine Eq.trans ?_ (dif_pos hb).symm
    exact (half_end b.lo (le_refl _) (by omega) h64 _ _ (fun r l => ld_half arg8.view _ 0 _ rfl rfl rfl _ r l)
      (fun r l => ld_half arg9.view _ 0 _ rfl rfl rfl _ r l) r hb l).2
  · have hb : 1024 * (i 1).val + (512 + r.val) < 8192 := by omega
    refine Eq.trans ?_ (dif_pos hb).symm
    have hb' : 1024 * (i 1).val + 512 + r.val < 8192 := by omega
    refine ((half_end b.hi (le_refl _) (by omega) h64 _ _ (fun r l => ld_half arg8.view _ 1 _ rfl rfl rfl _ r l)
      (fun r l => ld_half arg9.view _ 1 _ rfl rfl rfl _ r l) r hb' l).2).trans ?_
    exact congrArg (lAt q k) (Fin.ext (show 1024 * (i 1).val + 512 + r.val = 1024 * (i 1).val + (512 + r.val) by omega))
end

/-- What the head's first point leaves for the others: the values with ones on lane 64. -/
theorem sout_A (x0 : Vec Ideal S1024x128 .bf16) (x1 x2 : Vec Ideal S8192x128 .bf16) (hc0 : cond0_0 i) :
    sout0_A_0 (F := Ideal) c i arg2 harg2 arg3 harg3 arg4 harg4 arg5 harg5 arg6 harg6 arg7 harg7 arg8 harg8 arg9 harg9 hc0 x0 x1 x2 = k0_pay12 (F := Ideal) x2 :=
  read_one VS0_0 VS0_0.junk arg4.view (harg4.unread x2) x2 (harg4.read_unread x2)
end
end

end Cert.Kernel22Ideal.Gen

end
-- ==== Proof.Fwd_ref.lean ====
/- The causal attention's reference: its two results read at an index, and as real arrays when the arguments hold reals. -/
module

public import proofs.«01_k».proof.Proof.Gen.Reference22Ideal.Run
public import proofs.«01_k».proof.Proof.Blocks
public import proofs.«01_k».proof.Proof.Fwd_math

@[expose] public section

set_option maxRecDepth 16384

noncomputable section

namespace Cert.Reference22Ideal.Gen

open Cert.Reference22Ideal Idealize.ShloMosaic Idealize.ShloMosaic.TcCoe Idealize.SL.Sem
open Cert.Attn
open Cert.ReferenceIdeal.Gen (IsR hd hof lof hds hds_real scr mxm mxm_eq exs den sfm row_real sfm_real)
open Cert.KernelIdeal.Gen (lg2 lg2_at log_pos_coe)
open scoped BigOperators

/-- The values by heads. -/
def vds (x : Vec Ideal S8192x512 .f32) : Vec Ideal S8192x8x64 .f32 := shapeCast _ x shapeCasts_S8192x512_S8192x8x64

/-- Heads of 64 lanes, each filled up with zeros to 128. -/
def wide (x : Vec Ideal S8192x8x64 .f32) : Vec Ideal S8192x1024 .f32 :=
  shapeCast _ (pad S8192x8x128 ![0, 0, 0] ![0, 0, 64] ![0, 0, 0] x (sitofp (F := Ideal) .f32 (constantI S_ 32 0#32)) pads_S8192x8x64_S8192x8x128_000_000_0640 h_S_) shapeCasts_S8192x8x128_S8192x1024

/-- The output by heads. -/
def rov (v : Vec Ideal S8192x8x64 .f32) (p : Vec Ideal S8x8192x8192 .f32) : Vec Ideal S8192x8x64 .f32 :=
  transpose S8192x8x64 [2, 0, 1] (Host.dotGeneral (F := Ideal) (φ₁ := .f32) (φ₂ := .f32) dot_S8192x8x64_S8x8192x8192_S8x64x8192_0_2_2_1_1_0 none v p) transposes_S8x64x8192_S8192x8x64_2_0_1

/-- The rows' maxima and the logarithms of their sums, added, to the base two, on every lane of the head. -/
def rls (mx : Vec Ideal S8x8192 .f32) (dn : Vec Ideal S8x8192x1 .f32) : Vec Ideal S8192x1024 .f32 :=
  shapeCast _ (broadcastInDim S8192x8x128 ![0, 1, 2] bcast_S8192x8x1_S8192x8x128_0_1_2 (transpose S8192x8x1 [1, 0, 2] (Host.divf (F := Ideal) (φ := .f32) (addf (F := Ideal) (φ := .f32) (broadcastInDim S8x8192x1 ![0, 1] bcast_S8x8192_S8x8192x1_0_1 mx) (Host.log (F := Ideal) (φ := .f32) dn)) (broadcastInDim S8x8192x1 ![] bcast_S_S8x8192x1 lg2)) transposes_S8x8192x1_S8192x8x1_1_0_2)) shapeCasts_S8192x8x128_S8192x1024

section
variable (m : (ℓ : Loc nD τ sig) → Buf (Elt Ideal) ℓ) (c : Dev nD)

theorem out0_eq : Value.res_out0 (F := Ideal) m c
    = truncf (F := Ideal) (φ := .f32) .bf16 (wide (rov (vds (m ((c.tc : Thread nD τ).loc main_arg2)))
        (sfm (exs (scr (hds (m ((c.tc : Thread nD τ).loc main_arg0))) (hds (m ((c.tc : Thread nD τ).loc main_arg1)))))))) bitsLt_bf16_f32 := by
  unfold Value.res_out0 Value.res_main_v41 wide rov vds sfm den exs mxm scr Cert.ReferenceIdeal.Gen.seen hds
  rfl

/-- The reference ends with the two named arrays in its results. -/
theorem run_stages (ρ : Dev nD → PrngReg) : θ_run defs (onTc (τ := τ) (main (F := Ideal))) ⟨m, fun _ => 0, ρ⟩ fun r => ∀ c : Dev nD,
    r.2.mem ((c.tc : Thread nD τ).loc main_v41) = truncf (F := Ideal) (φ := .f32) .bf16 (wide (rov (vds (m ((c.tc : Thread nD τ).loc main_arg2)))
        (sfm (exs (scr (hds (m ((c.tc : Thread nD τ).loc main_arg0))) (hds (m ((c.tc : Thread nD τ).loc main_arg1)))))))) bitsLt_bf16_f32
      ∧ r.2.mem ((c.tc : Thread nD τ).loc main_v40) = rls (mxm (scr (hds (m ((c.tc : Thread nD τ).loc main_arg0))) (hds (m ((c.tc : Thread nD τ).loc main_arg1))))) (den (exs (scr (hds (m ((c.tc : Thread nD τ).loc main_arg0))) (hds (m ((c.tc : Thread nD τ).loc main_arg1))))))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) := by
  refine (θ_run defs _ _).mono (fun r h c => ⟨(h c).1.trans (out0_eq m c), (h c).2.1.trans ?_, (h c).2.2⟩) (Value.run (F := Ideal) m ρ)
  unfold rls den exs lg2
  rw [mxm_eq]
  unfold scr Cert.ReferenceIdeal.Gen.seen hds
  rfl

end

theorem vds_at (x : Vec Ideal S8192x512 .f32) (r : Fin 8192) (h : Fin 8) (l : Fin 64) :
    vds x (ix3 r h l) = x (ix2 r ⟨h.val * 64 + l.val, by omega⟩) := by
  pointwise [vds]

theorem wide_at (x : Vec Ideal S8192x8x64 .f32) (r : Fin 8192) (e : Fin 1024) :
    wide x (ix2 r e) = if h : e.val % 128 < 64 then x (ix3 r ⟨e.val / 128, by omega⟩ ⟨e.val % 128, h⟩) else 0 := by
  have z : FloatOps.sitofp (F := Ideal) FTy.f32 0#32 = (0 : EReal) := by simp [FloatOps.sitofp]
  have e8 : e.val / 128 < 8 := by omega
  pointwise [wide]
  rw [z]
  by_cases b : e.val % 128 < 64
  · rw [dif_pos ⟨e8, b⟩, dif_pos b]
  · rw [dif_neg (fun h => b h.2), dif_neg b]

theorem rov_at (v : Vec Ideal S8192x8x64 .f32) (p : Vec Ideal S8x8192x8192 .f32) (r : Fin 8192) (h : Fin 8) (l : Fin 64) :
    rov v p (ix3 r h l) = ∑ x : Fin 8192, v (ix3 x h l) * p (ix3 h r x) := by
  pointwise [rov]

theorem rls_at (mx : Vec Ideal S8x8192 .f32) (dn : Vec Ideal S8x8192x1 .f32) (r : Fin 8192) (e : Fin 1024) :
    rls mx dn (ix2 r e) = Ideal.div (mx (ix2 ⟨e.val / 128, by omega⟩ r) + Ideal.log (dn (ix3 ⟨e.val / 128, by omega⟩ r 0))) (lg2 ix0) := by
  pointwise [rls]

/-- A head's values, filled up with zeros. -/
def hv (v : Vec Ideal S8192x512 .f32) (h : Fin 8) (y : Fin 8192) (l : Fin 128) : EReal :=
  if b : l.val < 64 then v (ix2 y ⟨h.val * 64 + l.val, by omega⟩) else 0

/-- The output: the softmax of real scores times the values. -/
def oR (Q K : Fin 8192 → Fin 1024 → ℝ) (v : Vec Ideal S8192x512 .f32) (r : Fin 8192) (e : Fin 1024) : EReal :=
  ∑ y, ((W (hd Q (hof e)) (hd K (hof e)) r y : ℝ) : EReal) * hv v (hof e) y (lof e)

/-- The logarithms to the base two of the rows' sums over the reals. -/
def lR (Q K : Fin 8192 → Fin 1024 → ℝ) (r : Fin 8192) (e : Fin 1024) : ℝ :=
  Real.log (Z (hd Q (hof e)) (hd K (hof e)) r) / Real.log 2

section
variable {q k : Vec Ideal S8192x1024 .f32} {Q K : Fin 8192 → Fin 1024 → ℝ}

/-- The values by heads, filled up with zeros. -/
theorem wide_real (v : Vec Ideal S8192x512 .f32) (r : Fin 8192) (e : Fin 1024) : wide (vds v) (ix2 r e) = hv v (hof e) r (lof e) := by
  rw [wide_at]
  unfold hv
  by_cases b : e.val % 128 < 64
  · rw [dif_pos b, dif_pos (show (lof e).val < 64 from b), vds_at]
  · rw [dif_neg b, dif_neg (show ¬(lof e).val < 64 from b)]

theorem o_real (hq : IsR q Q) (hk : IsR k K) (v : Vec Ideal S8192x512 .f32) (r : Fin 8192) (e : Fin 1024) :
    wide (rov (vds v) (sfm (exs (scr (hds q) (hds k))))) (ix2 r e) = oR Q K v r e := by
  rw [wide_at]
  unfold oR hv
  by_cases b : e.val % 128 < 64
  · rw [dif_pos b, rov_at]
    refine Finset.sum_congr rfl fun y _ => ?_
    rw [vds_at, dif_pos (show (lof e).val < 64 from b), mul_comm]
    exact congrArg (· * _) (sfm_real hq hk _ _ _)
  · rw [dif_neg b]
    refine (Finset.sum_eq_zero fun y _ => ?_).symm
    rw [dif_neg (show ¬(lof e).val < 64 from b), mul_zero]

theorem l_real (hq : IsR q Q) (hk : IsR k K) (r : Fin 8192) (e : Fin 1024) :
    rls (mxm (scr (hds q) (hds k))) (den (exs (scr (hds q) (hds k)))) (ix2 r e) = ((lR Q K r e : ℝ) : EReal) := by
  obtain ⟨M, hM, -, hD⟩ := row_real hq hk (hof e) r
  rw [rls_at]
  refine (congrArg₂ (fun a b => Ideal.div (a + Ideal.log b) (lg2 ix0)) hM hD).trans ?_
  show Ideal.div ((M : EReal) + Ideal.log _) (lg2 ix0) = _
  rw [lg2_at, log_pos_coe _ (sum_F_pos _ _ _ _), ← EReal.coe_add, div_coe _ _ (Real.log_pos (by norm_num)).ne', ref_lse]
  rfl

end

end Cert.Reference22Ideal.Gen

end
-- ==== Proof.Fwd_blocks.lean ====
/- The causal attention's kernel: its results when the queries and keys hold reals. -/
module

public import proofs.«01_k».proof.Proof.Fwd_out
public import proofs.«01_k».proof.Proof.Fwd_ref
public import proofs.«01_k».proof.Proof.Out
public import proofs.«01_k».proof.Proof.Gen.Kernel22Ideal.Value

@[expose] public section

set_option maxRecDepth 16384

noncomputable section

namespace Cert.Kernel22Ideal.Gen

open Idealize.ShloMosaic Idealize.ShloMosaic.TcCoe
open Cert.Attn
open Cert.ReferenceIdeal.Gen (IsR hd hof lof)
open Cert.Reference22Ideal.Gen (hv oR lR wide vds wide_real)
open Cert.KernelIdeal.Gen (hq hq_at lg2 lg2_at lane hof_lane lof_lane)
open scoped BigOperators

theorem coords_1 : ∀ t : Fin cfg0.N, (grid0.coords t 1).val = t.val % 8 :=
  (by decide +kernel : ∀ t : Fin grid0.N, (grid0.coords t 1).val = t.val % 8)
theorem idx_0 : ∀ t : Fin cfg0.N, win0_0.index t = ![t.val % 8, t.val / 8] := (by decide +kernel : ∀ t : Fin grid0.N, _)
theorem idx_1 : ∀ t : Fin cfg0.N, win0_1.index t = ![0, t.val / 8] := (by decide +kernel : ∀ t : Fin grid0.N, _)
theorem idx_2 : ∀ t : Fin cfg0.N, win0_2.index t = ![0, t.val / 8] := (by decide +kernel : ∀ t : Fin grid0.N, _)
theorem idx_3 : ∀ t : Fin cfg0.N, win0_3.index t = ![t.val % 8, t.val / 8] := (by decide +kernel : ∀ t : Fin grid0.N, _)
theorem idx_4 : ∀ t : Fin cfg0.N, win0_4.index t = ![t.val % 8, t.val / 8] := (by decide +kernel : ∀ t : Fin grid0.N, _)

/-- The head of a point. -/
def hpt (t : Fin cfg0.N) : Fin 8 := ⟨t.val / 8, by have : t.val < 64 := t.isLt; omega⟩

/-- A row of a point's block, in the whole array. -/
def row (t : Fin cfg0.N) (y : Fin 1024) : Fin 8192 :=
  ⟨1024 * (grid0.coords t 1).val + y.val, by have : (grid0.coords t 1).val < 8 := (grid0.coords t 1).isLt; omega⟩

section
variable (m : (ℓ : Loc nD τ sig) → Buf (Elt Ideal) ℓ) (c : Dev nD) (t : Fin cfg0.N)

theorem V3 : V m c main_v3 = hq (m ((c.tc : Thread nD τ).loc main_arg0)) := by
  unfold hq lg2
  after_reads_simp

theorem V4 : V m c main_v4 = truncf (F := Ideal) (φ := .f32) .bf16 (m ((c.tc : Thread nD τ).loc main_arg1)) bitsLt_bf16_f32 := by
  after_reads_simp

theorem V8 : V m c main_v8 = truncf (F := Ideal) (φ := .f32) .bf16 (wide (vds (m ((c.tc : Thread nD τ).loc main_arg2)))) bitsLt_bf16_f32 := by
  unfold wide vds
  after_reads_simp
  simp -implicitDefEqProofs only [StableHlo.TRef.toBuf, StableHlo.TRef.ofBuf, cast_cast, cast_eq]
  rfl

theorem blk_0 (y : Fin 1024) (l : Fin 128) : iblk m c 0 t (ix2 y l) = V m c main_v3 (ix2 (row t y) (lane (hpt t) l)) := by
  blk_simp [iblk]
  refine congrArg (V m c main_v3) ?_
  unfold lane hpt row
  blk_ext [idx_0, coords_1]
theorem blk_1 (x : Fin 8192) (l : Fin 128) : iblk m c 1 t (ix2 x l) = V m c main_v4 (ix2 x (lane (hpt t) l)) := by
  blk_simp [iblk]
  refine congrArg (V m c main_v4) ?_
  unfold lane hpt
  blk_ext [idx_1]
theorem blk_2 (x : Fin 8192) (l : Fin 128) : iblk m c 2 t (ix2 x l) = V m c main_v8 (ix2 x (lane (hpt t) l)) := by
  blk_simp [iblk]
  refine congrArg (V m c main_v8) ?_
  unfold lane hpt
  blk_ext [idx_2]
end

/-- A head's values with ones on lane 64. -/
def wt (X : Vec Ideal Cert.Reference22Ideal.S8192x512 .f32) (h : Fin 8) (y : Fin 8192) (l : Fin 128) : EReal := if l = 64 then 1 else hv X h y l

theorem wt_64 (X : Vec Ideal Cert.Reference22Ideal.S8192x512 .f32) (h : Fin 8) (y : Fin 8192) : wt X h y 64 = 1 := if_pos rfl

/-- The output's lanes: lane 64 holds zero, as every lane from 64 on. -/
theorem oAt_lane (Q K : Fin 8192 → Fin 1024 → ℝ) (X : Vec Ideal Cert.Reference22Ideal.S8192x512 .f32) (r : Fin 8192) (h : Fin 8) (l : Fin 128) :
    oAt (hd Q h) (hd K h) (wt X h) r l = oR Q K X r (lane h l) := by
  unfold oAt oR
  rw [hof_lane, lof_lane]
  by_cases e : l = 64
  · rw [if_pos e]
    have z : ∀ y, hv X h y l = 0 := fun y => by
      unfold hv; exact dif_neg (by rw [e]; decide)
    simp only [z, mul_zero, Finset.sum_const_zero]
  · rw [if_neg e]
    refine Finset.sum_congr rfl fun y _ => ?_
    rw [show wt X h y l = hv X h y l from if_neg e]

theorem lAt_lane (Q K : Fin 8192 → Fin 1024 → ℝ) (r : Fin 8192) (h : Fin 8) (l : Fin 128) :
    lAt (hd Q h) (hd K h) r = ((lR Q K r (lane h l) : ℝ) : EReal) := by
  unfold lAt lR
  rw [hof_lane]

section
variable {m : (ℓ : Loc nD τ sig) → Buf (Elt Ideal) ℓ} {c : Dev nD} {Q K : Fin 8192 → Fin 1024 → ℝ}

theorem q_real (h : IsR (m ((c.tc : Thread nD τ).loc main_arg0)) Q) (t : Fin cfg0.N) (y : Fin 1024) (l : Fin 128) :
    iblk m c 0 t (ix2 y l) = ((hd Q (hpt t) (row t y) l / Real.log 2 : ℝ) : EReal) := by
  rw [blk_0, V3, hq_at, lg2_at]
  refine (congrArg (fun z => Ideal.div z _) (h _ _)).trans ?_
  rw [div_coe _ _ (Real.log_pos (by norm_num)).ne']; rfl

theorem k_real (h : IsR (m ((c.tc : Thread nD τ).loc main_arg1)) K) (t : Fin cfg0.N) (x : Fin 8192) (l : Fin 128) :
    iblk m c 1 t (ix2 x l) = ((hd K (hpt t) x l : ℝ) : EReal) := by
  rw [blk_1, V4]; exact h _ _

theorem v_real (m : (ℓ : Loc nD τ sig) → Buf (Elt Ideal) ℓ) (c : Dev nD) (t : Fin cfg0.N) (x : Fin 8192) (l : Fin 128) :
    k0_pay12 (F := Ideal) (iblk m c 2 t) (ix2 x l) = wt (m ((c.tc : Thread nD τ).loc main_arg2)) (hpt t) x l := by
  rw [pay12_at]
  unfold wt
  by_cases e : l = 64
  · rw [if_pos e, if_pos e]
  · rw [if_neg e, if_neg e, blk_2, V8]
    refine (wide_real _ x (lane (hpt t) l)).trans ?_
    rw [hof_lane, lof_lane]

theorem left_first (t : Fin cfg0.N) (h0 : t.val % 8 = 0) : (outsAt0 m c t.val t.isLt).2.2 = k0_pay12 (F := Ideal) (iblk m c 2 t) := by
  rw [outsAt0_A m c t h0]
  dsimp only
  exact sout_A (x0 := iblk m c 0 t) (x1 := iblk m c 1 t) (x2 := iblk m c 2 t) (hc0 := (hcond0_0 t).mpr h0) ..

theorem left_next (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]
  rfl

/-- Every point leaves its head's values, with ones on lane 64, for the next. -/
theorem carried (n : ℕ) : ∀ (t : Fin cfg0.N), t.val = n → ∀ (x : Fin 8192) (l : Fin 128),
    (outsAt0 m c t.val t.isLt).2.2 (ix2 x l) = wt (m ((c.tc : Thread nD τ).loc main_arg2)) (hpt t) x l := by
  induction n with
  | zero =>
    intro t e x l
    rw [left_first t (by omega)]
    exact v_real m c t x l
  | succ n ih =>
    intro t e x l
    by_cases h0 : t.val % 8 = 0
    · rw [left_first t h0]
      exact v_real m c t x l
    · rw [left_next t h0]
      have hn : t.val - 1 < cfg0.N := Nat.lt_of_le_of_lt (Nat.sub_le _ _) t.isLt
      refine (ih ⟨t.val - 1, hn⟩ (show t.val - 1 = n by omega) x l).trans ?_
      rw [show hpt ⟨t.val - 1, hn⟩ = hpt t from Fin.ext (show (t.val - 1) / 8 = t.val / 8 by omega)]

theorem before (t : Fin cfg0.N) (h0 : ¬t.val % 8 = 0) (x : Fin 8192) (l : Fin 128) :
    (outsAt0 m c (t.val - 1) (Nat.lt_of_le_of_lt (Nat.sub_le _ _) t.isLt)).2.2 (ix2 x l) = wt (m ((c.tc : Thread nD τ).loc main_arg2)) (hpt t) x l := by
  rw [← left_next t h0]
  exact carried _ t rfl x l

variable (h_q : IsR (m ((c.tc : Thread nD τ).loc main_arg0)) Q) (h_k : IsR (m ((c.tc : Thread nD τ).loc main_arg1)) K)
include h_q h_k

theorem o_at (t : Fin cfg0.N) (y : Fin 1024) (l : Fin 128) :
    (outsAt0 m c t.val t.isLt).1 (ix2 y l) = oR Q K (m ((c.tc : Thread nD τ).loc main_arg2)) (row t y) (lane (hpt t) l) := by
  rw [← oAt_lane]
  by_cases h0 : t.val % 8 = 0
  · rw [outsAt0_A m c t h0]
    exact out3_A (hx0 := fun y h l => q_real h_q t y l) (hx1 := fun y l => k_real h_k t y l) (hx2 := fun y l => v_real m c t y l) (h64 := wt_64 _ (hpt t)) (y := y) (l := l) (h := (row t y).isLt) (hc0 := (hcond0_0 t).mpr h0) ..
  · rw [outsAt0_B m c t h0]
    exact out3_B (hx0 := fun y h l => q_real h_q t y l) (hx1 := fun y l => k_real h_k t y l) (hx2 := fun y l => before t h0 y l) (h64 := wt_64 _ (hpt t)) (y := y) (l := l) (h := (row t y).isLt) (hc0 := fun h => h0 ((hcond0_0 t).mp h)) (x2 := iblk m c 2 t) ..

theorem l_at (t : Fin cfg0.N) (y : Fin 1024) (l : Fin 128) :
    (outsAt0 m c t.val t.isLt).2.1 (ix2 y l) = ((lR Q K (row t y) (lane (hpt t) l) : ℝ) : EReal) := by
  rw [← lAt_lane]
  by_cases h0 : t.val % 8 = 0
  · rw [outsAt0_A m c t h0]
    exact out4_A (hx0 := fun y h l => q_real h_q t y l) (hx1 := fun y l => k_real h_k t y l) (hx2 := fun y l => v_real m c t y l) (h64 := wt_64 _ (hpt t)) (y := y) (l := l) (h := (row t y).isLt) (hc0 := (hcond0_0 t).mpr h0) ..
  · rw [outsAt0_B m c t h0]
    exact out4_B (hx0 := fun y h l => q_real h_q t y l) (hx1 := fun y l => k_real h_k t y l) (hx2 := fun y l => before t h0 y l) (h64 := wt_64 _ (hpt t)) (y := y) (l := l) (h := (row t y).isLt) (hc0 := fun h => h0 ((hcond0_0 t).mp h)) (x2 := iblk m c 2 t) ..

/-- The kernel's output. -/
theorem out_o : (dats m 0 c).arrAt 3 cfg0.N = fun i => oR Q K (m ((c.tc : Thread nD τ).loc main_arg2)) (i 0) (i 1) := by
  refine (dats m 0 c).arrAt_eq_of_covers 3 _ (by decide +kernel) fun t hf y => ?_
  blk_simp
  rw [after0_3]
  have hy : ((win0_3.blk t).view.emb y) = ix2 (row t (y 0)) (lane (hpt t) (y 1)) := by
    unfold lane hpt row
    blk_ext [idx_3, coords_1]
  rw [hy]
  exact (congrArg (outsAt0 m c t.val t.isLt).1 (eq_ix2 y)).trans (o_at h_q h_k t (y 0) (y 1))

/-- The kernel's logarithms. -/
theorem out_l : (dats m 0 c).arrAt 4 cfg0.N = fun i => ((lR Q K (i 0) (i 1) : ℝ) : EReal) := by
  refine (dats m 0 c).arrAt_eq_of_covers 4 _ (by decide +kernel) fun t hf y => ?_
  blk_simp
  rw [after0_4]
  have hy : ((win0_4.blk t).view.emb y) = ix2 (row t (y 0)) (lane (hpt t) (y 1)) := by
    unfold lane hpt row
    blk_ext [idx_4, coords_1]
  rw [hy]
  exact (congrArg (outsAt0 m c t.val t.isLt).2.1 (eq_ix2 y)).trans (l_at h_q h_k t (y 0) (y 1))

end

end Cert.Kernel22Ideal.Gen

end
-- ==== Proof.Fwd_pre.lean ====
/- What the causal attention's precondition says: every element of its queries and keys is a real. -/
module

public import proofs.«01_k».proof.Defs
public import proofs.«01_k».proof.Proof.Pre
public import proofs.«01_k».proof.Proof.Fwd_ref

@[expose] public section

set_option maxRecDepth 16384

noncomputable section

namespace Cert.Attn

open Idealize.ShloMosaic Idealize.ShloMosaic.TcCoe
open Cert.ReferenceIdeal.Gen (IsR)

/-- The side conditions of the precondition's operations. -/
theorem fwdFacts : Cert.Pre_finite22.Facts where
  bcast_S_S8192x1024 := by decide
  reducesTo_S8192x1024_S_d0_1 := by decide
  h_S_ := by decide
  bcast_S_S1 := by decide
  concatenates_S1_S1_S2_d0 := by decide

section
attribute [local instance] preFacts
attribute [local instance] fwdFacts
open Cert.Pre_finite22

/-- Two bits in a row. -/
def row2 (x0 x1 : IVec Cert.Pre_finite22.S_ 1) : IVec Cert.Pre_finite22.S2 1 :=
  concatenate Cert.Pre_finite22.S2 0 [⟨Cert.Pre_finite22.S1, broadcastInDim Cert.Pre_finite22.S1 ![] Facts.bcast_S_S1 x0⟩, ⟨Cert.Pre_finite22.S1, broadcastInDim Cert.Pre_finite22.S1 ![] Facts.bcast_S_S1 x1⟩] Facts.concatenates_S1_S1_S2_d0

theorem row2_0 (x0 x1 : IVec Cert.Pre_finite22.S_ 1) : row2 x0 x1 (ix1 0) = x0 ix0 := by
  pointwise [row2]
theorem row2_1 (x0 x1 : IVec Cert.Pre_finite22.S_ 1) : row2 x0 x1 (ix1 1) = x1 ix0 := by
  pointwise [row2]

/-- Queries and keys that the precondition takes hold reals. -/
theorem real_of_fwd (a b : FVec Ideal Cert.Pre_finite22.S8192x1024 .f32) (c : FVec Ideal Cert.Pre_finite22.S8192x512 .f32)
    (h : Cert.Pre_finite22.fn (F := Ideal) a b c = fun _ => 1#1) : (∃ X, IsR a X) ∧ (∃ X, IsR b X) := by
  have e : Cert.Pre_finite22.fn (F := Ideal) a b c = row2 (test a) (test b) := by
    unfold Cert.Pre_finite22.fn row2 test
    rfl
  rw [e] at h
  exact ⟨real_of_test a ix0 ((row2_0 _ _).symm.trans (congrFun h _)), real_of_test b ix0 ((row2_1 _ _).symm.trans (congrFun h _))⟩

end

end Cert.Attn

end
-- ==== Proof.Fwd.lean ====
/- The causal attention: the kernel's two results are the reference's. -/
module

public import proofs.«01_k».proof.Defs
public import proofs.«01_k».proof.Proof.Fwd_blocks
public import proofs.«01_k».proof.Proof.Fwd_pre

@[expose] public section

set_option maxRecDepth 16384

noncomputable section

namespace Cert.Proof

open Idealize.ShloMosaic Idealize.ShloMosaic.TcCoe Idealize.SL.Sem
open Cert.Reference22Ideal.Gen (oR lR)

section
attribute [local instance] Cert.Attn.fwdFacts Cert.Kernel22Ideal.Gen.facts Cert.Reference22Ideal.Gen.facts

/-- Over real queries and keys and any values the causal attention's output and logarithms are the reference's. -/
theorem forward : Cert.algebraic_Kernel22Ideal_Reference22Ideal_pre_finite22 := by
  intro m g m' g' hpre hargs
  have hx := fun c => Cert.Attn.real_of_fwd _ _ _ (hpre c)
  choose Q hQ using fun c => (hx c).1
  choose K hK using fun c => (hx c).2
  refine ⟨fun c i => oR (Q c) (K c) (m ((c.tc : Thread Cert.Kernel22Ideal.nD Cert.Kernel22Ideal.τ).loc Cert.Kernel22Ideal.main_arg2)) (i 0) (i 1), fun c i => ((lR (Q c) (K c) (i 0) (i 1) : ℝ) : EReal), ?_, ?_⟩
  · refine (θ_run Cert.Kernel22Ideal.defs _ _).mono (fun r h c => ?_) (Cert.Kernel22Ideal.Value.run_blocks m g)
    obtain ⟨h0, h1, ha⟩ := h c
    exact ⟨h0.trans (Cert.Kernel22Ideal.Gen.out_o (hQ c) (hK c)), h1.trans (Cert.Kernel22Ideal.Gen.out_l (hQ c) (hK c)), ha⟩
  · refine (θ_run Cert.Reference22Ideal.defs _ _).mono (fun r h c => ?_) (Cert.Reference22Ideal.Gen.run_stages m' g')
    obtain ⟨h0, h1, ha⟩ := h c
    obtain ⟨a0, a1, a2⟩ := hargs c
    refine ⟨h0.trans (funext fun i => ?_), h1.trans (funext fun i => ?_), ha⟩
    · rw [a0, a1, a2]
      exact (congrArg _ (eq_ix2 i)).trans (Cert.Reference22Ideal.Gen.o_real (hQ c) (hK c) _ (i 0) (i 1))
    · rw [a0, a1]
      exact (congrArg _ (eq_ix2 i)).trans (Cert.Reference22Ideal.Gen.l_real (hQ c) (hK c) (i 0) (i 1))

end

end Cert.Proof

end
-- ==== Proof.lean ====
/- The proof of the claim: the kernel's and the reference's programs run and leave the machine at rest, the kernel's ideal
   program is the kernel with its named constants, over the reals its three gradients are the reference's, as the causal attention's output and
   logarithms are, and the products are the reference's on all extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Frame_print
public import proofs.«01_k».proof.Proof.Out
public import proofs.«01_k».proof.Proof.Pre
public import proofs.«01_k».proof.Proof.Prod
public import proofs.«01_k».proof.Proof.Fwd
public import proofs.«01_k».proof.Proof.Gen.Kernel22.Frame
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.ReferenceIdeal.Gen (IsR dQ dK dV)

section
attribute [local instance] Cert.Attn.preFacts

/-- The reference's results when its arguments hold reals. -/
theorem reference (m : (ℓ : Loc Cert.ReferenceIdeal.nD Cert.ReferenceIdeal.τ Cert.ReferenceIdeal.sig) → Buf (Elt Ideal) ℓ)
    (c : Dev Cert.ReferenceIdeal.nD) (Q K X D : Fin 8192 → Fin 1024 → ℝ)
    (hq : IsR (m ((c.tc : Thread Cert.ReferenceIdeal.nD Cert.ReferenceIdeal.τ).loc Cert.ReferenceIdeal.main_arg0)) Q)
    (hk : IsR (m ((c.tc : Thread Cert.ReferenceIdeal.nD Cert.ReferenceIdeal.τ).loc Cert.ReferenceIdeal.main_arg1)) K)
    (hv : IsR (m ((c.tc : Thread Cert.ReferenceIdeal.nD Cert.ReferenceIdeal.τ).loc Cert.ReferenceIdeal.main_arg2)) X)
    (hd : IsR (m ((c.tc : Thread Cert.ReferenceIdeal.nD Cert.ReferenceIdeal.τ).loc Cert.ReferenceIdeal.main_arg3)) D) :
    Cert.ReferenceIdeal.Value.res_out0 (F := Ideal) m c = (fun i => ((dQ Q K X D (i 0) (i 1) : ℝ) : EReal))
      ∧ Cert.ReferenceIdeal.Value.res_out1 (F := Ideal) m c = (fun i => ((dK Q K X D (i 0) (i 1) : ℝ) : EReal))
      ∧ Cert.ReferenceIdeal.Value.res_out2 (F := Ideal) m c = (fun i => ((dV Q K D (i 0) (i 1) : ℝ) : EReal)) := by
  refine ⟨funext fun i => ?_, funext fun i => ?_, funext fun i => ?_⟩
  · rw [Cert.ReferenceIdeal.Gen.out0_eq]
    exact (congrArg _ (eq_ix2 i)).trans (Cert.ReferenceIdeal.Gen.rdq_real hq hk hv hd (i 0) (i 1))
  · rw [Cert.ReferenceIdeal.Gen.out1_eq]
    exact (congrArg _ (eq_ix2 i)).trans (Cert.ReferenceIdeal.Gen.rdk_real hq hk hv hd (i 0) (i 1))
  · rw [Cert.ReferenceIdeal.Gen.out2_eq]
    exact (congrArg _ (eq_ix2 i)).trans (Cert.ReferenceIdeal.Gen.rdv_real hq hk hd (i 0) (i 1))

/-- Over the reals the kernel's three gradients are the reference's. -/
theorem gradients : Cert.algebraic_KernelIdeal_ReferenceIdeal_pre_finite := by
  intro m g m' g' hpre hargs
  have hx := fun c => Cert.Attn.real_of_pre _ _ _ _ (hpre c)
  choose Q hQ using fun c => (hx c).1
  choose K hK using fun c => (hx c).2.1
  choose X hX using fun c => (hx c).2.2.1
  choose D hD using fun c => (hx c).2.2.2
  refine ⟨fun c i => ((dQ (Q c) (K c) (X c) (D c) (i 0) (i 1) : ℝ) : EReal),
    fun c i => ((dK (Q c) (K c) (X c) (D c) (i 0) (i 1) : ℝ) : EReal),
    fun c i => ((dV (Q c) (K c) (D c) (i 0) (i 1) : ℝ) : EReal), ?_, ?_⟩
  · refine (θ_run Cert.KernelIdeal.defs _ _).mono (fun r h c => ?_) (Cert.KernelIdeal.Gen.values m g)
    obtain ⟨h0, h1, h2, ha⟩ := h c
    exact ⟨h0.trans (Cert.KernelIdeal.Gen.out_q (hQ c) (hK c) (hX c) (hD c)), h1.trans (Cert.KernelIdeal.Gen.out_k (hQ c) (hK c) (hX c) (hD c)),
      h2.trans (Cert.KernelIdeal.Gen.out_v (hQ c) (hK c) (hX c) (hD c)), ha⟩
  · refine (θ_run Cert.ReferenceIdeal.defs _ _).mono (fun r h c => ?_) (Cert.ReferenceIdeal.Value.run (F := Ideal) m' g')
    obtain ⟨h0, h1, h2, ha⟩ := h c
    obtain ⟨a0, a1, a2, a3⟩ := hargs c
    obtain ⟨e0, e1, e2⟩ := reference m' c (Q c) (K c) (X c) (D c) (a0 ▸ hQ c) (a1 ▸ hK c) (a2 ▸ hX c) (a3 ▸ hD c)
    exact ⟨h0.trans e0, h1.trans e1, h2.trans e2, ha⟩

end

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Attn.preFacts, Cert.Attn.fwdFacts,
  fun m ρ _ => Cert.Kernel.Gen.frame m ρ, fun m ρ _ => Cert.KernelIdeal.Gen.frame m ρ, fun m ρ _ => Cert.KernelIdeal.Gen.frame m ρ,
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ),
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ),
  fun m ρ _ => Cert.Kernel2.Gen.frame m ρ, fun m ρ _ => Cert.Kernel2Ideal.Gen.frame m ρ,
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ),
  fun m ρ _ => Cert.Kernel3.Gen.frame m ρ, fun m ρ _ => Cert.Kernel3Ideal.Gen.frame m ρ,
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ),
  fun m ρ _ => Cert.Kernel4.Gen.frame m ρ, fun m ρ _ => Cert.Kernel4Ideal.Gen.frame m ρ,
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ),
  fun m ρ _ => Cert.Kernel5.Gen.frame m ρ, fun m ρ _ => Cert.Kernel5Ideal.Gen.frame m ρ,
  fun m ρ _ => (θ_run Cert.Reference5Ideal.defs _ _).mono
    (fun r h => ⟨fun c => (h c).2, Idealize.ShloMosaic.sem_eq_zero_of_no_sems (by decide) r.2⟩)
    (Cert.Reference5Ideal.Value.run (F := Ideal) m ρ),
  fun m ρ _ => Cert.Kernel6.Gen.frame m ρ, fun m ρ _ => Cert.Kernel6Ideal.Gen.frame m ρ,
  fun m ρ _ => (θ_run Cert.Reference6Ideal.defs _ _).mono
    (fun r h => ⟨fun c => (h c).2, Idealize.ShloMosaic.sem_eq_zero_of_no_sems (by decide) r.2⟩)
    (Cert.Reference6Ideal.Value.run (F := Ideal) m ρ),
  fun m ρ _ => Cert.Kernel7.Gen.frame m ρ, fun m ρ _ => Cert.Kernel7Ideal.Gen.frame m ρ,
  fun m ρ _ => (θ_run Cert.Reference7Ideal.defs _ _).mono
    (fun r h => ⟨fun c => (h c).2, Idealize.ShloMosaic.sem_eq_zero_of_no_sems (by decide) r.2⟩)
    (Cert.Reference7Ideal.Value.run (F := Ideal) m ρ),
  fun m ρ _ => Cert.Kernel8.Gen.frame m ρ, fun m ρ _ => Cert.Kernel8Ideal.Gen.frame m ρ,
  fun m ρ _ => (θ_run Cert.Reference8Ideal.defs _ _).mono
    (fun r h => ⟨fun c => (h c).2, Idealize.ShloMosaic.sem_eq_zero_of_no_sems (by decide) r.2⟩)
    (Cert.Reference8Ideal.Value.run (F := Ideal) m ρ),
  fun m ρ _ => Cert.Kernel9.Gen.frame m ρ, fun m ρ _ => Cert.Kernel9Ideal.Gen.frame m ρ,
  fun m ρ _ => (θ_run Cert.Reference9Ideal.defs _ _).mono
    (fun r h => ⟨fun c => (h c).2, Idealize.ShloMosaic.sem_eq_zero_of_no_sems (by decide) r.2⟩)
    (Cert.Reference9Ideal.Value.run (F := Ideal) m ρ),
  fun m ρ _ => Cert.Kernel10.Gen.frame m ρ, fun m ρ _ => Cert.Kernel10Ideal.Gen.frame m ρ,
  fun m ρ _ => (θ_run Cert.Reference10Ideal.defs _ _).mono
    (fun r h => ⟨fun c => (h c).2, Idealize.ShloMosaic.sem_eq_zero_of_no_sems (by decide) r.2⟩)
    (Cert.Reference10Ideal.Value.run (F := Ideal) m ρ),
  fun m ρ _ => Cert.Kernel11.Gen.frame m ρ, fun m ρ _ => Cert.Kernel11Ideal.Gen.frame m ρ,
  fun m ρ _ => (θ_run Cert.Reference11Ideal.defs _ _).mono
    (fun r h => ⟨fun c => (h c).2, Idealize.ShloMosaic.sem_eq_zero_of_no_sems (by decide) r.2⟩)
    (Cert.Reference11Ideal.Value.run (F := Ideal) m ρ),
  fun m ρ _ => Cert.Kernel12.Gen.frame m ρ, fun m ρ _ => Cert.Kernel12Ideal.Gen.frame m ρ,
  fun m ρ _ => (θ_run Cert.Reference12Ideal.defs _ _).mono
    (fun r h => ⟨fun c => (h c).2, Idealize.ShloMosaic.sem_eq_zero_of_no_sems (by decide) r.2⟩)
    (Cert.Reference12Ideal.Value.run (F := Ideal) m ρ),
  fun m ρ _ => Cert.Kernel13.Gen.frame m ρ, fun m ρ _ => Cert.Kernel13Ideal.Gen.frame m ρ,
  fun m ρ _ => (θ_run Cert.Reference13Ideal.defs _ _).mono
    (fun r h => ⟨fun c => (h c).2, Idealize.ShloMosaic.sem_eq_zero_of_no_sems (by decide) r.2⟩)
    (Cert.Reference13Ideal.Value.run (F := Ideal) m ρ),
  fun m ρ _ => Cert.Kernel14.Gen.frame m ρ, fun m ρ _ => Cert.Kernel14Ideal.Gen.frame m ρ,
  fun m ρ _ => (θ_run Cert.Reference14Ideal.defs _ _).mono
    (fun r h => ⟨fun c => (h c).2, Idealize.ShloMosaic.sem_eq_zero_of_no_sems (by decide) r.2⟩)
    (Cert.Reference14Ideal.Value.run (F := Ideal) m ρ),
  fun m ρ _ => Cert.Kernel15.Gen.frame m ρ, fun m ρ _ => Cert.Kernel15Ideal.Gen.frame m ρ,
  fun m ρ _ => (θ_run Cert.Reference15Ideal.defs _ _).mono
    (fun r h => ⟨fun c => (h c).2, Idealize.ShloMosaic.sem_eq_zero_of_no_sems (by decide) r.2⟩)
    (Cert.Reference15Ideal.Value.run (F := Ideal) m ρ),
  fun m ρ _ => Cert.Kernel16.Gen.frame m ρ, fun m ρ _ => Cert.Kernel16Ideal.Gen.frame m ρ,
  fun m ρ _ => (θ_run Cert.Reference16Ideal.defs _ _).mono
    (fun r h => ⟨fun c => (h c).2, Idealize.ShloMosaic.sem_eq_zero_of_no_sems (by decide) r.2⟩)
    (Cert.Reference16Ideal.Value.run (F := Ideal) m ρ),
  fun m ρ _ => Cert.Kernel17.Gen.frame m ρ, fun m ρ _ => Cert.Kernel17Ideal.Gen.frame m ρ,
  fun m ρ _ => (θ_run Cert.Reference17Ideal.defs _ _).mono
    (fun r h => ⟨fun c => (h c).2, Idealize.ShloMosaic.sem_eq_zero_of_no_sems (by decide) r.2⟩)
    (Cert.Reference17Ideal.Value.run (F := Ideal) m ρ),
  fun m ρ _ => Cert.Kernel18.Gen.frame m ρ, fun m ρ _ => Cert.Kernel18Ideal.Gen.frame m ρ,
  fun m ρ _ => (θ_run Cert.Reference18Ideal.defs _ _).mono
    (fun r h => ⟨fun c => (h c).2, Idealize.ShloMosaic.sem_eq_zero_of_no_sems (by decide) r.2⟩)
    (Cert.Reference18Ideal.Value.run (F := Ideal) m ρ),
  fun m ρ _ => Cert.Kernel19.Gen.frame m ρ, fun m ρ _ => Cert.Kernel19Ideal.Gen.frame m ρ,
  fun m ρ _ => (θ_run Cert.Reference19Ideal.defs _ _).mono
    (fun r h => ⟨fun c => (h c).2, Idealize.ShloMosaic.sem_eq_zero_of_no_sems (by decide) r.2⟩)
    (Cert.Reference19Ideal.Value.run (F := Ideal) m ρ),
  fun m ρ _ => Cert.Kernel20.Gen.frame m ρ, fun m ρ _ => Cert.Kernel20Ideal.Gen.frame m ρ,
  fun m ρ _ => (θ_run Cert.Reference20Ideal.defs _ _).mono
    (fun r h => ⟨fun c => (h c).2, Idealize.ShloMosaic.sem_eq_zero_of_no_sems (by decide) r.2⟩)
    (Cert.Reference20Ideal.Value.run (F := Ideal) m ρ),
  fun m ρ _ => Cert.Kernel21.Gen.frame m ρ, fun m ρ _ => Cert.Kernel21Ideal.Gen.frame m ρ,
  fun m ρ _ => (θ_run Cert.Reference21Ideal.defs _ _).mono
    (fun r h => ⟨fun c => (h c).2, Idealize.ShloMosaic.sem_eq_zero_of_no_sems (by decide) r.2⟩)
    (Cert.Reference21Ideal.Value.run (F := Ideal) m ρ),
  fun m ρ _ => Cert.Kernel22.Gen.frame m ρ, fun m ρ _ => Cert.Kernel22Ideal.Gen.frame m ρ, fun m ρ _ => Cert.Kernel22Ideal.Gen.frame m ρ,
  fun m ρ _ => (θ_run Cert.Reference22Ideal.defs _ _).mono
    (fun r h => ⟨fun c => (h c).2.2, Idealize.ShloMosaic.sem_eq_zero_of_no_sems (by decide) r.2⟩)
    (Cert.Reference22Ideal.Value.run (F := Ideal) m ρ),
  fun m ρ _ => (θ_run Cert.Reference22Ideal.defs _ _).mono
    (fun r h => ⟨fun c => (h c).2.2, Idealize.ShloMosaic.sem_eq_zero_of_no_sems (by decide) r.2⟩)
    (Cert.Reference22Ideal.Value.run (F := Ideal) m ρ),
  fun m ρ _ => Cert.Kernel23.Gen.frame m ρ, fun m ρ _ => Cert.Kernel23Ideal.Gen.frame m ρ,
  fun m ρ _ => (θ_run Cert.Reference23Ideal.defs _ _).mono
    (fun r h => ⟨fun c => (h c).2, Idealize.ShloMosaic.sem_eq_zero_of_no_sems (by decide) r.2⟩)
    (Cert.Reference23Ideal.Value.run (F := Ideal) m ρ),
  fun m ρ _ => Cert.Kernel24.Gen.frame m ρ, fun m ρ _ => Cert.Kernel24Ideal.Gen.frame m ρ,
  fun m ρ _ => (θ_run Cert.Reference24Ideal.defs _ _).mono
    (fun r h => ⟨fun c => (h c).2, Idealize.ShloMosaic.sem_eq_zero_of_no_sems (by decide) r.2⟩)
    (Cert.Reference24Ideal.Value.run (F := Ideal) m ρ),
  fun m ρ _ => Cert.Kernel25.Gen.frame m ρ, fun m ρ _ => Cert.Kernel25Ideal.Gen.frame m ρ,
  fun m ρ _ => (θ_run Cert.Reference25Ideal.defs _ _).mono
    (fun r h => ⟨fun c => (h c).2, Idealize.ShloMosaic.sem_eq_zero_of_no_sems (by decide) r.2⟩)
    (Cert.Reference25Ideal.Value.run (F := Ideal) m ρ),
  fun m ρ _ => Cert.Kernel26.Gen.frame m ρ, fun m ρ _ => Cert.Kernel26Ideal.Gen.frame m ρ,
  fun m ρ _ => (θ_run Cert.Reference26Ideal.defs _ _).mono
    (fun r h => ⟨fun c => (h c).2, Idealize.ShloMosaic.sem_eq_zero_of_no_sems (by decide) r.2⟩)
    (Cert.Reference26Ideal.Value.run (F := Ideal) m ρ),
  fun m ρ _ => Cert.Kernel27.Gen.frame m ρ, fun m ρ _ => Cert.Kernel27Ideal.Gen.frame m ρ,
  fun m ρ _ => (θ_run Cert.Reference27Ideal.defs _ _).mono
    (fun r h => ⟨fun c => (h c).2, Idealize.ShloMosaic.sem_eq_zero_of_no_sems (by decide) r.2⟩)
    (Cert.Reference27Ideal.Value.run (F := Ideal) m ρ),
  fun m ρ _ => Cert.Kernel28.Gen.frame m ρ, fun m ρ _ => Cert.Kernel28Ideal.Gen.frame m ρ,
  fun m ρ _ => (θ_run Cert.Reference28Ideal.defs _ _).mono
    (fun r h => ⟨fun c => (h c).2, Idealize.ShloMosaic.sem_eq_zero_of_no_sems (by decide) r.2⟩)
    (Cert.Reference28Ideal.Value.run (F := Ideal) m ρ),
  fun m ρ _ => Cert.Kernel29.Gen.frame m ρ, fun m ρ _ => Cert.Kernel29Ideal.Gen.frame m ρ,
  fun m ρ _ => (θ_run Cert.Reference29Ideal.defs _ _).mono
    (fun r h => ⟨fun c => (h c).2, Idealize.ShloMosaic.sem_eq_zero_of_no_sems (by decide) r.2⟩)
    (Cert.Reference29Ideal.Value.run (F := Ideal) m ρ),
  fun m ρ _ => Cert.Kernel30.Gen.frame m ρ, fun m ρ _ => Cert.Kernel30Ideal.Gen.frame m ρ,
  fun m ρ _ => (θ_run Cert.Reference30Ideal.defs _ _).mono
    (fun r h => ⟨fun c => (h c).2, Idealize.ShloMosaic.sem_eq_zero_of_no_sems (by decide) r.2⟩)
    (Cert.Reference30Ideal.Value.run (F := Ideal) m ρ),
  ⟨IdealRules.named_const.statement Cert.KernelIdeal.κ "mask" .f32 0xF149F2CA#32 ⊥ rfl,
   IdealRules.named_const.statement Cert.KernelIdeal.κ "ln2" .f32 0x3F317218#32 ((Real.log 2 : ℝ) : EReal) rfl⟩,
  gradients, trivial, proj_dx, trivial, proj_dw,
  trivial, ffn_down_dx,
  trivial, ffn_down_dw,
  trivial, ffn_up_dx_gate,
  trivial, ffn_up_dx_val,
  trivial, ffn_up_dw_gate,
  trivial, ffn_up,
  trivial, ffn_down,
  trivial, proj_a,
  trivial, proj_dm,
  trivial, proj_gate,
  trivial, out_proj,
  trivial, out_proj_dx,
  trivial, out_proj_dw,
  trivial, br_dil,
  trivial, br_dil_dx,
  trivial, br_dil_dw,
  trivial, br_mla_dx,
  trivial, br_mem_dx,
  ⟨IdealRules.named_const.statement Cert.Kernel22Ideal.κ "mask" .f32 0xF149F2CA#32 ⊥ rfl,
   IdealRules.named_const.statement Cert.Kernel22Ideal.κ "ln2" .f32 0x3F317218#32 ((Real.log 2 : ℝ) : EReal) rfl⟩,
  forward,
  trivial, mla_q_up,
  trivial, mla_k_up,
  trivial, mla_v_up,
  trivial, mla_q_up_dx,
  trivial, mla_q_up_dw,
  trivial, mla_k_up_dx,
  trivial, mla_k_up_dw,
  trivial, mla_v_up_dx⟩

end Cert.Proof

end
